-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_cmp [hPre_finite_cmp : Cert.Pre_finite_cmp.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_cmp.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_cmp [hPre_finite_cmp : Cert.Pre_finite_cmp.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_cmp.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_mod [hPre_finite_mod : Cert.Pre_finite_mod.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_mod.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_mod [hPre_finite_mod : Cert.Pre_finite_mod.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_mod.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_cmp [hKernel6Ideal : Cert.Kernel6Ideal.Facts] [hPre_finite_cmp : Cert.Pre_finite_cmp.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_cmp m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_cmp [hReference6Ideal : Cert.Reference6Ideal.Facts] [hPre_finite_cmp : Cert.Pre_finite_cmp.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_cmp m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_mod [hKernel7Ideal : Cert.Kernel7Ideal.Facts] [hPre_finite_mod : Cert.Pre_finite_mod.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_mod m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_mod [hReference7Ideal : Cert.Reference7Ideal.Facts] [hPre_finite_mod : Cert.Pre_finite_mod.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_mod m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "q_scale" .f32 0x3E0293EE#32 ((((Real.sqrt 128) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_cmp [hKernel6Ideal : Cert.Kernel6Ideal.Facts] [hReference6Ideal : Cert.Reference6Ideal.Facts] [hPre_finite_cmp : Cert.Pre_finite_cmp.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_cmp m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v89) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_mod [hKernel7Ideal : Cert.Kernel7Ideal.Facts] [hReference7Ideal : Cert.Reference7Ideal.Facts] [hPre_finite_mod : Cert.Pre_finite_mod.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_mod m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_cmp : Cert.Pre_finite_cmp.Facts) (hPre_finite_mod : Cert.Pre_finite_mod.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_cmp (hKernel6Ideal := hKernel6Ideal) (hPre_finite_cmp := hPre_finite_cmp)
    ∧ quiescent_Reference6Ideal (hReference6Ideal := hReference6Ideal)
    ∧ quiescent_Reference6Ideal_pre_finite_cmp (hReference6Ideal := hReference6Ideal) (hPre_finite_cmp := hPre_finite_cmp)
    ∧ quiescent_Kernel7 (hKernel7 := hKernel7)
    ∧ quiescent_Kernel7Ideal (hKernel7Ideal := hKernel7Ideal)
    ∧ quiescent_Kernel7Ideal_pre_finite_mod (hKernel7Ideal := hKernel7Ideal) (hPre_finite_mod := hPre_finite_mod)
    ∧ quiescent_Reference7Ideal (hReference7Ideal := hReference7Ideal)
    ∧ quiescent_Reference7Ideal_pre_finite_mod (hReference7Ideal := hReference7Ideal) (hPre_finite_mod := hPre_finite_mod)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_cmp (hKernel6Ideal := hKernel6Ideal) (hReference6Ideal := hReference6Ideal) (hPre_finite_cmp := hPre_finite_cmp)
    ∧ preserves_Kernel7_Kernel7Ideal
    ∧ algebraic_Kernel7Ideal_Reference7Ideal_pre_finite_mod (hKernel7Ideal := hKernel7Ideal) (hReference7Ideal := hReference7Ideal) (hPre_finite_mod := hPre_finite_mod)
-- ==== Pre_finite_cmp.lean ====
abbrev S4x4096x4x128 : Shape := ⟨4, ![4, 4096, 4, 128]⟩
abbrev S2x2x32x128 : Shape := ⟨4, ![2, 2, 32, 128]⟩
abbrev S2x2x4096x256 : Shape := ⟨4, ![2, 2, 4096, 256]⟩
abbrev S2x2x256x128 : Shape := ⟨4, ![2, 2, 256, 128]⟩
abbrev S1x2x32x128 : Shape := ⟨4, ![1, 2, 32, 128]⟩
abbrev S2x32x128 : Shape := ⟨3, ![2, 32, 128]⟩
abbrev S2x4096x1 : Shape := ⟨3, ![2, 4096, 1]⟩
abbrev S_ : Shape := ⟨0, ![]⟩
abbrev S1x2x4096x256 : Shape := ⟨4, ![1, 2, 4096, 256]⟩
abbrev S2x4096x256 : Shape := ⟨3, ![2, 4096, 256]⟩

class Facts : Prop where
  slices_S2x2x32x128_S1x2x32x128_1_0_0_0 : S2x2x32x128.Slices ![1, 0, 0, 0] S1x2x32x128
  shapeCasts_S1x2x32x128_S2x32x128 : S1x2x32x128.ShapeCasts S2x32x128
  shapeCasts_S2x32x128_S2x4096x1 : S2x32x128.ShapeCasts S2x4096x1
  bcast_S_S2x4096x1 : S_.BroadcastsInDim S2x4096x1 (![] : Fin 0 → Fin S2x4096x1.rank)
  slices_S2x2x4096x256_S1x2x4096x256_1_0_0_0 : S2x2x4096x256.Slices ![1, 0, 0, 0] S1x2x4096x256
  shapeCasts_S1x2x4096x256_S2x4096x256 : S1x2x4096x256.ShapeCasts S2x4096x256
  bcast_S_S2x4096x256 : S_.BroadcastsInDim S2x4096x256 (![] : Fin 0 → Fin S2x4096x256.rank)
  bcast_S2x4096x1_S2x4096x256_0_1_2 : S2x4096x1.BroadcastsInDim S2x4096x256 (![0, 1, 2] : Fin 3 → Fin S2x4096x256.rank)

variable [Facts]

def fn {F : FTy → Type} [FloatOps F] (main_arg0 : FVec F S4x4096x4x128 .f32) (main_arg1 : FVec F S4x4096x4x128 .f32) (main_arg2 : FVec F S2x2x32x128 .f32) (main_arg3 : FVec F S2x2x4096x256 .f32) (main_arg4 : FVec F S2x2x256x128 .f32) : IVec S2x4096x256 1 :=
  let main_v0 : FVec F S1x2x32x128 .f32 := (extractStridedSlice S1x2x32x128 ![1, 0, 0, 0] · slices_S2x2x32x128_S1x2x32x128_1_0_0_0) main_arg2
  let main_v1 : FVec F S2x32x128 .f32 := shapeCast S2x32x128 main_v0 shapeCasts_S1x2x32x128_S2x32x128
  let main_v2 : FVec F S2x4096x1 .f32 := shapeCast S2x4096x1 main_v1 shapeCasts_S2x32x128_S2x4096x1
  let main_v3 : FVec F S2x4096x1 .f32 := Host.absf main_v2
  let main_cst : FVec F S_ .f32 := constant S_ .f32 0x7F800000#32
  let main_v4 : FVec F S2x4096x1 .f32 := broadcastInDim S2x4096x1 ![] bcast_S_S2x4096x1 main_cst
  let main_v5 : IVec S2x4096x1 1 := cmpf .olt main_v3 main_v4
  let main_v6 : FVec F S1x2x4096x256 .f32 := (extractStridedSlice S1x2x4096x256 ![1, 0, 0, 0] · slices_S2x2x4096x256_S1x2x4096x256_1_0_0_0) main_arg3
  let main_v7 : FVec F S2x4096x256 .f32 := shapeCast S2x4096x256 main_v6 shapeCasts_S1x2x4096x256_S2x4096x256
  let main_v8 : FVec F S2x4096x256 .f32 := Host.absf main_v7
  let main_cst_0 : FVec F S_ .f32 := constant S_ .f32 0x7F800000#32
  let main_v9 : FVec F S2x4096x256 .f32 := broadcastInDim S2x4096x256 ![] bcast_S_S2x4096x256 main_cst_0
  let main_v10 : IVec S2x4096x256 1 := cmpf .olt main_v8 main_v9
  let main_v11 : IVec S2x4096x256 1 := broadcastInDim S2x4096x256 ![0, 1, 2] bcast_S2x4096x1_S2x4096x256_0_1_2 main_v5
  let main_v12 : IVec S2x4096x256 1 := andi main_v11 main_v10
  main_v12
-- ==== Pre_finite_mod.lean ====
abbrev S4x2048 : Shape := ⟨2, ![4, 2048]⟩
abbrev S4x2048x12288 : Shape := ⟨3, ![4, 2048, 12288]⟩
abbrev S4x12288 : Shape := ⟨2, ![4, 12288]⟩
abbrev S4x2048x1 : Shape := ⟨3, ![4, 2048, 1]⟩
abbrev S_ : Shape := ⟨0, ![]⟩

class Facts : Prop where
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S_S4x2048x12288 : S_.BroadcastsInDim S4x2048x12288 (![] : Fin 0 → Fin S4x2048x12288.rank)
  bcast_S4x2048x1_S4x2048x12288_0_1_2 : S4x2048x1.BroadcastsInDim S4x2048x12288 (![0, 1, 2] : Fin 3 → Fin S4x2048x12288.rank)

variable [Facts]

def fn {F : FTy → Type} [FloatOps F] (main_arg0 : FVec F S4x2048 .f32) (main_arg1 : FVec F S4x2048x12288 .f32) (main_arg2 : FVec F S4x12288 .f32) : IVec S4x2048x12288 1 :=
  let main_v0 : FVec F S4x2048x1 .f32 := broadcastInDim S4x2048x1 ![0, 1] bcast_S4x2048_S4x2048x1_0_1 main_arg0
  let main_v1 : FVec F S4x2048x1 .f32 := Host.absf main_v0
  let main_cst : FVec F S_ .f32 := constant S_ .f32 0x7F800000#32
  let main_v2 : FVec F S4x2048x1 .f32 := broadcastInDim S4x2048x1 ![] bcast_S_S4x2048x1 main_cst
  let main_v3 : IVec S4x2048x1 1 := cmpf .olt main_v1 main_v2
  let main_v4 : FVec F S4x2048x12288 .f32 := Host.absf main_arg1
  let main_cst_0 : FVec F S_ .f32 := constant S_ .f32 0x7F800000#32
  let main_v5 : FVec F S4x2048x12288 .f32 := broadcastInDim S4x2048x12288 ![] bcast_S_S4x2048x12288 main_cst_0
  let main_v6 : IVec S4x2048x12288 1 := cmpf .olt main_v4 main_v5
  let main_v7 : IVec S4x2048x12288 1 := broadcastInDim S4x2048x12288 ![0, 1, 2] bcast_S4x2048x1_S4x2048x12288_0_1_2 main_v3
  let main_v8 : IVec S4x2048x12288 1 := andi main_v7 main_v6
  main_v8
-- ==== Pre_finite_qk.lean ====
abbrev S4x4096x2048 : Shape := ⟨3, ![4, 4096, 2048]⟩
abbrev S4x4096x4096 : Shape := ⟨3, ![4, 4096, 4096]⟩
abbrev S_ : Shape := ⟨0, ![]⟩

class Facts : Prop where
  bcast_S_S4x4096x2048 : S_.BroadcastsInDim S4x4096x2048 (![] : Fin 0 → Fin S4x4096x2048.rank)
  slices_S4x4096x4096_S4x4096x2048_0_0_0 : S4x4096x4096.Slices ![0, 0, 0] S4x4096x2048

variable [Facts]

def fn {F : FTy → Type} [FloatOps F] (main_arg0 : FVec F S4x4096x2048 .f32) (main_arg1 : FVec F S4x4096x4096 .f32) : IVec S4x4096x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S4x4096x2048 .f32 := (extractStridedSlice S4x4096x2048 ![0, 0, 0] · slices_S4x4096x4096_S4x4096x2048_0_0_0) main_arg1
  let main_v4 : FVec F S4x4096x2048 .f32 := Host.absf main_v3
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_v7 : IVec S4x4096x2048 1 := andi main_v2 main_v6
  main_v7
-- ==== Kernel.lean ====
abbrev S4x4096x2048 : Shape := ⟨3, ![4, 4096, 2048]⟩
abbrev S4x4096x4096 : Shape := ⟨3, ![4, 4096, 4096]⟩
abbrev S_ : Shape := ⟨0, ![]⟩
abbrev S16384x2048 : Shape := ⟨2, ![16384, 2048]⟩
abbrev S16384x4096 : Shape := ⟨2, ![16384, 4096]⟩
abbrev S256x1024 : Shape := ⟨2, ![256, 1024]⟩
abbrev S4096x1024 : Shape := ⟨2, ![4096, 1024]⟩
abbrev S8x256x128 : Shape := ⟨3, ![8, 256, 128]⟩
abbrev S8x256x256 : Shape := ⟨3, ![8, 256, 256]⟩
abbrev S256x256 : Shape := ⟨2, ![256, 256]⟩
abbrev S512x256 : Shape := ⟨2, ![512, 256]⟩
abbrev S256x128 : Shape := ⟨2, ![256, 128]⟩
abbrev S1x256x256 : Shape := ⟨3, ![1, 256, 256]⟩
abbrev S256x512 : Shape := ⟨2, ![256, 512]⟩
abbrev S1x256x128 : Shape := ⟨3, ![1, 256, 128]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .bf16⟩
  | .hbm, ⟨13, _⟩ => ⟨S16384x4096, .f32⟩
  | .hbm, ⟨14, _⟩ => ⟨S16384x4096, .bf16⟩
  | .hbm, ⟨15, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S8x256x128, .f32⟩
  | .local _ .vmem, ⟨9, _⟩ => ⟨S8x256x128, .f32⟩
  | .local _ .vmem, ⟨10, _⟩ => ⟨S8x256x256, .f32⟩
  | .local _ .vmem, ⟨11, _⟩ => ⟨S8x256x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c256_i32 : BitVec 32 := 256#32
  let v17 : BitVec 32 := Scalar.muli arg2 c256_i32
  v17
def k0_off1 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v21 : Index := Scalar.indexCast v18
  let c0_10 : Index := 0#32
  ![v21.toNat, 0]
def k0_off2 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v30 : Index := Scalar.indexCast v18
  let c128_16 : Index := 128#32
  ![v30.toNat, 128]
def k0_off3 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v39 : Index := Scalar.indexCast v18
  let c256_21 : Index := 256#32
  ![v39.toNat, 256]
def k0_off4 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v48 : Index := Scalar.indexCast v18
  let c384_26 : Index := 384#32
  ![v48.toNat, 384]
def k0_off5 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v57 : Index := Scalar.indexCast v18
  let c512_31 : Index := 512#32
  ![v57.toNat, 512]
def k0_off6 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v66 : Index := Scalar.indexCast v18
  let c640_36 : Index := 640#32
  ![v66.toNat, 640]
def k0_off7 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v75 : Index := Scalar.indexCast v18
  let c768_41 : Index := 768#32
  ![v75.toNat, 768]
def k0_off8 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v84 : Index := Scalar.indexCast v18
  let c896_46 : Index := 896#32
  ![v84.toNat, 896]
def k0_mult2 (i : grid0.Coords) : BitVec 32 :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  v93
def k0_off9 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v97 : Index := Scalar.indexCast v94
  let c0_53 : Index := 0#32
  ![v97.toNat, 0]
def k0_off10 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v106 : Index := Scalar.indexCast v94
  let c128_60 : Index := 128#32
  ![v106.toNat, 128]
def k0_off11 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v115 : Index := Scalar.indexCast v94
  let c256_67 : Index := 256#32
  ![v115.toNat, 256]
def k0_off12 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v124 : Index := Scalar.indexCast v94
  let c384_74 : Index := 384#32
  ![v124.toNat, 384]
def k0_off13 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v133 : Index := Scalar.indexCast v94
  let c512_81 : Index := 512#32
  ![v133.toNat, 512]
def k0_off14 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v142 : Index := Scalar.indexCast v94
  let c640_88 : Index := 640#32
  ![v142.toNat, 640]
def k0_off15 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v151 : Index := Scalar.indexCast v94
  let c768_95 : Index := 768#32
  ![v151.toNat, 768]
def k0_off16 (i : grid0.Coords) : Fin 2 → Nat :=
  let arg2 : BitVec 32 := BitVec.ofNat 32 (i 2).val
  let c1_i32 : BitVec 32 := 1#32
  let v91 : BitVec 32 := Scalar.subi arg2 c1_i32
  let c0_i32 : BitVec 32 := 0#32
  let v92 : BitVec 32 := Scalar.maxsi v91 c0_i32
  let c256_i32_50 : BitVec 32 := 256#32
  let v93 : BitVec 32 := Scalar.muli v92 c256_i32_50
  let v94 : BitVec 32 := v93
  let v160 : Index := Scalar.indexCast v94
  let c896_102 : Index := 896#32
  ![v160.toNat, 896]
def k0_mult3 (i : grid0.Coords) : BitVec 32 :=
  let arg2 : BitVec 32 := BitVec.ofNat 32 (i 2).val
  let c256_i32_107 : BitVec 32 := 256#32
  let v167 : BitVec 32 := Scalar.muli arg2 c256_i32_107
  v167
@[reducible] def k0_t1_loop (i : grid0.Coords) : Scf.Loop 32 :=
  let c0_i32_309 : BitVec 32 := 0#32
  let arg2 : BitVec 32 := BitVec.ofNat 32 (i 2).val
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_311 : BitVec 32 := 1#32
  ⟨c0_i32_309, v568, c1_i32_311⟩
def k0_mult4 (i : grid0.Coords) (k0_t1 : Fin (k0_t1_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c1_i32_361 : BitVec 32 := 1#32
  let v613 : BitVec 32 := Scalar.subi v612 c1_i32_361
  let c256_i32_362 : BitVec 32 := 256#32
  let v614 : BitVec 32 := Scalar.muli v613 c256_i32_362
  v614
def k0_off17 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v618 : Index := Scalar.indexCast v615
  let c0_365 : Index := 0#32
  ![v618.toNat, 0]
def k0_off18 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v627 : Index := Scalar.indexCast v615
  let c128_372 : Index := 128#32
  ![v627.toNat, 128]
def k0_off19 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v636 : Index := Scalar.indexCast v615
  let c256_379 : Index := 256#32
  ![v636.toNat, 256]
def k0_off20 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v645 : Index := Scalar.indexCast v615
  let c384_386 : Index := 384#32
  ![v645.toNat, 384]
def k0_off21 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v654 : Index := Scalar.indexCast v615
  let c512_393 : Index := 512#32
  ![v654.toNat, 512]
def k0_off22 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v663 : Index := Scalar.indexCast v615
  let c640_400 : Index := 640#32
  ![v663.toNat, 640]
def k0_off23 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v672 : Index := Scalar.indexCast v615
  let c768_407 : Index := 768#32
  ![v672.toNat, 768]
def k0_off24 (i : grid0.Coords) (k0_t1 : Fin (k0_t1_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v681 : Index := Scalar.indexCast v615
  let c896_414 : Index := 896#32
  ![v681.toNat, 896]
def k0_mult5 (i : grid0.Coords) (k0_t1 : Fin (k0_t1_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  v688
def k0_off25 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v901 : Index := Scalar.indexCast v689
  let c0_511 : Index := 0#32
  ![v901.toNat, 0]
def k0_off26 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v918 : Index := Scalar.indexCast v689
  let c128_522 : Index := 128#32
  ![v918.toNat, 128]
def k0_off27 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v935 : Index := Scalar.indexCast v689
  let c256_533 : Index := 256#32
  ![v935.toNat, 256]
def k0_off28 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v952 : Index := Scalar.indexCast v689
  let c384_544 : Index := 384#32
  ![v952.toNat, 384]
def k0_off29 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v969 : Index := Scalar.indexCast v689
  let c512_555 : Index := 512#32
  ![v969.toNat, 512]
def k0_off30 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v986 : Index := Scalar.indexCast v689
  let c640_566 : Index := 640#32
  ![v986.toNat, 640]
def k0_off31 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v1003 : Index := Scalar.indexCast v689
  let c768_577 : Index := 768#32
  ![v1003.toNat, 768]
def k0_off32 (i : grid0.Coords) (k0_t1 : Fin (k0_t1_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v1020 : Index := Scalar.indexCast v689
  let c896_588 : Index := 896#32
  ![v1020.toNat, 896]
def k0_mult6 (i : grid0.Coords) (k0_t1 : Fin (k0_t1_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c2_i32_596 : BitVec 32 := 2#32
  let v1034 : BitVec 32 := Scalar.subi v612 c2_i32_596
  let c256_i32_597 : BitVec 32 := 256#32
  let v1035 : BitVec 32 := Scalar.muli v1034 c256_i32_597
  v1035
def k0_mult7 (i : grid0.Coords) (k0_t1 : Fin (k0_t1_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_311 : BitVec 32 := 1#32
  let arg11 : BitVec 32 := Scf.iv c0_i32_309 c1_i32_311 k0_t1
  let v611 : BitVec 32 := Scalar.muli c2_i32_360 arg11
  let v612 : BitVec 32 := Scalar.subi v610 v611
  let c1_i32_654 : BitVec 32 := 1#32
  let v1109 : BitVec 32 := Scalar.subi v612 c1_i32_654
  let c256_i32_655 : BitVec 32 := 256#32
  let v1110 : BitVec 32 := Scalar.muli v1109 c256_i32_655
  v1110
@[reducible] def k0_t2_loop (i : grid0.Coords) : Scf.Loop 32 :=
  let c0_i32_309 : BitVec 32 := 0#32
  let arg2 : BitVec 32 := BitVec.ofNat 32 (i 2).val
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let v565 : BitVec 32 := Scalar.addi c0_i32_309 v564
  let c1_i32_312 : BitVec 32 := 1#32
  ⟨v568, v565, c1_i32_312⟩
def k0_mult8 (i : grid0.Coords) (k0_t2 : Fin (k0_t2_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c1_i32_361 : BitVec 32 := 1#32
  let v613 : BitVec 32 := Scalar.subi v612 c1_i32_361
  let c256_i32_362 : BitVec 32 := 256#32
  let v614 : BitVec 32 := Scalar.muli v613 c256_i32_362
  v614
def k0_off33 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v618 : Index := Scalar.indexCast v615
  let c0_365 : Index := 0#32
  ![v618.toNat, 0]
def k0_off34 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v627 : Index := Scalar.indexCast v615
  let c128_372 : Index := 128#32
  ![v627.toNat, 128]
def k0_off35 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v636 : Index := Scalar.indexCast v615
  let c256_379 : Index := 256#32
  ![v636.toNat, 256]
def k0_off36 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v645 : Index := Scalar.indexCast v615
  let c384_386 : Index := 384#32
  ![v645.toNat, 384]
def k0_off37 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v654 : Index := Scalar.indexCast v615
  let c512_393 : Index := 512#32
  ![v654.toNat, 512]
def k0_off38 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v663 : Index := Scalar.indexCast v615
  let c640_400 : Index := 640#32
  ![v663.toNat, 640]
def k0_off39 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v672 : Index := Scalar.indexCast v615
  let c768_407 : Index := 768#32
  ![v672.toNat, 768]
def k0_off40 (i : grid0.Coords) (k0_t2 : Fin (k0_t2_loop i).trips) (c1_i32_361 : BitVec 32) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let v613 : BitVec 32 := Scalar.subi v612 c1_i32_361
  let c256_i32_362 : BitVec 32 := 256#32
  let v614 : BitVec 32 := Scalar.muli v613 c256_i32_362
  let v615 : BitVec 32 := v614
  let v681 : Index := Scalar.indexCast v615
  let c896_414 : Index := 896#32
  ![v681.toNat, 896]
def k0_mult9 (i : grid0.Coords) (k0_t2 : Fin (k0_t2_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  v688
def k0_off41 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v901 : Index := Scalar.indexCast v689
  let c0_511 : Index := 0#32
  ![v901.toNat, 0]
def k0_off42 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v918 : Index := Scalar.indexCast v689
  let c128_522 : Index := 128#32
  ![v918.toNat, 128]
def k0_off43 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v935 : Index := Scalar.indexCast v689
  let c256_533 : Index := 256#32
  ![v935.toNat, 256]
def k0_off44 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v952 : Index := Scalar.indexCast v689
  let c384_544 : Index := 384#32
  ![v952.toNat, 384]
def k0_off45 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v969 : Index := Scalar.indexCast v689
  let c512_555 : Index := 512#32
  ![v969.toNat, 512]
def k0_off46 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v986 : Index := Scalar.indexCast v689
  let c640_566 : Index := 640#32
  ![v986.toNat, 640]
def k0_off47 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v1003 : Index := Scalar.indexCast v689
  let c768_577 : Index := 768#32
  ![v1003.toNat, 768]
def k0_off48 (i : grid0.Coords) (k0_t2 : Fin (k0_t2_loop i).trips) : Fin 2 → Nat :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c256_i32_419 : BitVec 32 := 256#32
  let v688 : BitVec 32 := Scalar.muli v612 c256_i32_419
  let v689 : BitVec 32 := v688
  let v1020 : Index := Scalar.indexCast v689
  let c896_588 : Index := 896#32
  ![v1020.toNat, 896]
def k0_mult10 (i : grid0.Coords) (k0_t2 : Fin (k0_t2_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c2_i32_596 : BitVec 32 := 2#32
  let v1034 : BitVec 32 := Scalar.subi v612 c2_i32_596
  let c256_i32_597 : BitVec 32 := 256#32
  let v1035 : BitVec 32 := Scalar.muli v1034 c256_i32_597
  v1035
def k0_mult11 (i : grid0.Coords) (k0_t2 : Fin (k0_t2_loop i).trips) : BitVec 32 :=
  let arg2 : BitVec 32 := BitVec.ofNat 32 (i 2).val
  let c1_i32_359 : BitVec 32 := 1#32
  let v610 : BitVec 32 := Scalar.subi arg2 c1_i32_359
  let c2_i32_360 : BitVec 32 := 2#32
  let c0_i32_309 : BitVec 32 := 0#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v564 : BitVec 32 := Scalar.subi v563 c0_i32_309
  let c1_i32_310 : BitVec 32 := 1#32
  let v566 : BitVec 32 := Scalar.divsi v564 c1_i32_310
  let v567 : BitVec 32 := Scalar.muli v566 c1_i32_310
  let v568 : BitVec 32 := Scalar.addi c0_i32_309 v567
  let c1_i32_312 : BitVec 32 := 1#32
  let arg11 : BitVec 32 := Scf.iv v568 c1_i32_312 k0_t2
  let v611 : BitVec 32 := Scalar.muli c2_i32_360 arg11
  let v612 : BitVec 32 := Scalar.subi v610 v611
  let c1_i32_654 : BitVec 32 := 1#32
  let v1109 : BitVec 32 := Scalar.subi v612 c1_i32_654
  let c256_i32_655 : BitVec 32 := 256#32
  let v1110 : BitVec 32 := Scalar.muli v1109 c256_i32_655
  v1110
def k0_cond1 (i : grid0.Coords) : BitVec 1 :=
  let arg2 : BitVec 32 := BitVec.ofNat 32 (i 2).val
  let c1_i32_313 : BitVec 32 := 1#32
  let v569 : BitVec 32 := Scalar.subi arg2 c1_i32_313
  let c2_i32_314 : BitVec 32 := 2#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v570 : BitVec 32 := Scalar.muli c2_i32_314 v563
  let v571 : BitVec 32 := Scalar.subi v569 v570
  let c1_i32_315 : BitVec 32 := 1#32
  let v572 : BitVec 1 := Scalar.cmpi .eq v571 c1_i32_315
  let v573 : BitVec 32 := Scalar.extui v572
  let c0_i32_316 : BitVec 32 := 0#32
  let v574 : BitVec 1 := Scalar.cmpi .ne v573 c0_i32_316
  v574

def k0_mult12 : BitVec 32 :=
  let c0_i32_359 : BitVec 32 := 0#32
  c0_i32_359
def k0_mult13 : BitVec 32 :=
  let c256_i32_416 : BitVec 32 := 256#32
  c256_i32_416
def k0_mult14 : BitVec 32 :=
  let c0_i32_593 : BitVec 32 := 0#32
  c0_i32_593
def k0_cond2 (i : grid0.Coords) : BitVec 1 :=
  let arg2 : BitVec 32 := BitVec.ofNat 32 (i 2).val
  let c1_i32_313 : BitVec 32 := 1#32
  let v569 : BitVec 32 := Scalar.subi arg2 c1_i32_313
  let c2_i32_314 : BitVec 32 := 2#32
  let c1_i32_300 : BitVec 32 := 1#32
  let v545 : BitVec 32 := Scalar.subi arg2 c1_i32_300
  let c0_i32_301 : BitVec 32 := 0#32
  let v546 : BitVec 32 := Scalar.maxsi v545 c0_i32_301
  let c0_i32_302 : BitVec 32 := 0#32
  let v548 : BitVec 1 := Scalar.cmpi .sgt v546 c0_i32_302
  let v549 : BitVec 32 := Scalar.extui v548
  let c0_i32_303 : BitVec 32 := 0#32
  let v550 : BitVec 1 := Scalar.cmpi .slt v546 c0_i32_303
  let v551 : BitVec 32 := Scalar.extui v550
  let v552 : BitVec 32 := Scalar.subi v549 v551
  let c2_i32 : BitVec 32 := 2#32
  let c0_i32_304 : BitVec 32 := 0#32
  let v553 : BitVec 1 := Scalar.cmpi .sgt c2_i32 c0_i32_304
  let v554 : BitVec 32 := Scalar.extui v553
  let c0_i32_305 : BitVec 32 := 0#32
  let v555 : BitVec 1 := Scalar.cmpi .slt c2_i32 c0_i32_305
  let v556 : BitVec 32 := Scalar.extui v555
  let v557 : BitVec 32 := Scalar.subi v554 v556
  let v558 : BitVec 1 := Scalar.cmpi .ne v552 v557
  let v559 : BitVec 32 := Scalar.remsi v546 c2_i32
  let c0_i32_306 : BitVec 32 := 0#32
  let v560 : BitVec 1 := Scalar.cmpi .ne v559 c0_i32_306
  let v561 : BitVec 1 := Scalar.andi v558 v560
  let v547 : BitVec 32 := Scalar.divsi v546 c2_i32
  let c1_i32_307 : BitVec 32 := 1#32
  let v562 : BitVec 32 := Scalar.subi v547 c1_i32_307
  let v563 : BitVec 32 := Scalar.select v561 v562 v547
  let v570 : BitVec 32 := Scalar.muli c2_i32_314 v563
  let v571 : BitVec 32 := Scalar.subi v569 v570
  let c0_i32_317 : BitVec 32 := 0#32
  let v575 : BitVec 1 := Scalar.cmpi .eq v571 c0_i32_317
  let v576 : BitVec 32 := Scalar.extui v575
  let c0_i32_318 : BitVec 32 := 0#32
  let v577 : BitVec 1 := Scalar.cmpi .ne v576 c0_i32_318
  v577

def k0_mult15 : BitVec 32 :=
  let c0_i32_359 : BitVec 32 := 0#32
  c0_i32_359
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x4096x2048 : Shape := ⟨3, ![4, 4096, 2048]⟩
abbrev S4x4096x4096 : Shape := ⟨3, ![4, 4096, 4096]⟩
abbrev S4x4096x16x128 : Shape := ⟨4, ![4, 4096, 16, 128]⟩
abbrev S4096 : Shape := ⟨1, ![4096]⟩
abbrev S4x16x4096x4096 : Shape := ⟨4, ![4, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x16x128x4096 : Shape := ⟨4, ![4, 16, 128, 4096]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x4096, .f32⟩
  | .hbm, ⟨2, _⟩ => ⟨S4x4096x16x128, .f32⟩
  | .hbm, ⟨3, _⟩ => ⟨S4x4096x2048, .f32⟩
  | .hbm, ⟨4, _⟩ => ⟨S4x4096x2048, .f32⟩
  | .hbm, ⟨5, _⟩ => ⟨S4x4096x16x128, .f32⟩
  | .hbm, ⟨6, _⟩ => ⟨S4x4096x16x128, .f32⟩
  | .hbm, ⟨7, _⟩ => ⟨S4096, .i32⟩
  | .hbm, ⟨8, _⟩ => ⟨S4x16x4096x4096, .f32⟩
  | .hbm, ⟨9, _⟩ => ⟨S_, .f32⟩
  | .hbm, ⟨10, _⟩ => ⟨S_, .f32⟩
  | .hbm, ⟨11, _⟩ => ⟨S4x16x4096x4096, .f32⟩
  | .hbm, ⟨12, _⟩ => ⟨S4x16x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S4x16x4096x4096, .f32⟩
  | .hbm, ⟨20, _⟩ => ⟨S4x16x4096x4096, .f32⟩
  | .hbm, ⟨21, _⟩ => ⟨S4x16x4096x4096, .f32⟩
  | .hbm, ⟨22, _⟩ => ⟨S4x16x4096x4096, .f32⟩
  | .hbm, ⟨23, _⟩ => ⟨S4x16x4096x4096, .i1⟩
  | .hbm, ⟨24, _⟩ => ⟨S4x16x4096x4096, .f32⟩
  | .hbm, ⟨25, _⟩ => ⟨S4x16x4096x4096, .f32⟩
  | .hbm, ⟨26, _⟩ => ⟨S4x16x4096x4096, .f32⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S_, .f32⟩
  | .hbm, ⟨33, _⟩ => ⟨S_, .f32⟩
  | .hbm, ⟨34, _⟩ => ⟨S4x16x4096x4096, .i1⟩
  | .hbm, ⟨35, _⟩ => ⟨S4x16x4096x4096, .f32⟩
  | .hbm, ⟨36, _⟩ => ⟨S4x16x4096x4096, .f32⟩
  | .hbm, ⟨37, _⟩ => ⟨S_, .f32⟩
  | .hbm, ⟨38, _⟩ => ⟨S_, .f32⟩
  | .hbm, ⟨39, _⟩ => ⟨S4x16x4096x4096, .f32⟩
  | .hbm, ⟨40, _⟩ => ⟨S4x16x4096x4096, .f32⟩
  | .hbm, ⟨41, _⟩ => ⟨S4x16x4096x4096, .f32⟩
  | .hbm, ⟨42, _⟩ => ⟨S_, .f32⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .i1⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S4x16x4096x4096, .f32⟩
  | .hbm, ⟨52, _⟩ => ⟨S4x16x4096x4096, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .f32⟩
  | .hbm, ⟨56, _⟩ => ⟨S4x16x4096x4096, .f32⟩
  | .hbm, ⟨57, _⟩ => ⟨S4x16x4096x4096, .f32⟩
  | .hbm, ⟨58, _⟩ => ⟨S4x16x4096x4096, .f32⟩
  | .hbm, ⟨59, _⟩ => ⟨S_, .f32⟩
  | .hbm, ⟨60, _⟩ => ⟨S_, .f32⟩
  | .hbm, ⟨61, _⟩ => ⟨S4x16x4096x4096, .i1⟩
  | .hbm, ⟨62, _⟩ => ⟨S4x16x4096x4096, .f32⟩
  | .hbm, ⟨63, _⟩ => ⟨S4x16x4096x4096, .f32⟩
  | .hbm, ⟨64, _⟩ => ⟨S4x16x128x4096, .f32⟩
  | .hbm, ⟨65, _⟩ => ⟨S4x4096x16x128, .f32⟩
  | .hbm, ⟨66, _⟩ => ⟨S16384x2048, .f32⟩
  | .hbm, ⟨67, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v15 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x4x2048 : Shape := ⟨3, ![4, 4, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x4x2048 : Shape := ⟨3, ![1, 4, 2048]⟩
abbrev S4x1x2048 : Shape := ⟨3, ![4, 1, 2048]⟩
abbrev S16384x2048 : Shape := ⟨2, ![16384, 2048]⟩
abbrev S1x1x2048 : Shape := ⟨3, ![1, 1, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S1024x512 : Shape := ⟨2, ![1024, 512]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩

abbrev nBuf : Space → Nat
  | .hbm => 21
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S4x4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048x11264, .f32⟩
  | .hbm, ⟨6, _⟩ => ⟨S4x5632x2048, .f32⟩
  | .hbm, ⟨7, _⟩ => ⟨S1x4x2048, .f32⟩
  | .hbm, ⟨8, _⟩ => ⟨S4x2048, .f32⟩
  | .hbm, ⟨9, _⟩ => ⟨S4x1x2048, .f32⟩
  | .hbm, ⟨10, _⟩ => ⟨S16384x2048, .f32⟩
  | .hbm, ⟨11, _⟩ => ⟨S1x1x2048, .f32⟩
  | .hbm, ⟨12, _⟩ => ⟨S1x2048, .f32⟩
  | .hbm, ⟨13, _⟩ => ⟨S4x1x2048, .f32⟩
  | .hbm, ⟨14, _⟩ => ⟨S4x1x2048, .f32⟩
  | .hbm, ⟨15, _⟩ => ⟨S4x2048x11264, .bf16⟩
  | .hbm, ⟨16, _⟩ => ⟨S4x5632x2048, .bf16⟩
  | .hbm, ⟨17, _⟩ => ⟨S4x1x2048, .f32⟩
  | .hbm, ⟨18, _⟩ => ⟨S1x1x2048, .f32⟩
  | .hbm, ⟨19, _⟩ => ⟨S1x2048, .f32⟩
  | .hbm, ⟨20, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_27 : BitVec 32 := 0#32
  let c64_i32 : BitVec 32 := 64#32
  let v33 : BitVec 32 := Scalar.addi c0_i32_27 c64_i32
  let c1_i32 : BitVec 32 := 1#32
  ⟨c0_i32_27, v33, c1_i32⟩
def k0_mult1 (k0_t1 : Fin k0_t1_loop.trips) : BitVec 32 :=
  let c0_i32_27 : BitVec 32 := 0#32
  let c1_i32 : BitVec 32 := 1#32
  let arg13 : BitVec 32 := Scf.iv c0_i32_27 c1_i32 k0_t1
  let c16_i32 : BitVec 32 := 16#32
  let v36 : BitVec 32 := Scalar.muli arg13 c16_i32
  v36
def k0_off1 (k0_t1 : Fin k0_t1_loop.trips) : Fin 2 → Nat :=
  let c0_i32_27 : BitVec 32 := 0#32
  let c1_i32 : BitVec 32 := 1#32
  let arg13 : BitVec 32 := Scf.iv c0_i32_27 c1_i32 k0_t1
  let c16_i32 : BitVec 32 := 16#32
  let v36 : BitVec 32 := Scalar.muli arg13 c16_i32
  let v37 : BitVec 32 := v36
  let v38 : Index := Scalar.indexCast v37
  let c0_32 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4x4096x2048 : Shape := ⟨3, ![4, 4096, 2048]⟩
abbrev S4x4x2048 : Shape := ⟨3, ![4, 4, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x1x2048 : Shape := ⟨3, ![1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S4x1x2048 : Shape := ⟨3, ![4, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048x11264, .f32⟩
  | .hbm, ⟨6, _⟩ => ⟨S4x5632x2048, .f32⟩
  | .hbm, ⟨7, _⟩ => ⟨S1x1x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S1x2048x11264, .f32⟩
  | .hbm, ⟨35, _⟩ => ⟨S2048x11264, .f32⟩
  | .hbm, ⟨36, _⟩ => ⟨S4x4096x11264, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S_, .f32⟩
  | .hbm, ⟨42, _⟩ => ⟨S4x4096x5632, .f32⟩
  | .hbm, ⟨43, _⟩ => ⟨S4x4096x5632, .f32⟩
  | .hbm, ⟨44, _⟩ => ⟨S_, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S1x5632x2048, .f32⟩
  | .hbm, ⟨50, _⟩ => ⟨S5632x2048, .f32⟩
  | .hbm, ⟨51, _⟩ => ⟨S4x4096x2048, .f32⟩
  | .hbm, ⟨52, _⟩ => ⟨S4x1x2048, .f32⟩
  | .hbm, ⟨53, _⟩ => ⟨S1x1x2048, .f32⟩
  | .hbm, ⟨54, _⟩ => ⟨S2048, .f32⟩
  | .hbm, ⟨55, _⟩ => ⟨S4x4096x2048, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x2048, .f32⟩
  | .hbm, ⟨67, _⟩ => ⟨S4x4096x2048, .f32⟩
  | .hbm, ⟨68, _⟩ => ⟨S1x1x2048, .f32⟩
  | .hbm, ⟨69, _⟩ => ⟨S4x4096x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S4x4096x16x128 : Shape := ⟨4, ![4, 4096, 16, 128]⟩
abbrev S2x2048x2048 : Shape := ⟨3, ![2, 2048, 2048]⟩
abbrev S4x4096x2048 : Shape := ⟨3, ![4, 4096, 2048]⟩
abbrev S4x2048 : Shape := ⟨2, ![4, 2048]⟩
abbrev S4x4x2048 : Shape := ⟨3, ![4, 4, 2048]⟩
abbrev S1x4x2048 : Shape := ⟨3, ![1, 4, 2048]⟩
abbrev S4x1x2048 : Shape := ⟨3, ![4, 1, 2048]⟩
abbrev S16384x2048 : Shape := ⟨2, ![16384, 2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x16x128, .f32⟩
  | .hbm, ⟨1, _⟩ => ⟨S2x2048x2048, .f32⟩
  | .hbm, ⟨2, _⟩ => ⟨S4x4096x2048, .f32⟩
  | .hbm, ⟨3, _⟩ => ⟨S4x2048, .f32⟩
  | .hbm, ⟨4, _⟩ => ⟨S4x4x2048, .f32⟩
  | .hbm, ⟨5, _⟩ => ⟨S1x4x2048, .f32⟩
  | .hbm, ⟨6, _⟩ => ⟨S4x2048, .f32⟩
  | .hbm, ⟨7, _⟩ => ⟨S4x1x2048, .f32⟩
  | .hbm, ⟨8, _⟩ => ⟨S16384x2048, .f32⟩
  | .hbm, ⟨9, _⟩ => ⟨S16384x2048, .bf16⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S16384x2048, .f32⟩
  | .hbm, ⟨14, _⟩ => ⟨S4x1x2048, .f32⟩
  | .hbm, ⟨15, _⟩ => ⟨S1x1x2048, .f32⟩
  | .hbm, ⟨16, _⟩ => ⟨S1x2048, .f32⟩
  | .hbm, ⟨17, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x4096x16x128 : Shape := ⟨4, ![4, 4096, 16, 128]⟩
abbrev S2x2048x2048 : Shape := ⟨3, ![2, 2048, 2048]⟩
abbrev S4x4096x2048 : Shape := ⟨3, ![4, 4096, 2048]⟩
abbrev S4x2048 : Shape := ⟨2, ![4, 2048]⟩
abbrev S4x4x2048 : Shape := ⟨3, ![4, 4, 2048]⟩
abbrev S1x2048x2048 : Shape := ⟨3, ![1, 2048, 2048]⟩
abbrev S2048x2048 : Shape := ⟨2, ![2048, 2048]⟩
abbrev S4x1x2048 : Shape := ⟨3, ![4, 1, 2048]⟩
abbrev S1x1x2048 : Shape := ⟨3, ![1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S2x2048x2048, .f32⟩
  | .hbm, ⟨2, _⟩ => ⟨S4x4096x2048, .f32⟩
  | .hbm, ⟨3, _⟩ => ⟨S4x2048, .f32⟩
  | .hbm, ⟨4, _⟩ => ⟨S4x4x2048, .f32⟩
  | .hbm, ⟨5, _⟩ => ⟨S4x4096x2048, .f32⟩
  | .hbm, ⟨6, _⟩ => ⟨S1x2048x2048, .f32⟩
  | .hbm, ⟨7, _⟩ => ⟨S2048x2048, .f32⟩
  | .hbm, ⟨8, _⟩ => ⟨S4x4096x2048, .f32⟩
  | .hbm, ⟨9, _⟩ => ⟨S4x1x2048, .f32⟩
  | .hbm, ⟨10, _⟩ => ⟨S1x1x2048, .f32⟩
  | .hbm, ⟨11, _⟩ => ⟨S2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S16384x2048, .f32⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048 : Shape := ⟨1, ![2048]⟩
abbrev S4x2048 : Shape := ⟨2, ![4, 2048]⟩
abbrev S2048x4096 : Shape := ⟨2, ![2048, 4096]⟩
abbrev S16384x2048 : Shape := ⟨2, ![16384, 2048]⟩
abbrev S1x2048 : Shape := ⟨2, ![1, 2048]⟩
abbrev S4x1x2048 : Shape := ⟨3, ![4, 1, 2048]⟩
abbrev S16384x4096 : Shape := ⟨2, ![16384, 4096]⟩
abbrev S1024x2048 : Shape := ⟨2, ![1024, 2048]⟩
abbrev S1x1x2048 : Shape := ⟨3, ![1, 1, 2048]⟩
abbrev S2048x2048 : Shape := ⟨2, ![2048, 2048]⟩
abbrev S16x2048 : Shape := ⟨2, ![16, 2048]⟩
abbrev S16 : Shape := ⟨1, ![16]⟩
abbrev S16x1 : Shape := ⟨2, ![16, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x4096, .f32⟩
  | .hbm, ⟨5, _⟩ => ⟨S16384x2048, .f32⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S2048x4096, .bf16⟩
  | .hbm, ⟨10, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c64_i32 : BitVec 32 := 64#32
  let v20 : BitVec 32 := Scalar.addi c0_i32_16 c64_i32
  let c1_i32 : BitVec 32 := 1#32
  ⟨c0_i32_16, v20, c1_i32⟩
def k0_mult1 (k0_t1 : Fin k0_t1_loop.trips) : BitVec 32 :=
  let c0_i32_16 : BitVec 32 := 0#32
  let c1_i32 : BitVec 32 := 1#32
  let arg9 : BitVec 32 := Scf.iv c0_i32_16 c1_i32 k0_t1
  let c16_i32 : BitVec 32 := 16#32
  let v21 : BitVec 32 := Scalar.muli arg9 c16_i32
  v21
def k0_off1 (k0_t1 : Fin k0_t1_loop.trips) : Fin 2 → Nat :=
  let c0_i32_16 : BitVec 32 := 0#32
  let c1_i32 : BitVec 32 := 1#32
  let arg9 : BitVec 32 := Scf.iv c0_i32_16 c1_i32 k0_t1
  let c16_i32 : BitVec 32 := 16#32
  let v21 : BitVec 32 := Scalar.muli arg9 c16_i32
  let v22 : BitVec 32 := v21
  let v23 : Index := Scalar.indexCast v22
  let c0_18 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x4096x2048 : Shape := ⟨3, ![4, 4096, 2048]⟩
abbrev S2048 : Shape := ⟨1, ![2048]⟩
abbrev S4x2048 : Shape := ⟨2, ![4, 2048]⟩
abbrev S2048x4096 : Shape := ⟨2, ![2048, 4096]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x4096 : Shape := ⟨3, ![4, 4096, 4096]⟩
abbrev S16384x4096 : Shape := ⟨2, ![16384, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x4096, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x4096, .f32⟩
  | .hbm, ⟨31, _⟩ => ⟨S16384x4096, .f32⟩
  | .hbm, ⟨32, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x4x2048 : Shape := ⟨3, ![4, 4, 2048]⟩
abbrev S4x2048 : Shape := ⟨2, ![4, 2048]⟩
abbrev S2x2048x2048 : Shape := ⟨3, ![2, 2048, 2048]⟩
abbrev S1x4x2048 : Shape := ⟨3, ![1, 4, 2048]⟩
abbrev S4x1x2048 : Shape := ⟨3, ![4, 1, 2048]⟩
abbrev S16384x2048 : Shape := ⟨2, ![16384, 2048]⟩
abbrev S1x1x2048 : Shape := ⟨3, ![1, 1, 2048]⟩
abbrev S1x2048 : Shape := ⟨2, ![1, 2048]⟩
abbrev S1x2048x2048 : Shape := ⟨3, ![1, 2048, 2048]⟩
abbrev S2048x2048 : Shape := ⟨2, ![2048, 2048]⟩
abbrev S1024x2048 : Shape := ⟨2, ![1024, 2048]⟩
abbrev S16x2048 : Shape := ⟨2, ![16, 2048]⟩
abbrev S16 : Shape := ⟨1, ![16]⟩
abbrev S16x1 : Shape := ⟨2, ![16, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S4x4x2048, .f32⟩
  | .hbm, ⟨2, _⟩ => ⟨S4x2048, .f32⟩
  | .hbm, ⟨3, _⟩ => ⟨S4x2048, .f32⟩
  | .hbm, ⟨4, _⟩ => ⟨S2x2048x2048, .f32⟩
  | .hbm, ⟨5, _⟩ => ⟨S1x4x2048, .f32⟩
  | .hbm, ⟨6, _⟩ => ⟨S4x2048, .f32⟩
  | .hbm, ⟨7, _⟩ => ⟨S4x1x2048, .f32⟩
  | .hbm, ⟨8, _⟩ => ⟨S16384x2048, .f32⟩
  | .hbm, ⟨9, _⟩ => ⟨S1x1x2048, .f32⟩
  | .hbm, ⟨10, _⟩ => ⟨S1x2048, .f32⟩
  | .hbm, ⟨11, _⟩ => ⟨S4x1x2048, .f32⟩
  | .hbm, ⟨12, _⟩ => ⟨S4x1x2048, .f32⟩
  | .hbm, ⟨13, _⟩ => ⟨S1x2048x2048, .f32⟩
  | .hbm, ⟨14, _⟩ => ⟨S2048x2048, .f32⟩
  | .hbm, ⟨15, _⟩ => ⟨S2048x2048, .bf16⟩
  | .hbm, ⟨16, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c64_i32 : BitVec 32 := 64#32
  let v20 : BitVec 32 := Scalar.addi c0_i32_16 c64_i32
  let c1_i32 : BitVec 32 := 1#32
  ⟨c0_i32_16, v20, c1_i32⟩
def k0_mult1 (k0_t1 : Fin k0_t1_loop.trips) : BitVec 32 :=
  let c0_i32_16 : BitVec 32 := 0#32
  let c1_i32 : BitVec 32 := 1#32
  let arg9 : BitVec 32 := Scf.iv c0_i32_16 c1_i32 k0_t1
  let c16_i32 : BitVec 32 := 16#32
  let v21 : BitVec 32 := Scalar.muli arg9 c16_i32
  v21
def k0_off1 (k0_t1 : Fin k0_t1_loop.trips) : Fin 2 → Nat :=
  let c0_i32_16 : BitVec 32 := 0#32
  let c1_i32 : BitVec 32 := 1#32
  let arg9 : BitVec 32 := Scf.iv c0_i32_16 c1_i32 k0_t1
  let c16_i32 : BitVec 32 := 16#32
  let v21 : BitVec 32 := Scalar.muli arg9 c16_i32
  let v22 : BitVec 32 := v21
  let v23 : Index := Scalar.indexCast v22
  let c0_18 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "q_scale" => some ((((Real.sqrt 128) * (Real.log 2))⁻¹ : ℝ) : EReal)
  | _ => none
-- ==== Reference5Ideal.lean ====
abbrev S4x4096x2048 : Shape := ⟨3, ![4, 4096, 2048]⟩
abbrev S4x4x2048 : Shape := ⟨3, ![4, 4, 2048]⟩
abbrev S4x2048 : Shape := ⟨2, ![4, 2048]⟩
abbrev S2x2048x2048 : Shape := ⟨3, ![2, 2048, 2048]⟩
abbrev S1x1x2048 : Shape := ⟨3, ![1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S4x1x2048 : Shape := ⟨3, ![4, 1, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4x2048, .f32⟩
  | .hbm, ⟨2, _⟩ => ⟨S4x2048, .f32⟩
  | .hbm, ⟨3, _⟩ => ⟨S4x2048, .f32⟩
  | .hbm, ⟨4, _⟩ => ⟨S2x2048x2048, .f32⟩
  | .hbm, ⟨5, _⟩ => ⟨S1x1x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S1x2048x2048, .f32⟩
  | .hbm, ⟨33, _⟩ => ⟨S2048x2048, .f32⟩
  | .hbm, ⟨34, _⟩ => ⟨S4x4096x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | .hbm, ⟨43, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel6.lean ====
abbrev S4x4096x4x128 : Shape := ⟨4, ![4, 4096, 4, 128]⟩
abbrev S2x2x32x128 : Shape := ⟨4, ![2, 2, 32, 128]⟩
abbrev S2x2x4096x256 : Shape := ⟨4, ![2, 2, 4096, 256]⟩
abbrev S2x2x256x128 : Shape := ⟨4, ![2, 2, 256, 128]⟩
abbrev S1x4x4096x4x128 : Shape := ⟨5, ![1, 4, 4096, 4, 128]⟩
abbrev S2x4x4096x4x128 : Shape := ⟨5, ![2, 4, 4096, 4, 128]⟩
abbrev S2x4x4x4096x128 : Shape := ⟨5, ![2, 4, 4, 4096, 128]⟩
abbrev S2x4x4x256x2048 : Shape := ⟨5, ![2, 4, 4, 256, 2048]⟩
abbrev S1x2x4096x256 : Shape := ⟨4, ![1, 2, 4096, 256]⟩
abbrev S2x4096x256 : Shape := ⟨3, ![2, 4096, 256]⟩
abbrev S1x2x256x128 : Shape := ⟨4, ![1, 2, 256, 128]⟩
abbrev S2x256x128 : Shape := ⟨3, ![2, 256, 128]⟩
abbrev S1x2x32x128 : Shape := ⟨4, ![1, 2, 32, 128]⟩
abbrev S2x32x128 : Shape := ⟨3, ![2, 32, 128]⟩
abbrev S2x1x4096 : Shape := ⟨3, ![2, 1, 4096]⟩
abbrev S2x4x4x256x128 : Shape := ⟨5, ![2, 4, 4, 256, 128]⟩
abbrev S1x1x1x256x2048 : Shape := ⟨5, ![1, 1, 1, 256, 2048]⟩
abbrev S1x4096x256 : Shape := ⟨3, ![1, 4096, 256]⟩
abbrev S1x256x128 : Shape := ⟨3, ![1, 256, 128]⟩
abbrev S1x1x4096 : Shape := ⟨3, ![1, 1, 4096]⟩
abbrev S1x1x1x256x128 : Shape := ⟨5, ![1, 1, 1, 256, 128]⟩
abbrev S256x2048 : Shape := ⟨2, ![256, 2048]⟩
abbrev S1x2048x256 : Shape := ⟨3, ![1, 2048, 256]⟩
abbrev S2048x256 : Shape := ⟨2, ![2048, 256]⟩
abbrev S256x256 : Shape := ⟨2, ![256, 256]⟩
abbrev S1x4096 : Shape := ⟨2, ![1, 4096]⟩
abbrev S8x4096 : Shape := ⟨2, ![8, 4096]⟩
abbrev S4096x256 : Shape := ⟨2, ![4096, 256]⟩
abbrev S8x256 : Shape := ⟨2, ![8, 256]⟩
abbrev S1x256 : Shape := ⟨2, ![1, 256]⟩
abbrev S256x128 : Shape := ⟨2, ![256, 128]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S2x2x32x128, .f32⟩
  | .hbm, ⟨3, _⟩ => ⟨S2x2x4096x256, .f32⟩
  | .hbm, ⟨4, _⟩ => ⟨S2x2x256x128, .f32⟩
  | .hbm, ⟨5, _⟩ => ⟨S1x4x4096x4x128, .f32⟩
  | .hbm, ⟨6, _⟩ => ⟨S1x4x4096x4x128, .f32⟩
  | .hbm, ⟨7, _⟩ => ⟨S2x4x4096x4x128, .f32⟩
  | .hbm, ⟨8, _⟩ => ⟨S2x4x4x4096x128, .f32⟩
  | .hbm, ⟨9, _⟩ => ⟨S2x4x4x256x2048, .f32⟩
  | .hbm, ⟨10, _⟩ => ⟨S2x4x4x256x2048, .bf16⟩
  | .hbm, ⟨11, _⟩ => ⟨S1x2x4096x256, .f32⟩
  | .hbm, ⟨12, _⟩ => ⟨S2x4096x256, .f32⟩
  | .hbm, ⟨13, _⟩ => ⟨S2x4096x256, .bf16⟩
  | .hbm, ⟨14, _⟩ => ⟨S1x2x256x128, .f32⟩
  | .hbm, ⟨15, _⟩ => ⟨S2x256x128, .f32⟩
  | .hbm, ⟨16, _⟩ => ⟨S2x256x128, .bf16⟩
  | .hbm, ⟨17, _⟩ => ⟨S1x2x32x128, .f32⟩
  | .hbm, ⟨18, _⟩ => ⟨S2x32x128, .f32⟩
  | .hbm, ⟨19, _⟩ => ⟨S2x1x4096, .f32⟩
  | .hbm, ⟨20, _⟩ => ⟨S2x4x4x256x128, .bf16⟩
  | .local _ .vmem, ⟨0, _⟩ => ⟨S1x1x1x256x2048, .bf16⟩
  | .local _ .vmem, ⟨1, _⟩ => ⟨S1x1x1x256x2048, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x1x4096, .f32⟩
  | .local _ .vmem, ⟨7, _⟩ => ⟨S1x1x4096, .f32⟩
  | .local _ .vmem, ⟨8, _⟩ => ⟨S1x1x1x256x128, .bf16⟩
  | .local _ .vmem, ⟨9, _⟩ => ⟨S1x1x1x256x128, .bf16⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference6Ideal.lean ====
abbrev S4x4096x4x128 : Shape := ⟨4, ![4, 4096, 4, 128]⟩
abbrev S2x2x32x128 : Shape := ⟨4, ![2, 2, 32, 128]⟩
abbrev S2x2x4096x256 : Shape := ⟨4, ![2, 2, 4096, 256]⟩
abbrev S2x2x256x128 : Shape := ⟨4, ![2, 2, 256, 128]⟩
abbrev S1x1x32x128 : Shape := ⟨4, ![1, 1, 32, 128]⟩
abbrev S32x128 : Shape := ⟨2, ![32, 128]⟩
abbrev S1x1x4096x256 : Shape := ⟨4, ![1, 1, 4096, 256]⟩
abbrev S4096x256 : Shape := ⟨2, ![4096, 256]⟩
abbrev S1x1x256x128 : Shape := ⟨4, ![1, 1, 256, 128]⟩
abbrev S256x128 : Shape := ⟨2, ![256, 128]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S4x255x32x4x128 : Shape := ⟨5, ![4, 255, 32, 4, 128]⟩
abbrev S1x1x32x1x128 : Shape := ⟨5, ![1, 1, 32, 1, 128]⟩
abbrev S4x255x4x32x128 : Shape := ⟨5, ![4, 255, 4, 32, 128]⟩
abbrev S4x255x4x4096 : Shape := ⟨4, ![4, 255, 4, 4096]⟩
abbrev S4x255x4x256 : Shape := ⟨4, ![4, 255, 4, 256]⟩
abbrev S4x255x4x128 : Shape := ⟨4, ![4, 255, 4, 128]⟩
abbrev S1x4x255x4x128 : Shape := ⟨5, ![1, 4, 255, 4, 128]⟩
abbrev S2x4x255x4x128 : Shape := ⟨5, ![2, 4, 255, 4, 128]⟩
abbrev S2x4x4x255x128 : Shape := ⟨5, ![2, 4, 4, 255, 128]⟩
abbrev S2x4x4x256x128 : Shape := ⟨5, ![2, 4, 4, 256, 128]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S2x2x32x128, .f32⟩
  | .hbm, ⟨3, _⟩ => ⟨S2x2x4096x256, .f32⟩
  | .hbm, ⟨4, _⟩ => ⟨S2x2x256x128, .f32⟩
  | .hbm, ⟨5, _⟩ => ⟨S1x1x32x128, .f32⟩
  | .hbm, ⟨6, _⟩ => ⟨S32x128, .f32⟩
  | .hbm, ⟨7, _⟩ => ⟨S1x1x4096x256, .f32⟩
  | .hbm, ⟨8, _⟩ => ⟨S4096x256, .f32⟩
  | .hbm, ⟨9, _⟩ => ⟨S1x1x256x128, .f32⟩
  | .hbm, ⟨10, _⟩ => ⟨S256x128, .f32⟩
  | .hbm, ⟨11, _⟩ => ⟨S255, .i32⟩
  | .hbm, ⟨12, _⟩ => ⟨S255x1, .i32⟩
  | .hbm, ⟨13, _⟩ => ⟨S_, .i32⟩
  | .hbm, ⟨14, _⟩ => ⟨S255x1, .i32⟩
  | .hbm, ⟨15, _⟩ => ⟨S255x1, .i32⟩
  | .hbm, ⟨16, _⟩ => ⟨S32, .i32⟩
  | .hbm, ⟨17, _⟩ => ⟨S1x32, .i32⟩
  | .hbm, ⟨18, _⟩ => ⟨S255x32, .i32⟩
  | .hbm, ⟨19, _⟩ => ⟨S255x32, .i32⟩
  | .hbm, ⟨20, _⟩ => ⟨S255x32, .i32⟩
  | .hbm, ⟨21, _⟩ => ⟨S_, .i32⟩
  | .hbm, ⟨22, _⟩ => ⟨S255x32, .i32⟩
  | .hbm, ⟨23, _⟩ => ⟨S255x32, .i1⟩
  | .hbm, ⟨24, _⟩ => ⟨S_, .i32⟩
  | .hbm, ⟨25, _⟩ => ⟨S255x32, .i32⟩
  | .hbm, ⟨26, _⟩ => ⟨S255x32, .i32⟩
  | .hbm, ⟨27, _⟩ => ⟨S255x32, .i32⟩
  | .hbm, ⟨28, _⟩ => ⟨S255x32x1, .i32⟩
  | .hbm, ⟨29, _⟩ => ⟨S4x255x32x4x128, .f32⟩
  | .hbm, ⟨30, _⟩ => ⟨S1x1x32x1x128, .f32⟩
  | .hbm, ⟨31, _⟩ => ⟨S4x255x32x4x128, .f32⟩
  | .hbm, ⟨32, _⟩ => ⟨S4x255x32x4x128, .f32⟩
  | .hbm, ⟨33, _⟩ => ⟨S4x255x4x32x128, .f32⟩
  | .hbm, ⟨34, _⟩ => ⟨S4x255x4x4096, .f32⟩
  | .hbm, ⟨35, _⟩ => ⟨S4x255x4x256, .f32⟩
  | .hbm, ⟨36, _⟩ => ⟨S4x255x4x256, .f32⟩
  | .hbm, ⟨37, _⟩ => ⟨S4x255x4x256, .f32⟩
  | .hbm, ⟨38, _⟩ => ⟨S_, .f32⟩
  | .hbm, ⟨39, _⟩ => ⟨S4x255x4x256, .f32⟩
  | .hbm, ⟨40, _⟩ => ⟨S4x255x4x256, .f32⟩
  | .hbm, ⟨41, _⟩ => ⟨S4x255x4x256, .f32⟩
  | .hbm, ⟨42, _⟩ => ⟨S_, .f32⟩
  | .hbm, ⟨43, _⟩ => ⟨S4x255x4x256, .f32⟩
  | .hbm, ⟨44, _⟩ => ⟨S4x255x4x256, .f32⟩
  | .hbm, ⟨45, _⟩ => ⟨S4x255x4x256, .f32⟩
  | .hbm, ⟨46, _⟩ => ⟨S_, .f32⟩
  | .hbm, ⟨47, _⟩ => ⟨S4x255x4x256, .f32⟩
  | .hbm, ⟨48, _⟩ => ⟨S4x255x4x256, .f32⟩
  | .hbm, ⟨49, _⟩ => ⟨S_, .f32⟩
  | .hbm, ⟨50, _⟩ => ⟨S4x255x4x256, .f32⟩
  | .hbm, ⟨51, _⟩ => ⟨S4x255x4x256, .f32⟩
  | .hbm, ⟨52, _⟩ => ⟨S4x255x4x256, .f32⟩
  | .hbm, ⟨53, _⟩ => ⟨S4x255x4x128, .f32⟩
  | .hbm, ⟨54, _⟩ => ⟨S1x1x32x128, .f32⟩
  | .hbm, ⟨55, _⟩ => ⟨S32x128, .f32⟩
  | .hbm, ⟨56, _⟩ => ⟨S1x1x4096x256, .f32⟩
  | .hbm, ⟨57, _⟩ => ⟨S4096x256, .f32⟩
  | .hbm, ⟨58, _⟩ => ⟨S1x1x256x128, .f32⟩
  | .hbm, ⟨59, _⟩ => ⟨S256x128, .f32⟩
  | .hbm, ⟨60, _⟩ => ⟨S255, .i32⟩
  | .hbm, ⟨61, _⟩ => ⟨S255x1, .i32⟩
  | .hbm, ⟨62, _⟩ => ⟨S_, .i32⟩
  | .hbm, ⟨63, _⟩ => ⟨S255x1, .i32⟩
  | .hbm, ⟨64, _⟩ => ⟨S255x1, .i32⟩
  | .hbm, ⟨65, _⟩ => ⟨S32, .i32⟩
  | .hbm, ⟨66, _⟩ => ⟨S1x32, .i32⟩
  | .hbm, ⟨67, _⟩ => ⟨S255x32, .i32⟩
  | .hbm, ⟨68, _⟩ => ⟨S255x32, .i32⟩
  | .hbm, ⟨69, _⟩ => ⟨S255x32, .i32⟩
  | .hbm, ⟨70, _⟩ => ⟨S_, .i32⟩
  | .hbm, ⟨71, _⟩ => ⟨S255x32, .i32⟩
  | .hbm, ⟨72, _⟩ => ⟨S255x32, .i1⟩
  | .hbm, ⟨73, _⟩ => ⟨S_, .i32⟩
  | .hbm, ⟨74, _⟩ => ⟨S255x32, .i32⟩
  | .hbm, ⟨75, _⟩ => ⟨S255x32, .i32⟩
  | .hbm, ⟨76, _⟩ => ⟨S255x32, .i32⟩
  | .hbm, ⟨77, _⟩ => ⟨S255x32x1, .i32⟩
  | .hbm, ⟨78, _⟩ => ⟨S4x255x32x4x128, .f32⟩
  | .hbm, ⟨79, _⟩ => ⟨S1x1x32x1x128, .f32⟩
  | .hbm, ⟨80, _⟩ => ⟨S4x255x32x4x128, .f32⟩
  | .hbm, ⟨81, _⟩ => ⟨S4x255x32x4x128, .f32⟩
  | .hbm, ⟨82, _⟩ => ⟨S4x255x4x32x128, .f32⟩
  | .hbm, ⟨83, _⟩ => ⟨S4x255x4x4096, .f32⟩
  | .hbm, ⟨84, _⟩ => ⟨S4x255x4x256, .f32⟩
  | .hbm, ⟨85, _⟩ => ⟨S4x255x4x256, .f32⟩
  | .hbm, ⟨86, _⟩ => ⟨S4x255x4x256, .f32⟩
  | .hbm, ⟨87, _⟩ => ⟨S_, .f32⟩
  | .hbm, ⟨88, _⟩ => ⟨S4x255x4x256, .f32⟩
  | .hbm, ⟨89, _⟩ => ⟨S4x255x4x256, .f32⟩
  | .hbm, ⟨90, _⟩ => ⟨S4x255x4x256, .f32⟩
  | .hbm, ⟨91, _⟩ => ⟨S_, .f32⟩
  | .hbm, ⟨92, _⟩ => ⟨S4x255x4x256, .f32⟩
  | .hbm, ⟨93, _⟩ => ⟨S4x255x4x256, .f32⟩
  | .hbm, ⟨94, _⟩ => ⟨S4x255x4x256, .f32⟩
  | .hbm, ⟨95, _⟩ => ⟨S_, .f32⟩
  | .hbm, ⟨96, _⟩ => ⟨S4x255x4x256, .f32⟩
  | .hbm, ⟨97, _⟩ => ⟨S4x255x4x256, .f32⟩
  | .hbm, ⟨98, _⟩ => ⟨S_, .f32⟩
  | .hbm, ⟨99, _⟩ => ⟨S4x255x4x256, .f32⟩
  | .hbm, ⟨100, _⟩ => ⟨S4x255x4x256, .f32⟩
  | .hbm, ⟨101, _⟩ => ⟨S4x255x4x256, .f32⟩
  | .hbm, ⟨102, _⟩ => ⟨S4x255x4x128, .f32⟩
  | .hbm, ⟨103, _⟩ => ⟨S1x4x255x4x128, .f32⟩
  | .hbm, ⟨104, _⟩ => ⟨S1x4x255x4x128, .f32⟩
  | .hbm, ⟨105, _⟩ => ⟨S2x4x255x4x128, .f32⟩
  | .hbm, ⟨106, _⟩ => ⟨S2x4x4x255x128, .f32⟩
  | .hbm, ⟨107, _⟩ => ⟨S_, .i32⟩
  | .hbm, ⟨108, _⟩ => ⟨S_, .f32⟩
  | .hbm, ⟨109, _⟩ => ⟨S2x4x4x256x128, .f32⟩
  | .hbm, ⟨110, _⟩ => ⟨S2x4x4x256x128, .bf16⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_6 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_c_12 : Ref sig .tc := ⟨.hbm, 107, rfl⟩
abbrev main_call0_v0 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Kernel7.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4x1x12288, .f32⟩
  | .hbm, ⟨7, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 20
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S4x12288x8, .f32⟩
  | .hbm, ⟨16, _⟩ => ⟨S4x8x12288, .f32⟩
  | .hbm, ⟨17, _⟩ => ⟨S4x1x12288, .f32⟩
  | .hbm, ⟨18, _⟩ => ⟨S4x8x12288, .f32⟩
  | .hbm, ⟨19, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.Cell.lean ====
/-
  The vocabulary of the kernel's body: what one head does with one block of keys, as pure functions of the values it
  reads, over any arithmetic. `sc` is a block of scores, `sp` the softplus of the scores in base two, `suf` its sums
  from each column to the block's last one, `att` the weights, and `carN`, `accN` the two running sums after the block.
-/
module

public import proofs.«01_k».proof.Proof.Gen.KernelIdeal.Skeleton
public import Idealize.ShloMosaic.Lib.Pipeline.ReadBack
public import Idealize.ShloMosaic.Lib.Pipeline.Value
public import Idealize.ShloMosaic.Lib.WritesUnit

@[expose] public section

noncomputable section

namespace Cert.KernelIdeal.SB

open Cert.KernelIdeal Cert.KernelIdeal.Gen Idealize.ShloMosaic

variable {F : FTy → Type} [FloatOps F] [Named F]

/-- A block of scores: queries times keys transposed. -/
def sc (q k : FVec F S256x128 .bf16) : FVec F S256x256 .f32 :=
  matmul dot_S256x128_S256x128_S256x256_1_1_0_0_n_n none q k (constant S256x256 .f32 0x00000000#32)

/-- Softplus in base two. -/
def sp (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2_e" 0x3FB8AA3B#32)))

/-- The columns strictly before the row. -/
def causal : IVec S256x256 1 :=
  cmpi .slt (iota .tc S256x256 32 [1] iota_S256x256_d1_w32) (iota .tc S256x256 32 [0] iota_S256x256_d0_w32)

/-- `x` at the columns before the row, zero elsewhere. -/
def masked (x : FVec F S256x256 .f32) : FVec F S256x256 .f32 :=
  select causal x (broadcast S256x256 (Scalar.ofBits .f32 0x00000000#32))

/-- The sums of `s` from each column to the last, taken as one product with the ones below the diagonal `u`. -/
def suf (u : FVec F S512x256 .bf16) (s : FVec F S256x256 .f32) : FVec F S256x256 .f32 :=
  matmul dot_S256x512_S512x256_S256x256_1_0_0_1_n_n none
    (concatenate S256x512 1 [⟨S256x256, truncf .bf16 s bitsLt_bf16_f32⟩,
      ⟨S256x256, truncf .bf16 (subf s (extf .f32 (truncf .bf16 s bitsLt_bf16_f32) bitsLt_bf16_f32)) bitsLt_bf16_f32⟩]
      concatenates_S256x256_S256x256_S256x512_d1) u (constant S256x256 .f32 0x00000000#32)

/-- The weights of a block, from its scores, its suffix sums and the sum carried from the later blocks. -/
def att (z t : FVec F S256x256 .f32) (c : FVec F S256x128 .f32) : FVec F S256x256 .f32 :=
  exp2 (subf (subf z t) (concatenate S256x256 1 [⟨S256x128, c⟩, ⟨S256x128, c⟩] concatenates_S256x128_S256x128_S256x256_d1))

/-- The carried sum after the block. -/
def carN (t : FVec F S256x256 .f32) (c : FVec F S256x128 .f32) : FVec F S256x128 .f32 :=
  addf c (broadcastTo S256x128 (extractStridedSlice S256x1 ![0, 0] t slices_S256x256_o0_0_S256x1) broadcasts_S256x1_S256x128)

/-- The weighted sum of the values after the block. -/
def accN (a : FVec F S256x256 .f32) (v : FVec F S256x128 .bf16) (o : FVec F S256x128 .f32) : FVec F S256x128 .f32 :=
  addf o (matmul dot_S256x256_S256x128_S256x128_1_0_0_1_n_n none (truncf .bf16 a bitsLt_bf16_f32) v
    (constant S256x128 .f32 0x00000000#32))

theorem inb128 : ∀ (h : Fin 8) (a : Fin 3), (![h.val, 0, 0] : Fin 3 → ℕ) a + S1x256x128.size a ≤ S8x256x128.size a := by decide

theorem inb256 : ∀ (h : Fin 8) (a : Fin 3), (![h.val, 0, 0] : Fin 3 → ℕ) a + S1x256x256.size a ≤ S8x256x256.size a := by decide

/-- Head `h` of a scratch of eight [256, 128] planes. -/
def p128 (h : Fin 8) (X : Vec F S8x256x128 .f32) : FVec F S256x128 .f32 :=
  shapeCast S256x128 (View.ld X (Rect.unit (s := S8x256x128) ![h.val, 0, 0] S1x256x128.size
    (inb128 h))) shapeCasts_S1x256x128_S256x128

/-- Head `h` of a scratch of eight [256, 256] planes. -/
def p256 (h : Fin 8) (X : Vec F S8x256x256 .f32) : FVec F S256x256 .f32 :=
  shapeCast S256x256 (View.ld X (Rect.unit (s := S8x256x256) ![h.val, 0, 0] S1x256x256.size
    (inb256 h))) shapeCasts_S1x256x256_S256x256

/-- Head `h` of a block of queries held in a buffer. -/
def qB {sig' : RefSig} {κ' : Kind} {spc : Space} (v : View sig' κ' spc S256x1024 .bf16) (X : v.ty.Contents (Elt F)) (h : Fin 8) :
    FVec F S256x128 .bf16 :=
  shapeCast S256x128 (v.readAt (Elt F) (Rect.unit (s := S256x1024) ![0, 128 * h.val] S256x128.size
    ((by decide : ∀ (h : Fin 8) (a : Fin 2), (![0, 128 * h.val] : Fin 2 → ℕ) a + S256x128.size a ≤ S256x1024.size a) h)).toLoadRect X)
    shapeCasts_S256x128_S256x128

/-- A [256, 128] block, at the offset `off`, of keys or values held in a buffer. -/
def kB {sig' : RefSig} {κ' : Kind} {spc : Space} (v : View sig' κ' spc S4096x1024 .bf16) (X : v.ty.Contents (Elt F)) (off : Fin 2 → ℕ)
    (inb : ∀ a : Fin 2, off a + S256x128.size a ≤ S4096x1024.size a) : FVec F S256x128 .bf16 :=
  shapeCast S256x128 (v.readAt (Elt F) (Rect.unit (s := S4096x1024) off S256x128.size inb).toLoadRect X) shapeCasts_S256x128_S256x128

/-- A plane put in a box of height one and taken out again. -/
theorem cast128 (x : FVec F S256x128 .f32) (h h') :
    shapeCast (no_index S256x128) (s := no_index S1x256x128) (shapeCast (s := no_index S256x128) (no_index S1x256x128) x h) h' = x := by
  rw [shapeCast_shapeCast]

theorem cast256 (x : FVec F S256x256 .f32) (h h') :
    shapeCast (no_index S256x256) (s := no_index S1x256x256) (shapeCast (s := no_index S256x256) (no_index S1x256x256) x h) h' = x := by
  rw [shapeCast_shapeCast]

/-! ## The vocabulary recognised in the operations it stands for -/

theorem fold_sc (q k : FVec F S256x128 .bf16) :
    matmul dot_S256x128_S256x128_S256x256_1_1_0_0_n_n none q k (constant S256x256 .f32 (0#32)) = sc q k := rfl

theorem fold_sp (z : FVec F S256x256 .f32) :
    addf (maximumf z (broadcast S256x256 (FloatOps.ofBits .f32 (0#32))))
      (mulf (log (addf (broadcast S256x256 (FloatOps.ofBits .f32 (1065353216#32)))
          (exp2 (subf (broadcast S256x256 (FloatOps.ofBits .f32 (0#32))) (absf z)))))
        (broadcast S256x256 (Named.named κ "log2_e" (1069066811#32)))) = sp z := rfl

theorem fold_masked (x : FVec F S256x256 .f32) :
    select (cmpi .slt (iota .tc S256x256 32 [1] iota_S256x256_d1_w32) (iota .tc S256x256 32 [0] iota_S256x256_d0_w32)) x
      (broadcast S256x256 (FloatOps.ofBits .f32 (0#32))) = masked x := rfl

theorem fold_suf (u : FVec F S512x256 .bf16) (s : FVec F S256x256 .f32) :
    matmul dot_S256x512_S512x256_S256x256_1_0_0_1_n_n none
      (concatenate S256x512 1 [⟨S256x256, truncf .bf16 s bitsLt_bf16_f32⟩,
        ⟨S256x256, truncf .bf16 (subf s (extf .f32 (truncf .bf16 s bitsLt_bf16_f32) bitsLt_bf16_f32)) bitsLt_bf16_f32⟩]
        concatenates_S256x256_S256x256_S256x512_d1) u (constant S256x256 .f32 (0#32)) = suf u s := rfl

theorem fold_att (z t : FVec F S256x256 .f32) (c : FVec F S256x128 .f32) :
    exp2 (subf (subf z t) (concatenate S256x256 1 [⟨S256x128, c⟩, ⟨S256x128, c⟩] concatenates_S256x128_S256x128_S256x256_d1))
      = att z t c := rfl

theorem fold_carN (t : FVec F S256x256 .f32) (c : FVec F S256x128 .f32) :
    addf c (broadcastTo S256x128 (extractStridedSlice S256x1 ![0, 0] t slices_S256x256_o0_0_S256x1) broadcasts_S256x1_S256x128)
      = carN t c := rfl

theorem fold_accN (a : FVec F S256x256 .f32) (v : FVec F S256x128 .bf16) (o : FVec F S256x128 .f32) :
    addf o (matmul dot_S256x256_S256x128_S256x128_1_0_0_1_n_n none (truncf .bf16 a bitsLt_bf16_f32) v
      (constant S256x128 .f32 (0#32))) = accN a v o := rfl

/-! ## A plane of a scratch after the body's stores -/

section planes

variable {sig' : RefSig} {κ' : Kind} {spc : Space}

/-- The plane of head `h` right after its own store. -/
theorem p128_hit (v : View sig' κ' spc S8x256x128 .f32) (f : v.ty.Contents (Elt F)) (L : List (View.Piece (Elt F) S8x256x128 .f32))
    (h : Fin 8) (off : Fin 3 → ℕ) (inb) (w : (Rect.unit (s := S8x256x128) off S1x256x128.size inb).shape.Idx → Elt F .f32)
    (ho : off = ![h.val, 0, 0]) :
    p128 h (v.read (Elt F) (v.writes (Elt F) f (⟨Rect.unit (s := no_index S8x256x128) off (no_index S1x256x128.size) inb, w⟩ :: L)))
      = shapeCast S256x128 (s := S1x256x128) w shapeCasts_S1x256x128_S256x128 := by
  subst ho
  unfold p128
  congr 1
  funext x
  exact View.read_writes_cons_emb v f (Rect.unit (s := S8x256x128) _ S1x256x128.size inb) w L x

/-- The plane of head `h` past a store into another head's. -/
theorem p128_miss (v : View sig' κ' spc S8x256x128 .f32) (f : v.ty.Contents (Elt F)) (L : List (View.Piece (Elt F) S8x256x128 .f32))
    (h : Fin 8) (off : Fin 3 → ℕ) (inb) (w : (Rect.unit (s := S8x256x128) off S1x256x128.size inb).shape.Idx → Elt F .f32)
    (ho : off 0 ≠ h.val) :
    p128 h (v.read (Elt F) (v.writes (Elt F) f (⟨Rect.unit (s := no_index S8x256x128) off (no_index S1x256x128.size) inb, w⟩ :: L)))
      = p128 h (v.read (Elt F) (v.writes (Elt F) f L)) := by
  unfold p128
  congr 1
  funext x
  have hx : (x 0).val = 0 := by have h0 : (x 0).val < 1 := (x 0).isLt; omega
  refine View.read_writes_cons_unit_of_not_mem v f inb w L _ rfl (0 : Fin 3) ?_
  have e : ((Rect.unit (s := S8x256x128) ![h.val, 0, 0] S1x256x128.size (inb128 h)).emb x 0).val = h.val := by
    simp [Rect.emb, Rect.unit, hx]
  show ((Rect.unit (s := S8x256x128) ![h.val, 0, 0] S1x256x128.size (inb128 h)).emb x 0).val < off 0
    ∨ off 0 + 1 ≤ ((Rect.unit (s := S8x256x128) ![h.val, 0, 0] S1x256x128.size (inb128 h)).emb x 0).val
  rw [e]
  have h0 : off 0 < h.val ∨ h.val < off 0 := Nat.lt_or_gt_of_ne ho
  omega

theorem p256_hit (v : View sig' κ' spc S8x256x256 .f32) (f : v.ty.Contents (Elt F)) (L : List (View.Piece (Elt F) S8x256x256 .f32))
    (h : Fin 8) (off : Fin 3 → ℕ) (inb) (w : (Rect.unit (s := S8x256x256) off S1x256x256.size inb).shape.Idx → Elt F .f32)
    (ho : off = ![h.val, 0, 0]) :
    p256 h (v.read (Elt F) (v.writes (Elt F) f (⟨Rect.unit (s := no_index S8x256x256) off (no_index S1x256x256.size) inb, w⟩ :: L)))
      = shapeCast S256x256 (s := S1x256x256) w shapeCasts_S1x256x256_S256x256 := by
  subst ho
  unfold p256
  congr 1
  funext x
  exact View.read_writes_cons_emb v f (Rect.unit (s := S8x256x256) _ S1x256x256.size inb) w L x

theorem p256_miss (v : View sig' κ' spc S8x256x256 .f32) (f : v.ty.Contents (Elt F)) (L : List (View.Piece (Elt F) S8x256x256 .f32))
    (h : Fin 8) (off : Fin 3 → ℕ) (inb) (w : (Rect.unit (s := S8x256x256) off S1x256x256.size inb).shape.Idx → Elt F .f32)
    (ho : off 0 ≠ h.val) :
    p256 h (v.read (Elt F) (v.writes (Elt F) f (⟨Rect.unit (s := no_index S8x256x256) off (no_index S1x256x256.size) inb, w⟩ :: L)))
      = p256 h (v.read (Elt F) (v.writes (Elt F) f L)) := by
  unfold p256
  congr 1
  funext x
  have hx : (x 0).val = 0 := by have h0 : (x 0).val < 1 := (x 0).isLt; omega
  refine View.read_writes_cons_unit_of_not_mem v f inb w L _ rfl (0 : Fin 3) ?_
  have e : ((Rect.unit (s := S8x256x256) ![h.val, 0, 0] S1x256x256.size (inb256 h)).emb x 0).val = h.val := by
    simp [Rect.emb, Rect.unit, hx]
  show ((Rect.unit (s := S8x256x256) ![h.val, 0, 0] S1x256x256.size (inb256 h)).emb x 0).val < off 0
    ∨ off 0 + 1 ≤ ((Rect.unit (s := S8x256x256) ![h.val, 0, 0] S1x256x256.size (inb256 h)).emb x 0).val
  rw [e]
  have h0 : off 0 < h.val ∨ h.val < off 0 := Nat.lt_or_gt_of_ne ho
  omega

theorem inbO : ∀ (h : Fin 8) (a : Fin 2), (![0, 128 * h.val] : Fin 2 → ℕ) a + S256x128.size a ≤ S256x1024.size a := by decide

/-- The columns of head `h` in a block of outputs. -/
def oP (h : Fin 8) (X : Vec F S256x1024 .bf16) : FVec F S256x128 .bf16 :=
  View.ld X (Rect.unit (s := S256x1024) ![0, 128 * h.val] S256x128.size (inbO h))

/-- The columns of head `h` right after their own store. -/
theorem oP_hit (v : View sig' κ' spc S256x1024 .bf16) (f : v.ty.Contents (Elt F)) (L : List (View.Piece (Elt F) S256x1024 .bf16))
    (h : Fin 8) (off : Fin 2 → ℕ) (inb) (w : (Rect.unit (s := S256x1024) off S256x128.size inb).shape.Idx → Elt F .bf16)
    (ho : off = ![0, 128 * h.val]) :
    oP h (v.read (Elt F) (v.writes (Elt F) f (⟨Rect.unit (s := no_index S256x1024) off (no_index S256x128.size) inb, w⟩ :: L))) = w := by
  subst ho
  funext x
  exact View.read_writes_cons_emb v f (Rect.unit (s := S256x1024) _ S256x128.size inb) w L x

/-- The columns of head `h` past a store into another head's. -/
theorem oP_miss (v : View sig' κ' spc S256x1024 .bf16) (f : v.ty.Contents (Elt F)) (L : List (View.Piece (Elt F) S256x1024 .bf16))
    (h : Fin 8) (off : Fin 2 → ℕ) (inb) (w : (Rect.unit (s := S256x1024) off S256x128.size inb).shape.Idx → Elt F .bf16)
    (ho : off 1 + 128 ≤ 128 * h.val ∨ 128 * h.val + 128 ≤ off 1) :
    oP h (v.read (Elt F) (v.writes (Elt F) f (⟨Rect.unit (s := no_index S256x1024) off (no_index S256x128.size) inb, w⟩ :: L)))
      = oP h (v.read (Elt F) (v.writes (Elt F) f L)) := by
  unfold oP
  funext x
  have hx : (x 1).val < 128 := (x 1).isLt
  refine View.read_writes_cons_unit_of_not_mem v f inb w L _ rfl (1 : Fin 2) ?_
  have e : ((Rect.unit (s := S256x1024) ![0, 128 * h.val] S256x128.size (inbO h)).emb x 1).val = 128 * h.val + (x 1).val := by
    simp [Rect.emb, Rect.unit]
  show ((Rect.unit (s := S256x1024) ![0, 128 * h.val] S256x128.size (inbO h)).emb x 1).val < off 1
    ∨ off 1 + 128 ≤ ((Rect.unit (s := S256x1024) ![0, 128 * h.val] S256x128.size (inbO h)).emb x 1).val
  rw [e]
  omega

end planes

/-- A plane of zeros: what the running sums start from. -/
def z128 : FVec F S256x128 .f32 := broadcast S256x128 (Scalar.ofBits .f32 0x00000000#32)

end Cert.KernelIdeal.SB

end
-- ==== Proof.Trip.lean ====
/-
  One trip of the kernel's loop over pairs of key blocks, head by head: what each plane of the four scratch buffers
  holds after the trip, as a function of what the planes held before it.
-/
module

public import proofs.«01_k».proof.Proof.Cell
public import proofs.«01_k».proof.Proof.Gen.KernelIdeal.Loops

@[expose] public section

set_option maxRecDepth 8192

noncomputable section

namespace Cert.KernelIdeal.SB

open Cert.KernelIdeal Cert.KernelIdeal.Gen Idealize.ShloMosaic Idealize.ShloMosaic.TcCoe
open Idealize.SL.Sem

variable {F : FTy → Type} [FloatOps F] [Named F]
variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (arg2 : BitVec 32) (v8 : FVec F S512x256 .bf16) (v544 : FVec F S1x256x128 .f32)
  (X_arg3 : BufTy.Contents (Elt F) arg3.view.ty) (X_arg4 : BufTy.Contents (Elt F) arg4.view.ty) (X_arg5 : BufTy.Contents (Elt F) arg5.view.ty) (k : Fin (k0_t1_loop i).trips)
  (f_arg7 : BufTy.Contents (Elt F) arg7.view.ty) (f_arg8 : BufTy.Contents (Elt F) arg8.view.ty) (f_arg9 : BufTy.Contents (Elt F) arg9.view.ty) (f_arg10 : BufTy.Contents (Elt F) arg10.view.ty)

theorem trip7_0 : p128 0 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 0) (kB arg4.view X_arg4 (k0_off17 i k 1#32) (k0_off17_inb i k 0))))) (carN (suf v8 (sp (p256 0 (arg10.view.read (Elt F) f_arg10)))) (p128 0 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1336, trip_k0_t1.sl.v1333, trip_k0_t1.sl.v1332, trip_k0_t1.sl.v1331, trip_k0_t1.sl.v1264, trip_k0_t1.sl.cst_366, trip_k0_t1.sl.r_38, trip_k0_t1.sl.r_28, trip_k0_t1.sl.v1130, trip_k0_t1.sl.v1128, trip_k0_t1.sl.v1113, trip_k0_t1.sl.v1129, trip_k0_t1.sl.cst_680, trip_k0_t1.sl.v1273, k0_pay114, k0_pay124]
  try simp only [cast128, cast256, fold_sc, fold_sp, fold_masked, fold_suf, fold_att, fold_carN, fold_accN]
  simp only [trip_k0_t1.sl.v1112, trip_k0_t1.sl.v1272, trip_k0_t1.sl.HW_arg9_8, trip_k0_t1.sl.HW_arg7_8]
  simp (disch := first | rfl | decide) only [↓ View.readCov_skip, ↓ View.readCov_cons_toLoadRect]
  try simp only [trip_k0_t1.sl.v914, trip_k0_t1.sl.v911, trip_k0_t1.sl.v910, trip_k0_t1.sl.v909, trip_k0_t1.sl.r_26, trip_k0_t1.sl.r_9, trip_k0_t1.sl.v691, trip_k0_t1.sl.v851, trip_k0_t1.sl.v624, trip_k0_t1.sl.v621, trip_k0_t1.sl.cst_366, trip_k0_t1.sl.v620, trip_k0_t1.sl.v617, k0_pay27, k0_pay46]
  try simp only [cast128, cast256, fold_sc, fold_sp, fold_masked, fold_suf, fold_att, fold_carN, fold_accN]
  rfl

theorem trip7_1 : p128 1 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 1) (kB arg4.view X_arg4 (k0_off18 i k 1#32) (k0_off18_inb i k 0))))) (carN (suf v8 (sp (p256 1 (arg10.view.read (Elt F) f_arg10)))) (p128 1 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1353, trip_k0_t1.sl.v1350, trip_k0_t1.sl.v1349, trip_k0_t1.sl.v1348, trip_k0_t1.sl.v1265, trip_k0_t1.sl.cst_366, trip_k0_t1.sl.r_39, trip_k0_t1.sl.r_29, trip_k0_t1.sl.v1133, trip_k0_t1.sl.v1131, trip_k0_t1.sl.v1115, trip_k0_t1.sl.v1129, trip_k0_t1.sl.cst_680, trip_k0_t1.sl.v1275, k0_pay115, k0_pay125]
  try simp only [cast128, cast256, fold_sc, fold_sp, fold_masked, fold_suf, fold_att, fold_carN, fold_accN]
  simp only [trip_k0_t1.sl.v1114, trip_k0_t1.sl.v1274, trip_k0_t1.sl.HW_arg9_8, trip_k0_t1.sl.HW_arg7_8]
  simp (disch := first | rfl | decide) only [↓ View.readCov_skip, ↓ View.readCov_cons_toLoadRect]
  try simp only [trip_k0_t1.sl.v931, trip_k0_t1.sl.v928, trip_k0_t1.sl.v927, trip_k0_t1.sl.v926, trip_k0_t1.sl.v843, trip_k0_t1.sl.cst_366, trip_k0_t1.sl.r_19, trip_k0_t1.sl.r_12, trip_k0_t1.sl.r_11, trip_k0_t1.sl.v693, trip_k0_t1.sl.r_10, trip_k0_t1.sl.v853, trip_k0_t1.sl.v633, trip_k0_t1.sl.v630, trip_k0_t1.sl.v629, trip_k0_t1.sl.v626, k0_pay28, k0_pay29, k0_pay30, k0_pay31, k0_pay39]
  try simp only [cast128, cast256, fold_sc, fold_sp, fold_masked, fold_suf, fold_att, fold_carN, fold_accN]
  rfl

theorem trip7_2 : p128 2 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 2) (kB arg4.view X_arg4 (k0_off19 i k 1#32) (k0_off19_inb i k 0))))) (carN (suf v8 (sp (p256 2 (arg10.view.read (Elt F) f_arg10)))) (p128 2 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1370, trip_k0_t1.sl.v1367, trip_k0_t1.sl.v1366, trip_k0_t1.sl.v1365, trip_k0_t1.sl.v1266, trip_k0_t1.sl.cst_366, trip_k0_t1.sl.r_40, trip_k0_t1.sl.r_30, trip_k0_t1.sl.v1136, trip_k0_t1.sl.v1134, trip_k0_t1.sl.v1117, trip_k0_t1.sl.v1129, trip_k0_t1.sl.cst_680, trip_k0_t1.sl.v1277, k0_pay116, k0_pay126]
  try simp only [cast128, cast256, fold_sc, fold_sp, fold_masked, fold_suf, fold_att, fold_carN, fold_accN]
  simp only [trip_k0_t1.sl.v1116, trip_k0_t1.sl.v1276, trip_k0_t1.sl.HW_arg9_8, trip_k0_t1.sl.HW_arg7_8]
  simp (disch := first | rfl | decide) only [↓ View.readCov_skip, ↓ View.readCov_cons_toLoadRect]
  try simp only [trip_k0_t1.sl.v948, trip_k0_t1.sl.v945, trip_k0_t1.sl.v944, trip_k0_t1.sl.v943, trip_k0_t1.sl.v844, trip_k0_t1.sl.cst_366, trip_k0_t1.sl.r_20, trip_k0_t1.sl.r_13, trip_k0_t1.sl.r_3, trip_k0_t1.sl.v695, trip_k0_t1.sl.v855, trip_k0_t1.sl.v642, trip_k0_t1.sl.v639, trip_k0_t1.sl.v638, trip_k0_t1.sl.v635, k0_pay21, k0_pay32, k0_pay40]
  try simp only [cast128, cast256, fold_sc, fold_sp, fold_masked, fold_suf, fold_att, fold_carN, fold_accN]
  rfl

theorem trip7_3 : p128 3 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 3) (kB arg4.view X_arg4 (k0_off20 i k 1#32) (k0_off20_inb i k 0))))) (carN (suf v8 (sp (p256 3 (arg10.view.read (Elt F) f_arg10)))) (p128 3 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1387, trip_k0_t1.sl.v1384, trip_k0_t1.sl.v1383, trip_k0_t1.sl.v1382, trip_k0_t1.sl.v1267, trip_k0_t1.sl.cst_366, trip_k0_t1.sl.r_41, trip_k0_t1.sl.r_31, trip_k0_t1.sl.v1139, trip_k0_t1.sl.v1137, trip_k0_t1.sl.v1119, trip_k0_t1.sl.v1129, trip_k0_t1.sl.cst_680, trip_k0_t1.sl.v1279, k0_pay117, k0_pay127]
  try simp only [cast128, cast256, fold_sc, fold_sp, fold_masked, fold_suf, fold_att, fold_carN, fold_accN]
  simp only [trip_k0_t1.sl.v1118, trip_k0_t1.sl.v1278, trip_k0_t1.sl.HW_arg9_8, trip_k0_t1.sl.HW_arg7_8]
  simp (disch := first | rfl | decide) only [↓ View.readCov_skip, ↓ View.readCov_cons_toLoadRect]
  try simp only [trip_k0_t1.sl.v965, trip_k0_t1.sl.v962, trip_k0_t1.sl.v961, trip_k0_t1.sl.v960, trip_k0_t1.sl.v845, trip_k0_t1.sl.cst_366, trip_k0_t1.sl.r_21, trip_k0_t1.sl.r_14, trip_k0_t1.sl.r_4, trip_k0_t1.sl.v697, trip_k0_t1.sl.v857, trip_k0_t1.sl.v651, trip_k0_t1.sl.v648, trip_k0_t1.sl.v647, trip_k0_t1.sl.v644, k0_pay22, k0_pay33, k0_pay41]
  try simp only [cast128, cast256, fold_sc, fold_sp, fold_masked, fold_suf, fold_att, fold_carN, fold_accN]
  rfl

theorem trip7_4 : p128 4 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 4) (kB arg4.view X_arg4 (k0_off21 i k 1#32) (k0_off21_inb i k 0))))) (carN (suf v8 (sp (p256 4 (arg10.view.read (Elt F) f_arg10)))) (p128 4 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1404, trip_k0_t1.sl.v1401, trip_k0_t1.sl.v1400, trip_k0_t1.sl.v1399, trip_k0_t1.sl.v1268, trip_k0_t1.sl.cst_366, trip_k0_t1.sl.v1248, trip_k0_t1.sl.v1247, trip_k0_t1.sl.v1246, trip_k0_t1.sl.v1245, trip_k0_t1.sl.v1244, trip_k0_t1.sl.r_34, trip_k0_t1.sl.r_33, trip_k0_t1.sl.v1142, trip_k0_t1.sl.v1140, trip_k0_t1.sl.v1121, trip_k0_t1.sl.v1129, trip_k0_t1.sl.cst_680, trip_k0_t1.sl.r_32, trip_k0_t1.sl.v1281, k0_pay118, k0_pay119, k0_pay120]
  try simp only [cast128, cast256, fold_sc, fold_sp, fold_masked, fold_suf, fold_att, fold_carN, fold_accN]
  simp only [trip_k0_t1.sl.v1120, trip_k0_t1.sl.v1280, trip_k0_t1.sl.HW_arg9_8, trip_k0_t1.sl.HW_arg7_8]
  simp (disch := first | rfl | decide) only [↓ View.readCov_skip, ↓ View.readCov_cons_toLoadRect]
  try simp only [trip_k0_t1.sl.v982, trip_k0_t1.sl.v979, trip_k0_t1.sl.v978, trip_k0_t1.sl.v977, trip_k0_t1.sl.v846, trip_k0_t1.sl.cst_366, trip_k0_t1.sl.r_22, trip_k0_t1.sl.r_15, trip_k0_t1.sl.r_5, trip_k0_t1.sl.v699, trip_k0_t1.sl.v859, trip_k0_t1.sl.v660, trip_k0_t1.sl.v657, trip_k0_t1.sl.v656, trip_k0_t1.sl.v653, k0_pay23, k0_pay34, k0_pay42]
  try simp only [cast128, cast256, fold_sc, fold_sp, fold_masked, fold_suf, fold_att, fold_carN, fold_accN]
  rfl

theorem trip7_5 : p128 5 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 5) (kB arg4.view X_arg4 (k0_off22 i k 1#32) (k0_off22_inb i k 0))))) (carN (suf v8 (sp (p256 5 (arg10.view.read (Elt F) f_arg10)))) (p128 5 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1421, trip_k0_t1.sl.v1418, trip_k0_t1.sl.v1417, trip_k0_t1.sl.v1416, trip_k0_t1.sl.v1269, trip_k0_t1.sl.cst_366, trip_k0_t1.sl.v1253, trip_k0_t1.sl.v1252, trip_k0_t1.sl.v1251, trip_k0_t1.sl.v1250, trip_k0_t1.sl.v1249, trip_k0_t1.sl.r_35, trip_k0_t1.sl.v1145, trip_k0_t1.sl.v1143, trip_k0_t1.sl.v1123, trip_k0_t1.sl.v1129, trip_k0_t1.sl.cst_680, trip_k0_t1.sl.v1283, k0_pay121]
  try simp only [cast128, cast256, fold_sc, fold_sp, fold_masked, fold_suf, fold_att, fold_carN, fold_accN]
  simp only [trip_k0_t1.sl.v1122, trip_k0_t1.sl.v1282, trip_k0_t1.sl.HW_arg9_8, trip_k0_t1.sl.HW_arg7_8]
  simp (disch := first | rfl | decide) only [↓ View.readCov_skip, ↓ View.readCov_cons_toLoadRect]
  try simp only [trip_k0_t1.sl.v999, trip_k0_t1.sl.v996, trip_k0_t1.sl.v995, trip_k0_t1.sl.v994, trip_k0_t1.sl.v847, trip_k0_t1.sl.cst_366, trip_k0_t1.sl.r_23, trip_k0_t1.sl.r_16, trip_k0_t1.sl.r_6, trip_k0_t1.sl.v701, trip_k0_t1.sl.v861, trip_k0_t1.sl.v669, trip_k0_t1.sl.v666, trip_k0_t1.sl.v665, trip_k0_t1.sl.v662, k0_pay24, k0_pay35, k0_pay43]
  try simp only [cast128, cast256, fold_sc, fold_sp, fold_masked, fold_suf, fold_att, fold_carN, fold_accN]
  rfl

theorem trip7_6 : p128 6 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 6) (kB arg4.view X_arg4 (k0_off23 i k 1#32) (k0_off23_inb i k 0))))) (carN (suf v8 (sp (p256 6 (arg10.view.read (Elt F) f_arg10)))) (p128 6 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1285, trip_k0_t1.sl.v1270, trip_k0_t1.sl.cst_366, trip_k0_t1.sl.v1258, trip_k0_t1.sl.v1257, trip_k0_t1.sl.v1256, trip_k0_t1.sl.v1255, trip_k0_t1.sl.v1254, trip_k0_t1.sl.r_36, trip_k0_t1.sl.v1148, trip_k0_t1.sl.v1146, trip_k0_t1.sl.v1125, trip_k0_t1.sl.v1129, trip_k0_t1.sl.cst_680, k0_pay122, k0_pay172]
  try simp only [cast128, cast256, fold_sc, fold_sp, fold_masked, fold_suf, fold_att, fold_carN, fold_accN]
  simp only [trip_k0_t1.sl.v1284, trip_k0_t1.sl.v1124, trip_k0_t1.sl.HW_arg7_8, trip_k0_t1.sl.HW_arg9_8]
  simp (disch := first | rfl | decide) only [↓ View.readCov_skip, ↓ View.readCov_cons_toLoadRect]
  try simp only [trip_k0_t1.sl.v678, trip_k0_t1.sl.v675, trip_k0_t1.sl.cst_366, trip_k0_t1.sl.v674, trip_k0_t1.sl.r, trip_k0_t1.sl.v671, trip_k0_t1.sl.v1016, trip_k0_t1.sl.v1013, trip_k0_t1.sl.v1012, trip_k0_t1.sl.v1011, trip_k0_t1.sl.v848, trip_k0_t1.sl.r_24, trip_k0_t1.sl.r_18, trip_k0_t1.sl.r_7, trip_k0_t1.sl.r_17, trip_k0_t1.sl.r_1, trip_k0_t1.sl.v863, k0_pay19, k0_pay25, k0_pay36, k0_pay37, k0_pay38, k0_pay44]
  try simp only [cast128, cast256, fold_sc, fold_sp, fold_masked, fold_suf, fold_att, fold_carN, fold_accN]
  rfl

theorem trip7_7 : p128 7 (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 X_arg3 X_arg4 X_arg5 k).1 f_arg7 f_arg8 f_arg9 f_arg10)))
    = carN (suf v8 (sp (sc (qB arg3.view X_arg3 7) (kB arg4.view X_arg4 (k0_off24 i k 1#32) (k0_off24_inb i k 0))))) (carN (suf v8 (sp (p256 7 (arg10.view.read (Elt F) f_arg10)))) (p128 7 (arg7.view.read (Elt F) f_arg7))) := by
  unfold trip_k0_t1
  dsimp only
  simp only [trip_k0_t1.sl.HW_arg7_13, trip_k0_t1.sl.HW_arg7_12, trip_k0_t1.sl.HW_arg7_11, trip_k0_t1.sl.HW_arg7_10, trip_k0_t1.sl.HW_arg7_9, trip_k0_t1.sl.HW_arg7_8]
  simp (disch := first | rfl | decide) only [↓ p128_miss, ↓ p128_hit]
  try simp only [trip_k0_t1.sl.v1287, trip_k0_t1.sl.v1271, trip_k0_t1.sl.cst_366, trip_k0_t1.sl.v1263, trip_k0_t1.sl.v1262, trip_k0_t1.sl.v1261, trip_k0_t1.sl.v1260, trip_k0_t1.sl.v1259, trip_k0_t1.sl.r_37, trip_k0_t1.sl.r_27, trip_k0_t1.sl.v1127, k0_pay113, k0_pay123, k0_pay666]
  try simp only [cast128, cast256, fold_sc, fold_sp, fold_masked, fold_suf, fold_att, fold_carN, fold_accN]
  simp only [trip_k0_t1.sl.v1286, trip_k0_t1.sl.v1126, trip_k0_t1.sl.HW_arg7_8, trip_k0_t1.sl.HW_arg9_8]
  simp (disch := first | rfl | decide) only [↓ View.readCov_skip, ↓ View.readCov_cons_toLoadRect]
  try simp only [trip_k0_t1.sl.v687, trip_k0_t1.sl.v684, trip_k0_t1.sl.cst_366, trip_k0_t1.sl.v683, trip_k0_t1.sl.v680, trip_k0_t1.sl.v1033, trip_k0_t1.sl.v1030, trip_k0_t1.sl.v1029, trip_k0_t1.sl.v1028, trip_k0_t1.sl.v849, trip_k0_t1.sl.r_25, trip_k0_t1.sl.r_8, trip_k0_t1.sl.r_2, trip_k0_t1.sl.v865, k0_pay20, k0_pay26, k0_pay45]
  try simp only [cast128, cast256, fold_sc, fold_sp, fold_masked, fold_suf, fold_att, fold_carN, fold_accN]
  rfl

theorem trip8_0 : p128 0 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 0) (kB arg4.view X_arg4 (k0_off17 i k 1#32) (k0_off17_inb i k 0))) (suf v8 (sp (sc (qB arg3.view X_arg3 0) (kB arg4.view X_arg4 (k0_off17 i k 1#32) (k0_off17_inb i k 0))))) (carN (suf v8 (sp (p256 0 (arg10.view.read (Elt F) f_arg10)))) (p128 0 (arg7.view.read (Elt F) f_arg7)))) (kB arg5.view X_arg5 (k0_off17 i k 1#32) (k0_off17_inb i k 0)) (accN (att (p256 0 (arg10.view.read (Elt F) f_arg10)) (suf v8 (sp (p256 0 (arg10.view.read (Elt F) f_arg10)))) (p128 0 (arg7.view.read (Elt F) f_arg7))) (kB arg5.view X_arg5 (k0_off25 i k) (k0_off25_inb i k)) (p128 0 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1330, trip_k0_t1.sl.v1327, trip_k0_t1.sl.v1326, trip_k0_t1.sl.cst_512, trip_k0_t1.sl.v1325, trip_k0_t1.sl.v1322, trip_k0_t1.sl.v1291, trip_k0_t1.sl.v1290, trip_k0_t1.sl.v1289, trip_k0_t1.sl.v1273, trip_k0_t1.sl.v1288, trip_k0_t1.sl.v1264, trip_k0_t1.sl.cst_366, trip_k0_t1.sl.r_38, trip_k0_t1.sl.r_28, trip_k0_t1.sl.v1130, trip_k0_t1.sl.v1128, trip_k0_t1.sl.v1113, trip_k0_t1.sl.v1129, trip_k0_t1.sl.cst_680, trip_k0_t1.sl.v1321, k0_pay114, k0_pay124]
  try simp only [cast128, cast256, fold_sc, fold_sp, fold_masked, fold_suf, fold_att, fold_carN, fold_accN]
  simp only [trip_k0_t1.sl.v1272, trip_k0_t1.sl.v1112, trip_k0_t1.sl.v1320, trip_k0_t1.sl.HW_arg7_8, trip_k0_t1.sl.HW_arg9_8, trip_k0_t1.sl.HW_arg8_8]
  simp (disch := first | rfl | decide) only [↓ View.readCov_skip, ↓ View.readCov_cons_toLoadRect]
  try simp only [trip_k0_t1.sl.v908, trip_k0_t1.sl.v905, trip_k0_t1.sl.v904, trip_k0_t1.sl.cst_512, trip_k0_t1.sl.v903, trip_k0_t1.sl.v900, trip_k0_t1.sl.v869, trip_k0_t1.sl.v868, trip_k0_t1.sl.v867, trip_k0_t1.sl.v851, trip_k0_t1.sl.v866, trip_k0_t1.sl.r_26, trip_k0_t1.sl.r_9, trip_k0_t1.sl.v691, trip_k0_t1.sl.v899, trip_k0_t1.sl.v624, trip_k0_t1.sl.v621, trip_k0_t1.sl.cst_366, trip_k0_t1.sl.v620, trip_k0_t1.sl.v617, trip_k0_t1.sl.v914, trip_k0_t1.sl.v911, trip_k0_t1.sl.v910, trip_k0_t1.sl.v909, k0_pay27, k0_pay46]
  try simp only [cast128, cast256, fold_sc, fold_sp, fold_masked, fold_suf, fold_att, fold_carN, fold_accN]
  rfl

theorem trip8_1 : p128 1 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 1) (kB arg4.view X_arg4 (k0_off18 i k 1#32) (k0_off18_inb i k 0))) (suf v8 (sp (sc (qB arg3.view X_arg3 1) (kB arg4.view X_arg4 (k0_off18 i k 1#32) (k0_off18_inb i k 0))))) (carN (suf v8 (sp (p256 1 (arg10.view.read (Elt F) f_arg10)))) (p128 1 (arg7.view.read (Elt F) f_arg7)))) (kB arg5.view X_arg5 (k0_off18 i k 1#32) (k0_off18_inb i k 0)) (accN (att (p256 1 (arg10.view.read (Elt F) f_arg10)) (suf v8 (sp (p256 1 (arg10.view.read (Elt F) f_arg10)))) (p128 1 (arg7.view.read (Elt F) f_arg7))) (kB arg5.view X_arg5 (k0_off26 i k) (k0_off26_inb i k)) (p128 1 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1347, trip_k0_t1.sl.v1344, trip_k0_t1.sl.v1343, trip_k0_t1.sl.cst_512, trip_k0_t1.sl.v1342, trip_k0_t1.sl.v1339, trip_k0_t1.sl.v1295, trip_k0_t1.sl.v1294, trip_k0_t1.sl.v1293, trip_k0_t1.sl.v1275, trip_k0_t1.sl.v1292, trip_k0_t1.sl.v1265, trip_k0_t1.sl.cst_366, trip_k0_t1.sl.r_39, trip_k0_t1.sl.r_29, trip_k0_t1.sl.v1133, trip_k0_t1.sl.v1131, trip_k0_t1.sl.v1115, trip_k0_t1.sl.v1129, trip_k0_t1.sl.cst_680, trip_k0_t1.sl.v1338, k0_pay115, k0_pay125]
  try simp only [cast128, cast256, fold_sc, fold_sp, fold_masked, fold_suf, fold_att, fold_carN, fold_accN]
  simp only [trip_k0_t1.sl.v1274, trip_k0_t1.sl.v1114, trip_k0_t1.sl.v1337, trip_k0_t1.sl.HW_arg7_8, trip_k0_t1.sl.HW_arg9_8, trip_k0_t1.sl.HW_arg8_9, trip_k0_t1.sl.HW_arg8_8]
  simp (disch := first | rfl | decide) only [↓ View.readCov_skip, ↓ View.readCov_cons_toLoadRect]
  try simp only [trip_k0_t1.sl.v925, trip_k0_t1.sl.v922, trip_k0_t1.sl.v921, trip_k0_t1.sl.cst_512, trip_k0_t1.sl.v920, trip_k0_t1.sl.v917, trip_k0_t1.sl.v873, trip_k0_t1.sl.v872, trip_k0_t1.sl.v871, trip_k0_t1.sl.v853, trip_k0_t1.sl.v870, trip_k0_t1.sl.v843, trip_k0_t1.sl.cst_366, trip_k0_t1.sl.r_19, trip_k0_t1.sl.r_12, trip_k0_t1.sl.r_11, trip_k0_t1.sl.v693, trip_k0_t1.sl.r_10, trip_k0_t1.sl.v916, trip_k0_t1.sl.v915, trip_k0_t1.sl.v633, trip_k0_t1.sl.v630, trip_k0_t1.sl.v629, trip_k0_t1.sl.v626, trip_k0_t1.sl.v931, trip_k0_t1.sl.v928, trip_k0_t1.sl.v927, trip_k0_t1.sl.v926, k0_pay28, k0_pay29, k0_pay30, k0_pay31, k0_pay39]
  try simp only [cast128, cast256, fold_sc, fold_sp, fold_masked, fold_suf, fold_att, fold_carN, fold_accN]
  rfl

theorem trip8_2 : p128 2 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 2) (kB arg4.view X_arg4 (k0_off19 i k 1#32) (k0_off19_inb i k 0))) (suf v8 (sp (sc (qB arg3.view X_arg3 2) (kB arg4.view X_arg4 (k0_off19 i k 1#32) (k0_off19_inb i k 0))))) (carN (suf v8 (sp (p256 2 (arg10.view.read (Elt F) f_arg10)))) (p128 2 (arg7.view.read (Elt F) f_arg7)))) (kB arg5.view X_arg5 (k0_off19 i k 1#32) (k0_off19_inb i k 0)) (accN (att (p256 2 (arg10.view.read (Elt F) f_arg10)) (suf v8 (sp (p256 2 (arg10.view.read (Elt F) f_arg10)))) (p128 2 (arg7.view.read (Elt F) f_arg7))) (kB arg5.view X_arg5 (k0_off27 i k) (k0_off27_inb i k)) (p128 2 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1364, trip_k0_t1.sl.v1361, trip_k0_t1.sl.v1360, trip_k0_t1.sl.cst_512, trip_k0_t1.sl.v1359, trip_k0_t1.sl.v1356, trip_k0_t1.sl.v1299, trip_k0_t1.sl.v1298, trip_k0_t1.sl.v1297, trip_k0_t1.sl.v1277, trip_k0_t1.sl.v1296, trip_k0_t1.sl.v1266, trip_k0_t1.sl.cst_366, trip_k0_t1.sl.r_40, trip_k0_t1.sl.r_30, trip_k0_t1.sl.v1136, trip_k0_t1.sl.v1134, trip_k0_t1.sl.v1117, trip_k0_t1.sl.v1129, trip_k0_t1.sl.cst_680, trip_k0_t1.sl.v1355, k0_pay116, k0_pay126]
  try simp only [cast128, cast256, fold_sc, fold_sp, fold_masked, fold_suf, fold_att, fold_carN, fold_accN]
  simp only [trip_k0_t1.sl.v1276, trip_k0_t1.sl.v1116, trip_k0_t1.sl.v1354, trip_k0_t1.sl.HW_arg7_8, trip_k0_t1.sl.HW_arg9_8, trip_k0_t1.sl.HW_arg8_10, trip_k0_t1.sl.HW_arg8_9, trip_k0_t1.sl.HW_arg8_8]
  simp (disch := first | rfl | decide) only [↓ View.readCov_skip, ↓ View.readCov_cons_toLoadRect]
  try simp only [trip_k0_t1.sl.v942, trip_k0_t1.sl.v939, trip_k0_t1.sl.v938, trip_k0_t1.sl.cst_512, trip_k0_t1.sl.v937, trip_k0_t1.sl.v934, trip_k0_t1.sl.v877, trip_k0_t1.sl.v876, trip_k0_t1.sl.v875, trip_k0_t1.sl.v855, trip_k0_t1.sl.v874, trip_k0_t1.sl.v844, trip_k0_t1.sl.cst_366, trip_k0_t1.sl.r_20, trip_k0_t1.sl.r_13, trip_k0_t1.sl.r_3, trip_k0_t1.sl.v695, trip_k0_t1.sl.v933, trip_k0_t1.sl.v932, trip_k0_t1.sl.v642, trip_k0_t1.sl.v639, trip_k0_t1.sl.v638, trip_k0_t1.sl.v635, trip_k0_t1.sl.v948, trip_k0_t1.sl.v945, trip_k0_t1.sl.v944, trip_k0_t1.sl.v943, k0_pay21, k0_pay32, k0_pay40]
  try simp only [cast128, cast256, fold_sc, fold_sp, fold_masked, fold_suf, fold_att, fold_carN, fold_accN]
  rfl

theorem trip8_3 : p128 3 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 3) (kB arg4.view X_arg4 (k0_off20 i k 1#32) (k0_off20_inb i k 0))) (suf v8 (sp (sc (qB arg3.view X_arg3 3) (kB arg4.view X_arg4 (k0_off20 i k 1#32) (k0_off20_inb i k 0))))) (carN (suf v8 (sp (p256 3 (arg10.view.read (Elt F) f_arg10)))) (p128 3 (arg7.view.read (Elt F) f_arg7)))) (kB arg5.view X_arg5 (k0_off20 i k 1#32) (k0_off20_inb i k 0)) (accN (att (p256 3 (arg10.view.read (Elt F) f_arg10)) (suf v8 (sp (p256 3 (arg10.view.read (Elt F) f_arg10)))) (p128 3 (arg7.view.read (Elt F) f_arg7))) (kB arg5.view X_arg5 (k0_off28 i k) (k0_off28_inb i k)) (p128 3 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1381, trip_k0_t1.sl.v1378, trip_k0_t1.sl.v1377, trip_k0_t1.sl.cst_512, trip_k0_t1.sl.v1376, trip_k0_t1.sl.v1373, trip_k0_t1.sl.v1303, trip_k0_t1.sl.v1302, trip_k0_t1.sl.v1301, trip_k0_t1.sl.v1279, trip_k0_t1.sl.v1300, trip_k0_t1.sl.v1267, trip_k0_t1.sl.cst_366, trip_k0_t1.sl.r_41, trip_k0_t1.sl.r_31, trip_k0_t1.sl.v1139, trip_k0_t1.sl.v1137, trip_k0_t1.sl.v1119, trip_k0_t1.sl.v1129, trip_k0_t1.sl.cst_680, trip_k0_t1.sl.v1372, k0_pay117, k0_pay127]
  try simp only [cast128, cast256, fold_sc, fold_sp, fold_masked, fold_suf, fold_att, fold_carN, fold_accN]
  simp only [trip_k0_t1.sl.v1278, trip_k0_t1.sl.v1118, trip_k0_t1.sl.v1371, trip_k0_t1.sl.HW_arg7_8, trip_k0_t1.sl.HW_arg9_8, trip_k0_t1.sl.HW_arg8_11, trip_k0_t1.sl.HW_arg8_10, trip_k0_t1.sl.HW_arg8_9, trip_k0_t1.sl.HW_arg8_8]
  simp (disch := first | rfl | decide) only [↓ View.readCov_skip, ↓ View.readCov_cons_toLoadRect]
  try simp only [trip_k0_t1.sl.v959, trip_k0_t1.sl.v956, trip_k0_t1.sl.v955, trip_k0_t1.sl.cst_512, trip_k0_t1.sl.v954, trip_k0_t1.sl.v951, trip_k0_t1.sl.v881, trip_k0_t1.sl.v880, trip_k0_t1.sl.v879, trip_k0_t1.sl.v857, trip_k0_t1.sl.v878, trip_k0_t1.sl.v845, trip_k0_t1.sl.cst_366, trip_k0_t1.sl.r_21, trip_k0_t1.sl.r_14, trip_k0_t1.sl.r_4, trip_k0_t1.sl.v697, trip_k0_t1.sl.v950, trip_k0_t1.sl.v, trip_k0_t1.sl.v651, trip_k0_t1.sl.v648, trip_k0_t1.sl.v647, trip_k0_t1.sl.v644, trip_k0_t1.sl.v965, trip_k0_t1.sl.v962, trip_k0_t1.sl.v961, trip_k0_t1.sl.v960, k0_pay22, k0_pay33, k0_pay41]
  try simp only [cast128, cast256, fold_sc, fold_sp, fold_masked, fold_suf, fold_att, fold_carN, fold_accN]
  rfl

theorem trip8_4 : p128 4 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 4) (kB arg4.view X_arg4 (k0_off21 i k 1#32) (k0_off21_inb i k 0))) (suf v8 (sp (sc (qB arg3.view X_arg3 4) (kB arg4.view X_arg4 (k0_off21 i k 1#32) (k0_off21_inb i k 0))))) (carN (suf v8 (sp (p256 4 (arg10.view.read (Elt F) f_arg10)))) (p128 4 (arg7.view.read (Elt F) f_arg7)))) (kB arg5.view X_arg5 (k0_off21 i k 1#32) (k0_off21_inb i k 0)) (accN (att (p256 4 (arg10.view.read (Elt F) f_arg10)) (suf v8 (sp (p256 4 (arg10.view.read (Elt F) f_arg10)))) (p128 4 (arg7.view.read (Elt F) f_arg7))) (kB arg5.view X_arg5 (k0_off29 i k) (k0_off29_inb i k)) (p128 4 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1398, trip_k0_t1.sl.v1395, trip_k0_t1.sl.v1394, trip_k0_t1.sl.cst_512, trip_k0_t1.sl.v1393, trip_k0_t1.sl.v1390, trip_k0_t1.sl.v1307, trip_k0_t1.sl.v1306, trip_k0_t1.sl.v1305, trip_k0_t1.sl.v1281, trip_k0_t1.sl.v1304, trip_k0_t1.sl.v1268, trip_k0_t1.sl.cst_366, trip_k0_t1.sl.v1248, trip_k0_t1.sl.v1247, trip_k0_t1.sl.v1246, trip_k0_t1.sl.v1245, trip_k0_t1.sl.v1244, trip_k0_t1.sl.r_34, trip_k0_t1.sl.r_33, trip_k0_t1.sl.v1142, trip_k0_t1.sl.v1140, trip_k0_t1.sl.v1121, trip_k0_t1.sl.v1129, trip_k0_t1.sl.cst_680, trip_k0_t1.sl.r_32, trip_k0_t1.sl.v1389, k0_pay118, k0_pay119, k0_pay120]
  try simp only [cast128, cast256, fold_sc, fold_sp, fold_masked, fold_suf, fold_att, fold_carN, fold_accN]
  simp only [trip_k0_t1.sl.v1280, trip_k0_t1.sl.v1120, trip_k0_t1.sl.v1388, trip_k0_t1.sl.HW_arg7_8, trip_k0_t1.sl.HW_arg9_8, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ View.readCov_skip, ↓ View.readCov_cons_toLoadRect]
  try simp only [trip_k0_t1.sl.v976, trip_k0_t1.sl.v973, trip_k0_t1.sl.v972, trip_k0_t1.sl.cst_512, trip_k0_t1.sl.v971, trip_k0_t1.sl.v968, trip_k0_t1.sl.v885, trip_k0_t1.sl.v884, trip_k0_t1.sl.v883, trip_k0_t1.sl.v859, trip_k0_t1.sl.v882, trip_k0_t1.sl.v846, trip_k0_t1.sl.cst_366, trip_k0_t1.sl.r_22, trip_k0_t1.sl.r_15, trip_k0_t1.sl.r_5, trip_k0_t1.sl.v699, trip_k0_t1.sl.v967, trip_k0_t1.sl.v966, trip_k0_t1.sl.v660, trip_k0_t1.sl.v657, trip_k0_t1.sl.v656, trip_k0_t1.sl.v653, trip_k0_t1.sl.v982, trip_k0_t1.sl.v979, trip_k0_t1.sl.v978, trip_k0_t1.sl.v977, k0_pay23, k0_pay34, k0_pay42]
  try simp only [cast128, cast256, fold_sc, fold_sp, fold_masked, fold_suf, fold_att, fold_carN, fold_accN]
  rfl

theorem trip8_5 : p128 5 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 5) (kB arg4.view X_arg4 (k0_off22 i k 1#32) (k0_off22_inb i k 0))) (suf v8 (sp (sc (qB arg3.view X_arg3 5) (kB arg4.view X_arg4 (k0_off22 i k 1#32) (k0_off22_inb i k 0))))) (carN (suf v8 (sp (p256 5 (arg10.view.read (Elt F) f_arg10)))) (p128 5 (arg7.view.read (Elt F) f_arg7)))) (kB arg5.view X_arg5 (k0_off22 i k 1#32) (k0_off22_inb i k 0)) (accN (att (p256 5 (arg10.view.read (Elt F) f_arg10)) (suf v8 (sp (p256 5 (arg10.view.read (Elt F) f_arg10)))) (p128 5 (arg7.view.read (Elt F) f_arg7))) (kB arg5.view X_arg5 (k0_off30 i k) (k0_off30_inb i k)) (p128 5 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1415, trip_k0_t1.sl.v1412, trip_k0_t1.sl.v1411, trip_k0_t1.sl.cst_512, trip_k0_t1.sl.v1410, trip_k0_t1.sl.v1407, trip_k0_t1.sl.v1311, trip_k0_t1.sl.v1310, trip_k0_t1.sl.v1309, trip_k0_t1.sl.v1283, trip_k0_t1.sl.v1308, trip_k0_t1.sl.v1269, trip_k0_t1.sl.cst_366, trip_k0_t1.sl.v1253, trip_k0_t1.sl.v1252, trip_k0_t1.sl.v1251, trip_k0_t1.sl.v1250, trip_k0_t1.sl.v1249, trip_k0_t1.sl.r_35, trip_k0_t1.sl.v1145, trip_k0_t1.sl.v1143, trip_k0_t1.sl.v1123, trip_k0_t1.sl.v1129, trip_k0_t1.sl.cst_680, trip_k0_t1.sl.v1406, k0_pay121]
  try simp only [cast128, cast256, fold_sc, fold_sp, fold_masked, fold_suf, fold_att, fold_carN, fold_accN]
  simp only [trip_k0_t1.sl.v1282, trip_k0_t1.sl.v1122, trip_k0_t1.sl.v1405, trip_k0_t1.sl.HW_arg7_8, trip_k0_t1.sl.HW_arg9_8, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ View.readCov_skip, ↓ View.readCov_cons_toLoadRect]
  try simp only [trip_k0_t1.sl.v993, trip_k0_t1.sl.v990, trip_k0_t1.sl.v989, trip_k0_t1.sl.cst_512, trip_k0_t1.sl.v988, trip_k0_t1.sl.v985, trip_k0_t1.sl.v889, trip_k0_t1.sl.v888, trip_k0_t1.sl.v887, trip_k0_t1.sl.v861, trip_k0_t1.sl.v886, trip_k0_t1.sl.v847, trip_k0_t1.sl.cst_366, trip_k0_t1.sl.r_23, trip_k0_t1.sl.r_16, trip_k0_t1.sl.r_6, trip_k0_t1.sl.v701, trip_k0_t1.sl.v984, trip_k0_t1.sl.v_1, trip_k0_t1.sl.v669, trip_k0_t1.sl.v666, trip_k0_t1.sl.v665, trip_k0_t1.sl.v662, trip_k0_t1.sl.v999, trip_k0_t1.sl.v996, trip_k0_t1.sl.v995, trip_k0_t1.sl.v994, k0_pay24, k0_pay35, k0_pay43]
  try simp only [cast128, cast256, fold_sc, fold_sp, fold_masked, fold_suf, fold_att, fold_carN, fold_accN]
  rfl

theorem trip8_6 : p128 6 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 6) (kB arg4.view X_arg4 (k0_off23 i k 1#32) (k0_off23_inb i k 0))) (suf v8 (sp (sc (qB arg3.view X_arg3 6) (kB arg4.view X_arg4 (k0_off23 i k 1#32) (k0_off23_inb i k 0))))) (carN (suf v8 (sp (p256 6 (arg10.view.read (Elt F) f_arg10)))) (p128 6 (arg7.view.read (Elt F) f_arg7)))) (kB arg5.view X_arg5 (k0_off23 i k 1#32) (k0_off23_inb i k 0)) (accN (att (p256 6 (arg10.view.read (Elt F) f_arg10)) (suf v8 (sp (p256 6 (arg10.view.read (Elt F) f_arg10)))) (p128 6 (arg7.view.read (Elt F) f_arg7))) (kB arg5.view X_arg5 (k0_off31 i k) (k0_off31_inb i k)) (p128 6 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1428, trip_k0_t1.sl.cst_512, trip_k0_t1.sl.v1427, trip_k0_t1.sl.v1424, trip_k0_t1.sl.v1315, trip_k0_t1.sl.v1314, trip_k0_t1.sl.v1313, trip_k0_t1.sl.v1285, trip_k0_t1.sl.v1312, trip_k0_t1.sl.v1270, trip_k0_t1.sl.cst_366, trip_k0_t1.sl.v1258, trip_k0_t1.sl.v1257, trip_k0_t1.sl.v1256, trip_k0_t1.sl.v1255, trip_k0_t1.sl.v1254, trip_k0_t1.sl.r_36, trip_k0_t1.sl.v1148, trip_k0_t1.sl.v1146, trip_k0_t1.sl.v1125, trip_k0_t1.sl.v1129, trip_k0_t1.sl.cst_680, trip_k0_t1.sl.v1423, k0_pay122, k0_pay171]
  try simp only [cast128, cast256, fold_sc, fold_sp, fold_masked, fold_suf, fold_att, fold_carN, fold_accN]
  simp only [trip_k0_t1.sl.v1284, trip_k0_t1.sl.v1124, trip_k0_t1.sl.v1422, trip_k0_t1.sl.HW_arg7_8, trip_k0_t1.sl.HW_arg9_8, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ View.readCov_skip, ↓ View.readCov_cons_toLoadRect]
  try simp only [trip_k0_t1.sl.v1010, trip_k0_t1.sl.v1007, trip_k0_t1.sl.v1006, trip_k0_t1.sl.cst_512, trip_k0_t1.sl.v1005, trip_k0_t1.sl.v1002, trip_k0_t1.sl.v893, trip_k0_t1.sl.v892, trip_k0_t1.sl.v891, trip_k0_t1.sl.v863, trip_k0_t1.sl.v890, trip_k0_t1.sl.v848, trip_k0_t1.sl.cst_366, trip_k0_t1.sl.r_24, trip_k0_t1.sl.r_18, trip_k0_t1.sl.r_7, trip_k0_t1.sl.r_17, trip_k0_t1.sl.r_1, trip_k0_t1.sl.v1001, trip_k0_t1.sl.v1000, trip_k0_t1.sl.v678, trip_k0_t1.sl.v675, trip_k0_t1.sl.v674, trip_k0_t1.sl.r, trip_k0_t1.sl.v671, trip_k0_t1.sl.v1016, trip_k0_t1.sl.v1013, trip_k0_t1.sl.v1012, trip_k0_t1.sl.v1011, k0_pay19, k0_pay25, k0_pay36, k0_pay37, k0_pay38, k0_pay44]
  try simp only [cast128, cast256, fold_sc, fold_sp, fold_masked, fold_suf, fold_att, fold_carN, fold_accN]
  rfl

theorem trip8_7 : p128 7 (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 X_arg3 X_arg4 X_arg5 k).2.1 f_arg7 f_arg8 f_arg9 f_arg10)))
    = accN (att (sc (qB arg3.view X_arg3 7) (kB arg4.view X_arg4 (k0_off24 i k 1#32) (k0_off24_inb i k 0))) (suf v8 (sp (sc (qB arg3.view X_arg3 7) (kB arg4.view X_arg4 (k0_off24 i k 1#32) (k0_off24_inb i k 0))))) (carN (suf v8 (sp (p256 7 (arg10.view.read (Elt F) f_arg10)))) (p128 7 (arg7.view.read (Elt F) f_arg7)))) (kB arg5.view X_arg5 (k0_off24 i k 1#32) (k0_off24_inb i k 0)) (accN (att (p256 7 (arg10.view.read (Elt F) f_arg10)) (suf v8 (sp (p256 7 (arg10.view.read (Elt F) f_arg10)))) (p128 7 (arg7.view.read (Elt F) f_arg7))) (kB arg5.view X_arg5 (k0_off32 i k) (k0_off32_inb i k)) (p128 7 (arg8.view.read (Elt F) f_arg8))) := by
  unfold trip_k0_t1
  dsimp only
  simp only [trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8]
  simp (disch := first | rfl | decide) only [↓ p128_miss, ↓ p128_hit]
  try simp only [trip_k0_t1.sl.v1319, trip_k0_t1.sl.v1318, trip_k0_t1.sl.v1317, trip_k0_t1.sl.v1287, trip_k0_t1.sl.v1316, trip_k0_t1.sl.v1271, trip_k0_t1.sl.cst_366, trip_k0_t1.sl.v1263, trip_k0_t1.sl.v1262, trip_k0_t1.sl.v1261, trip_k0_t1.sl.v1260, trip_k0_t1.sl.v1259, trip_k0_t1.sl.r_37, trip_k0_t1.sl.r_27, trip_k0_t1.sl.v1127, k0_pay113, k0_pay123, k0_pay173]
  try simp only [cast128, cast256, fold_sc, fold_sp, fold_masked, fold_suf, fold_att, fold_carN, fold_accN]
  simp only [trip_k0_t1.sl.v1439, trip_k0_t1.sl.v1286, trip_k0_t1.sl.v1126, trip_k0_t1.sl.HW_arg8_15, trip_k0_t1.sl.HW_arg8_14, trip_k0_t1.sl.HW_arg8_13, trip_k0_t1.sl.HW_arg8_12, trip_k0_t1.sl.HW_arg8_11, trip_k0_t1.sl.HW_arg8_10, trip_k0_t1.sl.HW_arg8_9, trip_k0_t1.sl.HW_arg8_8, trip_k0_t1.sl.HW_arg7_8, trip_k0_t1.sl.HW_arg9_8]
  simp (disch := first | rfl | decide) only [↓ View.readCov_skip, ↓ View.readCov_cons_toLoadRect]
  try simp only [trip_k0_t1.sl.v687, trip_k0_t1.sl.v684, trip_k0_t1.sl.cst_366, trip_k0_t1.sl.v683, trip_k0_t1.sl.v680, trip_k0_t1.sl.v1033, trip_k0_t1.sl.v1030, trip_k0_t1.sl.v1029, trip_k0_t1.sl.v1028, trip_k0_t1.sl.v849, trip_k0_t1.sl.r_25, trip_k0_t1.sl.r_8, trip_k0_t1.sl.r_2, trip_k0_t1.sl.v865, trip_k0_t1.sl.v1027, trip_k0_t1.sl.v1024, trip_k0_t1.sl.v1023, trip_k0_t1.sl.cst_512, trip_k0_t1.sl.v1022, trip_k0_t1.sl.v1019, trip_k0_t1.sl.v897, trip_k0_t1.sl.v896, trip_k0_t1.sl.v895, trip_k0_t1.sl.v894, trip_k0_t1.sl.v1018, trip_k0_t1.sl.v_2, k0_pay171, k0_pay20, k0_pay26, k0_pay45]
  try simp only [cast128, cast256, fold_sc, fold_sp, fold_masked, fold_suf, fold_att, fold_carN, fold_accN]
  rfl

theorem trip9_0 : p256 0 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 0) (kB arg4.view X_arg4 (k0_off17 i k 1#32) (k0_off17_inb i k 0))) := by
  unfold trip_k0_t1
  dsimp only
  simp only [trip_k0_t1.sl.HW_arg9_8]
  simp (disch := first | rfl | decide) only [↓ p256_miss, ↓ p256_hit]
  try simp only [trip_k0_t1.sl.v624, trip_k0_t1.sl.v621, trip_k0_t1.sl.cst_366, trip_k0_t1.sl.v620, trip_k0_t1.sl.v617]
  try simp only [cast128, cast256, fold_sc, fold_sp, fold_masked, fold_suf, fold_att, fold_carN, fold_accN]
  rfl

theorem trip9_1 : p256 1 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 1) (kB arg4.view X_arg4 (k0_off18 i k 1#32) (k0_off18_inb i k 0))) := by
  unfold trip_k0_t1
  dsimp only
  simp only [trip_k0_t1.sl.HW_arg9_8]
  simp (disch := first | rfl | decide) only [↓ p256_miss, ↓ p256_hit]
  try simp only [trip_k0_t1.sl.v633, trip_k0_t1.sl.v630, trip_k0_t1.sl.cst_366, trip_k0_t1.sl.v629, trip_k0_t1.sl.v626]
  try simp only [cast128, cast256, fold_sc, fold_sp, fold_masked, fold_suf, fold_att, fold_carN, fold_accN]
  rfl

theorem trip9_2 : p256 2 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 2) (kB arg4.view X_arg4 (k0_off19 i k 1#32) (k0_off19_inb i k 0))) := by
  unfold trip_k0_t1
  dsimp only
  simp only [trip_k0_t1.sl.HW_arg9_8]
  simp (disch := first | rfl | decide) only [↓ p256_miss, ↓ p256_hit]
  try simp only [trip_k0_t1.sl.v642, trip_k0_t1.sl.v639, trip_k0_t1.sl.cst_366, trip_k0_t1.sl.v638, trip_k0_t1.sl.v635]
  try simp only [cast128, cast256, fold_sc, fold_sp, fold_masked, fold_suf, fold_att, fold_carN, fold_accN]
  rfl

theorem trip9_3 : p256 3 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 3) (kB arg4.view X_arg4 (k0_off20 i k 1#32) (k0_off20_inb i k 0))) := by
  unfold trip_k0_t1
  dsimp only
  simp only [trip_k0_t1.sl.HW_arg9_8]
  simp (disch := first | rfl | decide) only [↓ p256_miss, ↓ p256_hit]
  try simp only [trip_k0_t1.sl.v651, trip_k0_t1.sl.v648, trip_k0_t1.sl.cst_366, trip_k0_t1.sl.v647, trip_k0_t1.sl.v644]
  try simp only [cast128, cast256, fold_sc, fold_sp, fold_masked, fold_suf, fold_att, fold_carN, fold_accN]
  rfl

theorem trip9_4 : p256 4 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 4) (kB arg4.view X_arg4 (k0_off21 i k 1#32) (k0_off21_inb i k 0))) := by
  unfold trip_k0_t1
  dsimp only
  simp only [trip_k0_t1.sl.HW_arg9_8]
  simp (disch := first | rfl | decide) only [↓ p256_miss, ↓ p256_hit]
  try simp only [trip_k0_t1.sl.v660, trip_k0_t1.sl.v657, trip_k0_t1.sl.cst_366, trip_k0_t1.sl.v656, trip_k0_t1.sl.v653]
  try simp only [cast128, cast256, fold_sc, fold_sp, fold_masked, fold_suf, fold_att, fold_carN, fold_accN]
  rfl

theorem trip9_5 : p256 5 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 5) (kB arg4.view X_arg4 (k0_off22 i k 1#32) (k0_off22_inb i k 0))) := by
  unfold trip_k0_t1
  dsimp only
  simp only [trip_k0_t1.sl.HW_arg9_8]
  simp (disch := first | rfl | decide) only [↓ p256_miss, ↓ p256_hit]
  try simp only [trip_k0_t1.sl.v669, trip_k0_t1.sl.v666, trip_k0_t1.sl.cst_366, trip_k0_t1.sl.v665, trip_k0_t1.sl.v662]
  try simp only [cast128, cast256, fold_sc, fold_sp, fold_masked, fold_suf, fold_att, fold_carN, fold_accN]
  rfl

theorem trip9_6 : p256 6 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 6) (kB arg4.view X_arg4 (k0_off23 i k 1#32) (k0_off23_inb i k 0))) := by
  unfold trip_k0_t1
  dsimp only
  simp only [trip_k0_t1.sl.HW_arg9_8]
  simp (disch := first | rfl | decide) only [↓ p256_miss, ↓ p256_hit]
  try simp only [trip_k0_t1.sl.v678, trip_k0_t1.sl.v675, trip_k0_t1.sl.cst_366, trip_k0_t1.sl.v674, trip_k0_t1.sl.r, trip_k0_t1.sl.v671]
  try simp only [cast128, cast256, fold_sc, fold_sp, fold_masked, fold_suf, fold_att, fold_carN, fold_accN]
  rfl

theorem trip9_7 : p256 7 (arg9.view.read (Elt F) (arg9.view.writes (Elt F) f_arg9 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.1 f_arg7 f_arg8 f_arg9 f_arg10)))
    = (sc (qB arg3.view X_arg3 7) (kB arg4.view X_arg4 (k0_off24 i k 1#32) (k0_off24_inb i k 0))) := by
  unfold trip_k0_t1
  dsimp only
  simp only [trip_k0_t1.sl.HW_arg9_8]
  simp (disch := first | rfl | decide) only [↓ p256_miss, ↓ p256_hit]
  try simp only [trip_k0_t1.sl.v687, trip_k0_t1.sl.v684, trip_k0_t1.sl.cst_366, trip_k0_t1.sl.v683, trip_k0_t1.sl.v680]
  try simp only [cast128, cast256, fold_sc, fold_sp, fold_masked, fold_suf, fold_att, fold_carN, fold_accN]
  rfl

theorem trip10_0 : p256 0 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 0) (kB arg4.view X_arg4 (k0_off17 i k 2#32) (k0_off17_inb i k 1)) := by
  unfold trip_k0_t1
  dsimp only
  simp (disch := first | rfl | decide) only [↓ p256_miss, ↓ p256_hit]
  try simp only [trip_k0_t1.sl.v1045, trip_k0_t1.sl.v1042, trip_k0_t1.sl.cst_366, trip_k0_t1.sl.v1041, trip_k0_t1.sl.v617]
  try simp only [cast128, cast256, fold_sc, fold_sp, fold_masked, fold_suf, fold_att, fold_carN, fold_accN]
  rfl

theorem trip10_1 : p256 1 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 1) (kB arg4.view X_arg4 (k0_off18 i k 2#32) (k0_off18_inb i k 1)) := by
  unfold trip_k0_t1
  dsimp only
  simp (disch := first | rfl | decide) only [↓ p256_miss, ↓ p256_hit]
  try simp only [trip_k0_t1.sl.v1054, trip_k0_t1.sl.v1051, trip_k0_t1.sl.cst_366, trip_k0_t1.sl.v1050, trip_k0_t1.sl.v626]
  try simp only [cast128, cast256, fold_sc, fold_sp, fold_masked, fold_suf, fold_att, fold_carN, fold_accN]
  rfl

theorem trip10_2 : p256 2 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 2) (kB arg4.view X_arg4 (k0_off19 i k 2#32) (k0_off19_inb i k 1)) := by
  unfold trip_k0_t1
  dsimp only
  simp (disch := first | rfl | decide) only [↓ p256_miss, ↓ p256_hit]
  try simp only [trip_k0_t1.sl.v1063, trip_k0_t1.sl.v1060, trip_k0_t1.sl.cst_366, trip_k0_t1.sl.v1059, trip_k0_t1.sl.v635]
  try simp only [cast128, cast256, fold_sc, fold_sp, fold_masked, fold_suf, fold_att, fold_carN, fold_accN]
  rfl

theorem trip10_3 : p256 3 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 3) (kB arg4.view X_arg4 (k0_off20 i k 2#32) (k0_off20_inb i k 1)) := by
  unfold trip_k0_t1
  dsimp only
  simp (disch := first | rfl | decide) only [↓ p256_miss, ↓ p256_hit]
  try simp only [trip_k0_t1.sl.v1072, trip_k0_t1.sl.v1069, trip_k0_t1.sl.cst_366, trip_k0_t1.sl.v1068, trip_k0_t1.sl.v644]
  try simp only [cast128, cast256, fold_sc, fold_sp, fold_masked, fold_suf, fold_att, fold_carN, fold_accN]
  rfl

theorem trip10_4 : p256 4 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 4) (kB arg4.view X_arg4 (k0_off21 i k 2#32) (k0_off21_inb i k 1)) := by
  unfold trip_k0_t1
  dsimp only
  simp (disch := first | rfl | decide) only [↓ p256_miss, ↓ p256_hit]
  try simp only [trip_k0_t1.sl.v1081, trip_k0_t1.sl.v1078, trip_k0_t1.sl.cst_366, trip_k0_t1.sl.v1077, trip_k0_t1.sl.v653]
  try simp only [cast128, cast256, fold_sc, fold_sp, fold_masked, fold_suf, fold_att, fold_carN, fold_accN]
  rfl

theorem trip10_5 : p256 5 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 5) (kB arg4.view X_arg4 (k0_off22 i k 2#32) (k0_off22_inb i k 1)) := by
  unfold trip_k0_t1
  dsimp only
  simp (disch := first | rfl | decide) only [↓ p256_miss, ↓ p256_hit]
  try simp only [trip_k0_t1.sl.v1090, trip_k0_t1.sl.v1087, trip_k0_t1.sl.cst_366, trip_k0_t1.sl.v1086, trip_k0_t1.sl.v662]
  try simp only [cast128, cast256, fold_sc, fold_sp, fold_masked, fold_suf, fold_att, fold_carN, fold_accN]
  rfl

theorem trip10_6 : p256 6 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 6) (kB arg4.view X_arg4 (k0_off23 i k 2#32) (k0_off23_inb i k 1)) := by
  unfold trip_k0_t1
  dsimp only
  simp (disch := first | rfl | decide) only [↓ p256_miss, ↓ p256_hit]
  try simp only [trip_k0_t1.sl.v1099, trip_k0_t1.sl.v1096, trip_k0_t1.sl.cst_366, trip_k0_t1.sl.v1095, trip_k0_t1.sl.v671]
  try simp only [cast128, cast256, fold_sc, fold_sp, fold_masked, fold_suf, fold_att, fold_carN, fold_accN]
  rfl

theorem trip10_7 : p256 7 (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 X_arg3 X_arg4 X_arg5 k).2.2.2.1 f_arg7 f_arg8 f_arg9 f_arg10)))
    = sc (qB arg3.view X_arg3 7) (kB arg4.view X_arg4 (k0_off24 i k 2#32) (k0_off24_inb i k 1)) := by
  unfold trip_k0_t1
  dsimp only
  simp (disch := first | rfl | decide) only [↓ p256_miss, ↓ p256_hit]
  try simp only [trip_k0_t1.sl.v1108, trip_k0_t1.sl.v1105, trip_k0_t1.sl.cst_366, trip_k0_t1.sl.v1104, trip_k0_t1.sl.v680]
  try simp only [cast128, cast256, fold_sc, fold_sp, fold_masked, fold_suf, fold_att, fold_carN, fold_accN]
  rfl

end Cert.KernelIdeal.SB

end
-- ==== Proof.RunB.lean ====
/-
  One run of the kernel's body, head by head: at the odd row blocks, which end with one block of keys after the loop.
-/
module

public import proofs.«01_k».proof.Proof.Cell
public import proofs.«01_k».proof.Proof.Gen.KernelIdeal.Value

@[expose] public section

set_option maxRecDepth 8192

noncomputable section

namespace Cert.KernelIdeal.SB

open Cert.KernelIdeal Cert.KernelIdeal.Gen Idealize.ShloMosaic Idealize.ShloMosaic.TcCoe
open Idealize.SL.Sem

variable {F : FTy → Type} [FloatOps F] [Named F]

/-- The remainder loop makes no trip: its bounds meet. -/
theorem pb2_trips : ∀ i : grid0.Coords, Scf.trips (k0_t2_loop i).lb (k0_t2_loop i).ub (k0_t2_loop i).st = 0 := by decide +kernel

theorem pb2 (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (arg2 : BitVec 32) (v8 : FVec F S512x256 .bf16) (v544 : FVec F S1x256x128 .f32) (v568 : BitVec 32) (X3) (X4) (X5) (G7) (G8) (G9) (G10) (n : ℕ) (hn : n = 0) :
    pb_k0_t2 (F := F) 𝒱 c bd i arg3 harg3 arg4 harg4 arg5 harg5 arg6 harg6 arg7 harg7 arg8 harg8 arg9 harg9 arg10 harg10 arg2 v8 v544 v568 X3 X4 X5 G7 G8 G9 G10 n = ([], [], [], []) := by
  rw [hn]; rfl

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (x0 : Vec F S256x1024 .bf16) (x1 : Vec F S4096x1024 .bf16) (x2 : Vec F S4096x1024 .bf16)

/-- What the scratch `arg7` holds before the loop. -/
def g0B : arg7.view.ty.Contents (Elt F) := arg7.view.writes (Elt F) arg7.view.junk (kernelRun0_B.sl.HS0_9 (F := F) c i arg3 harg3 arg4 harg4 arg7 arg9 x0 x1)

/-- What the scratch `arg8` holds before the loop. -/
def g1B : arg8.view.ty.Contents (Elt F) := arg8.view.writes (Elt F) arg8.view.junk (kernelRun0_B.sl.HS1_9 (F := F) c i arg3 harg3 arg4 harg4 arg5 harg5 arg7 arg8 arg9 x0 x1 x2)

/-- What the scratch `arg9` holds before the loop. -/
def g2B : arg9.view.ty.Contents (Elt F) := arg9.view.writes (Elt F) arg9.view.junk (kernelRun0_B.sl.HS2_8 (F := F) c i arg3 harg3 arg4 harg4 x0 x1)

/-- What the scratch `arg10` holds before the loop. -/
def g3B : arg10.view.ty.Contents (Elt F) := arg10.view.writes (Elt F) arg10.view.junk (kernelRun0_B.sl.HS3_8 (F := F) c i arg3 harg3 arg4 harg4 x0 x1)

/-- The stores of all the trips of the loop. -/
def pbB := pb_k0_t1 (F := F) Variants.none c none i arg3 harg3 arg4 harg4 arg5 harg5 arg6 harg6 arg7 harg7 arg8 harg8 arg9 harg9 arg10 harg10 (BitVec.ofNat 32 (i 2).val) k0_pay567 (kernelRun0_B.sl.r_66 (F := F) c i arg3 harg3 arg4 harg4 arg7 arg9 x0 x1) (harg3.unread x0) (harg4.unread x1) (harg5.unread x2) (g0B c i arg3 harg3 arg4 harg4 arg7 arg9 x0 x1) (g1B c i arg3 harg3 arg4 harg4 arg5 harg5 arg7 arg8 arg9 x0 x1 x2) (g2B c i arg3 harg3 arg4 harg4 arg9 x0 x1) (g3B c i arg3 harg3 arg4 harg4 arg10 x0 x1) (Scf.trips (k0_t1_loop i).lb (k0_t1_loop i).ub (k0_t1_loop i).st)

/-- What the scratch `arg7` holds after the loop. -/
def f0B : arg7.view.ty.Contents (Elt F) := arg7.view.writes (Elt F) (g0B c i arg3 harg3 arg4 harg4 arg7 arg9 x0 x1) (pbB c i arg3 harg3 arg4 harg4 arg5 harg5 arg6 harg6 arg7 harg7 arg8 harg8 arg9 harg9 arg10 harg10 x0 x1 x2).1

/-- What the scratch `arg8` holds after the loop. -/
def f1B : arg8.view.ty.Contents (Elt F) := arg8.view.writes (Elt F) (g1B c i arg3 harg3 arg4 harg4 arg5 harg5 arg7 arg8 arg9 x0 x1 x2) (pbB c i arg3 harg3 arg4 harg4 arg5 harg5 arg6 harg6 arg7 harg7 arg8 harg8 arg9 harg9 arg10 harg10 x0 x1 x2).2.1

/-- What the scratch `arg9` holds after the loop. -/
def f2B : arg9.view.ty.Contents (Elt F) := arg9.view.writes (Elt F) (g2B c i arg3 harg3 arg4 harg4 arg9 x0 x1) (pbB c i arg3 harg3 arg4 harg4 arg5 harg5 arg6 harg6 arg7 harg7 arg8 harg8 arg9 harg9 arg10 harg10 x0 x1 x2).2.2.1

/-- What the scratch `arg10` holds after the loop. -/
def f3B : arg10.view.ty.Contents (Elt F) := arg10.view.writes (Elt F) (g3B c i arg3 harg3 arg4 harg4 arg10 x0 x1) (pbB c i arg3 harg3 arg4 harg4 arg5 harg5 arg6 harg6 arg7 harg7 arg8 harg8 arg9 harg9 arg10 harg10 x0 x1 x2).2.2.2

theorem preB7_0 : p128 0 (arg7.view.read (Elt F) (g0B c i arg3 harg3 arg4 harg4 arg7 arg9 x0 x1))
    = carN (suf k0_pay567 (masked (sp (sc (qB arg3.view (harg3.unread x0) 0) (kB arg4.view (harg4.unread x1) (k0_off1 i) (k0_off1_inb i)))))) z128 := by
  unfold g0B
  simp only [kernelRun0_B.sl.HS0_9, kernelRun0_B.sl.HS0_1]
  simp (disch := first | rfl | decide) only [↓ p128_miss, ↓ p128_hit]
  try simp only [kernelRun0_B.sl.r_46, kernelRun0_B.sl.r_38, kernelRun0_B.sl.r_31, kernelRun0_B.sl.r_18, kernelRun0_B.sl.r_12, kernelRun0_B.sl.r_4, k0_pay566, k0_pay589, k0_pay597, k0_pay598, k0_pay604, k0_pay617, k0_pay624, k0_pay632, k0_pay651]
  try simp only [cast128, cast256, fold_sc, fold_sp, fold_masked, fold_suf, fold_att, fold_carN, fold_accN]
  simp only [kernelRun0_B.sl.v345, kernelRun0_B.sl.v169, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB7_1 : p128 1 (arg7.view.read (Elt F) (g0B c i arg3 harg3 arg4 harg4 arg7 arg9 x0 x1))
    = carN (suf k0_pay567 (masked (sp (sc (qB arg3.view (harg3.unread x0) 1) (kB arg4.view (harg4.unread x1) (k0_off2 i) (k0_off2_inb i)))))) z128 := by
  unfold g0B
  simp only [kernelRun0_B.sl.HS0_9, kernelRun0_B.sl.HS0_1]
  simp (disch := first | rfl | decide) only [↓ p128_miss, ↓ p128_hit]
  try simp only [kernelRun0_B.sl.r_63, kernelRun0_B.sl.r_47, kernelRun0_B.sl.r_39, kernelRun0_B.sl.r_32, kernelRun0_B.sl.r_19, kernelRun0_B.sl.r_5, k0_pay566, k0_pay590, k0_pay605, k0_pay618, k0_pay625, k0_pay633, k0_pay653]
  try simp only [cast128, cast256, fold_sc, fold_sp, fold_masked, fold_suf, fold_att, fold_carN, fold_accN]
  simp only [kernelRun0_B.sl.v347, kernelRun0_B.sl.v171, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [kernelRun0_B.sl.r_1, kernelRun0_B.sl.r, k0_pay568, k0_pay570, k0_pay571, k0_pay572, k0_pay573, k0_pay574, k0_pay575, k0_pay576, k0_pay577, k0_pay578, k0_pay579]
  try simp only [cast128, cast256, fold_sc, fold_sp, fold_masked, fold_suf, fold_att, fold_carN, fold_accN]
  rfl

theorem preB7_2 : p128 2 (arg7.view.read (Elt F) (g0B c i arg3 harg3 arg4 harg4 arg7 arg9 x0 x1))
    = carN (suf k0_pay567 (masked (sp (sc (qB arg3.view (harg3.unread x0) 2) (kB arg4.view (harg4.unread x1) (k0_off3 i) (k0_off3_inb i)))))) z128 := by
  unfold g0B
  simp only [kernelRun0_B.sl.HS0_9, kernelRun0_B.sl.HS0_1]
  simp (disch := first | rfl | decide) only [↓ p128_miss, ↓ p128_hit]
  try simp only [kernelRun0_B.sl.r_48, kernelRun0_B.sl.r_40, kernelRun0_B.sl.r_33, kernelRun0_B.sl.r_22, kernelRun0_B.sl.r_21, kernelRun0_B.sl.r_6, kernelRun0_B.sl.r_20, k0_pay566, k0_pay591, k0_pay606, k0_pay607, k0_pay608, k0_pay619, k0_pay626, k0_pay634, k0_pay655]
  try simp only [cast128, cast256, fold_sc, fold_sp, fold_masked, fold_suf, fold_att, fold_carN, fold_accN]
  simp only [kernelRun0_B.sl.v349, kernelRun0_B.sl.v173, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB7_3 : p128 3 (arg7.view.read (Elt F) (g0B c i arg3 harg3 arg4 harg4 arg7 arg9 x0 x1))
    = carN (suf k0_pay567 (masked (sp (sc (qB arg3.view (harg3.unread x0) 3) (kB arg4.view (harg4.unread x1) (k0_off4 i) (k0_off4_inb i)))))) z128 := by
  unfold g0B
  simp only [kernelRun0_B.sl.HS0_9, kernelRun0_B.sl.HS0_1]
  simp (disch := first | rfl | decide) only [↓ p128_miss, ↓ p128_hit]
  try simp only [kernelRun0_B.sl.r_64, kernelRun0_B.sl.r_49, kernelRun0_B.sl.r_41, kernelRun0_B.sl.r_34, kernelRun0_B.sl.r_23, kernelRun0_B.sl.r_13, kernelRun0_B.sl.r_7, k0_pay566, k0_pay592, k0_pay599, k0_pay609, k0_pay620, k0_pay627, k0_pay635, k0_pay657]
  try simp only [cast128, cast256, fold_sc, fold_sp, fold_masked, fold_suf, fold_att, fold_carN, fold_accN]
  simp only [kernelRun0_B.sl.v351, kernelRun0_B.sl.v175, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB7_4 : p128 4 (arg7.view.read (Elt F) (g0B c i arg3 harg3 arg4 harg4 arg7 arg9 x0 x1))
    = carN (suf k0_pay567 (masked (sp (sc (qB arg3.view (harg3.unread x0) 4) (kB arg4.view (harg4.unread x1) (k0_off5 i) (k0_off5_inb i)))))) z128 := by
  unfold g0B
  simp only [kernelRun0_B.sl.HS0_9, kernelRun0_B.sl.HS0_1]
  simp (disch := first | rfl | decide) only [↓ p128_miss, ↓ p128_hit]
  try simp only [kernelRun0_B.sl.r_50, kernelRun0_B.sl.r_42, kernelRun0_B.sl.r_35, kernelRun0_B.sl.r_24, kernelRun0_B.sl.r_14, kernelRun0_B.sl.r_8, k0_pay566, k0_pay593, k0_pay600, k0_pay610, k0_pay621, k0_pay628, k0_pay636, k0_pay659]
  try simp only [cast128, cast256, fold_sc, fold_sp, fold_masked, fold_suf, fold_att, fold_carN, fold_accN]
  simp only [kernelRun0_B.sl.v353, kernelRun0_B.sl.v177, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB7_5 : p128 5 (arg7.view.read (Elt F) (g0B c i arg3 harg3 arg4 harg4 arg7 arg9 x0 x1))
    = carN (suf k0_pay567 (masked (sp (sc (qB arg3.view (harg3.unread x0) 5) (kB arg4.view (harg4.unread x1) (k0_off6 i) (k0_off6_inb i)))))) z128 := by
  unfold g0B
  simp only [kernelRun0_B.sl.HS0_9, kernelRun0_B.sl.HS0_1]
  simp (disch := first | rfl | decide) only [↓ p128_miss, ↓ p128_hit]
  try simp only [kernelRun0_B.sl.r_65, kernelRun0_B.sl.r_51, kernelRun0_B.sl.r_43, kernelRun0_B.sl.r_36, kernelRun0_B.sl.r_25, kernelRun0_B.sl.r_15, kernelRun0_B.sl.r_9, k0_pay566, k0_pay594, k0_pay601, k0_pay611, k0_pay622, k0_pay629, k0_pay637, k0_pay661]
  try simp only [cast128, cast256, fold_sc, fold_sp, fold_masked, fold_suf, fold_att, fold_carN, fold_accN]
  simp only [kernelRun0_B.sl.v355, kernelRun0_B.sl.v179, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB7_6 : p128 6 (arg7.view.read (Elt F) (g0B c i arg3 harg3 arg4 harg4 arg7 arg9 x0 x1))
    = carN (suf k0_pay567 (masked (sp (sc (qB arg3.view (harg3.unread x0) 6) (kB arg4.view (harg4.unread x1) (k0_off7 i) (k0_off7_inb i)))))) z128 := by
  unfold g0B
  simp only [kernelRun0_B.sl.HS0_9, kernelRun0_B.sl.HS0_1]
  simp (disch := first | rfl | decide) only [↓ p128_miss, ↓ p128_hit]
  try simp only [kernelRun0_B.sl.r_52, kernelRun0_B.sl.r_44, kernelRun0_B.sl.r_37, kernelRun0_B.sl.r_26, kernelRun0_B.sl.r_16, kernelRun0_B.sl.r_10, kernelRun0_B.sl.r_29, k0_pay566, k0_pay595, k0_pay602, k0_pay612, k0_pay615, k0_pay623, k0_pay630, k0_pay638, k0_pay663]
  try simp only [cast128, cast256, fold_sc, fold_sp, fold_masked, fold_suf, fold_att, fold_carN, fold_accN]
  simp only [kernelRun0_B.sl.v357, kernelRun0_B.sl.v181, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB7_7 : p128 7 (arg7.view.read (Elt F) (g0B c i arg3 harg3 arg4 harg4 arg7 arg9 x0 x1))
    = carN (suf k0_pay567 (masked (sp (sc (qB arg3.view (harg3.unread x0) 7) (kB arg4.view (harg4.unread x1) (k0_off8 i) (k0_off8_inb i)))))) z128 := by
  unfold g0B
  simp only [kernelRun0_B.sl.HS0_9, kernelRun0_B.sl.HS0_1]
  simp (disch := first | rfl | decide) only [↓ p128_miss, ↓ p128_hit]
  try simp only [kernelRun0_B.sl.r_66, kernelRun0_B.sl.r_53, kernelRun0_B.sl.r_45, kernelRun0_B.sl.r_30, kernelRun0_B.sl.r_28, kernelRun0_B.sl.r_17, kernelRun0_B.sl.r_11, kernelRun0_B.sl.r_27, k0_pay566, k0_pay596, k0_pay603, k0_pay613, k0_pay614, k0_pay616, k0_pay631, k0_pay639, k0_pay665]
  try simp only [cast128, cast256, fold_sc, fold_sp, fold_masked, fold_suf, fold_att, fold_carN, fold_accN]
  simp only [kernelRun0_B.sl.v359, kernelRun0_B.sl.v183, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preB8_0 : p128 0 (arg8.view.read (Elt F) (g1B c i arg3 harg3 arg4 harg4 arg5 harg5 arg7 arg8 arg9 x0 x1 x2))
    = accN (masked (att (sc (qB arg3.view (harg3.unread x0) 0) (kB arg4.view (harg4.unread x1) (k0_off1 i) (k0_off1_inb i))) (suf k0_pay567 (masked (sp (sc (qB arg3.view (harg3.unread x0) 0) (kB arg4.view (harg4.unread x1) (k0_off1 i) (k0_off1_inb i)))))) z128)) (kB arg5.view (harg5.unread x2) (k0_off1 i) (k0_off1_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_55, kernelRun0_B.sl.r_46, kernelRun0_B.sl.r_38, kernelRun0_B.sl.r_31, kernelRun0_B.sl.r_18, kernelRun0_B.sl.r_12, kernelRun0_B.sl.r_4, k0_pay566, k0_pay589, k0_pay597, k0_pay598, k0_pay604, k0_pay617, k0_pay624, k0_pay632, k0_pay641, k0_pay650]
  try simp only [cast128, cast256, fold_sc, fold_sp, fold_masked, fold_suf, fold_att, fold_carN, fold_accN]
  simp only [kernelRun0_B.sl.v409, kernelRun0_B.sl.v345, kernelRun0_B.sl.v169, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579]
  try simp only [cast128, cast256, fold_sc, fold_sp, fold_masked, fold_suf, fold_att, fold_carN, fold_accN]
  rfl

theorem preB8_1 : p128 1 (arg8.view.read (Elt F) (g1B c i arg3 harg3 arg4 harg4 arg5 harg5 arg7 arg8 arg9 x0 x1 x2))
    = accN (masked (att (sc (qB arg3.view (harg3.unread x0) 1) (kB arg4.view (harg4.unread x1) (k0_off2 i) (k0_off2_inb i))) (suf k0_pay567 (masked (sp (sc (qB arg3.view (harg3.unread x0) 1) (kB arg4.view (harg4.unread x1) (k0_off2 i) (k0_off2_inb i)))))) z128)) (kB arg5.view (harg5.unread x2) (k0_off2 i) (k0_off2_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_56, kernelRun0_B.sl.r_47, kernelRun0_B.sl.r_39, kernelRun0_B.sl.r_32, kernelRun0_B.sl.r_19, kernelRun0_B.sl.r_5, k0_pay566, k0_pay590, k0_pay605, k0_pay618, k0_pay625, k0_pay633, k0_pay642, k0_pay652]
  try simp only [cast128, cast256, fold_sc, fold_sp, fold_masked, fold_suf, fold_att, fold_carN, fold_accN]
  simp only [kernelRun0_B.sl.v426, kernelRun0_B.sl.v347, kernelRun0_B.sl.v171, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [kernelRun0_B.sl.r_1, kernelRun0_B.sl.r, k0_pay568, k0_pay569, k0_pay570, k0_pay571, k0_pay572, k0_pay573, k0_pay574, k0_pay575, k0_pay576, k0_pay577, k0_pay578, k0_pay579, k0_pay650]
  try simp only [cast128, cast256, fold_sc, fold_sp, fold_masked, fold_suf, fold_att, fold_carN, fold_accN]
  rfl

theorem preB8_2 : p128 2 (arg8.view.read (Elt F) (g1B c i arg3 harg3 arg4 harg4 arg5 harg5 arg7 arg8 arg9 x0 x1 x2))
    = accN (masked (att (sc (qB arg3.view (harg3.unread x0) 2) (kB arg4.view (harg4.unread x1) (k0_off3 i) (k0_off3_inb i))) (suf k0_pay567 (masked (sp (sc (qB arg3.view (harg3.unread x0) 2) (kB arg4.view (harg4.unread x1) (k0_off3 i) (k0_off3_inb i)))))) z128)) (kB arg5.view (harg5.unread x2) (k0_off3 i) (k0_off3_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_57, kernelRun0_B.sl.r_48, kernelRun0_B.sl.r_40, kernelRun0_B.sl.r_33, kernelRun0_B.sl.r_22, kernelRun0_B.sl.r_21, kernelRun0_B.sl.r_6, kernelRun0_B.sl.r_20, k0_pay566, k0_pay591, k0_pay606, k0_pay607, k0_pay608, k0_pay619, k0_pay626, k0_pay634, k0_pay643, k0_pay654]
  try simp only [cast128, cast256, fold_sc, fold_sp, fold_masked, fold_suf, fold_att, fold_carN, fold_accN]
  simp only [kernelRun0_B.sl.v443, kernelRun0_B.sl.v349, kernelRun0_B.sl.v173, kernelRun0_B.sl.HS1_3, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652]
  try simp only [cast128, cast256, fold_sc, fold_sp, fold_masked, fold_suf, fold_att, fold_carN, fold_accN]
  rfl

theorem preB8_3 : p128 3 (arg8.view.read (Elt F) (g1B c i arg3 harg3 arg4 harg4 arg5 harg5 arg7 arg8 arg9 x0 x1 x2))
    = accN (masked (att (sc (qB arg3.view (harg3.unread x0) 3) (kB arg4.view (harg4.unread x1) (k0_off4 i) (k0_off4_inb i))) (suf k0_pay567 (masked (sp (sc (qB arg3.view (harg3.unread x0) 3) (kB arg4.view (harg4.unread x1) (k0_off4 i) (k0_off4_inb i)))))) z128)) (kB arg5.view (harg5.unread x2) (k0_off4 i) (k0_off4_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_58, kernelRun0_B.sl.r_49, kernelRun0_B.sl.r_41, kernelRun0_B.sl.r_34, kernelRun0_B.sl.r_23, kernelRun0_B.sl.r_13, kernelRun0_B.sl.r_7, k0_pay566, k0_pay592, k0_pay599, k0_pay609, k0_pay620, k0_pay627, k0_pay635, k0_pay644, k0_pay656]
  try simp only [cast128, cast256, fold_sc, fold_sp, fold_masked, fold_suf, fold_att, fold_carN, fold_accN]
  simp only [kernelRun0_B.sl.v460, kernelRun0_B.sl.v351, kernelRun0_B.sl.v175, kernelRun0_B.sl.HS1_4, kernelRun0_B.sl.HS1_3, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654]
  try simp only [cast128, cast256, fold_sc, fold_sp, fold_masked, fold_suf, fold_att, fold_carN, fold_accN]
  rfl

theorem preB8_4 : p128 4 (arg8.view.read (Elt F) (g1B c i arg3 harg3 arg4 harg4 arg5 harg5 arg7 arg8 arg9 x0 x1 x2))
    = accN (masked (att (sc (qB arg3.view (harg3.unread x0) 4) (kB arg4.view (harg4.unread x1) (k0_off5 i) (k0_off5_inb i))) (suf k0_pay567 (masked (sp (sc (qB arg3.view (harg3.unread x0) 4) (kB arg4.view (harg4.unread x1) (k0_off5 i) (k0_off5_inb i)))))) z128)) (kB arg5.view (harg5.unread x2) (k0_off5 i) (k0_off5_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_59, kernelRun0_B.sl.r_50, kernelRun0_B.sl.r_42, kernelRun0_B.sl.r_35, kernelRun0_B.sl.r_24, kernelRun0_B.sl.r_14, kernelRun0_B.sl.r_8, k0_pay566, k0_pay593, k0_pay600, k0_pay610, k0_pay621, k0_pay628, k0_pay636, k0_pay645, k0_pay658]
  try simp only [cast128, cast256, fold_sc, fold_sp, fold_masked, fold_suf, fold_att, fold_carN, fold_accN]
  simp only [kernelRun0_B.sl.v477, kernelRun0_B.sl.v353, kernelRun0_B.sl.v177, kernelRun0_B.sl.HS1_5, kernelRun0_B.sl.HS1_4, kernelRun0_B.sl.HS1_3, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656]
  try simp only [cast128, cast256, fold_sc, fold_sp, fold_masked, fold_suf, fold_att, fold_carN, fold_accN]
  rfl

theorem preB8_5 : p128 5 (arg8.view.read (Elt F) (g1B c i arg3 harg3 arg4 harg4 arg5 harg5 arg7 arg8 arg9 x0 x1 x2))
    = accN (masked (att (sc (qB arg3.view (harg3.unread x0) 5) (kB arg4.view (harg4.unread x1) (k0_off6 i) (k0_off6_inb i))) (suf k0_pay567 (masked (sp (sc (qB arg3.view (harg3.unread x0) 5) (kB arg4.view (harg4.unread x1) (k0_off6 i) (k0_off6_inb i)))))) z128)) (kB arg5.view (harg5.unread x2) (k0_off6 i) (k0_off6_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_60, kernelRun0_B.sl.r_51, kernelRun0_B.sl.r_43, kernelRun0_B.sl.r_36, kernelRun0_B.sl.r_25, kernelRun0_B.sl.r_15, kernelRun0_B.sl.r_9, k0_pay566, k0_pay594, k0_pay601, k0_pay611, k0_pay622, k0_pay629, k0_pay637, k0_pay646, k0_pay660]
  try simp only [cast128, cast256, fold_sc, fold_sp, fold_masked, fold_suf, fold_att, fold_carN, fold_accN]
  simp only [kernelRun0_B.sl.v494, kernelRun0_B.sl.v355, kernelRun0_B.sl.v179, kernelRun0_B.sl.HS1_6, kernelRun0_B.sl.HS1_5, kernelRun0_B.sl.HS1_4, kernelRun0_B.sl.HS1_3, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658]
  try simp only [cast128, cast256, fold_sc, fold_sp, fold_masked, fold_suf, fold_att, fold_carN, fold_accN]
  rfl

theorem preB8_6 : p128 6 (arg8.view.read (Elt F) (g1B c i arg3 harg3 arg4 harg4 arg5 harg5 arg7 arg8 arg9 x0 x1 x2))
    = accN (masked (att (sc (qB arg3.view (harg3.unread x0) 6) (kB arg4.view (harg4.unread x1) (k0_off7 i) (k0_off7_inb i))) (suf k0_pay567 (masked (sp (sc (qB arg3.view (harg3.unread x0) 6) (kB arg4.view (harg4.unread x1) (k0_off7 i) (k0_off7_inb i)))))) z128)) (kB arg5.view (harg5.unread x2) (k0_off7 i) (k0_off7_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_61, kernelRun0_B.sl.r_52, kernelRun0_B.sl.r_44, kernelRun0_B.sl.r_37, kernelRun0_B.sl.r_26, kernelRun0_B.sl.r_16, kernelRun0_B.sl.r_10, kernelRun0_B.sl.r_29, k0_pay566, k0_pay595, k0_pay602, k0_pay612, k0_pay615, k0_pay623, k0_pay630, k0_pay638, k0_pay647, k0_pay662]
  try simp only [cast128, cast256, fold_sc, fold_sp, fold_masked, fold_suf, fold_att, fold_carN, fold_accN]
  simp only [kernelRun0_B.sl.v511, kernelRun0_B.sl.v357, kernelRun0_B.sl.v181, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658, k0_pay660]
  try simp only [cast128, cast256, fold_sc, fold_sp, fold_masked, fold_suf, fold_att, fold_carN, fold_accN]
  rfl

theorem preB8_7 : p128 7 (arg8.view.read (Elt F) (g1B c i arg3 harg3 arg4 harg4 arg5 harg5 arg7 arg8 arg9 x0 x1 x2))
    = accN (masked (att (sc (qB arg3.view (harg3.unread x0) 7) (kB arg4.view (harg4.unread x1) (k0_off8 i) (k0_off8_inb i))) (suf k0_pay567 (masked (sp (sc (qB arg3.view (harg3.unread x0) 7) (kB arg4.view (harg4.unread x1) (k0_off8 i) (k0_off8_inb i)))))) z128)) (kB arg5.view (harg5.unread x2) (k0_off8 i) (k0_off8_inb i)) z128 := by
  unfold g1B
  simp only [kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1]
  simp (disch := first | rfl | decide) only [↓ p128_miss, ↓ p128_hit]
  try simp only [kernelRun0_B.sl.r_62, kernelRun0_B.sl.r_54, kernelRun0_B.sl.r_45, kernelRun0_B.sl.r_30, kernelRun0_B.sl.r_28, kernelRun0_B.sl.r_17, kernelRun0_B.sl.r_11, kernelRun0_B.sl.r_27, k0_pay566, k0_pay596, k0_pay603, k0_pay613, k0_pay614, k0_pay616, k0_pay631, k0_pay640, k0_pay648, k0_pay649, k0_pay664]
  try simp only [cast128, cast256, fold_sc, fold_sp, fold_masked, fold_suf, fold_att, fold_carN, fold_accN]
  simp only [kernelRun0_B.sl.v528, kernelRun0_B.sl.v359, kernelRun0_B.sl.v183, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.HS1_1, kernelRun0_B.sl.HS0_1, kernelRun0_B.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658, k0_pay660, k0_pay662]
  try simp only [cast128, cast256, fold_sc, fold_sp, fold_masked, fold_suf, fold_att, fold_carN, fold_accN]
  rfl

theorem preB10_0 : p256 0 (arg10.view.read (Elt F) (g3B c i arg3 harg3 arg4 harg4 arg10 x0 x1))
    = sc (qB arg3.view (harg3.unread x0) 0) (kB arg4.view (harg4.unread x1) (k0_off9 i) (k0_off9_inb i)) := by
  unfold g3B
  simp only [kernelRun0_B.sl.HS3_8]
  simp (disch := first | rfl | decide) only [↓ p256_miss, ↓ p256_hit]
  try simp only [k0_pay580]
  try simp only [cast128, cast256, fold_sc, fold_sp, fold_masked, fold_suf, fold_att, fold_carN, fold_accN]
  rfl

theorem preB10_1 : p256 1 (arg10.view.read (Elt F) (g3B c i arg3 harg3 arg4 harg4 arg10 x0 x1))
    = sc (qB arg3.view (harg3.unread x0) 1) (kB arg4.view (harg4.unread x1) (k0_off10 i) (k0_off10_inb i)) := by
  unfold g3B
  simp only [kernelRun0_B.sl.HS3_8]
  simp (disch := first | rfl | decide) only [↓ p256_miss, ↓ p256_hit]
  try simp only [k0_pay581]
  try simp only [cast128, cast256, fold_sc, fold_sp, fold_masked, fold_suf, fold_att, fold_carN, fold_accN]
  rfl

theorem preB10_2 : p256 2 (arg10.view.read (Elt F) (g3B c i arg3 harg3 arg4 harg4 arg10 x0 x1))
    = sc (qB arg3.view (harg3.unread x0) 2) (kB arg4.view (harg4.unread x1) (k0_off11 i) (k0_off11_inb i)) := by
  unfold g3B
  simp only [kernelRun0_B.sl.HS3_8]
  simp (disch := first | rfl | decide) only [↓ p256_miss, ↓ p256_hit]
  try simp only [k0_pay582]
  try simp only [cast128, cast256, fold_sc, fold_sp, fold_masked, fold_suf, fold_att, fold_carN, fold_accN]
  rfl

theorem preB10_3 : p256 3 (arg10.view.read (Elt F) (g3B c i arg3 harg3 arg4 harg4 arg10 x0 x1))
    = sc (qB arg3.view (harg3.unread x0) 3) (kB arg4.view (harg4.unread x1) (k0_off12 i) (k0_off12_inb i)) := by
  unfold g3B
  simp only [kernelRun0_B.sl.HS3_8]
  simp (disch := first | rfl | decide) only [↓ p256_miss, ↓ p256_hit]
  try simp only [kernelRun0_B.sl.r_2, k0_pay583, k0_pay584]
  try simp only [cast128, cast256, fold_sc, fold_sp, fold_masked, fold_suf, fold_att, fold_carN, fold_accN]
  rfl

theorem preB10_4 : p256 4 (arg10.view.read (Elt F) (g3B c i arg3 harg3 arg4 harg4 arg10 x0 x1))
    = sc (qB arg3.view (harg3.unread x0) 4) (kB arg4.view (harg4.unread x1) (k0_off13 i) (k0_off13_inb i)) := by
  unfold g3B
  simp only [kernelRun0_B.sl.HS3_8]
  simp (disch := first | rfl | decide) only [↓ p256_miss, ↓ p256_hit]
  try simp only [k0_pay585]
  try simp only [cast128, cast256, fold_sc, fold_sp, fold_masked, fold_suf, fold_att, fold_carN, fold_accN]
  rfl

theorem preB10_5 : p256 5 (arg10.view.read (Elt F) (g3B c i arg3 harg3 arg4 harg4 arg10 x0 x1))
    = sc (qB arg3.view (harg3.unread x0) 5) (kB arg4.view (harg4.unread x1) (k0_off14 i) (k0_off14_inb i)) := by
  unfold g3B
  simp only [kernelRun0_B.sl.HS3_8]
  simp (disch := first | rfl | decide) only [↓ p256_miss, ↓ p256_hit]
  try simp only [k0_pay586]
  try simp only [cast128, cast256, fold_sc, fold_sp, fold_masked, fold_suf, fold_att, fold_carN, fold_accN]
  rfl

theorem preB10_6 : p256 6 (arg10.view.read (Elt F) (g3B c i arg3 harg3 arg4 harg4 arg10 x0 x1))
    = sc (qB arg3.view (harg3.unread x0) 6) (kB arg4.view (harg4.unread x1) (k0_off15 i) (k0_off15_inb i)) := by
  unfold g3B
  simp only [kernelRun0_B.sl.HS3_8]
  simp (disch := first | rfl | decide) only [↓ p256_miss, ↓ p256_hit]
  try simp only [k0_pay587]
  try simp only [cast128, cast256, fold_sc, fold_sp, fold_masked, fold_suf, fold_att, fold_carN, fold_accN]
  rfl

theorem preB10_7 : p256 7 (arg10.view.read (Elt F) (g3B c i arg3 harg3 arg4 harg4 arg10 x0 x1))
    = sc (qB arg3.view (harg3.unread x0) 7) (kB arg4.view (harg4.unread x1) (k0_off16 i) (k0_off16_inb i)) := by
  unfold g3B
  simp only [kernelRun0_B.sl.HS3_8]
  simp (disch := first | rfl | decide) only [↓ p256_miss, ↓ p256_hit]
  try simp only [kernelRun0_B.sl.r_3, k0_pay588]
  try simp only [cast128, cast256, fold_sc, fold_sp, fold_masked, fold_suf, fold_att, fold_carN, fold_accN]
  rfl

theorem outB_0 (hc0 : ¬cond0_0 i) (hc1 : cond0_1 i) : oP 0 (out0_B_3 c i arg3 harg3 arg4 harg4 arg5 harg5 arg6 harg6 arg7 harg7 arg8 harg8 arg9 harg9 arg10 harg10 hc0 hc1 x0 x1 x2)
    = truncf .bf16 (accN (att (p256 0 (arg10.view.read (Elt F) (f3B c i arg3 harg3 arg4 harg4 arg5 harg5 arg6 harg6 arg7 harg7 arg8 harg8 arg9 harg9 arg10 harg10 x0 x1 x2))) (suf k0_pay567 (sp (p256 0 (arg10.view.read (Elt F) (f3B c i arg3 harg3 arg4 harg4 arg5 harg5 arg6 harg6 arg7 harg7 arg8 harg8 arg9 harg9 arg10 harg10 x0 x1 x2))))) (p128 0 (arg7.view.read (Elt F) (f0B c i arg3 harg3 arg4 harg4 arg5 harg5 arg6 harg6 arg7 harg7 arg8 harg8 arg9 harg9 arg10 harg10 x0 x1 x2)))) (kB arg5.view (harg5.unread x2) ![0, 128 * (0 : Fin 8).val] (by decide)) (p128 0 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay671]
  try simp only [cast128, cast256, fold_sc, fold_sp, fold_masked, fold_suf, fold_att, fold_carN, fold_accN]
  simp only [kernelRun0_B.sl.v578, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v829, kernelRun0_B.sl.v826, kernelRun0_B.sl.v825, kernelRun0_B.sl.cst_452, kernelRun0_B.sl.v824, kernelRun0_B.sl.v821, kernelRun0_B.sl.v790, kernelRun0_B.sl.v789, kernelRun0_B.sl.v788, kernelRun0_B.sl.v772, kernelRun0_B.sl.v787, kernelRun0_B.sl.v763, kernelRun0_B.sl.cst_416, kernelRun0_B.sl.r_81, kernelRun0_B.sl.r_71, kernelRun0_B.sl.v629, kernelRun0_B.sl.v627, kernelRun0_B.sl.v612, kernelRun0_B.sl.v628, kernelRun0_B.sl.cst_384, kernelRun0_B.sl.v820, k0_pay513, k0_pay524, k0_pay562, k0_pay564]
  try simp only [cast128, cast256, fold_sc, fold_sp, fold_masked, fold_suf, fold_att, fold_carN, fold_accN]
  simp only [kernelRun0_B.sl.v771, kernelRun0_B.sl.v611, kernelRun0_B.sl.v819]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_1 (hc0 : ¬cond0_0 i) (hc1 : cond0_1 i) : oP 1 (out0_B_3 c i arg3 harg3 arg4 harg4 arg5 harg5 arg6 harg6 arg7 harg7 arg8 harg8 arg9 harg9 arg10 harg10 hc0 hc1 x0 x1 x2)
    = truncf .bf16 (accN (att (p256 1 (arg10.view.read (Elt F) (f3B c i arg3 harg3 arg4 harg4 arg5 harg5 arg6 harg6 arg7 harg7 arg8 harg8 arg9 harg9 arg10 harg10 x0 x1 x2))) (suf k0_pay567 (sp (p256 1 (arg10.view.read (Elt F) (f3B c i arg3 harg3 arg4 harg4 arg5 harg5 arg6 harg6 arg7 harg7 arg8 harg8 arg9 harg9 arg10 harg10 x0 x1 x2))))) (p128 1 (arg7.view.read (Elt F) (f0B c i arg3 harg3 arg4 harg4 arg5 harg5 arg6 harg6 arg7 harg7 arg8 harg8 arg9 harg9 arg10 harg10 x0 x1 x2)))) (kB arg5.view (harg5.unread x2) ![0, 128 * (1 : Fin 8).val] (by decide)) (p128 1 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay672]
  try simp only [cast128, cast256, fold_sc, fold_sp, fold_masked, fold_suf, fold_att, fold_carN, fold_accN]
  simp only [kernelRun0_B.sl.v582, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v846, kernelRun0_B.sl.v843, kernelRun0_B.sl.v842, kernelRun0_B.sl.cst_452, kernelRun0_B.sl.v841, kernelRun0_B.sl.v838, kernelRun0_B.sl.v794, kernelRun0_B.sl.v793, kernelRun0_B.sl.v792, kernelRun0_B.sl.v774, kernelRun0_B.sl.v791, kernelRun0_B.sl.v764, kernelRun0_B.sl.cst_416, kernelRun0_B.sl.r_82, kernelRun0_B.sl.r_72, kernelRun0_B.sl.v632, kernelRun0_B.sl.v630, kernelRun0_B.sl.v614, kernelRun0_B.sl.v628, kernelRun0_B.sl.cst_384, kernelRun0_B.sl.v837, k0_pay514, k0_pay525, k0_pay562, k0_pay564]
  try simp only [cast128, cast256, fold_sc, fold_sp, fold_masked, fold_suf, fold_att, fold_carN, fold_accN]
  simp only [kernelRun0_B.sl.v773, kernelRun0_B.sl.v613, kernelRun0_B.sl.v836, kernelRun0_B.sl.HS1_1_1]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_2 (hc0 : ¬cond0_0 i) (hc1 : cond0_1 i) : oP 2 (out0_B_3 c i arg3 harg3 arg4 harg4 arg5 harg5 arg6 harg6 arg7 harg7 arg8 harg8 arg9 harg9 arg10 harg10 hc0 hc1 x0 x1 x2)
    = truncf .bf16 (accN (att (p256 2 (arg10.view.read (Elt F) (f3B c i arg3 harg3 arg4 harg4 arg5 harg5 arg6 harg6 arg7 harg7 arg8 harg8 arg9 harg9 arg10 harg10 x0 x1 x2))) (suf k0_pay567 (sp (p256 2 (arg10.view.read (Elt F) (f3B c i arg3 harg3 arg4 harg4 arg5 harg5 arg6 harg6 arg7 harg7 arg8 harg8 arg9 harg9 arg10 harg10 x0 x1 x2))))) (p128 2 (arg7.view.read (Elt F) (f0B c i arg3 harg3 arg4 harg4 arg5 harg5 arg6 harg6 arg7 harg7 arg8 harg8 arg9 harg9 arg10 harg10 x0 x1 x2)))) (kB arg5.view (harg5.unread x2) ![0, 128 * (2 : Fin 8).val] (by decide)) (p128 2 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay673]
  try simp only [cast128, cast256, fold_sc, fold_sp, fold_masked, fold_suf, fold_att, fold_carN, fold_accN]
  simp only [kernelRun0_B.sl.v586, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v863, kernelRun0_B.sl.v860, kernelRun0_B.sl.v859, kernelRun0_B.sl.cst_452, kernelRun0_B.sl.v858, kernelRun0_B.sl.v855, kernelRun0_B.sl.v798, kernelRun0_B.sl.v797, kernelRun0_B.sl.v796, kernelRun0_B.sl.v776, kernelRun0_B.sl.v795, kernelRun0_B.sl.v765, kernelRun0_B.sl.cst_416, kernelRun0_B.sl.v737, kernelRun0_B.sl.v736, kernelRun0_B.sl.v735, kernelRun0_B.sl.v734, kernelRun0_B.sl.v733, kernelRun0_B.sl.r_73, kernelRun0_B.sl.v635, kernelRun0_B.sl.v633, kernelRun0_B.sl.v616, kernelRun0_B.sl.v628, kernelRun0_B.sl.cst_384, kernelRun0_B.sl.v854, k0_pay515, k0_pay562, k0_pay564]
  try simp only [cast128, cast256, fold_sc, fold_sp, fold_masked, fold_suf, fold_att, fold_carN, fold_accN]
  simp only [kernelRun0_B.sl.v775, kernelRun0_B.sl.v615, kernelRun0_B.sl.v853, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_3 (hc0 : ¬cond0_0 i) (hc1 : cond0_1 i) : oP 3 (out0_B_3 c i arg3 harg3 arg4 harg4 arg5 harg5 arg6 harg6 arg7 harg7 arg8 harg8 arg9 harg9 arg10 harg10 hc0 hc1 x0 x1 x2)
    = truncf .bf16 (accN (att (p256 3 (arg10.view.read (Elt F) (f3B c i arg3 harg3 arg4 harg4 arg5 harg5 arg6 harg6 arg7 harg7 arg8 harg8 arg9 harg9 arg10 harg10 x0 x1 x2))) (suf k0_pay567 (sp (p256 3 (arg10.view.read (Elt F) (f3B c i arg3 harg3 arg4 harg4 arg5 harg5 arg6 harg6 arg7 harg7 arg8 harg8 arg9 harg9 arg10 harg10 x0 x1 x2))))) (p128 3 (arg7.view.read (Elt F) (f0B c i arg3 harg3 arg4 harg4 arg5 harg5 arg6 harg6 arg7 harg7 arg8 harg8 arg9 harg9 arg10 harg10 x0 x1 x2)))) (kB arg5.view (harg5.unread x2) ![0, 128 * (3 : Fin 8).val] (by decide)) (p128 3 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay674]
  try simp only [cast128, cast256, fold_sc, fold_sp, fold_masked, fold_suf, fold_att, fold_carN, fold_accN]
  simp only [kernelRun0_B.sl.v590, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v880, kernelRun0_B.sl.v877, kernelRun0_B.sl.v876, kernelRun0_B.sl.cst_452, kernelRun0_B.sl.v875, kernelRun0_B.sl.v872, kernelRun0_B.sl.v802, kernelRun0_B.sl.v801, kernelRun0_B.sl.v800, kernelRun0_B.sl.v778, kernelRun0_B.sl.v799, kernelRun0_B.sl.v766, kernelRun0_B.sl.cst_416, kernelRun0_B.sl.v742, kernelRun0_B.sl.v741, kernelRun0_B.sl.v740, kernelRun0_B.sl.v739, kernelRun0_B.sl.v738, kernelRun0_B.sl.r_76, kernelRun0_B.sl.r_75, kernelRun0_B.sl.v638, kernelRun0_B.sl.v636, kernelRun0_B.sl.v618, kernelRun0_B.sl.v628, kernelRun0_B.sl.cst_384, kernelRun0_B.sl.r_74, kernelRun0_B.sl.v871, k0_pay516, k0_pay517, k0_pay518, k0_pay519, k0_pay562, k0_pay564]
  try simp only [cast128, cast256, fold_sc, fold_sp, fold_masked, fold_suf, fold_att, fold_carN, fold_accN]
  simp only [kernelRun0_B.sl.v777, kernelRun0_B.sl.v617, kernelRun0_B.sl.v870, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_4 (hc0 : ¬cond0_0 i) (hc1 : cond0_1 i) : oP 4 (out0_B_3 c i arg3 harg3 arg4 harg4 arg5 harg5 arg6 harg6 arg7 harg7 arg8 harg8 arg9 harg9 arg10 harg10 hc0 hc1 x0 x1 x2)
    = truncf .bf16 (accN (att (p256 4 (arg10.view.read (Elt F) (f3B c i arg3 harg3 arg4 harg4 arg5 harg5 arg6 harg6 arg7 harg7 arg8 harg8 arg9 harg9 arg10 harg10 x0 x1 x2))) (suf k0_pay567 (sp (p256 4 (arg10.view.read (Elt F) (f3B c i arg3 harg3 arg4 harg4 arg5 harg5 arg6 harg6 arg7 harg7 arg8 harg8 arg9 harg9 arg10 harg10 x0 x1 x2))))) (p128 4 (arg7.view.read (Elt F) (f0B c i arg3 harg3 arg4 harg4 arg5 harg5 arg6 harg6 arg7 harg7 arg8 harg8 arg9 harg9 arg10 harg10 x0 x1 x2)))) (kB arg5.view (harg5.unread x2) ![0, 128 * (4 : Fin 8).val] (by decide)) (p128 4 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay675]
  try simp only [cast128, cast256, fold_sc, fold_sp, fold_masked, fold_suf, fold_att, fold_carN, fold_accN]
  simp only [kernelRun0_B.sl.v594, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v897, kernelRun0_B.sl.v894, kernelRun0_B.sl.v893, kernelRun0_B.sl.cst_452, kernelRun0_B.sl.v892, kernelRun0_B.sl.v889, kernelRun0_B.sl.v806, kernelRun0_B.sl.v805, kernelRun0_B.sl.v804, kernelRun0_B.sl.v780, kernelRun0_B.sl.v803, kernelRun0_B.sl.v767, kernelRun0_B.sl.cst_416, kernelRun0_B.sl.v747, kernelRun0_B.sl.v746, kernelRun0_B.sl.v745, kernelRun0_B.sl.v744, kernelRun0_B.sl.v743, kernelRun0_B.sl.r_77, kernelRun0_B.sl.r_67, kernelRun0_B.sl.cst_384, kernelRun0_B.sl.v639, kernelRun0_B.sl.v620, kernelRun0_B.sl.v888, k0_pay509, k0_pay520, k0_pay562, k0_pay564]
  try simp only [cast128, cast256, fold_sc, fold_sp, fold_masked, fold_suf, fold_att, fold_carN, fold_accN]
  simp only [kernelRun0_B.sl.v779, kernelRun0_B.sl.v619, kernelRun0_B.sl.v887, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_5 (hc0 : ¬cond0_0 i) (hc1 : cond0_1 i) : oP 5 (out0_B_3 c i arg3 harg3 arg4 harg4 arg5 harg5 arg6 harg6 arg7 harg7 arg8 harg8 arg9 harg9 arg10 harg10 hc0 hc1 x0 x1 x2)
    = truncf .bf16 (accN (att (p256 5 (arg10.view.read (Elt F) (f3B c i arg3 harg3 arg4 harg4 arg5 harg5 arg6 harg6 arg7 harg7 arg8 harg8 arg9 harg9 arg10 harg10 x0 x1 x2))) (suf k0_pay567 (sp (p256 5 (arg10.view.read (Elt F) (f3B c i arg3 harg3 arg4 harg4 arg5 harg5 arg6 harg6 arg7 harg7 arg8 harg8 arg9 harg9 arg10 harg10 x0 x1 x2))))) (p128 5 (arg7.view.read (Elt F) (f0B c i arg3 harg3 arg4 harg4 arg5 harg5 arg6 harg6 arg7 harg7 arg8 harg8 arg9 harg9 arg10 harg10 x0 x1 x2)))) (kB arg5.view (harg5.unread x2) ![0, 128 * (5 : Fin 8).val] (by decide)) (p128 5 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay676]
  try simp only [cast128, cast256, fold_sc, fold_sp, fold_masked, fold_suf, fold_att, fold_carN, fold_accN]
  simp only [kernelRun0_B.sl.v598, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v914, kernelRun0_B.sl.v911, kernelRun0_B.sl.v910, kernelRun0_B.sl.cst_452, kernelRun0_B.sl.v909, kernelRun0_B.sl.v906, kernelRun0_B.sl.v810, kernelRun0_B.sl.v809, kernelRun0_B.sl.v808, kernelRun0_B.sl.v782, kernelRun0_B.sl.v807, kernelRun0_B.sl.v768, kernelRun0_B.sl.cst_416, kernelRun0_B.sl.v752, kernelRun0_B.sl.v751, kernelRun0_B.sl.v750, kernelRun0_B.sl.v749, kernelRun0_B.sl.v748, kernelRun0_B.sl.r_78, kernelRun0_B.sl.r_68, kernelRun0_B.sl.v622, kernelRun0_B.sl.v905, k0_pay510, k0_pay521, k0_pay562, k0_pay564]
  try simp only [cast128, cast256, fold_sc, fold_sp, fold_masked, fold_suf, fold_att, fold_carN, fold_accN]
  simp only [kernelRun0_B.sl.v781, kernelRun0_B.sl.v621, kernelRun0_B.sl.v904, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_6 (hc0 : ¬cond0_0 i) (hc1 : cond0_1 i) : oP 6 (out0_B_3 c i arg3 harg3 arg4 harg4 arg5 harg5 arg6 harg6 arg7 harg7 arg8 harg8 arg9 harg9 arg10 harg10 hc0 hc1 x0 x1 x2)
    = truncf .bf16 (accN (att (p256 6 (arg10.view.read (Elt F) (f3B c i arg3 harg3 arg4 harg4 arg5 harg5 arg6 harg6 arg7 harg7 arg8 harg8 arg9 harg9 arg10 harg10 x0 x1 x2))) (suf k0_pay567 (sp (p256 6 (arg10.view.read (Elt F) (f3B c i arg3 harg3 arg4 harg4 arg5 harg5 arg6 harg6 arg7 harg7 arg8 harg8 arg9 harg9 arg10 harg10 x0 x1 x2))))) (p128 6 (arg7.view.read (Elt F) (f0B c i arg3 harg3 arg4 harg4 arg5 harg5 arg6 harg6 arg7 harg7 arg8 harg8 arg9 harg9 arg10 harg10 x0 x1 x2)))) (kB arg5.view (harg5.unread x2) ![0, 128 * (6 : Fin 8).val] (by decide)) (p128 6 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay1]
  try simp only [cast128, cast256, fold_sc, fold_sp, fold_masked, fold_suf, fold_att, fold_carN, fold_accN]
  simp only [kernelRun0_B.sl.v602, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v814, kernelRun0_B.sl.v813, kernelRun0_B.sl.v812, kernelRun0_B.sl.v784, kernelRun0_B.sl.v811, kernelRun0_B.sl.v769, kernelRun0_B.sl.cst_416, kernelRun0_B.sl.v757, kernelRun0_B.sl.v756, kernelRun0_B.sl.v755, kernelRun0_B.sl.v754, kernelRun0_B.sl.v753, kernelRun0_B.sl.r_79, kernelRun0_B.sl.r_69, kernelRun0_B.sl.v624, k0_pay511, k0_pay522, k0_pay562, k0_pay564]
  try simp only [cast128, cast256, fold_sc, fold_sp, fold_masked, fold_suf, fold_att, fold_carN, fold_accN]
  simp only [kernelRun0_B.sl.v921, kernelRun0_B.sl.v783, kernelRun0_B.sl.v623, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  unfold f0B f1B f3B g0B g1B g3B
  simp only [← View.writes_append]
  rfl

theorem outB_7 (hc0 : ¬cond0_0 i) (hc1 : cond0_1 i) : oP 7 (out0_B_3 c i arg3 harg3 arg4 harg4 arg5 harg5 arg6 harg6 arg7 harg7 arg8 harg8 arg9 harg9 arg10 harg10 hc0 hc1 x0 x1 x2)
    = truncf .bf16 (accN (att (p256 7 (arg10.view.read (Elt F) (f3B c i arg3 harg3 arg4 harg4 arg5 harg5 arg6 harg6 arg7 harg7 arg8 harg8 arg9 harg9 arg10 harg10 x0 x1 x2))) (suf k0_pay567 (sp (p256 7 (arg10.view.read (Elt F) (f3B c i arg3 harg3 arg4 harg4 arg5 harg5 arg6 harg6 arg7 harg7 arg8 harg8 arg9 harg9 arg10 harg10 x0 x1 x2))))) (p128 7 (arg7.view.read (Elt F) (f0B c i arg3 harg3 arg4 harg4 arg5 harg5 arg6 harg6 arg7 harg7 arg8 harg8 arg9 harg9 arg10 harg10 x0 x1 x2)))) (kB arg5.view (harg5.unread x2) ![0, 128 * (7 : Fin 8).val] (by decide)) (p128 7 (arg8.view.read (Elt F) (f1B c i arg3 harg3 arg4 harg4 arg5 harg5 arg6 harg6 arg7 harg7 arg8 harg8 arg9 harg9 arg10 harg10 x0 x1 x2)))) bitsLt_bf16_f32 := by
  unfold out0_B_3 kernelRun0_B
  dsimp only
  simp (disch := first | rfl | decide) only [↓ oP_miss, ↓ oP_hit]
  try simp only [k0_pay2]
  try simp only [cast128, cast256, fold_sc, fold_sp, fold_masked, fold_suf, fold_att, fold_carN, fold_accN]
  simp only [kernelRun0_B.sl.v606, kernelRun0_B.sl.HS1_8_1, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [kernelRun0_B.sl.v818, kernelRun0_B.sl.v817, kernelRun0_B.sl.v816, kernelRun0_B.sl.v786, kernelRun0_B.sl.v815, kernelRun0_B.sl.v770, kernelRun0_B.sl.cst_416, kernelRun0_B.sl.v762, kernelRun0_B.sl.v761, kernelRun0_B.sl.v760, kernelRun0_B.sl.v759, kernelRun0_B.sl.v758, kernelRun0_B.sl.r_80, kernelRun0_B.sl.r_70, kernelRun0_B.sl.v626, k0_pay512, k0_pay523, k0_pay562, k0_pay564]
  try simp only [cast128, cast256, fold_sc, fold_sp, fold_masked, fold_suf, fold_att, fold_carN, fold_accN]
  simp only [kernelRun0_B.sl.v938, kernelRun0_B.sl.v785, kernelRun0_B.sl.v625, kernelRun0_B.sl.HS1_7_1, kernelRun0_B.sl.HS1_6_1, kernelRun0_B.sl.HS1_5_1, kernelRun0_B.sl.HS1_4_1, kernelRun0_B.sl.HS1_3_1, kernelRun0_B.sl.HS1_2_1, kernelRun0_B.sl.HS1_1_1]
  simp (disch := first | exact pb2_trips _ | rfl | decide) only [pb2, List.nil_append, ↓ View.readCov_skip, ↓ View.readCov_cons_toLoadRect, ↓ View.readCov_fill]
  try simp only [k0_pay562]
  try simp only [cast128, cast256, fold_sc, fold_sp, fold_masked, fold_suf, fold_att, fold_carN, fold_accN]
  unfold f0B f1B f3B g0B g1B g3B
  simp only [← View.writes_append]
  rfl

end Cert.KernelIdeal.SB

end
-- ==== Proof.RunA.lean ====
/-
  One run of the kernel's body, head by head: at the first row block, which has its diagonal block of keys only.
-/
module

public import proofs.«01_k».proof.Proof.Cell
public import proofs.«01_k».proof.Proof.RunB

@[expose] public section

set_option maxRecDepth 8192

noncomputable section

namespace Cert.KernelIdeal.SB

open Cert.KernelIdeal Cert.KernelIdeal.Gen Idealize.ShloMosaic Idealize.ShloMosaic.TcCoe
open Idealize.SL.Sem

variable {F : FTy → Type} [FloatOps F] [Named F]

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (x0 : Vec F S256x1024 .bf16) (x1 : Vec F S4096x1024 .bf16) (x2 : Vec F S4096x1024 .bf16)

/-- What the scratch `arg7` holds before the loop. -/
def g0A : arg7.view.ty.Contents (Elt F) := arg7.view.writes (Elt F) arg7.view.junk (kernelRun0_A.sl.HS0_9 (F := F) c i arg3 harg3 arg4 harg4 arg7 arg9 x0 x1)

/-- What the scratch `arg8` holds before the loop. -/
def g1A : arg8.view.ty.Contents (Elt F) := arg8.view.writes (Elt F) arg8.view.junk (kernelRun0_A.sl.HS1_9 (F := F) c i arg3 harg3 arg4 harg4 arg5 harg5 arg7 arg8 arg9 x0 x1 x2)

/-- What the scratch `arg9` holds before the loop. -/
def g2A : arg9.view.ty.Contents (Elt F) := arg9.view.writes (Elt F) arg9.view.junk (kernelRun0_A.sl.HS2_8 (F := F) c i arg3 harg3 arg4 harg4 x0 x1)

/-- What the scratch `arg10` holds before the loop. -/
def g3A : arg10.view.ty.Contents (Elt F) := arg10.view.writes (Elt F) arg10.view.junk (kernelRun0_A.sl.HS3_8 (F := F) c i arg3 harg3 arg4 harg4 x0 x1)

/-- The stores of all the trips of the loop. -/
def pbA := pb_k0_t1 (F := F) Variants.none c none i arg3 harg3 arg4 harg4 arg5 harg5 arg6 harg6 arg7 harg7 arg8 harg8 arg9 harg9 arg10 harg10 (BitVec.ofNat 32 (i 2).val) k0_pay567 (kernelRun0_A.sl.r_66 (F := F) c i arg3 harg3 arg4 harg4 arg7 arg9 x0 x1) (harg3.unread x0) (harg4.unread x1) (harg5.unread x2) (g0A c i arg3 harg3 arg4 harg4 arg7 arg9 x0 x1) (g1A c i arg3 harg3 arg4 harg4 arg5 harg5 arg7 arg8 arg9 x0 x1 x2) (g2A c i arg3 harg3 arg4 harg4 arg9 x0 x1) (g3A c i arg3 harg3 arg4 harg4 arg10 x0 x1) (Scf.trips (k0_t1_loop i).lb (k0_t1_loop i).ub (k0_t1_loop i).st)

/-- What the scratch `arg7` holds after the loop. -/
def f0A : arg7.view.ty.Contents (Elt F) := arg7.view.writes (Elt F) (g0A c i arg3 harg3 arg4 harg4 arg7 arg9 x0 x1) (pbA c i arg3 harg3 arg4 harg4 arg5 harg5 arg6 harg6 arg7 harg7 arg8 harg8 arg9 harg9 arg10 harg10 x0 x1 x2).1

/-- What the scratch `arg8` holds after the loop. -/
def f1A : arg8.view.ty.Contents (Elt F) := arg8.view.writes (Elt F) (g1A c i arg3 harg3 arg4 harg4 arg5 harg5 arg7 arg8 arg9 x0 x1 x2) (pbA c i arg3 harg3 arg4 harg4 arg5 harg5 arg6 harg6 arg7 harg7 arg8 harg8 arg9 harg9 arg10 harg10 x0 x1 x2).2.1

/-- What the scratch `arg9` holds after the loop. -/
def f2A : arg9.view.ty.Contents (Elt F) := arg9.view.writes (Elt F) (g2A c i arg3 harg3 arg4 harg4 arg9 x0 x1) (pbA c i arg3 harg3 arg4 harg4 arg5 harg5 arg6 harg6 arg7 harg7 arg8 harg8 arg9 harg9 arg10 harg10 x0 x1 x2).2.2.1

/-- What the scratch `arg10` holds after the loop. -/
def f3A : arg10.view.ty.Contents (Elt F) := arg10.view.writes (Elt F) (g3A c i arg3 harg3 arg4 harg4 arg10 x0 x1) (pbA c i arg3 harg3 arg4 harg4 arg5 harg5 arg6 harg6 arg7 harg7 arg8 harg8 arg9 harg9 arg10 harg10 x0 x1 x2).2.2.2

theorem preA8_0 : p128 0 (arg8.view.read (Elt F) (g1A c i arg3 harg3 arg4 harg4 arg5 harg5 arg7 arg8 arg9 x0 x1 x2))
    = accN (masked (att (sc (qB arg3.view (harg3.unread x0) 0) (kB arg4.view (harg4.unread x1) (k0_off1 i) (k0_off1_inb i))) (suf k0_pay567 (masked (sp (sc (qB arg3.view (harg3.unread x0) 0) (kB arg4.view (harg4.unread x1) (k0_off1 i) (k0_off1_inb i)))))) z128)) (kB arg5.view (harg5.unread x2) (k0_off1 i) (k0_off1_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_55, kernelRun0_A.sl.r_46, kernelRun0_A.sl.r_38, kernelRun0_A.sl.r_31, kernelRun0_A.sl.r_18, kernelRun0_A.sl.r_12, kernelRun0_A.sl.r_4, k0_pay566, k0_pay589, k0_pay597, k0_pay598, k0_pay604, k0_pay617, k0_pay624, k0_pay632, k0_pay641, k0_pay650]
  try simp only [cast128, cast256, fold_sc, fold_sp, fold_masked, fold_suf, fold_att, fold_carN, fold_accN]
  simp only [kernelRun0_A.sl.v409, kernelRun0_A.sl.v345, kernelRun0_A.sl.v169, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579]
  try simp only [cast128, cast256, fold_sc, fold_sp, fold_masked, fold_suf, fold_att, fold_carN, fold_accN]
  rfl

theorem preA8_1 : p128 1 (arg8.view.read (Elt F) (g1A c i arg3 harg3 arg4 harg4 arg5 harg5 arg7 arg8 arg9 x0 x1 x2))
    = accN (masked (att (sc (qB arg3.view (harg3.unread x0) 1) (kB arg4.view (harg4.unread x1) (k0_off2 i) (k0_off2_inb i))) (suf k0_pay567 (masked (sp (sc (qB arg3.view (harg3.unread x0) 1) (kB arg4.view (harg4.unread x1) (k0_off2 i) (k0_off2_inb i)))))) z128)) (kB arg5.view (harg5.unread x2) (k0_off2 i) (k0_off2_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_56, kernelRun0_A.sl.r_47, kernelRun0_A.sl.r_39, kernelRun0_A.sl.r_32, kernelRun0_A.sl.r_19, kernelRun0_A.sl.r_5, k0_pay566, k0_pay590, k0_pay605, k0_pay618, k0_pay625, k0_pay633, k0_pay642, k0_pay652]
  try simp only [cast128, cast256, fold_sc, fold_sp, fold_masked, fold_suf, fold_att, fold_carN, fold_accN]
  simp only [kernelRun0_A.sl.v426, kernelRun0_A.sl.v347, kernelRun0_A.sl.v171, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [kernelRun0_A.sl.r_1, kernelRun0_A.sl.r, k0_pay568, k0_pay569, k0_pay570, k0_pay571, k0_pay572, k0_pay573, k0_pay574, k0_pay575, k0_pay576, k0_pay577, k0_pay578, k0_pay579, k0_pay650]
  try simp only [cast128, cast256, fold_sc, fold_sp, fold_masked, fold_suf, fold_att, fold_carN, fold_accN]
  rfl

theorem preA8_2 : p128 2 (arg8.view.read (Elt F) (g1A c i arg3 harg3 arg4 harg4 arg5 harg5 arg7 arg8 arg9 x0 x1 x2))
    = accN (masked (att (sc (qB arg3.view (harg3.unread x0) 2) (kB arg4.view (harg4.unread x1) (k0_off3 i) (k0_off3_inb i))) (suf k0_pay567 (masked (sp (sc (qB arg3.view (harg3.unread x0) 2) (kB arg4.view (harg4.unread x1) (k0_off3 i) (k0_off3_inb i)))))) z128)) (kB arg5.view (harg5.unread x2) (k0_off3 i) (k0_off3_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_57, kernelRun0_A.sl.r_48, kernelRun0_A.sl.r_40, kernelRun0_A.sl.r_33, kernelRun0_A.sl.r_22, kernelRun0_A.sl.r_21, kernelRun0_A.sl.r_6, kernelRun0_A.sl.r_20, k0_pay566, k0_pay591, k0_pay606, k0_pay607, k0_pay608, k0_pay619, k0_pay626, k0_pay634, k0_pay643, k0_pay654]
  try simp only [cast128, cast256, fold_sc, fold_sp, fold_masked, fold_suf, fold_att, fold_carN, fold_accN]
  simp only [kernelRun0_A.sl.v443, kernelRun0_A.sl.v349, kernelRun0_A.sl.v173, kernelRun0_A.sl.HS1_3, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652]
  try simp only [cast128, cast256, fold_sc, fold_sp, fold_masked, fold_suf, fold_att, fold_carN, fold_accN]
  rfl

theorem preA8_3 : p128 3 (arg8.view.read (Elt F) (g1A c i arg3 harg3 arg4 harg4 arg5 harg5 arg7 arg8 arg9 x0 x1 x2))
    = accN (masked (att (sc (qB arg3.view (harg3.unread x0) 3) (kB arg4.view (harg4.unread x1) (k0_off4 i) (k0_off4_inb i))) (suf k0_pay567 (masked (sp (sc (qB arg3.view (harg3.unread x0) 3) (kB arg4.view (harg4.unread x1) (k0_off4 i) (k0_off4_inb i)))))) z128)) (kB arg5.view (harg5.unread x2) (k0_off4 i) (k0_off4_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_58, kernelRun0_A.sl.r_49, kernelRun0_A.sl.r_41, kernelRun0_A.sl.r_34, kernelRun0_A.sl.r_23, kernelRun0_A.sl.r_13, kernelRun0_A.sl.r_7, k0_pay566, k0_pay592, k0_pay599, k0_pay609, k0_pay620, k0_pay627, k0_pay635, k0_pay644, k0_pay656]
  try simp only [cast128, cast256, fold_sc, fold_sp, fold_masked, fold_suf, fold_att, fold_carN, fold_accN]
  simp only [kernelRun0_A.sl.v460, kernelRun0_A.sl.v351, kernelRun0_A.sl.v175, kernelRun0_A.sl.HS1_4, kernelRun0_A.sl.HS1_3, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654]
  try simp only [cast128, cast256, fold_sc, fold_sp, fold_masked, fold_suf, fold_att, fold_carN, fold_accN]
  rfl

theorem preA8_4 : p128 4 (arg8.view.read (Elt F) (g1A c i arg3 harg3 arg4 harg4 arg5 harg5 arg7 arg8 arg9 x0 x1 x2))
    = accN (masked (att (sc (qB arg3.view (harg3.unread x0) 4) (kB arg4.view (harg4.unread x1) (k0_off5 i) (k0_off5_inb i))) (suf k0_pay567 (masked (sp (sc (qB arg3.view (harg3.unread x0) 4) (kB arg4.view (harg4.unread x1) (k0_off5 i) (k0_off5_inb i)))))) z128)) (kB arg5.view (harg5.unread x2) (k0_off5 i) (k0_off5_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_59, kernelRun0_A.sl.r_50, kernelRun0_A.sl.r_42, kernelRun0_A.sl.r_35, kernelRun0_A.sl.r_24, kernelRun0_A.sl.r_14, kernelRun0_A.sl.r_8, k0_pay566, k0_pay593, k0_pay600, k0_pay610, k0_pay621, k0_pay628, k0_pay636, k0_pay645, k0_pay658]
  try simp only [cast128, cast256, fold_sc, fold_sp, fold_masked, fold_suf, fold_att, fold_carN, fold_accN]
  simp only [kernelRun0_A.sl.v477, kernelRun0_A.sl.v353, kernelRun0_A.sl.v177, kernelRun0_A.sl.HS1_5, kernelRun0_A.sl.HS1_4, kernelRun0_A.sl.HS1_3, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656]
  try simp only [cast128, cast256, fold_sc, fold_sp, fold_masked, fold_suf, fold_att, fold_carN, fold_accN]
  rfl

theorem preA8_5 : p128 5 (arg8.view.read (Elt F) (g1A c i arg3 harg3 arg4 harg4 arg5 harg5 arg7 arg8 arg9 x0 x1 x2))
    = accN (masked (att (sc (qB arg3.view (harg3.unread x0) 5) (kB arg4.view (harg4.unread x1) (k0_off6 i) (k0_off6_inb i))) (suf k0_pay567 (masked (sp (sc (qB arg3.view (harg3.unread x0) 5) (kB arg4.view (harg4.unread x1) (k0_off6 i) (k0_off6_inb i)))))) z128)) (kB arg5.view (harg5.unread x2) (k0_off6 i) (k0_off6_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_60, kernelRun0_A.sl.r_51, kernelRun0_A.sl.r_43, kernelRun0_A.sl.r_36, kernelRun0_A.sl.r_25, kernelRun0_A.sl.r_15, kernelRun0_A.sl.r_9, k0_pay566, k0_pay594, k0_pay601, k0_pay611, k0_pay622, k0_pay629, k0_pay637, k0_pay646, k0_pay660]
  try simp only [cast128, cast256, fold_sc, fold_sp, fold_masked, fold_suf, fold_att, fold_carN, fold_accN]
  simp only [kernelRun0_A.sl.v494, kernelRun0_A.sl.v355, kernelRun0_A.sl.v179, kernelRun0_A.sl.HS1_6, kernelRun0_A.sl.HS1_5, kernelRun0_A.sl.HS1_4, kernelRun0_A.sl.HS1_3, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658]
  try simp only [cast128, cast256, fold_sc, fold_sp, fold_masked, fold_suf, fold_att, fold_carN, fold_accN]
  rfl

theorem preA8_6 : p128 6 (arg8.view.read (Elt F) (g1A c i arg3 harg3 arg4 harg4 arg5 harg5 arg7 arg8 arg9 x0 x1 x2))
    = accN (masked (att (sc (qB arg3.view (harg3.unread x0) 6) (kB arg4.view (harg4.unread x1) (k0_off7 i) (k0_off7_inb i))) (suf k0_pay567 (masked (sp (sc (qB arg3.view (harg3.unread x0) 6) (kB arg4.view (harg4.unread x1) (k0_off7 i) (k0_off7_inb i)))))) z128)) (kB arg5.view (harg5.unread x2) (k0_off7 i) (k0_off7_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_61, kernelRun0_A.sl.r_52, kernelRun0_A.sl.r_44, kernelRun0_A.sl.r_37, kernelRun0_A.sl.r_26, kernelRun0_A.sl.r_16, kernelRun0_A.sl.r_10, kernelRun0_A.sl.r_29, k0_pay566, k0_pay595, k0_pay602, k0_pay612, k0_pay615, k0_pay623, k0_pay630, k0_pay638, k0_pay647, k0_pay662]
  try simp only [cast128, cast256, fold_sc, fold_sp, fold_masked, fold_suf, fold_att, fold_carN, fold_accN]
  simp only [kernelRun0_A.sl.v511, kernelRun0_A.sl.v357, kernelRun0_A.sl.v181, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658, k0_pay660]
  try simp only [cast128, cast256, fold_sc, fold_sp, fold_masked, fold_suf, fold_att, fold_carN, fold_accN]
  rfl

theorem preA8_7 : p128 7 (arg8.view.read (Elt F) (g1A c i arg3 harg3 arg4 harg4 arg5 harg5 arg7 arg8 arg9 x0 x1 x2))
    = accN (masked (att (sc (qB arg3.view (harg3.unread x0) 7) (kB arg4.view (harg4.unread x1) (k0_off8 i) (k0_off8_inb i))) (suf k0_pay567 (masked (sp (sc (qB arg3.view (harg3.unread x0) 7) (kB arg4.view (harg4.unread x1) (k0_off8 i) (k0_off8_inb i)))))) z128)) (kB arg5.view (harg5.unread x2) (k0_off8 i) (k0_off8_inb i)) z128 := by
  unfold g1A
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  simp (disch := first | rfl | decide) only [↓ p128_miss, ↓ p128_hit]
  try simp only [kernelRun0_A.sl.r_62, kernelRun0_A.sl.r_54, kernelRun0_A.sl.r_45, kernelRun0_A.sl.r_30, kernelRun0_A.sl.r_28, kernelRun0_A.sl.r_17, kernelRun0_A.sl.r_11, kernelRun0_A.sl.r_27, k0_pay566, k0_pay596, k0_pay603, k0_pay613, k0_pay614, k0_pay616, k0_pay631, k0_pay640, k0_pay648, k0_pay649, k0_pay664]
  try simp only [cast128, cast256, fold_sc, fold_sp, fold_masked, fold_suf, fold_att, fold_carN, fold_accN]
  simp only [kernelRun0_A.sl.v528, kernelRun0_A.sl.v359, kernelRun0_A.sl.v183, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1, kernelRun0_A.sl.HS0_1, kernelRun0_A.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658, k0_pay660, k0_pay662]
  try simp only [cast128, cast256, fold_sc, fold_sp, fold_masked, fold_suf, fold_att, fold_carN, fold_accN]
  rfl

theorem outA_0 (hc0 : ¬cond0_0 i) (hc1 : ¬cond0_1 i) : oP 0 (out0_A_3 c i arg3 harg3 arg4 harg4 arg5 harg5 arg6 harg6 arg7 harg7 arg8 harg8 arg9 harg9 arg10 harg10 hc0 hc1 x0 x1 x2)
    = truncf .bf16 (p128 0 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay671]
  try simp only [cast128, cast256, fold_sc, fold_sp, fold_masked, fold_suf, fold_att, fold_carN, fold_accN]
  simp only [kernelRun0_A.sl.v578]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_1 (hc0 : ¬cond0_0 i) (hc1 : ¬cond0_1 i) : oP 1 (out0_A_3 c i arg3 harg3 arg4 harg4 arg5 harg5 arg6 harg6 arg7 harg7 arg8 harg8 arg9 harg9 arg10 harg10 hc0 hc1 x0 x1 x2)
    = truncf .bf16 (p128 1 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay672]
  try simp only [cast128, cast256, fold_sc, fold_sp, fold_masked, fold_suf, fold_att, fold_carN, fold_accN]
  simp only [kernelRun0_A.sl.v582]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_2 (hc0 : ¬cond0_0 i) (hc1 : ¬cond0_1 i) : oP 2 (out0_A_3 c i arg3 harg3 arg4 harg4 arg5 harg5 arg6 harg6 arg7 harg7 arg8 harg8 arg9 harg9 arg10 harg10 hc0 hc1 x0 x1 x2)
    = truncf .bf16 (p128 2 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay673]
  try simp only [cast128, cast256, fold_sc, fold_sp, fold_masked, fold_suf, fold_att, fold_carN, fold_accN]
  simp only [kernelRun0_A.sl.v586]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_3 (hc0 : ¬cond0_0 i) (hc1 : ¬cond0_1 i) : oP 3 (out0_A_3 c i arg3 harg3 arg4 harg4 arg5 harg5 arg6 harg6 arg7 harg7 arg8 harg8 arg9 harg9 arg10 harg10 hc0 hc1 x0 x1 x2)
    = truncf .bf16 (p128 3 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay674]
  try simp only [cast128, cast256, fold_sc, fold_sp, fold_masked, fold_suf, fold_att, fold_carN, fold_accN]
  simp only [kernelRun0_A.sl.v590]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_4 (hc0 : ¬cond0_0 i) (hc1 : ¬cond0_1 i) : oP 4 (out0_A_3 c i arg3 harg3 arg4 harg4 arg5 harg5 arg6 harg6 arg7 harg7 arg8 harg8 arg9 harg9 arg10 harg10 hc0 hc1 x0 x1 x2)
    = truncf .bf16 (p128 4 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay675]
  try simp only [cast128, cast256, fold_sc, fold_sp, fold_masked, fold_suf, fold_att, fold_carN, fold_accN]
  simp only [kernelRun0_A.sl.v594]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_5 (hc0 : ¬cond0_0 i) (hc1 : ¬cond0_1 i) : oP 5 (out0_A_3 c i arg3 harg3 arg4 harg4 arg5 harg5 arg6 harg6 arg7 harg7 arg8 harg8 arg9 harg9 arg10 harg10 hc0 hc1 x0 x1 x2)
    = truncf .bf16 (p128 5 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay676]
  try simp only [cast128, cast256, fold_sc, fold_sp, fold_masked, fold_suf, fold_att, fold_carN, fold_accN]
  simp only [kernelRun0_A.sl.v598]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_6 (hc0 : ¬cond0_0 i) (hc1 : ¬cond0_1 i) : oP 6 (out0_A_3 c i arg3 harg3 arg4 harg4 arg5 harg5 arg6 harg6 arg7 harg7 arg8 harg8 arg9 harg9 arg10 harg10 hc0 hc1 x0 x1 x2)
    = truncf .bf16 (p128 6 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay1]
  try simp only [cast128, cast256, fold_sc, fold_sp, fold_masked, fold_suf, fold_att, fold_carN, fold_accN]
  simp only [kernelRun0_A.sl.v602]
  simp (disch := first | exact pb2_trips _ | rfl | decide) only [pb2, List.nil_append, ↓ View.readCov_skip, ↓ View.readCov_cons_toLoadRect, ↓ View.readCov_fill]
  unfold f1A g1A
  simp only [← View.writes_append]
  rfl

theorem outA_7 (hc0 : ¬cond0_0 i) (hc1 : ¬cond0_1 i) : oP 7 (out0_A_3 c i arg3 harg3 arg4 harg4 arg5 harg5 arg6 harg6 arg7 harg7 arg8 harg8 arg9 harg9 arg10 harg10 hc0 hc1 x0 x1 x2)
    = truncf .bf16 (p128 7 (arg8.view.read (Elt F) (f1A c i arg3 harg3 arg4 harg4 arg5 harg5 arg6 harg6 arg7 harg7 arg8 harg8 arg9 harg9 arg10 harg10 x0 x1 x2))) bitsLt_bf16_f32 := by
  unfold out0_A_3 kernelRun0_A
  dsimp only
  simp (disch := first | rfl | decide) only [↓ oP_miss, ↓ oP_hit]
  try simp only [k0_pay2]
  try simp only [cast128, cast256, fold_sc, fold_sp, fold_masked, fold_suf, fold_att, fold_carN, fold_accN]
  simp only [kernelRun0_A.sl.v606]
  simp (disch := first | exact pb2_trips _ | rfl | decide) only [pb2, List.nil_append, ↓ View.readCov_skip, ↓ View.readCov_cons_toLoadRect, ↓ View.readCov_fill]
  unfold f1A g1A
  simp only [← View.writes_append]
  rfl

end Cert.KernelIdeal.SB

end
-- ==== Proof.RunC.lean ====
/-
  One run of the kernel's body, head by head: at the even row blocks past the first, which end with two blocks of keys after the loop.
-/
module

public import proofs.«01_k».proof.Proof.Cell
public import proofs.«01_k».proof.Proof.RunB

@[expose] public section

set_option maxRecDepth 8192

noncomputable section

namespace Cert.KernelIdeal.SB

open Cert.KernelIdeal Cert.KernelIdeal.Gen Idealize.ShloMosaic Idealize.ShloMosaic.TcCoe
open Idealize.SL.Sem

variable {F : FTy → Type} [FloatOps F] [Named F]

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (x0 : Vec F S256x1024 .bf16) (x1 : Vec F S4096x1024 .bf16) (x2 : Vec F S4096x1024 .bf16)

/-- What the scratch `arg7` holds before the loop. -/
def g0C : arg7.view.ty.Contents (Elt F) := arg7.view.writes (Elt F) arg7.view.junk (kernelRun0_C.sl.HS0_9 (F := F) c i arg3 harg3 arg4 harg4 arg7 arg9 x0 x1)

/-- What the scratch `arg8` holds before the loop. -/
def g1C : arg8.view.ty.Contents (Elt F) := arg8.view.writes (Elt F) arg8.view.junk (kernelRun0_C.sl.HS1_9 (F := F) c i arg3 harg3 arg4 harg4 arg5 harg5 arg7 arg8 arg9 x0 x1 x2)

/-- What the scratch `arg9` holds before the loop. -/
def g2C : arg9.view.ty.Contents (Elt F) := arg9.view.writes (Elt F) arg9.view.junk (kernelRun0_C.sl.HS2_8 (F := F) c i arg3 harg3 arg4 harg4 x0 x1)

/-- What the scratch `arg10` holds before the loop. -/
def g3C : arg10.view.ty.Contents (Elt F) := arg10.view.writes (Elt F) arg10.view.junk (kernelRun0_C.sl.HS3_8 (F := F) c i arg3 harg3 arg4 harg4 x0 x1)

/-- The stores of all the trips of the loop. -/
def pbC := pb_k0_t1 (F := F) Variants.none c none i arg3 harg3 arg4 harg4 arg5 harg5 arg6 harg6 arg7 harg7 arg8 harg8 arg9 harg9 arg10 harg10 (BitVec.ofNat 32 (i 2).val) k0_pay567 (kernelRun0_C.sl.r_66 (F := F) c i arg3 harg3 arg4 harg4 arg7 arg9 x0 x1) (harg3.unread x0) (harg4.unread x1) (harg5.unread x2) (g0C c i arg3 harg3 arg4 harg4 arg7 arg9 x0 x1) (g1C c i arg3 harg3 arg4 harg4 arg5 harg5 arg7 arg8 arg9 x0 x1 x2) (g2C c i arg3 harg3 arg4 harg4 arg9 x0 x1) (g3C c i arg3 harg3 arg4 harg4 arg10 x0 x1) (Scf.trips (k0_t1_loop i).lb (k0_t1_loop i).ub (k0_t1_loop i).st)

/-- What the scratch `arg7` holds after the loop. -/
def f0C : arg7.view.ty.Contents (Elt F) := arg7.view.writes (Elt F) (g0C c i arg3 harg3 arg4 harg4 arg7 arg9 x0 x1) (pbC c i arg3 harg3 arg4 harg4 arg5 harg5 arg6 harg6 arg7 harg7 arg8 harg8 arg9 harg9 arg10 harg10 x0 x1 x2).1

/-- What the scratch `arg8` holds after the loop. -/
def f1C : arg8.view.ty.Contents (Elt F) := arg8.view.writes (Elt F) (g1C c i arg3 harg3 arg4 harg4 arg5 harg5 arg7 arg8 arg9 x0 x1 x2) (pbC c i arg3 harg3 arg4 harg4 arg5 harg5 arg6 harg6 arg7 harg7 arg8 harg8 arg9 harg9 arg10 harg10 x0 x1 x2).2.1

/-- What the scratch `arg9` holds after the loop. -/
def f2C : arg9.view.ty.Contents (Elt F) := arg9.view.writes (Elt F) (g2C c i arg3 harg3 arg4 harg4 arg9 x0 x1) (pbC c i arg3 harg3 arg4 harg4 arg5 harg5 arg6 harg6 arg7 harg7 arg8 harg8 arg9 harg9 arg10 harg10 x0 x1 x2).2.2.1

/-- What the scratch `arg10` holds after the loop. -/
def f3C : arg10.view.ty.Contents (Elt F) := arg10.view.writes (Elt F) (g3C c i arg3 harg3 arg4 harg4 arg10 x0 x1) (pbC c i arg3 harg3 arg4 harg4 arg5 harg5 arg6 harg6 arg7 harg7 arg8 harg8 arg9 harg9 arg10 harg10 x0 x1 x2).2.2.2

theorem preC7_0 : p128 0 (arg7.view.read (Elt F) (g0C c i arg3 harg3 arg4 harg4 arg7 arg9 x0 x1))
    = carN (suf k0_pay567 (masked (sp (sc (qB arg3.view (harg3.unread x0) 0) (kB arg4.view (harg4.unread x1) (k0_off1 i) (k0_off1_inb i)))))) z128 := by
  unfold g0C
  simp only [kernelRun0_C.sl.HS0_9, kernelRun0_C.sl.HS0_1]
  simp (disch := first | rfl | decide) only [↓ p128_miss, ↓ p128_hit]
  try simp only [kernelRun0_C.sl.r_46, kernelRun0_C.sl.r_38, kernelRun0_C.sl.r_31, kernelRun0_C.sl.r_18, kernelRun0_C.sl.r_12, kernelRun0_C.sl.r_4, k0_pay566, k0_pay589, k0_pay597, k0_pay598, k0_pay604, k0_pay617, k0_pay624, k0_pay632, k0_pay651]
  try simp only [cast128, cast256, fold_sc, fold_sp, fold_masked, fold_suf, fold_att, fold_carN, fold_accN]
  simp only [kernelRun0_C.sl.v345, kernelRun0_C.sl.v169, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC7_1 : p128 1 (arg7.view.read (Elt F) (g0C c i arg3 harg3 arg4 harg4 arg7 arg9 x0 x1))
    = carN (suf k0_pay567 (masked (sp (sc (qB arg3.view (harg3.unread x0) 1) (kB arg4.view (harg4.unread x1) (k0_off2 i) (k0_off2_inb i)))))) z128 := by
  unfold g0C
  simp only [kernelRun0_C.sl.HS0_9, kernelRun0_C.sl.HS0_1]
  simp (disch := first | rfl | decide) only [↓ p128_miss, ↓ p128_hit]
  try simp only [kernelRun0_C.sl.r_63, kernelRun0_C.sl.r_47, kernelRun0_C.sl.r_39, kernelRun0_C.sl.r_32, kernelRun0_C.sl.r_19, kernelRun0_C.sl.r_5, k0_pay566, k0_pay590, k0_pay605, k0_pay618, k0_pay625, k0_pay633, k0_pay653]
  try simp only [cast128, cast256, fold_sc, fold_sp, fold_masked, fold_suf, fold_att, fold_carN, fold_accN]
  simp only [kernelRun0_C.sl.v347, kernelRun0_C.sl.v171, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [kernelRun0_C.sl.r_1, kernelRun0_C.sl.r, k0_pay568, k0_pay570, k0_pay571, k0_pay572, k0_pay573, k0_pay574, k0_pay575, k0_pay576, k0_pay577, k0_pay578, k0_pay579]
  try simp only [cast128, cast256, fold_sc, fold_sp, fold_masked, fold_suf, fold_att, fold_carN, fold_accN]
  rfl

theorem preC7_2 : p128 2 (arg7.view.read (Elt F) (g0C c i arg3 harg3 arg4 harg4 arg7 arg9 x0 x1))
    = carN (suf k0_pay567 (masked (sp (sc (qB arg3.view (harg3.unread x0) 2) (kB arg4.view (harg4.unread x1) (k0_off3 i) (k0_off3_inb i)))))) z128 := by
  unfold g0C
  simp only [kernelRun0_C.sl.HS0_9, kernelRun0_C.sl.HS0_1]
  simp (disch := first | rfl | decide) only [↓ p128_miss, ↓ p128_hit]
  try simp only [kernelRun0_C.sl.r_48, kernelRun0_C.sl.r_40, kernelRun0_C.sl.r_33, kernelRun0_C.sl.r_22, kernelRun0_C.sl.r_21, kernelRun0_C.sl.r_6, kernelRun0_C.sl.r_20, k0_pay566, k0_pay591, k0_pay606, k0_pay607, k0_pay608, k0_pay619, k0_pay626, k0_pay634, k0_pay655]
  try simp only [cast128, cast256, fold_sc, fold_sp, fold_masked, fold_suf, fold_att, fold_carN, fold_accN]
  simp only [kernelRun0_C.sl.v349, kernelRun0_C.sl.v173, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC7_3 : p128 3 (arg7.view.read (Elt F) (g0C c i arg3 harg3 arg4 harg4 arg7 arg9 x0 x1))
    = carN (suf k0_pay567 (masked (sp (sc (qB arg3.view (harg3.unread x0) 3) (kB arg4.view (harg4.unread x1) (k0_off4 i) (k0_off4_inb i)))))) z128 := by
  unfold g0C
  simp only [kernelRun0_C.sl.HS0_9, kernelRun0_C.sl.HS0_1]
  simp (disch := first | rfl | decide) only [↓ p128_miss, ↓ p128_hit]
  try simp only [kernelRun0_C.sl.r_64, kernelRun0_C.sl.r_49, kernelRun0_C.sl.r_41, kernelRun0_C.sl.r_34, kernelRun0_C.sl.r_23, kernelRun0_C.sl.r_13, kernelRun0_C.sl.r_7, k0_pay566, k0_pay592, k0_pay599, k0_pay609, k0_pay620, k0_pay627, k0_pay635, k0_pay657]
  try simp only [cast128, cast256, fold_sc, fold_sp, fold_masked, fold_suf, fold_att, fold_carN, fold_accN]
  simp only [kernelRun0_C.sl.v351, kernelRun0_C.sl.v175, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC7_4 : p128 4 (arg7.view.read (Elt F) (g0C c i arg3 harg3 arg4 harg4 arg7 arg9 x0 x1))
    = carN (suf k0_pay567 (masked (sp (sc (qB arg3.view (harg3.unread x0) 4) (kB arg4.view (harg4.unread x1) (k0_off5 i) (k0_off5_inb i)))))) z128 := by
  unfold g0C
  simp only [kernelRun0_C.sl.HS0_9, kernelRun0_C.sl.HS0_1]
  simp (disch := first | rfl | decide) only [↓ p128_miss, ↓ p128_hit]
  try simp only [kernelRun0_C.sl.r_50, kernelRun0_C.sl.r_42, kernelRun0_C.sl.r_35, kernelRun0_C.sl.r_24, kernelRun0_C.sl.r_14, kernelRun0_C.sl.r_8, k0_pay566, k0_pay593, k0_pay600, k0_pay610, k0_pay621, k0_pay628, k0_pay636, k0_pay659]
  try simp only [cast128, cast256, fold_sc, fold_sp, fold_masked, fold_suf, fold_att, fold_carN, fold_accN]
  simp only [kernelRun0_C.sl.v353, kernelRun0_C.sl.v177, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC7_5 : p128 5 (arg7.view.read (Elt F) (g0C c i arg3 harg3 arg4 harg4 arg7 arg9 x0 x1))
    = carN (suf k0_pay567 (masked (sp (sc (qB arg3.view (harg3.unread x0) 5) (kB arg4.view (harg4.unread x1) (k0_off6 i) (k0_off6_inb i)))))) z128 := by
  unfold g0C
  simp only [kernelRun0_C.sl.HS0_9, kernelRun0_C.sl.HS0_1]
  simp (disch := first | rfl | decide) only [↓ p128_miss, ↓ p128_hit]
  try simp only [kernelRun0_C.sl.r_65, kernelRun0_C.sl.r_51, kernelRun0_C.sl.r_43, kernelRun0_C.sl.r_36, kernelRun0_C.sl.r_25, kernelRun0_C.sl.r_15, kernelRun0_C.sl.r_9, k0_pay566, k0_pay594, k0_pay601, k0_pay611, k0_pay622, k0_pay629, k0_pay637, k0_pay661]
  try simp only [cast128, cast256, fold_sc, fold_sp, fold_masked, fold_suf, fold_att, fold_carN, fold_accN]
  simp only [kernelRun0_C.sl.v355, kernelRun0_C.sl.v179, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC7_6 : p128 6 (arg7.view.read (Elt F) (g0C c i arg3 harg3 arg4 harg4 arg7 arg9 x0 x1))
    = carN (suf k0_pay567 (masked (sp (sc (qB arg3.view (harg3.unread x0) 6) (kB arg4.view (harg4.unread x1) (k0_off7 i) (k0_off7_inb i)))))) z128 := by
  unfold g0C
  simp only [kernelRun0_C.sl.HS0_9, kernelRun0_C.sl.HS0_1]
  simp (disch := first | rfl | decide) only [↓ p128_miss, ↓ p128_hit]
  try simp only [kernelRun0_C.sl.r_52, kernelRun0_C.sl.r_44, kernelRun0_C.sl.r_37, kernelRun0_C.sl.r_26, kernelRun0_C.sl.r_16, kernelRun0_C.sl.r_10, kernelRun0_C.sl.r_29, k0_pay566, k0_pay595, k0_pay602, k0_pay612, k0_pay615, k0_pay623, k0_pay630, k0_pay638, k0_pay663]
  try simp only [cast128, cast256, fold_sc, fold_sp, fold_masked, fold_suf, fold_att, fold_carN, fold_accN]
  simp only [kernelRun0_C.sl.v357, kernelRun0_C.sl.v181, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC7_7 : p128 7 (arg7.view.read (Elt F) (g0C c i arg3 harg3 arg4 harg4 arg7 arg9 x0 x1))
    = carN (suf k0_pay567 (masked (sp (sc (qB arg3.view (harg3.unread x0) 7) (kB arg4.view (harg4.unread x1) (k0_off8 i) (k0_off8_inb i)))))) z128 := by
  unfold g0C
  simp only [kernelRun0_C.sl.HS0_9, kernelRun0_C.sl.HS0_1]
  simp (disch := first | rfl | decide) only [↓ p128_miss, ↓ p128_hit]
  try simp only [kernelRun0_C.sl.r_66, kernelRun0_C.sl.r_53, kernelRun0_C.sl.r_45, kernelRun0_C.sl.r_30, kernelRun0_C.sl.r_28, kernelRun0_C.sl.r_17, kernelRun0_C.sl.r_11, kernelRun0_C.sl.r_27, k0_pay566, k0_pay596, k0_pay603, k0_pay613, k0_pay614, k0_pay616, k0_pay631, k0_pay639, k0_pay665]
  try simp only [cast128, cast256, fold_sc, fold_sp, fold_masked, fold_suf, fold_att, fold_carN, fold_accN]
  simp only [kernelRun0_C.sl.v359, kernelRun0_C.sl.v183, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay570, k0_pay573, k0_pay574, k0_pay575, k0_pay576, k0_pay577, k0_pay578, k0_pay579]
  try simp only [cast128, cast256, fold_sc, fold_sp, fold_masked, fold_suf, fold_att, fold_carN, fold_accN]
  rfl

theorem preC8_0 : p128 0 (arg8.view.read (Elt F) (g1C c i arg3 harg3 arg4 harg4 arg5 harg5 arg7 arg8 arg9 x0 x1 x2))
    = accN (masked (att (sc (qB arg3.view (harg3.unread x0) 0) (kB arg4.view (harg4.unread x1) (k0_off1 i) (k0_off1_inb i))) (suf k0_pay567 (masked (sp (sc (qB arg3.view (harg3.unread x0) 0) (kB arg4.view (harg4.unread x1) (k0_off1 i) (k0_off1_inb i)))))) z128)) (kB arg5.view (harg5.unread x2) (k0_off1 i) (k0_off1_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_55, kernelRun0_C.sl.r_46, kernelRun0_C.sl.r_38, kernelRun0_C.sl.r_31, kernelRun0_C.sl.r_18, kernelRun0_C.sl.r_12, kernelRun0_C.sl.r_4, k0_pay566, k0_pay589, k0_pay597, k0_pay598, k0_pay604, k0_pay617, k0_pay624, k0_pay632, k0_pay641, k0_pay650]
  try simp only [cast128, cast256, fold_sc, fold_sp, fold_masked, fold_suf, fold_att, fold_carN, fold_accN]
  simp only [kernelRun0_C.sl.v409, kernelRun0_C.sl.v345, kernelRun0_C.sl.v169, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579]
  try simp only [cast128, cast256, fold_sc, fold_sp, fold_masked, fold_suf, fold_att, fold_carN, fold_accN]
  rfl

theorem preC8_1 : p128 1 (arg8.view.read (Elt F) (g1C c i arg3 harg3 arg4 harg4 arg5 harg5 arg7 arg8 arg9 x0 x1 x2))
    = accN (masked (att (sc (qB arg3.view (harg3.unread x0) 1) (kB arg4.view (harg4.unread x1) (k0_off2 i) (k0_off2_inb i))) (suf k0_pay567 (masked (sp (sc (qB arg3.view (harg3.unread x0) 1) (kB arg4.view (harg4.unread x1) (k0_off2 i) (k0_off2_inb i)))))) z128)) (kB arg5.view (harg5.unread x2) (k0_off2 i) (k0_off2_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_56, kernelRun0_C.sl.r_47, kernelRun0_C.sl.r_39, kernelRun0_C.sl.r_32, kernelRun0_C.sl.r_19, kernelRun0_C.sl.r_5, k0_pay566, k0_pay590, k0_pay605, k0_pay618, k0_pay625, k0_pay633, k0_pay642, k0_pay652]
  try simp only [cast128, cast256, fold_sc, fold_sp, fold_masked, fold_suf, fold_att, fold_carN, fold_accN]
  simp only [kernelRun0_C.sl.v426, kernelRun0_C.sl.v347, kernelRun0_C.sl.v171, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [kernelRun0_C.sl.r_1, kernelRun0_C.sl.r, k0_pay568, k0_pay569, k0_pay570, k0_pay571, k0_pay572, k0_pay573, k0_pay574, k0_pay575, k0_pay576, k0_pay577, k0_pay578, k0_pay579, k0_pay650]
  try simp only [cast128, cast256, fold_sc, fold_sp, fold_masked, fold_suf, fold_att, fold_carN, fold_accN]
  rfl

theorem preC8_2 : p128 2 (arg8.view.read (Elt F) (g1C c i arg3 harg3 arg4 harg4 arg5 harg5 arg7 arg8 arg9 x0 x1 x2))
    = accN (masked (att (sc (qB arg3.view (harg3.unread x0) 2) (kB arg4.view (harg4.unread x1) (k0_off3 i) (k0_off3_inb i))) (suf k0_pay567 (masked (sp (sc (qB arg3.view (harg3.unread x0) 2) (kB arg4.view (harg4.unread x1) (k0_off3 i) (k0_off3_inb i)))))) z128)) (kB arg5.view (harg5.unread x2) (k0_off3 i) (k0_off3_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_57, kernelRun0_C.sl.r_48, kernelRun0_C.sl.r_40, kernelRun0_C.sl.r_33, kernelRun0_C.sl.r_22, kernelRun0_C.sl.r_21, kernelRun0_C.sl.r_6, kernelRun0_C.sl.r_20, k0_pay566, k0_pay591, k0_pay606, k0_pay607, k0_pay608, k0_pay619, k0_pay626, k0_pay634, k0_pay643, k0_pay654]
  try simp only [cast128, cast256, fold_sc, fold_sp, fold_masked, fold_suf, fold_att, fold_carN, fold_accN]
  simp only [kernelRun0_C.sl.v443, kernelRun0_C.sl.v349, kernelRun0_C.sl.v173, kernelRun0_C.sl.HS1_3, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652]
  try simp only [cast128, cast256, fold_sc, fold_sp, fold_masked, fold_suf, fold_att, fold_carN, fold_accN]
  rfl

theorem preC8_3 : p128 3 (arg8.view.read (Elt F) (g1C c i arg3 harg3 arg4 harg4 arg5 harg5 arg7 arg8 arg9 x0 x1 x2))
    = accN (masked (att (sc (qB arg3.view (harg3.unread x0) 3) (kB arg4.view (harg4.unread x1) (k0_off4 i) (k0_off4_inb i))) (suf k0_pay567 (masked (sp (sc (qB arg3.view (harg3.unread x0) 3) (kB arg4.view (harg4.unread x1) (k0_off4 i) (k0_off4_inb i)))))) z128)) (kB arg5.view (harg5.unread x2) (k0_off4 i) (k0_off4_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_58, kernelRun0_C.sl.r_49, kernelRun0_C.sl.r_41, kernelRun0_C.sl.r_34, kernelRun0_C.sl.r_23, kernelRun0_C.sl.r_13, kernelRun0_C.sl.r_7, k0_pay566, k0_pay592, k0_pay599, k0_pay609, k0_pay620, k0_pay627, k0_pay635, k0_pay644, k0_pay656]
  try simp only [cast128, cast256, fold_sc, fold_sp, fold_masked, fold_suf, fold_att, fold_carN, fold_accN]
  simp only [kernelRun0_C.sl.v460, kernelRun0_C.sl.v351, kernelRun0_C.sl.v175, kernelRun0_C.sl.HS1_4, kernelRun0_C.sl.HS1_3, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654]
  try simp only [cast128, cast256, fold_sc, fold_sp, fold_masked, fold_suf, fold_att, fold_carN, fold_accN]
  rfl

theorem preC8_4 : p128 4 (arg8.view.read (Elt F) (g1C c i arg3 harg3 arg4 harg4 arg5 harg5 arg7 arg8 arg9 x0 x1 x2))
    = accN (masked (att (sc (qB arg3.view (harg3.unread x0) 4) (kB arg4.view (harg4.unread x1) (k0_off5 i) (k0_off5_inb i))) (suf k0_pay567 (masked (sp (sc (qB arg3.view (harg3.unread x0) 4) (kB arg4.view (harg4.unread x1) (k0_off5 i) (k0_off5_inb i)))))) z128)) (kB arg5.view (harg5.unread x2) (k0_off5 i) (k0_off5_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_59, kernelRun0_C.sl.r_50, kernelRun0_C.sl.r_42, kernelRun0_C.sl.r_35, kernelRun0_C.sl.r_24, kernelRun0_C.sl.r_14, kernelRun0_C.sl.r_8, k0_pay566, k0_pay593, k0_pay600, k0_pay610, k0_pay621, k0_pay628, k0_pay636, k0_pay645, k0_pay658]
  try simp only [cast128, cast256, fold_sc, fold_sp, fold_masked, fold_suf, fold_att, fold_carN, fold_accN]
  simp only [kernelRun0_C.sl.v477, kernelRun0_C.sl.v353, kernelRun0_C.sl.v177, kernelRun0_C.sl.HS1_5, kernelRun0_C.sl.HS1_4, kernelRun0_C.sl.HS1_3, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656]
  try simp only [cast128, cast256, fold_sc, fold_sp, fold_masked, fold_suf, fold_att, fold_carN, fold_accN]
  rfl

theorem preC8_5 : p128 5 (arg8.view.read (Elt F) (g1C c i arg3 harg3 arg4 harg4 arg5 harg5 arg7 arg8 arg9 x0 x1 x2))
    = accN (masked (att (sc (qB arg3.view (harg3.unread x0) 5) (kB arg4.view (harg4.unread x1) (k0_off6 i) (k0_off6_inb i))) (suf k0_pay567 (masked (sp (sc (qB arg3.view (harg3.unread x0) 5) (kB arg4.view (harg4.unread x1) (k0_off6 i) (k0_off6_inb i)))))) z128)) (kB arg5.view (harg5.unread x2) (k0_off6 i) (k0_off6_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_60, kernelRun0_C.sl.r_51, kernelRun0_C.sl.r_43, kernelRun0_C.sl.r_36, kernelRun0_C.sl.r_25, kernelRun0_C.sl.r_15, kernelRun0_C.sl.r_9, k0_pay566, k0_pay594, k0_pay601, k0_pay611, k0_pay622, k0_pay629, k0_pay637, k0_pay646, k0_pay660]
  try simp only [cast128, cast256, fold_sc, fold_sp, fold_masked, fold_suf, fold_att, fold_carN, fold_accN]
  simp only [kernelRun0_C.sl.v494, kernelRun0_C.sl.v355, kernelRun0_C.sl.v179, kernelRun0_C.sl.HS1_6, kernelRun0_C.sl.HS1_5, kernelRun0_C.sl.HS1_4, kernelRun0_C.sl.HS1_3, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658]
  try simp only [cast128, cast256, fold_sc, fold_sp, fold_masked, fold_suf, fold_att, fold_carN, fold_accN]
  rfl

theorem preC8_6 : p128 6 (arg8.view.read (Elt F) (g1C c i arg3 harg3 arg4 harg4 arg5 harg5 arg7 arg8 arg9 x0 x1 x2))
    = accN (masked (att (sc (qB arg3.view (harg3.unread x0) 6) (kB arg4.view (harg4.unread x1) (k0_off7 i) (k0_off7_inb i))) (suf k0_pay567 (masked (sp (sc (qB arg3.view (harg3.unread x0) 6) (kB arg4.view (harg4.unread x1) (k0_off7 i) (k0_off7_inb i)))))) z128)) (kB arg5.view (harg5.unread x2) (k0_off7 i) (k0_off7_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_61, kernelRun0_C.sl.r_52, kernelRun0_C.sl.r_44, kernelRun0_C.sl.r_37, kernelRun0_C.sl.r_26, kernelRun0_C.sl.r_16, kernelRun0_C.sl.r_10, kernelRun0_C.sl.r_29, k0_pay566, k0_pay595, k0_pay602, k0_pay612, k0_pay615, k0_pay623, k0_pay630, k0_pay638, k0_pay647, k0_pay662]
  try simp only [cast128, cast256, fold_sc, fold_sp, fold_masked, fold_suf, fold_att, fold_carN, fold_accN]
  simp only [kernelRun0_C.sl.v511, kernelRun0_C.sl.v357, kernelRun0_C.sl.v181, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658, k0_pay660]
  try simp only [cast128, cast256, fold_sc, fold_sp, fold_masked, fold_suf, fold_att, fold_carN, fold_accN]
  rfl

theorem preC8_7 : p128 7 (arg8.view.read (Elt F) (g1C c i arg3 harg3 arg4 harg4 arg5 harg5 arg7 arg8 arg9 x0 x1 x2))
    = accN (masked (att (sc (qB arg3.view (harg3.unread x0) 7) (kB arg4.view (harg4.unread x1) (k0_off8 i) (k0_off8_inb i))) (suf k0_pay567 (masked (sp (sc (qB arg3.view (harg3.unread x0) 7) (kB arg4.view (harg4.unread x1) (k0_off8 i) (k0_off8_inb i)))))) z128)) (kB arg5.view (harg5.unread x2) (k0_off8 i) (k0_off8_inb i)) z128 := by
  unfold g1C
  simp only [kernelRun0_C.sl.HS1_9, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1]
  simp (disch := first | rfl | decide) only [↓ p128_miss, ↓ p128_hit]
  try simp only [kernelRun0_C.sl.r_62, kernelRun0_C.sl.r_54, kernelRun0_C.sl.r_45, kernelRun0_C.sl.r_30, kernelRun0_C.sl.r_28, kernelRun0_C.sl.r_17, kernelRun0_C.sl.r_11, kernelRun0_C.sl.r_27, k0_pay566, k0_pay596, k0_pay603, k0_pay613, k0_pay614, k0_pay616, k0_pay631, k0_pay640, k0_pay648, k0_pay649, k0_pay664]
  try simp only [cast128, cast256, fold_sc, fold_sp, fold_masked, fold_suf, fold_att, fold_carN, fold_accN]
  simp only [kernelRun0_C.sl.v528, kernelRun0_C.sl.v359, kernelRun0_C.sl.v183, kernelRun0_C.sl.HS1_8, kernelRun0_C.sl.HS1_7, kernelRun0_C.sl.HS1_6, kernelRun0_C.sl.HS1_5, kernelRun0_C.sl.HS1_4, kernelRun0_C.sl.HS1_3, kernelRun0_C.sl.HS1_2, kernelRun0_C.sl.HS1_1, kernelRun0_C.sl.HS0_1, kernelRun0_C.sl.HS2_8]
  simp (disch := first | exact pb2_trips _ | rfl | decide) only [pb2, List.nil_append, ↓ View.readCov_skip, ↓ View.readCov_cons_toLoadRect, ↓ View.readCov_fill]
  try simp only [k0_pay568, k0_pay569, k0_pay570, k0_pay573, k0_pay574, k0_pay575, k0_pay576, k0_pay577, k0_pay578, k0_pay579, k0_pay650, k0_pay652, k0_pay654, k0_pay656, k0_pay658, k0_pay660, k0_pay662]
  try simp only [cast128, cast256, fold_sc, fold_sp, fold_masked, fold_suf, fold_att, fold_carN, fold_accN]
  rfl

theorem preC10_0 : p256 0 (arg10.view.read (Elt F) (g3C c i arg3 harg3 arg4 harg4 arg10 x0 x1))
    = sc (qB arg3.view (harg3.unread x0) 0) (kB arg4.view (harg4.unread x1) (k0_off9 i) (k0_off9_inb i)) := by
  unfold g3C
  simp only [kernelRun0_C.sl.HS3_8]
  simp (disch := first | rfl | decide) only [↓ p256_miss, ↓ p256_hit]
  try simp only [k0_pay580]
  try simp only [cast128, cast256, fold_sc, fold_sp, fold_masked, fold_suf, fold_att, fold_carN, fold_accN]
  rfl

theorem preC10_1 : p256 1 (arg10.view.read (Elt F) (g3C c i arg3 harg3 arg4 harg4 arg10 x0 x1))
    = sc (qB arg3.view (harg3.unread x0) 1) (kB arg4.view (harg4.unread x1) (k0_off10 i) (k0_off10_inb i)) := by
  unfold g3C
  simp only [kernelRun0_C.sl.HS3_8]
  simp (disch := first | rfl | decide) only [↓ p256_miss, ↓ p256_hit]
  try simp only [k0_pay581]
  try simp only [cast128, cast256, fold_sc, fold_sp, fold_masked, fold_suf, fold_att, fold_carN, fold_accN]
  rfl

theorem preC10_2 : p256 2 (arg10.view.read (Elt F) (g3C c i arg3 harg3 arg4 harg4 arg10 x0 x1))
    = sc (qB arg3.view (harg3.unread x0) 2) (kB arg4.view (harg4.unread x1) (k0_off11 i) (k0_off11_inb i)) := by
  unfold g3C
  simp only [kernelRun0_C.sl.HS3_8]
  simp (disch := first | rfl | decide) only [↓ p256_miss, ↓ p256_hit]
  try simp only [k0_pay582]
  try simp only [cast128, cast256, fold_sc, fold_sp, fold_masked, fold_suf, fold_att, fold_carN, fold_accN]
  rfl

theorem preC10_3 : p256 3 (arg10.view.read (Elt F) (g3C c i arg3 harg3 arg4 harg4 arg10 x0 x1))
    = sc (qB arg3.view (harg3.unread x0) 3) (kB arg4.view (harg4.unread x1) (k0_off12 i) (k0_off12_inb i)) := by
  unfold g3C
  simp only [kernelRun0_C.sl.HS3_8]
  simp (disch := first | rfl | decide) only [↓ p256_miss, ↓ p256_hit]
  try simp only [kernelRun0_C.sl.r_2, k0_pay583, k0_pay584]
  try simp only [cast128, cast256, fold_sc, fold_sp, fold_masked, fold_suf, fold_att, fold_carN, fold_accN]
  rfl

theorem preC10_4 : p256 4 (arg10.view.read (Elt F) (g3C c i arg3 harg3 arg4 harg4 arg10 x0 x1))
    = sc (qB arg3.view (harg3.unread x0) 4) (kB arg4.view (harg4.unread x1) (k0_off13 i) (k0_off13_inb i)) := by
  unfold g3C
  simp only [kernelRun0_C.sl.HS3_8]
  simp (disch := first | rfl | decide) only [↓ p256_miss, ↓ p256_hit]
  try simp only [k0_pay585]
  try simp only [cast128, cast256, fold_sc, fold_sp, fold_masked, fold_suf, fold_att, fold_carN, fold_accN]
  rfl

theorem preC10_5 : p256 5 (arg10.view.read (Elt F) (g3C c i arg3 harg3 arg4 harg4 arg10 x0 x1))
    = sc (qB arg3.view (harg3.unread x0) 5) (kB arg4.view (harg4.unread x1) (k0_off14 i) (k0_off14_inb i)) := by
  unfold g3C
  simp only [kernelRun0_C.sl.HS3_8]
  simp (disch := first | rfl | decide) only [↓ p256_miss, ↓ p256_hit]
  try simp only [k0_pay586]
  try simp only [cast128, cast256, fold_sc, fold_sp, fold_masked, fold_suf, fold_att, fold_carN, fold_accN]
  rfl

theorem preC10_6 : p256 6 (arg10.view.read (Elt F) (g3C c i arg3 harg3 arg4 harg4 arg10 x0 x1))
    = sc (qB arg3.view (harg3.unread x0) 6) (kB arg4.view (harg4.unread x1) (k0_off15 i) (k0_off15_inb i)) := by
  unfold g3C
  simp only [kernelRun0_C.sl.HS3_8]
  simp (disch := first | rfl | decide) only [↓ p256_miss, ↓ p256_hit]
  try simp only [k0_pay587]
  try simp only [cast128, cast256, fold_sc, fold_sp, fold_masked, fold_suf, fold_att, fold_carN, fold_accN]
  rfl

theorem preC10_7 : p256 7 (arg10.view.read (Elt F) (g3C c i arg3 harg3 arg4 harg4 arg10 x0 x1))
    = sc (qB arg3.view (harg3.unread x0) 7) (kB arg4.view (harg4.unread x1) (k0_off16 i) (k0_off16_inb i)) := by
  unfold g3C
  simp only [kernelRun0_C.sl.HS3_8]
  simp (disch := first | rfl | decide) only [↓ p256_miss, ↓ p256_hit]
  try simp only [kernelRun0_C.sl.r_3, k0_pay588]
  try simp only [cast128, cast256, fold_sc, fold_sp, fold_masked, fold_suf, fold_att, fold_carN, fold_accN]
  rfl

theorem outC_0 (hc0 : cond0_0 i) (hc1 : ¬cond0_1 i) : oP 0 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 0) (kB arg4.view (harg4.unread x1) ![0, 128 * (0 : Fin 8).val] (by decide))) (suf k0_pay567 (sp (sc (qB arg3.view (harg3.unread x0) 0) (kB arg4.view (harg4.unread x1) ![0, 128 * (0 : Fin 8).val] (by decide))))) (carN (suf k0_pay567 (sp (p256 0 (arg10.view.read (Elt F) (f3C c i arg3 harg3 arg4 harg4 arg5 harg5 arg6 harg6 arg7 harg7 arg8 harg8 arg9 harg9 arg10 harg10 x0 x1 x2))))) (p128 0 (arg7.view.read (Elt F) (f0C c i arg3 harg3 arg4 harg4 arg5 harg5 arg6 harg6 arg7 harg7 arg8 harg8 arg9 harg9 arg10 harg10 x0 x1 x2))))) (kB arg5.view (harg5.unread x2) ![0, 128 * (0 : Fin 8).val] (by decide)) (accN (att (p256 0 (arg10.view.read (Elt F) (f3C c i arg3 harg3 arg4 harg4 arg5 harg5 arg6 harg6 arg7 harg7 arg8 harg8 arg9 harg9 arg10 harg10 x0 x1 x2))) (suf k0_pay567 (sp (p256 0 (arg10.view.read (Elt F) (f3C c i arg3 harg3 arg4 harg4 arg5 harg5 arg6 harg6 arg7 harg7 arg8 harg8 arg9 harg9 arg10 harg10 x0 x1 x2))))) (p128 0 (arg7.view.read (Elt F) (f0C c i arg3 harg3 arg4 harg4 arg5 harg5 arg6 harg6 arg7 harg7 arg8 harg8 arg9 harg9 arg10 harg10 x0 x1 x2)))) (kB arg5.view (harg5.unread x2) ![256, 128 * (0 : Fin 8).val] (by decide)) (p128 0 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay671]
  try simp only [cast128, cast256, fold_sc, fold_sp, fold_masked, fold_suf, fold_att, fold_carN, fold_accN]
  simp only [kernelRun0_C.sl.v578, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1247, kernelRun0_C.sl.v1244, kernelRun0_C.sl.v1243, kernelRun0_C.sl.cst_509, kernelRun0_C.sl.v1242, kernelRun0_C.sl.v1239, kernelRun0_C.sl.v1208, kernelRun0_C.sl.v1207, kernelRun0_C.sl.v1206, kernelRun0_C.sl.v1190, kernelRun0_C.sl.v1205, kernelRun0_C.sl.r_109, kernelRun0_C.sl.r_97, kernelRun0_C.sl.cst_618, kernelRun0_C.sl.v1045, kernelRun0_C.sl.v1030, kernelRun0_C.sl.v1238, k0_pay438, k0_pay452, k0_pay668]
  try simp only [cast128, cast256, fold_sc, fold_sp, fold_masked, fold_suf, fold_att, fold_carN, fold_accN]
  simp only [kernelRun0_C.sl.v1189, kernelRun0_C.sl.v1029, kernelRun0_C.sl.v1237, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v902, kernelRun0_C.sl.v899, kernelRun0_C.sl.v898, kernelRun0_C.sl.cst_509, kernelRun0_C.sl.v897, kernelRun0_C.sl.v894, kernelRun0_C.sl.v863, kernelRun0_C.sl.v862, kernelRun0_C.sl.v861, kernelRun0_C.sl.v845, kernelRun0_C.sl.v860, kernelRun0_C.sl.r_86, kernelRun0_C.sl.r_73, kernelRun0_C.sl.v685, kernelRun0_C.sl.v893, kernelRun0_C.sl.v619, kernelRun0_C.sl.v616, kernelRun0_C.sl.cst_363, kernelRun0_C.sl.v615, kernelRun0_C.sl.v612, kernelRun0_C.sl.v908, kernelRun0_C.sl.v905, kernelRun0_C.sl.v904, kernelRun0_C.sl.v903, k0_pay367, k0_pay380]
  try simp only [cast128, cast256, fold_sc, fold_sp, fold_masked, fold_suf, fold_att, fold_carN, fold_accN]
  simp only [kernelRun0_C.sl.v844, kernelRun0_C.sl.v684, kernelRun0_C.sl.v892]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_1 (hc0 : cond0_0 i) (hc1 : ¬cond0_1 i) : oP 1 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 1) (kB arg4.view (harg4.unread x1) ![0, 128 * (1 : Fin 8).val] (by decide))) (suf k0_pay567 (sp (sc (qB arg3.view (harg3.unread x0) 1) (kB arg4.view (harg4.unread x1) ![0, 128 * (1 : Fin 8).val] (by decide))))) (carN (suf k0_pay567 (sp (p256 1 (arg10.view.read (Elt F) (f3C c i arg3 harg3 arg4 harg4 arg5 harg5 arg6 harg6 arg7 harg7 arg8 harg8 arg9 harg9 arg10 harg10 x0 x1 x2))))) (p128 1 (arg7.view.read (Elt F) (f0C c i arg3 harg3 arg4 harg4 arg5 harg5 arg6 harg6 arg7 harg7 arg8 harg8 arg9 harg9 arg10 harg10 x0 x1 x2))))) (kB arg5.view (harg5.unread x2) ![0, 128 * (1 : Fin 8).val] (by decide)) (accN (att (p256 1 (arg10.view.read (Elt F) (f3C c i arg3 harg3 arg4 harg4 arg5 harg5 arg6 harg6 arg7 harg7 arg8 harg8 arg9 harg9 arg10 harg10 x0 x1 x2))) (suf k0_pay567 (sp (p256 1 (arg10.view.read (Elt F) (f3C c i arg3 harg3 arg4 harg4 arg5 harg5 arg6 harg6 arg7 harg7 arg8 harg8 arg9 harg9 arg10 harg10 x0 x1 x2))))) (p128 1 (arg7.view.read (Elt F) (f0C c i arg3 harg3 arg4 harg4 arg5 harg5 arg6 harg6 arg7 harg7 arg8 harg8 arg9 harg9 arg10 harg10 x0 x1 x2)))) (kB arg5.view (harg5.unread x2) ![256, 128 * (1 : Fin 8).val] (by decide)) (p128 1 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay672]
  try simp only [cast128, cast256, fold_sc, fold_sp, fold_masked, fold_suf, fold_att, fold_carN, fold_accN]
  simp only [kernelRun0_C.sl.v582, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1264, kernelRun0_C.sl.v1261, kernelRun0_C.sl.v1260, kernelRun0_C.sl.cst_509, kernelRun0_C.sl.v1259, kernelRun0_C.sl.v1256, kernelRun0_C.sl.v1212, kernelRun0_C.sl.v1211, kernelRun0_C.sl.v1210, kernelRun0_C.sl.v1192, kernelRun0_C.sl.v1209, kernelRun0_C.sl.r_110, kernelRun0_C.sl.r_98, kernelRun0_C.sl.v1032, kernelRun0_C.sl.v1255, k0_pay439, k0_pay453, k0_pay668]
  try simp only [cast128, cast256, fold_sc, fold_sp, fold_masked, fold_suf, fold_att, fold_carN, fold_accN]
  simp only [kernelRun0_C.sl.v1191, kernelRun0_C.sl.v1031, kernelRun0_C.sl.v1254, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v919, kernelRun0_C.sl.v916, kernelRun0_C.sl.v915, kernelRun0_C.sl.cst_509, kernelRun0_C.sl.v914, kernelRun0_C.sl.v911, kernelRun0_C.sl.v867, kernelRun0_C.sl.v866, kernelRun0_C.sl.v865, kernelRun0_C.sl.v847, kernelRun0_C.sl.v864, kernelRun0_C.sl.r_87, kernelRun0_C.sl.r_74, kernelRun0_C.sl.v687, kernelRun0_C.sl.v910, kernelRun0_C.sl.v628, kernelRun0_C.sl.v625, kernelRun0_C.sl.cst_363, kernelRun0_C.sl.v624, kernelRun0_C.sl.v621, kernelRun0_C.sl.v925, kernelRun0_C.sl.v922, kernelRun0_C.sl.v921, kernelRun0_C.sl.v920, k0_pay368, k0_pay381]
  try simp only [cast128, cast256, fold_sc, fold_sp, fold_masked, fold_suf, fold_att, fold_carN, fold_accN]
  simp only [kernelRun0_C.sl.v846, kernelRun0_C.sl.v686, kernelRun0_C.sl.v909, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_2 (hc0 : cond0_0 i) (hc1 : ¬cond0_1 i) : oP 2 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 2) (kB arg4.view (harg4.unread x1) ![0, 128 * (2 : Fin 8).val] (by decide))) (suf k0_pay567 (sp (sc (qB arg3.view (harg3.unread x0) 2) (kB arg4.view (harg4.unread x1) ![0, 128 * (2 : Fin 8).val] (by decide))))) (carN (suf k0_pay567 (sp (p256 2 (arg10.view.read (Elt F) (f3C c i arg3 harg3 arg4 harg4 arg5 harg5 arg6 harg6 arg7 harg7 arg8 harg8 arg9 harg9 arg10 harg10 x0 x1 x2))))) (p128 2 (arg7.view.read (Elt F) (f0C c i arg3 harg3 arg4 harg4 arg5 harg5 arg6 harg6 arg7 harg7 arg8 harg8 arg9 harg9 arg10 harg10 x0 x1 x2))))) (kB arg5.view (harg5.unread x2) ![0, 128 * (2 : Fin 8).val] (by decide)) (accN (att (p256 2 (arg10.view.read (Elt F) (f3C c i arg3 harg3 arg4 harg4 arg5 harg5 arg6 harg6 arg7 harg7 arg8 harg8 arg9 harg9 arg10 harg10 x0 x1 x2))) (suf k0_pay567 (sp (p256 2 (arg10.view.read (Elt F) (f3C c i arg3 harg3 arg4 harg4 arg5 harg5 arg6 harg6 arg7 harg7 arg8 harg8 arg9 harg9 arg10 harg10 x0 x1 x2))))) (p128 2 (arg7.view.read (Elt F) (f0C c i arg3 harg3 arg4 harg4 arg5 harg5 arg6 harg6 arg7 harg7 arg8 harg8 arg9 harg9 arg10 harg10 x0 x1 x2)))) (kB arg5.view (harg5.unread x2) ![256, 128 * (2 : Fin 8).val] (by decide)) (p128 2 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay673]
  try simp only [cast128, cast256, fold_sc, fold_sp, fold_masked, fold_suf, fold_att, fold_carN, fold_accN]
  simp only [kernelRun0_C.sl.v586, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1281, kernelRun0_C.sl.v1278, kernelRun0_C.sl.v1277, kernelRun0_C.sl.cst_509, kernelRun0_C.sl.v1276, kernelRun0_C.sl.v1273, kernelRun0_C.sl.v1216, kernelRun0_C.sl.v1215, kernelRun0_C.sl.v1214, kernelRun0_C.sl.v1194, kernelRun0_C.sl.v1213, kernelRun0_C.sl.r_111, kernelRun0_C.sl.r_101, kernelRun0_C.sl.r_100, kernelRun0_C.sl.v1034, kernelRun0_C.sl.r_99, kernelRun0_C.sl.v1272, k0_pay440, k0_pay441, k0_pay442, k0_pay443, k0_pay454, k0_pay668]
  try simp only [cast128, cast256, fold_sc, fold_sp, fold_masked, fold_suf, fold_att, fold_carN, fold_accN]
  simp only [kernelRun0_C.sl.v1193, kernelRun0_C.sl.v1033, kernelRun0_C.sl.v1271, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v936, kernelRun0_C.sl.v933, kernelRun0_C.sl.v932, kernelRun0_C.sl.cst_509, kernelRun0_C.sl.v931, kernelRun0_C.sl.v928, kernelRun0_C.sl.v871, kernelRun0_C.sl.v870, kernelRun0_C.sl.v869, kernelRun0_C.sl.v849, kernelRun0_C.sl.v868, kernelRun0_C.sl.r_88, kernelRun0_C.sl.r_77, kernelRun0_C.sl.r_76, kernelRun0_C.sl.v689, kernelRun0_C.sl.r_75, kernelRun0_C.sl.v927, kernelRun0_C.sl.v637, kernelRun0_C.sl.v634, kernelRun0_C.sl.cst_363, kernelRun0_C.sl.v633, kernelRun0_C.sl.v630, kernelRun0_C.sl.v942, kernelRun0_C.sl.v939, kernelRun0_C.sl.v938, kernelRun0_C.sl.v937, k0_pay369, k0_pay370, k0_pay371, k0_pay382]
  try simp only [cast128, cast256, fold_sc, fold_sp, fold_masked, fold_suf, fold_att, fold_carN, fold_accN]
  simp only [kernelRun0_C.sl.v848, kernelRun0_C.sl.v688, kernelRun0_C.sl.v926, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_3 (hc0 : cond0_0 i) (hc1 : ¬cond0_1 i) : oP 3 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 3) (kB arg4.view (harg4.unread x1) ![0, 128 * (3 : Fin 8).val] (by decide))) (suf k0_pay567 (sp (sc (qB arg3.view (harg3.unread x0) 3) (kB arg4.view (harg4.unread x1) ![0, 128 * (3 : Fin 8).val] (by decide))))) (carN (suf k0_pay567 (sp (p256 3 (arg10.view.read (Elt F) (f3C c i arg3 harg3 arg4 harg4 arg5 harg5 arg6 harg6 arg7 harg7 arg8 harg8 arg9 harg9 arg10 harg10 x0 x1 x2))))) (p128 3 (arg7.view.read (Elt F) (f0C c i arg3 harg3 arg4 harg4 arg5 harg5 arg6 harg6 arg7 harg7 arg8 harg8 arg9 harg9 arg10 harg10 x0 x1 x2))))) (kB arg5.view (harg5.unread x2) ![0, 128 * (3 : Fin 8).val] (by decide)) (accN (att (p256 3 (arg10.view.read (Elt F) (f3C c i arg3 harg3 arg4 harg4 arg5 harg5 arg6 harg6 arg7 harg7 arg8 harg8 arg9 harg9 arg10 harg10 x0 x1 x2))) (suf k0_pay567 (sp (p256 3 (arg10.view.read (Elt F) (f3C c i arg3 harg3 arg4 harg4 arg5 harg5 arg6 harg6 arg7 harg7 arg8 harg8 arg9 harg9 arg10 harg10 x0 x1 x2))))) (p128 3 (arg7.view.read (Elt F) (f0C c i arg3 harg3 arg4 harg4 arg5 harg5 arg6 harg6 arg7 harg7 arg8 harg8 arg9 harg9 arg10 harg10 x0 x1 x2)))) (kB arg5.view (harg5.unread x2) ![256, 128 * (3 : Fin 8).val] (by decide)) (p128 3 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay674]
  try simp only [cast128, cast256, fold_sc, fold_sp, fold_masked, fold_suf, fold_att, fold_carN, fold_accN]
  simp only [kernelRun0_C.sl.v590, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1298, kernelRun0_C.sl.v1295, kernelRun0_C.sl.v1294, kernelRun0_C.sl.cst_509, kernelRun0_C.sl.v1293, kernelRun0_C.sl.v1290, kernelRun0_C.sl.v1220, kernelRun0_C.sl.v1219, kernelRun0_C.sl.v1218, kernelRun0_C.sl.v1196, kernelRun0_C.sl.v1217, kernelRun0_C.sl.r_112, kernelRun0_C.sl.r_102, kernelRun0_C.sl.r_92, kernelRun0_C.sl.v1036, kernelRun0_C.sl.v1289, k0_pay433, k0_pay444, k0_pay455, k0_pay668]
  try simp only [cast128, cast256, fold_sc, fold_sp, fold_masked, fold_suf, fold_att, fold_carN, fold_accN]
  simp only [kernelRun0_C.sl.v1195, kernelRun0_C.sl.v1035, kernelRun0_C.sl.v1288, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v953, kernelRun0_C.sl.v950, kernelRun0_C.sl.v949, kernelRun0_C.sl.cst_509, kernelRun0_C.sl.v948, kernelRun0_C.sl.v945, kernelRun0_C.sl.v875, kernelRun0_C.sl.v874, kernelRun0_C.sl.v873, kernelRun0_C.sl.v851, kernelRun0_C.sl.v872, kernelRun0_C.sl.r_89, kernelRun0_C.sl.r_78, kernelRun0_C.sl.r_68, kernelRun0_C.sl.v691, kernelRun0_C.sl.v944, kernelRun0_C.sl.v646, kernelRun0_C.sl.v643, kernelRun0_C.sl.cst_363, kernelRun0_C.sl.v642, kernelRun0_C.sl.r_67, kernelRun0_C.sl.v639, kernelRun0_C.sl.v959, kernelRun0_C.sl.v956, kernelRun0_C.sl.v955, kernelRun0_C.sl.v954, k0_pay362, k0_pay372, k0_pay383]
  try simp only [cast128, cast256, fold_sc, fold_sp, fold_masked, fold_suf, fold_att, fold_carN, fold_accN]
  simp only [kernelRun0_C.sl.v850, kernelRun0_C.sl.v690, kernelRun0_C.sl.v943, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_4 (hc0 : cond0_0 i) (hc1 : ¬cond0_1 i) : oP 4 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 4) (kB arg4.view (harg4.unread x1) ![0, 128 * (4 : Fin 8).val] (by decide))) (suf k0_pay567 (sp (sc (qB arg3.view (harg3.unread x0) 4) (kB arg4.view (harg4.unread x1) ![0, 128 * (4 : Fin 8).val] (by decide))))) (carN (suf k0_pay567 (sp (p256 4 (arg10.view.read (Elt F) (f3C c i arg3 harg3 arg4 harg4 arg5 harg5 arg6 harg6 arg7 harg7 arg8 harg8 arg9 harg9 arg10 harg10 x0 x1 x2))))) (p128 4 (arg7.view.read (Elt F) (f0C c i arg3 harg3 arg4 harg4 arg5 harg5 arg6 harg6 arg7 harg7 arg8 harg8 arg9 harg9 arg10 harg10 x0 x1 x2))))) (kB arg5.view (harg5.unread x2) ![0, 128 * (4 : Fin 8).val] (by decide)) (accN (att (p256 4 (arg10.view.read (Elt F) (f3C c i arg3 harg3 arg4 harg4 arg5 harg5 arg6 harg6 arg7 harg7 arg8 harg8 arg9 harg9 arg10 harg10 x0 x1 x2))) (suf k0_pay567 (sp (p256 4 (arg10.view.read (Elt F) (f3C c i arg3 harg3 arg4 harg4 arg5 harg5 arg6 harg6 arg7 harg7 arg8 harg8 arg9 harg9 arg10 harg10 x0 x1 x2))))) (p128 4 (arg7.view.read (Elt F) (f0C c i arg3 harg3 arg4 harg4 arg5 harg5 arg6 harg6 arg7 harg7 arg8 harg8 arg9 harg9 arg10 harg10 x0 x1 x2)))) (kB arg5.view (harg5.unread x2) ![256, 128 * (4 : Fin 8).val] (by decide)) (p128 4 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay675]
  try simp only [cast128, cast256, fold_sc, fold_sp, fold_masked, fold_suf, fold_att, fold_carN, fold_accN]
  simp only [kernelRun0_C.sl.v594, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1315, kernelRun0_C.sl.v1312, kernelRun0_C.sl.v1311, kernelRun0_C.sl.cst_509, kernelRun0_C.sl.v1310, kernelRun0_C.sl.v1307, kernelRun0_C.sl.v1224, kernelRun0_C.sl.v1223, kernelRun0_C.sl.v1222, kernelRun0_C.sl.v1198, kernelRun0_C.sl.v1221, kernelRun0_C.sl.r_113, kernelRun0_C.sl.r_103, kernelRun0_C.sl.r_93, kernelRun0_C.sl.v1038, kernelRun0_C.sl.v1306, k0_pay434, k0_pay445, k0_pay456, k0_pay668]
  try simp only [cast128, cast256, fold_sc, fold_sp, fold_masked, fold_suf, fold_att, fold_carN, fold_accN]
  simp only [kernelRun0_C.sl.v1197, kernelRun0_C.sl.v1037, kernelRun0_C.sl.v1305, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v970, kernelRun0_C.sl.v967, kernelRun0_C.sl.v966, kernelRun0_C.sl.cst_509, kernelRun0_C.sl.v965, kernelRun0_C.sl.v962, kernelRun0_C.sl.v879, kernelRun0_C.sl.v878, kernelRun0_C.sl.v877, kernelRun0_C.sl.v853, kernelRun0_C.sl.v876, kernelRun0_C.sl.r_90, kernelRun0_C.sl.r_79, kernelRun0_C.sl.r_69, kernelRun0_C.sl.v693, kernelRun0_C.sl.v961, kernelRun0_C.sl.v655, kernelRun0_C.sl.v652, kernelRun0_C.sl.cst_363, kernelRun0_C.sl.v651, kernelRun0_C.sl.v648, kernelRun0_C.sl.v976, kernelRun0_C.sl.v973, kernelRun0_C.sl.v972, kernelRun0_C.sl.v971, k0_pay363, k0_pay373, k0_pay384]
  try simp only [cast128, cast256, fold_sc, fold_sp, fold_masked, fold_suf, fold_att, fold_carN, fold_accN]
  simp only [kernelRun0_C.sl.v852, kernelRun0_C.sl.v692, kernelRun0_C.sl.v960, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_5 (hc0 : cond0_0 i) (hc1 : ¬cond0_1 i) : oP 5 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 5) (kB arg4.view (harg4.unread x1) ![0, 128 * (5 : Fin 8).val] (by decide))) (suf k0_pay567 (sp (sc (qB arg3.view (harg3.unread x0) 5) (kB arg4.view (harg4.unread x1) ![0, 128 * (5 : Fin 8).val] (by decide))))) (carN (suf k0_pay567 (sp (p256 5 (arg10.view.read (Elt F) (f3C c i arg3 harg3 arg4 harg4 arg5 harg5 arg6 harg6 arg7 harg7 arg8 harg8 arg9 harg9 arg10 harg10 x0 x1 x2))))) (p128 5 (arg7.view.read (Elt F) (f0C c i arg3 harg3 arg4 harg4 arg5 harg5 arg6 harg6 arg7 harg7 arg8 harg8 arg9 harg9 arg10 harg10 x0 x1 x2))))) (kB arg5.view (harg5.unread x2) ![0, 128 * (5 : Fin 8).val] (by decide)) (accN (att (p256 5 (arg10.view.read (Elt F) (f3C c i arg3 harg3 arg4 harg4 arg5 harg5 arg6 harg6 arg7 harg7 arg8 harg8 arg9 harg9 arg10 harg10 x0 x1 x2))) (suf k0_pay567 (sp (p256 5 (arg10.view.read (Elt F) (f3C c i arg3 harg3 arg4 harg4 arg5 harg5 arg6 harg6 arg7 harg7 arg8 harg8 arg9 harg9 arg10 harg10 x0 x1 x2))))) (p128 5 (arg7.view.read (Elt F) (f0C c i arg3 harg3 arg4 harg4 arg5 harg5 arg6 harg6 arg7 harg7 arg8 harg8 arg9 harg9 arg10 harg10 x0 x1 x2)))) (kB arg5.view (harg5.unread x2) ![256, 128 * (5 : Fin 8).val] (by decide)) (p128 5 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay676]
  try simp only [cast128, cast256, fold_sc, fold_sp, fold_masked, fold_suf, fold_att, fold_carN, fold_accN]
  simp only [kernelRun0_C.sl.v598, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1332, kernelRun0_C.sl.v1329, kernelRun0_C.sl.v1328, kernelRun0_C.sl.cst_509, kernelRun0_C.sl.v1327, kernelRun0_C.sl.v1324, kernelRun0_C.sl.v1228, kernelRun0_C.sl.v1227, kernelRun0_C.sl.v1226, kernelRun0_C.sl.v1200, kernelRun0_C.sl.v1225, kernelRun0_C.sl.r_114, kernelRun0_C.sl.r_104, kernelRun0_C.sl.r_94, kernelRun0_C.sl.v1040, kernelRun0_C.sl.v1323, k0_pay435, k0_pay446, k0_pay457, k0_pay668]
  try simp only [cast128, cast256, fold_sc, fold_sp, fold_masked, fold_suf, fold_att, fold_carN, fold_accN]
  simp only [kernelRun0_C.sl.v1199, kernelRun0_C.sl.v1039, kernelRun0_C.sl.v1322, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v987, kernelRun0_C.sl.v984, kernelRun0_C.sl.v983, kernelRun0_C.sl.cst_509, kernelRun0_C.sl.v982, kernelRun0_C.sl.v979, kernelRun0_C.sl.v883, kernelRun0_C.sl.v882, kernelRun0_C.sl.v881, kernelRun0_C.sl.v855, kernelRun0_C.sl.v880, kernelRun0_C.sl.r_91, kernelRun0_C.sl.r_80, kernelRun0_C.sl.r_70, kernelRun0_C.sl.v695, kernelRun0_C.sl.v978, kernelRun0_C.sl.v664, kernelRun0_C.sl.v661, kernelRun0_C.sl.cst_363, kernelRun0_C.sl.v660, kernelRun0_C.sl.v657, kernelRun0_C.sl.v993, kernelRun0_C.sl.v990, kernelRun0_C.sl.v989, kernelRun0_C.sl.v988, k0_pay364, k0_pay374, k0_pay385]
  try simp only [cast128, cast256, fold_sc, fold_sp, fold_masked, fold_suf, fold_att, fold_carN, fold_accN]
  simp only [kernelRun0_C.sl.v854, kernelRun0_C.sl.v694, kernelRun0_C.sl.v977, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_6 (hc0 : cond0_0 i) (hc1 : ¬cond0_1 i) : oP 6 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 6) (kB arg4.view (harg4.unread x1) ![0, 128 * (6 : Fin 8).val] (by decide))) (suf k0_pay567 (sp (sc (qB arg3.view (harg3.unread x0) 6) (kB arg4.view (harg4.unread x1) ![0, 128 * (6 : Fin 8).val] (by decide))))) (carN (suf k0_pay567 (sp (p256 6 (arg10.view.read (Elt F) (f3C c i arg3 harg3 arg4 harg4 arg5 harg5 arg6 harg6 arg7 harg7 arg8 harg8 arg9 harg9 arg10 harg10 x0 x1 x2))))) (p128 6 (arg7.view.read (Elt F) (f0C c i arg3 harg3 arg4 harg4 arg5 harg5 arg6 harg6 arg7 harg7 arg8 harg8 arg9 harg9 arg10 harg10 x0 x1 x2))))) (kB arg5.view (harg5.unread x2) ![0, 128 * (6 : Fin 8).val] (by decide)) (accN (att (p256 6 (arg10.view.read (Elt F) (f3C c i arg3 harg3 arg4 harg4 arg5 harg5 arg6 harg6 arg7 harg7 arg8 harg8 arg9 harg9 arg10 harg10 x0 x1 x2))) (suf k0_pay567 (sp (p256 6 (arg10.view.read (Elt F) (f3C c i arg3 harg3 arg4 harg4 arg5 harg5 arg6 harg6 arg7 harg7 arg8 harg8 arg9 harg9 arg10 harg10 x0 x1 x2))))) (p128 6 (arg7.view.read (Elt F) (f0C c i arg3 harg3 arg4 harg4 arg5 harg5 arg6 harg6 arg7 harg7 arg8 harg8 arg9 harg9 arg10 harg10 x0 x1 x2)))) (kB arg5.view (harg5.unread x2) ![256, 128 * (6 : Fin 8).val] (by decide)) (p128 6 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay1]
  try simp only [cast128, cast256, fold_sc, fold_sp, fold_masked, fold_suf, fold_att, fold_carN, fold_accN]
  simp only [kernelRun0_C.sl.v602, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1349, kernelRun0_C.sl.v1346, kernelRun0_C.sl.v1345, kernelRun0_C.sl.cst_509, kernelRun0_C.sl.v1344, kernelRun0_C.sl.v1341, kernelRun0_C.sl.v1232, kernelRun0_C.sl.v1231, kernelRun0_C.sl.v1230, kernelRun0_C.sl.v1202, kernelRun0_C.sl.v1229, kernelRun0_C.sl.r_115, kernelRun0_C.sl.r_105, kernelRun0_C.sl.r_95, kernelRun0_C.sl.v1042, kernelRun0_C.sl.v1340, k0_pay436, k0_pay447, k0_pay458, k0_pay668]
  try simp only [cast128, cast256, fold_sc, fold_sp, fold_masked, fold_suf, fold_att, fold_carN, fold_accN]
  simp only [kernelRun0_C.sl.v1201, kernelRun0_C.sl.v1041, kernelRun0_C.sl.v1339, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1004, kernelRun0_C.sl.v1001, kernelRun0_C.sl.v1000, kernelRun0_C.sl.cst_509, kernelRun0_C.sl.v999, kernelRun0_C.sl.v996, kernelRun0_C.sl.v887, kernelRun0_C.sl.v886, kernelRun0_C.sl.v885, kernelRun0_C.sl.v857, kernelRun0_C.sl.v884, kernelRun0_C.sl.v842, kernelRun0_C.sl.cst_363, kernelRun0_C.sl.r_84, kernelRun0_C.sl.r_81, kernelRun0_C.sl.r_71, kernelRun0_C.sl.v697, kernelRun0_C.sl.v995, kernelRun0_C.sl.v673, kernelRun0_C.sl.v670, kernelRun0_C.sl.v669, kernelRun0_C.sl.v666, kernelRun0_C.sl.v1010, kernelRun0_C.sl.v1007, kernelRun0_C.sl.v1006, kernelRun0_C.sl.v1005, k0_pay365, k0_pay375, k0_pay378]
  try simp only [cast128, cast256, fold_sc, fold_sp, fold_masked, fold_suf, fold_att, fold_carN, fold_accN]
  simp only [kernelRun0_C.sl.v856, kernelRun0_C.sl.v696, kernelRun0_C.sl.v994, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

theorem outC_7 (hc0 : cond0_0 i) (hc1 : ¬cond0_1 i) : oP 7 (out0_C_3 c i arg3 harg3 arg4 harg4 arg5 harg5 arg6 harg6 arg7 harg7 arg8 harg8 arg9 harg9 arg10 harg10 hc0 hc1 x0 x1 x2)
    = truncf .bf16 (accN (att (sc (qB arg3.view (harg3.unread x0) 7) (kB arg4.view (harg4.unread x1) ![0, 128 * (7 : Fin 8).val] (by decide))) (suf k0_pay567 (sp (sc (qB arg3.view (harg3.unread x0) 7) (kB arg4.view (harg4.unread x1) ![0, 128 * (7 : Fin 8).val] (by decide))))) (carN (suf k0_pay567 (sp (p256 7 (arg10.view.read (Elt F) (f3C c i arg3 harg3 arg4 harg4 arg5 harg5 arg6 harg6 arg7 harg7 arg8 harg8 arg9 harg9 arg10 harg10 x0 x1 x2))))) (p128 7 (arg7.view.read (Elt F) (f0C c i arg3 harg3 arg4 harg4 arg5 harg5 arg6 harg6 arg7 harg7 arg8 harg8 arg9 harg9 arg10 harg10 x0 x1 x2))))) (kB arg5.view (harg5.unread x2) ![0, 128 * (7 : Fin 8).val] (by decide)) (accN (att (p256 7 (arg10.view.read (Elt F) (f3C c i arg3 harg3 arg4 harg4 arg5 harg5 arg6 harg6 arg7 harg7 arg8 harg8 arg9 harg9 arg10 harg10 x0 x1 x2))) (suf k0_pay567 (sp (p256 7 (arg10.view.read (Elt F) (f3C c i arg3 harg3 arg4 harg4 arg5 harg5 arg6 harg6 arg7 harg7 arg8 harg8 arg9 harg9 arg10 harg10 x0 x1 x2))))) (p128 7 (arg7.view.read (Elt F) (f0C c i arg3 harg3 arg4 harg4 arg5 harg5 arg6 harg6 arg7 harg7 arg8 harg8 arg9 harg9 arg10 harg10 x0 x1 x2)))) (kB arg5.view (harg5.unread x2) ![256, 128 * (7 : Fin 8).val] (by decide)) (p128 7 (arg8.view.read (Elt F) (f1C c i arg3 harg3 arg4 harg4 arg5 harg5 arg6 harg6 arg7 harg7 arg8 harg8 arg9 harg9 arg10 harg10 x0 x1 x2))))) bitsLt_bf16_f32 := by
  unfold out0_C_3 kernelRun0_C
  dsimp only
  simp (disch := first | rfl | decide) only [↓ oP_miss, ↓ oP_hit]
  try simp only [k0_pay2]
  try simp only [cast128, cast256, fold_sc, fold_sp, fold_masked, fold_suf, fold_att, fold_carN, fold_accN]
  simp only [kernelRun0_C.sl.v606, kernelRun0_C.sl.HS1_16, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1363, kernelRun0_C.sl.v1362, kernelRun0_C.sl.cst_509, kernelRun0_C.sl.v1361, kernelRun0_C.sl.v1358, kernelRun0_C.sl.v1236, kernelRun0_C.sl.v1235, kernelRun0_C.sl.v1234, kernelRun0_C.sl.v1204, kernelRun0_C.sl.v1233, kernelRun0_C.sl.v1188, kernelRun0_C.sl.cst_363, kernelRun0_C.sl.r_108, kernelRun0_C.sl.r_107, kernelRun0_C.sl.r_96, kernelRun0_C.sl.v1044, kernelRun0_C.sl.r_106, kernelRun0_C.sl.v1357, k0_pay437, k0_pay448, k0_pay449, k0_pay450, k0_pay451, k0_pay668]
  try simp only [cast128, cast256, fold_sc, fold_sp, fold_masked, fold_suf, fold_att, fold_carN, fold_accN]
  simp only [kernelRun0_C.sl.v1203, kernelRun0_C.sl.v1043, kernelRun0_C.sl.v1356, kernelRun0_C.sl.HS0_8, kernelRun0_C.sl.HS0_7, kernelRun0_C.sl.HS0_6, kernelRun0_C.sl.HS0_5, kernelRun0_C.sl.HS0_4, kernelRun0_C.sl.HS0_3, kernelRun0_C.sl.HS0_2, kernelRun0_C.sl.HS0_1_1, kernelRun0_C.sl.HS2_8_1, kernelRun0_C.sl.HS2_7, kernelRun0_C.sl.HS2_6, kernelRun0_C.sl.HS2_5, kernelRun0_C.sl.HS2_4, kernelRun0_C.sl.HS2_3, kernelRun0_C.sl.HS2_2, kernelRun0_C.sl.HS2_1, kernelRun0_C.sl.HS1_15, kernelRun0_C.sl.HS1_14, kernelRun0_C.sl.HS1_13, kernelRun0_C.sl.HS1_12, kernelRun0_C.sl.HS1_11, kernelRun0_C.sl.HS1_10, kernelRun0_C.sl.HS1_9_1, kernelRun0_C.sl.HS1_8_1, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  try simp only [kernelRun0_C.sl.v1021, kernelRun0_C.sl.v1018, kernelRun0_C.sl.v1017, kernelRun0_C.sl.cst_509, kernelRun0_C.sl.v1016, kernelRun0_C.sl.v1013, kernelRun0_C.sl.v891, kernelRun0_C.sl.v890, kernelRun0_C.sl.v889, kernelRun0_C.sl.v859, kernelRun0_C.sl.v888, kernelRun0_C.sl.v843, kernelRun0_C.sl.cst_363, kernelRun0_C.sl.r_85, kernelRun0_C.sl.r_83, kernelRun0_C.sl.r_72, kernelRun0_C.sl.v699, kernelRun0_C.sl.r_82, kernelRun0_C.sl.v1012, kernelRun0_C.sl.v682, kernelRun0_C.sl.v679, kernelRun0_C.sl.v678, kernelRun0_C.sl.v675, kernelRun0_C.sl.v1027, kernelRun0_C.sl.v1024, kernelRun0_C.sl.v1023, kernelRun0_C.sl.v1022, k0_pay366, k0_pay376, k0_pay377, k0_pay379]
  try simp only [cast128, cast256, fold_sc, fold_sp, fold_masked, fold_suf, fold_att, fold_carN, fold_accN]
  simp only [kernelRun0_C.sl.v858, kernelRun0_C.sl.v698, kernelRun0_C.sl.v1011, kernelRun0_C.sl.HS1_7_1, kernelRun0_C.sl.HS1_6_1, kernelRun0_C.sl.HS1_5_1, kernelRun0_C.sl.HS1_4_1, kernelRun0_C.sl.HS1_3_1, kernelRun0_C.sl.HS1_2_1, kernelRun0_C.sl.HS1_1_1]
  simp (disch := first | exact pb2_trips _ | rfl | decide) only [pb2, List.nil_append, ↓ View.readCov_skip, ↓ View.readCov_cons_toLoadRect, ↓ View.readCov_fill]
  unfold f0C f1C f3C g0C g1C g3C
  simp only [← View.writes_append]
  rfl

end Cert.KernelIdeal.SB

end
-- ==== Proof.Blocks.lean ====
/-
  The kernel's runs in terms of its input blocks: at row block `qi` a head's output is what is left after consuming the
  blocks of keys `qi, qi - 1, …, 0` one after the other.
-/
module

public import proofs.«01_k».proof.Proof.Trip
public import Idealize.ShloMosaic.Lib.Pointwise.Index
public import proofs.«01_k».proof.Proof.RunA
public import proofs.«01_k».proof.Proof.RunC

@[expose] public section

set_option maxRecDepth 8192

noncomputable section

namespace Cert.KernelIdeal.SB

open Cert.KernelIdeal Cert.KernelIdeal.Gen Idealize.ShloMosaic Idealize.ShloMosaic.TcCoe
open Idealize.SL.Sem

variable {F : FTy → Type} [FloatOps F] [Named F]

/-- The queries of head `h` in a block of rows. -/
def qX (x : Vec F S256x1024 .bf16) (h : Fin 8) : FVec F S256x128 .bf16 := fun j =>
  x (ix2 ⟨(j 0).val, (j 0).isLt⟩ ⟨128 * h.val + (j 1).val, by have h1 : (j 1).val < 128 := (j 1).isLt; have := h.isLt; omega⟩)

/-- Block `b` of the keys, or values, of head `h`. -/
def kX (x : Vec F S4096x1024 .bf16) (b : ℕ) (h : Fin 8) : FVec F S256x128 .bf16 := fun j =>
  x (ix2 ⟨(256 * b + (j 0).val) % 4096, Nat.mod_lt _ (by decide)⟩ ⟨128 * h.val + (j 1).val, by have h1 : (j 1).val < 128 := (j 1).isLt; have := h.isLt; omega⟩)

theorem qB_eq (arg : Memref sig .tc .vmem S256x1024 .bf16) (harg : arg.IsWhole) (x : Vec F S256x1024 .bf16) (h : Fin 8) :
    qB arg.view (harg.unread x) h = qX x h := by
  unfold qB
  refine (shapeCast_self _ _).trans ?_
  rw [View.readAt_eq_ld, Memref.IsWhole.read_unread]
  funext j
  refine congrArg x ?_
  funext a
  refine Fin.ext ?_
  fin_cases a
  · show 0 + 1 * (j 0).val = (j 0).val; omega
  · show 128 * h.val + 1 * (j 1).val = 128 * h.val + (j 1).val; omega

theorem kB_eq (arg : Memref sig .tc .vmem S4096x1024 .bf16) (harg : arg.IsWhole) (x : Vec F S4096x1024 .bf16) (off : Fin 2 → ℕ)
    (inb : ∀ a : Fin 2, off a + S256x128.size a ≤ S4096x1024.size a) (b : ℕ) (h : Fin 8) (ho : off = ![256 * b, 128 * h.val]) :
    kB arg.view (harg.unread x) off inb = kX x b h := by
  subst ho
  unfold kB
  refine (shapeCast_self _ _).trans ?_
  rw [View.readAt_eq_ld, Memref.IsWhole.read_unread]
  funext j
  have hb : 256 * b + 256 ≤ 4096 := inb 0
  have hj : (j 0).val < 256 := (j 0).isLt
  refine congrArg x ?_
  funext a
  refine Fin.ext ?_
  fin_cases a
  · show 256 * b + 1 * (j 0).val = (256 * b + (j 0).val) % 4096
    rw [Nat.mod_eq_of_lt (by omega)]; omega
  · show 128 * h.val + 1 * (j 1).val = 128 * h.val + (j 1).val; omega

/-- A statement about each of the eight heads. -/
theorem all8 {P : Fin 8 → Prop} (h0 : P 0) (h1 : P 1) (h2 : P 2) (h3 : P 3) (h4 : P 4) (h5 : P 5) (h6 : P 6) (h7 : P 7) : ∀ h, P h := by
  intro h
  fin_cases h
  · exact h0
  · exact h1
  · exact h2
  · exact h3
  · exact h4
  · exact h5
  · exact h6
  · exact h7

/-! ## Where the body's blocks of keys and values lie -/

theorem offD0 : ∀ i : grid0.Coords, k0_off1 i = ![256 * (i 2).val, 128 * (0 : Fin 8).val] := by decide +kernel
theorem offP0 : ∀ i : grid0.Coords, k0_off9 i = ![256 * ((i 2).val - 1), 128 * (0 : Fin 8).val] := by decide +kernel
theorem offA0 : ∀ (i : grid0.Coords) (k : Fin (k0_t1_loop i).trips), k0_off17 i k 1#32 = ![256 * ((i 2).val - 1 - (2 * k.val + 1)), 128 * (0 : Fin 8).val] := by decide +kernel
theorem offB0 : ∀ (i : grid0.Coords) (k : Fin (k0_t1_loop i).trips), k0_off17 i k 2#32 = ![256 * ((i 2).val - 1 - (2 * k.val + 2)), 128 * (0 : Fin 8).val] := by decide +kernel
theorem offC0 : ∀ (i : grid0.Coords) (k : Fin (k0_t1_loop i).trips), k0_off25 i k = ![256 * ((i 2).val - 1 - 2 * k.val), 128 * (0 : Fin 8).val] := by decide +kernel
theorem offD1 : ∀ i : grid0.Coords, k0_off2 i = ![256 * (i 2).val, 128 * (1 : Fin 8).val] := by decide +kernel
theorem offP1 : ∀ i : grid0.Coords, k0_off10 i = ![256 * ((i 2).val - 1), 128 * (1 : Fin 8).val] := by decide +kernel
theorem offA1 : ∀ (i : grid0.Coords) (k : Fin (k0_t1_loop i).trips), k0_off18 i k 1#32 = ![256 * ((i 2).val - 1 - (2 * k.val + 1)), 128 * (1 : Fin 8).val] := by decide +kernel
theorem offB1 : ∀ (i : grid0.Coords) (k : Fin (k0_t1_loop i).trips), k0_off18 i k 2#32 = ![256 * ((i 2).val - 1 - (2 * k.val + 2)), 128 * (1 : Fin 8).val] := by decide +kernel
theorem offC1 : ∀ (i : grid0.Coords) (k : Fin (k0_t1_loop i).trips), k0_off26 i k = ![256 * ((i 2).val - 1 - 2 * k.val), 128 * (1 : Fin 8).val] := by decide +kernel
theorem offD2 : ∀ i : grid0.Coords, k0_off3 i = ![256 * (i 2).val, 128 * (2 : Fin 8).val] := by decide +kernel
theorem offP2 : ∀ i : grid0.Coords, k0_off11 i = ![256 * ((i 2).val - 1), 128 * (2 : Fin 8).val] := by decide +kernel
theorem offA2 : ∀ (i : grid0.Coords) (k : Fin (k0_t1_loop i).trips), k0_off19 i k 1#32 = ![256 * ((i 2).val - 1 - (2 * k.val + 1)), 128 * (2 : Fin 8).val] := by decide +kernel
theorem offB2 : ∀ (i : grid0.Coords) (k : Fin (k0_t1_loop i).trips), k0_off19 i k 2#32 = ![256 * ((i 2).val - 1 - (2 * k.val + 2)), 128 * (2 : Fin 8).val] := by decide +kernel
theorem offC2 : ∀ (i : grid0.Coords) (k : Fin (k0_t1_loop i).trips), k0_off27 i k = ![256 * ((i 2).val - 1 - 2 * k.val), 128 * (2 : Fin 8).val] := by decide +kernel
theorem offD3 : ∀ i : grid0.Coords, k0_off4 i = ![256 * (i 2).val, 128 * (3 : Fin 8).val] := by decide +kernel
theorem offP3 : ∀ i : grid0.Coords, k0_off12 i = ![256 * ((i 2).val - 1), 128 * (3 : Fin 8).val] := by decide +kernel
theorem offA3 : ∀ (i : grid0.Coords) (k : Fin (k0_t1_loop i).trips), k0_off20 i k 1#32 = ![256 * ((i 2).val - 1 - (2 * k.val + 1)), 128 * (3 : Fin 8).val] := by decide +kernel
theorem offB3 : ∀ (i : grid0.Coords) (k : Fin (k0_t1_loop i).trips), k0_off20 i k 2#32 = ![256 * ((i 2).val - 1 - (2 * k.val + 2)), 128 * (3 : Fin 8).val] := by decide +kernel
theorem offC3 : ∀ (i : grid0.Coords) (k : Fin (k0_t1_loop i).trips), k0_off28 i k = ![256 * ((i 2).val - 1 - 2 * k.val), 128 * (3 : Fin 8).val] := by decide +kernel
theorem offD4 : ∀ i : grid0.Coords, k0_off5 i = ![256 * (i 2).val, 128 * (4 : Fin 8).val] := by decide +kernel
theorem offP4 : ∀ i : grid0.Coords, k0_off13 i = ![256 * ((i 2).val - 1), 128 * (4 : Fin 8).val] := by decide +kernel
theorem offA4 : ∀ (i : grid0.Coords) (k : Fin (k0_t1_loop i).trips), k0_off21 i k 1#32 = ![256 * ((i 2).val - 1 - (2 * k.val + 1)), 128 * (4 : Fin 8).val] := by decide +kernel
theorem offB4 : ∀ (i : grid0.Coords) (k : Fin (k0_t1_loop i).trips), k0_off21 i k 2#32 = ![256 * ((i 2).val - 1 - (2 * k.val + 2)), 128 * (4 : Fin 8).val] := by decide +kernel
theorem offC4 : ∀ (i : grid0.Coords) (k : Fin (k0_t1_loop i).trips), k0_off29 i k = ![256 * ((i 2).val - 1 - 2 * k.val), 128 * (4 : Fin 8).val] := by decide +kernel
theorem offD5 : ∀ i : grid0.Coords, k0_off6 i = ![256 * (i 2).val, 128 * (5 : Fin 8).val] := by decide +kernel
theorem offP5 : ∀ i : grid0.Coords, k0_off14 i = ![256 * ((i 2).val - 1), 128 * (5 : Fin 8).val] := by decide +kernel
theorem offA5 : ∀ (i : grid0.Coords) (k : Fin (k0_t1_loop i).trips), k0_off22 i k 1#32 = ![256 * ((i 2).val - 1 - (2 * k.val + 1)), 128 * (5 : Fin 8).val] := by decide +kernel
theorem offB5 : ∀ (i : grid0.Coords) (k : Fin (k0_t1_loop i).trips), k0_off22 i k 2#32 = ![256 * ((i 2).val - 1 - (2 * k.val + 2)), 128 * (5 : Fin 8).val] := by decide +kernel
theorem offC5 : ∀ (i : grid0.Coords) (k : Fin (k0_t1_loop i).trips), k0_off30 i k = ![256 * ((i 2).val - 1 - 2 * k.val), 128 * (5 : Fin 8).val] := by decide +kernel
theorem offD6 : ∀ i : grid0.Coords, k0_off7 i = ![256 * (i 2).val, 128 * (6 : Fin 8).val] := by decide +kernel
theorem offP6 : ∀ i : grid0.Coords, k0_off15 i = ![256 * ((i 2).val - 1), 128 * (6 : Fin 8).val] := by decide +kernel
theorem offA6 : ∀ (i : grid0.Coords) (k : Fin (k0_t1_loop i).trips), k0_off23 i k 1#32 = ![256 * ((i 2).val - 1 - (2 * k.val + 1)), 128 * (6 : Fin 8).val] := by decide +kernel
theorem offB6 : ∀ (i : grid0.Coords) (k : Fin (k0_t1_loop i).trips), k0_off23 i k 2#32 = ![256 * ((i 2).val - 1 - (2 * k.val + 2)), 128 * (6 : Fin 8).val] := by decide +kernel
theorem offC6 : ∀ (i : grid0.Coords) (k : Fin (k0_t1_loop i).trips), k0_off31 i k = ![256 * ((i 2).val - 1 - 2 * k.val), 128 * (6 : Fin 8).val] := by decide +kernel
theorem offD7 : ∀ i : grid0.Coords, k0_off8 i = ![256 * (i 2).val, 128 * (7 : Fin 8).val] := by decide +kernel
theorem offP7 : ∀ i : grid0.Coords, k0_off16 i = ![256 * ((i 2).val - 1), 128 * (7 : Fin 8).val] := by decide +kernel
theorem offA7 : ∀ (i : grid0.Coords) (k : Fin (k0_t1_loop i).trips), k0_off24 i k 1#32 = ![256 * ((i 2).val - 1 - (2 * k.val + 1)), 128 * (7 : Fin 8).val] := by decide +kernel
theorem offB7 : ∀ (i : grid0.Coords) (k : Fin (k0_t1_loop i).trips), k0_off24 i k 2#32 = ![256 * ((i 2).val - 1 - (2 * k.val + 2)), 128 * (7 : Fin 8).val] := by decide +kernel
theorem offC7 : ∀ (i : grid0.Coords) (k : Fin (k0_t1_loop i).trips), k0_off32 i k = ![256 * ((i 2).val - 1 - 2 * k.val), 128 * (7 : Fin 8).val] := by decide +kernel

/-- The loop makes one trip for each pair of blocks strictly before the row block, but the last one or two. -/
theorem trips_eq : ∀ i : grid0.Coords, (k0_t1_loop i).trips = ((i 2).val - 1) / 2 := by decide +kernel

/-! ## The sequence of blocks consumed -/

section seq

variable (x0 : Vec F S256x1024 .bf16) (x1 x2 : Vec F S4096x1024 .bf16) (h : Fin 8) (qi : ℕ)

/-- The scores of block `j`. -/
def Sc (j : ℕ) : FVec F S256x256 .f32 := sc (qX x0 h) (kX x1 j h)

/-- The suffix sums of the diagonal block. -/
def TD : FVec F S256x256 .f32 := suf k0_pay567 (masked (sp (Sc x0 x1 h qi)))

/-- The suffix sums of an earlier block. -/
def TT (j : ℕ) : FVec F S256x256 .f32 := suf k0_pay567 (sp (Sc x0 x1 h j))

/-- The carried sum after the diagonal block and `n` more. -/
def car : ℕ → FVec F S256x128 .f32
  | 0 => carN (TD x0 x1 h qi) z128
  | n + 1 => carN (TT x0 x1 h (qi - 1 - n)) (car n)

/-- The weighted sum after the diagonal block and `n` more. -/
def acc : ℕ → FVec F S256x128 .f32
  | 0 => accN (masked (att (Sc x0 x1 h qi) (TD x0 x1 h qi) z128)) (kX x2 qi h) z128
  | n + 1 => accN (att (Sc x0 x1 h (qi - 1 - n)) (TT x0 x1 h (qi - 1 - n)) (car x0 x1 h qi n)) (kX x2 (qi - 1 - n) h) (acc n)

end seq

/-! ## One trip, over all heads -/

section trip
variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (arg2 : BitVec 32) (v8 : FVec F S512x256 .bf16) (v544 : FVec F S1x256x128 .f32)
  (x0 : Vec F S256x1024 .bf16) (x1 : Vec F S4096x1024 .bf16) (x2 : Vec F S4096x1024 .bf16) (k : Fin (k0_t1_loop i).trips)
  (f_arg7 : BufTy.Contents (Elt F) arg7.view.ty) (f_arg8 : BufTy.Contents (Elt F) arg8.view.ty) (f_arg9 : BufTy.Contents (Elt F) arg9.view.ty) (f_arg10 : BufTy.Contents (Elt F) arg10.view.ty)

theorem trip7 : ∀ h : Fin 8, p128 h (arg7.view.read (Elt F) (arg7.view.writes (Elt F) f_arg7 ((trip_k0_t1 (F := F) 𝒱 c bd i arg3 harg3 arg4 harg4 arg5 harg5 arg6 harg6 arg7 harg7 arg8 harg8 arg9 harg9 arg10 harg10 arg2 v8 v544 (harg3.unread x0) (harg4.unread x1) (harg5.unread x2) k).1 f_arg7 f_arg8 f_arg9 f_arg10)))
    = carN (suf v8 (sp (Sc x0 x1 h ((i 2).val - 1 - (2 * k.val + 1))))) (carN (suf v8 (sp (p256 h (arg10.view.read (Elt F) f_arg10)))) (p128 h (arg7.view.read (Elt F) f_arg7))) := by
  unfold Sc
  refine all8 ?_ ?_ ?_ ?_ ?_ ?_ ?_ ?_
  · rw [trip7_0, qB_eq, kB_eq _ _ _ _ _ _ 0 (offA0 i k)]
  · rw [trip7_1, qB_eq, kB_eq _ _ _ _ _ _ 1 (offA1 i k)]
  · rw [trip7_2, qB_eq, kB_eq _ _ _ _ _ _ 2 (offA2 i k)]
  · rw [trip7_3, qB_eq, kB_eq _ _ _ _ _ _ 3 (offA3 i k)]
  · rw [trip7_4, qB_eq, kB_eq _ _ _ _ _ _ 4 (offA4 i k)]
  · rw [trip7_5, qB_eq, kB_eq _ _ _ _ _ _ 5 (offA5 i k)]
  · rw [trip7_6, qB_eq, kB_eq _ _ _ _ _ _ 6 (offA6 i k)]
  · rw [trip7_7, qB_eq, kB_eq _ _ _ _ _ _ 7 (offA7 i k)]

theorem trip8 : ∀ h : Fin 8, p128 h (arg8.view.read (Elt F) (arg8.view.writes (Elt F) f_arg8 ((trip_k0_t1 (F := F) 𝒱 c bd i arg3 harg3 arg4 harg4 arg5 harg5 arg6 harg6 arg7 harg7 arg8 harg8 arg9 harg9 arg10 harg10 arg2 v8 v544 (harg3.unread x0) (harg4.unread x1) (harg5.unread x2) k).2.1 f_arg7 f_arg8 f_arg9 f_arg10)))
    = accN (att (Sc x0 x1 h ((i 2).val - 1 - (2 * k.val + 1))) (suf v8 (sp (Sc x0 x1 h ((i 2).val - 1 - (2 * k.val + 1))))) (carN (suf v8 (sp (p256 h (arg10.view.read (Elt F) f_arg10)))) (p128 h (arg7.view.read (Elt F) f_arg7)))) (kX x2 ((i 2).val - 1 - (2 * k.val + 1)) h) (accN (att (p256 h (arg10.view.read (Elt F) f_arg10)) (suf v8 (sp (p256 h (arg10.view.read (Elt F) f_arg10)))) (p128 h (arg7.view.read (Elt F) f_arg7))) (kX x2 ((i 2).val - 1 - 2 * k.val) h) (p128 h (arg8.view.read (Elt F) f_arg8))) := by
  unfold Sc
  refine all8 ?_ ?_ ?_ ?_ ?_ ?_ ?_ ?_
  · rw [trip8_0, qB_eq, kB_eq _ _ _ _ _ _ 0 (offA0 i k), kB_eq _ _ _ _ _ _ 0 (offA0 i k), kB_eq _ _ _ _ _ _ 0 (offC0 i k)]
  · rw [trip8_1, qB_eq, kB_eq _ _ _ _ _ _ 1 (offA1 i k), kB_eq _ _ _ _ _ _ 1 (offA1 i k), kB_eq _ _ _ _ _ _ 1 (offC1 i k)]
  · rw [trip8_2, qB_eq, kB_eq _ _ _ _ _ _ 2 (offA2 i k), kB_eq _ _ _ _ _ _ 2 (offA2 i k), kB_eq _ _ _ _ _ _ 2 (offC2 i k)]
  · rw [trip8_3, qB_eq, kB_eq _ _ _ _ _ _ 3 (offA3 i k), kB_eq _ _ _ _ _ _ 3 (offA3 i k), kB_eq _ _ _ _ _ _ 3 (offC3 i k)]
  · rw [trip8_4, qB_eq, kB_eq _ _ _ _ _ _ 4 (offA4 i k), kB_eq _ _ _ _ _ _ 4 (offA4 i k), kB_eq _ _ _ _ _ _ 4 (offC4 i k)]
  · rw [trip8_5, qB_eq, kB_eq _ _ _ _ _ _ 5 (offA5 i k), kB_eq _ _ _ _ _ _ 5 (offA5 i k), kB_eq _ _ _ _ _ _ 5 (offC5 i k)]
  · rw [trip8_6, qB_eq, kB_eq _ _ _ _ _ _ 6 (offA6 i k), kB_eq _ _ _ _ _ _ 6 (offA6 i k), kB_eq _ _ _ _ _ _ 6 (offC6 i k)]
  · rw [trip8_7, qB_eq, kB_eq _ _ _ _ _ _ 7 (offA7 i k), kB_eq _ _ _ _ _ _ 7 (offA7 i k), kB_eq _ _ _ _ _ _ 7 (offC7 i k)]

theorem trip10 : ∀ h : Fin 8, p256 h (arg10.view.read (Elt F) (arg10.view.writes (Elt F) f_arg10 ((trip_k0_t1 (F := F) 𝒱 c bd i arg3 harg3 arg4 harg4 arg5 harg5 arg6 harg6 arg7 harg7 arg8 harg8 arg9 harg9 arg10 harg10 arg2 v8 v544 (harg3.unread x0) (harg4.unread x1) (harg5.unread x2) k).2.2.2.1 f_arg7 f_arg8 f_arg9 f_arg10)))
    = Sc x0 x1 h ((i 2).val - 1 - (2 * k.val + 2)) := by
  unfold Sc
  refine all8 ?_ ?_ ?_ ?_ ?_ ?_ ?_ ?_
  · rw [trip10_0, qB_eq, kB_eq _ _ _ _ _ _ 0 (offB0 i k)]
  · rw [trip10_1, qB_eq, kB_eq _ _ _ _ _ _ 1 (offB1 i k)]
  · rw [trip10_2, qB_eq, kB_eq _ _ _ _ _ _ 2 (offB2 i k)]
  · rw [trip10_3, qB_eq, kB_eq _ _ _ _ _ _ 3 (offB3 i k)]
  · rw [trip10_4, qB_eq, kB_eq _ _ _ _ _ _ 4 (offB4 i k)]
  · rw [trip10_5, qB_eq, kB_eq _ _ _ _ _ _ 5 (offB5 i k)]
  · rw [trip10_6, qB_eq, kB_eq _ _ _ _ _ _ 6 (offB6 i k)]
  · rw [trip10_7, qB_eq, kB_eq _ _ _ _ _ _ 7 (offB7 i k)]

end trip

/-! ## The loop -/

section loop

variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (arg2 : BitVec 32) (v544 : FVec F S1x256x128 .f32)
  (x0 : Vec F S256x1024 .bf16) (x1 : Vec F S4096x1024 .bf16) (x2 : Vec F S4096x1024 .bf16)  (G_arg7 : BufTy.Contents (Elt F) arg7.view.ty) (G_arg8 : BufTy.Contents (Elt F) arg8.view.ty) (G_arg9 : BufTy.Contents (Elt F) arg9.view.ty) (G_arg10 : BufTy.Contents (Elt F) arg10.view.ty)

/-- After `n` trips of the loop `2 n` earlier blocks have been consumed, and the scores of the next one are at hand. -/
theorem loop_inv
    (H7 : ∀ h : Fin 8, p128 h (arg7.view.read (Elt F) G_arg7) = car x0 x1 h (i 2).val 0)
    (H8 : ∀ h : Fin 8, p128 h (arg8.view.read (Elt F) G_arg8) = acc x0 x1 x2 h (i 2).val 0)
    (H10 : ∀ h : Fin 8, p256 h (arg10.view.read (Elt F) G_arg10) = Sc x0 x1 h ((i 2).val - 1))
    : ∀ n ≤ (k0_t1_loop i).trips,
      (∀ h : Fin 8, p128 h (arg7.view.read (Elt F) (arg7.view.writes (Elt F) G_arg7 (pb_k0_t1 (F := F) 𝒱 c bd i arg3 harg3 arg4 harg4 arg5 harg5 arg6 harg6 arg7 harg7 arg8 harg8 arg9 harg9 arg10 harg10 arg2 k0_pay567 v544 (harg3.unread x0) (harg4.unread x1) (harg5.unread x2) G_arg7 G_arg8 G_arg9 G_arg10 n).1)) = car x0 x1 h (i 2).val (2 * n)) ∧
      (∀ h : Fin 8, p128 h (arg8.view.read (Elt F) (arg8.view.writes (Elt F) G_arg8 (pb_k0_t1 (F := F) 𝒱 c bd i arg3 harg3 arg4 harg4 arg5 harg5 arg6 harg6 arg7 harg7 arg8 harg8 arg9 harg9 arg10 harg10 arg2 k0_pay567 v544 (harg3.unread x0) (harg4.unread x1) (harg5.unread x2) G_arg7 G_arg8 G_arg9 G_arg10 n).2.1)) = acc x0 x1 x2 h (i 2).val (2 * n)) ∧
      (∀ h : Fin 8, p256 h (arg10.view.read (Elt F) (arg10.view.writes (Elt F) G_arg10 (pb_k0_t1 (F := F) 𝒱 c bd i arg3 harg3 arg4 harg4 arg5 harg5 arg6 harg6 arg7 harg7 arg8 harg8 arg9 harg9 arg10 harg10 arg2 k0_pay567 v544 (harg3.unread x0) (harg4.unread x1) (harg5.unread x2) G_arg7 G_arg8 G_arg9 G_arg10 n).2.2.2)) = Sc x0 x1 h ((i 2).val - 1 - 2 * n)) := by
  intro n
  induction n with
  | zero => intro _; exact ⟨H7, H8, H10⟩
  | succ n ih =>
    intro hn
    obtain ⟨J7, J8, J10⟩ := ih (by omega)
    have e := pb_k0_t1_succ (F := F) 𝒱 c bd i arg3 harg3 arg4 harg4 arg5 harg5 arg6 harg6 arg7 harg7 arg8 harg8 arg9 harg9 arg10 harg10 arg2 k0_pay567 v544 (harg3.unread x0) (harg4.unread x1) (harg5.unread x2) G_arg7 G_arg8 G_arg9 G_arg10 ⟨n, by omega⟩
    dsimp only at e
    rw [e]
    dsimp only
    rw [View.writes_append, View.writes_append, View.writes_append]
    refine ⟨fun h => ?_, fun h => ?_, fun h => ?_⟩
    · rw [trip7, J7, J10]; rfl
    · rw [trip8, J7, J8, J10]; rfl
    · rw [trip10]; rfl

end loop

section runA

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (x0 : Vec F S256x1024 .bf16) (x1 : Vec F S4096x1024 .bf16) (x2 : Vec F S4096x1024 .bf16)

theorem preA8 : ∀ h : Fin 8, p128 h (arg8.view.read (Elt F) (g1A c i arg3 harg3 arg4 harg4 arg5 harg5 arg7 arg8 arg9 x0 x1 x2)) = acc x0 x1 x2 h (i 2).val 0 := by
  unfold acc TD Sc
  refine all8 ?_ ?_ ?_ ?_ ?_ ?_ ?_ ?_
  · rw [preA8_0, qB_eq, kB_eq _ _ _ _ _ _ 0 (offD0 i), kB_eq _ _ _ _ _ _ 0 (offD0 i)]
  · rw [preA8_1, qB_eq, kB_eq _ _ _ _ _ _ 1 (offD1 i), kB_eq _ _ _ _ _ _ 1 (offD1 i)]
  · rw [preA8_2, qB_eq, kB_eq _ _ _ _ _ _ 2 (offD2 i), kB_eq _ _ _ _ _ _ 2 (offD2 i)]
  · rw [preA8_3, qB_eq, kB_eq _ _ _ _ _ _ 3 (offD3 i), kB_eq _ _ _ _ _ _ 3 (offD3 i)]
  · rw [preA8_4, qB_eq, kB_eq _ _ _ _ _ _ 4 (offD4 i), kB_eq _ _ _ _ _ _ 4 (offD4 i)]
  · rw [preA8_5, qB_eq, kB_eq _ _ _ _ _ _ 5 (offD5 i), kB_eq _ _ _ _ _ _ 5 (offD5 i)]
  · rw [preA8_6, qB_eq, kB_eq _ _ _ _ _ _ 6 (offD6 i), kB_eq _ _ _ _ _ _ 6 (offD6 i)]
  · rw [preA8_7, qB_eq, kB_eq _ _ _ _ _ _ 7 (offD7 i), kB_eq _ _ _ _ _ _ 7 (offD7 i)]

theorem outA (hc0 : ¬cond0_0 i) (hc1 : ¬cond0_1 i) : ∀ h : Fin 8, oP h (out0_A_3 c i arg3 harg3 arg4 harg4 arg5 harg5 arg6 harg6 arg7 harg7 arg8 harg8 arg9 harg9 arg10 harg10 hc0 hc1 x0 x1 x2) = truncf .bf16 (p128 h (arg8.view.read (Elt F) (f1A c i arg3 harg3 arg4 harg4 arg5 harg5 arg6 harg6 arg7 harg7 arg8 harg8 arg9 harg9 arg10 harg10 x0 x1 x2))) bitsLt_bf16_f32 := by
  refine all8 ?_ ?_ ?_ ?_ ?_ ?_ ?_ ?_
  · rw [outA_0]
  · rw [outA_1]
  · rw [outA_2]
  · rw [outA_3]
  · rw [outA_4]
  · rw [outA_5]
  · rw [outA_6]
  · rw [outA_7]

theorem finA (hc0 : ¬cond0_0 i) (hc1 : ¬cond0_1 i) (hz : ((i 2).val - 1) / 2 = 0) : ∀ h : Fin 8, p128 h (arg8.view.read (Elt F) (f1A c i arg3 harg3 arg4 harg4 arg5 harg5 arg6 harg6 arg7 harg7 arg8 harg8 arg9 harg9 arg10 harg10 x0 x1 x2)) = acc x0 x1 x2 h (i 2).val 0 := by
  intro h
  have e : Scf.trips (k0_t1_loop i).lb (k0_t1_loop i).ub (k0_t1_loop i).st = 0 := (trips_eq i).trans hz
  unfold f1A pbA
  rw [e]
  apply preA8

/-- The first row block: a head's output is the weighted sum after all its blocks of keys. -/
theorem resA (hc0 : ¬cond0_0 i) (hc1 : ¬cond0_1 i) (hq : (i 2).val = 0) (h : Fin 8) :
    oP h (out0_A_3 c i arg3 harg3 arg4 harg4 arg5 harg5 arg6 harg6 arg7 harg7 arg8 harg8 arg9 harg9 arg10 harg10 hc0 hc1 x0 x1 x2) = truncf .bf16 (acc x0 x1 x2 h (i 2).val (i 2).val) bitsLt_bf16_f32 := by
  rw [outA]
  rw [finA _ _ _ _ _ _ _ _ _ _ _ _ _ _ _ _ _ _ _ _ _ hc0 hc1 (by rw [hq]), hq]

end runA

section runB

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (x0 : Vec F S256x1024 .bf16) (x1 : Vec F S4096x1024 .bf16) (x2 : Vec F S4096x1024 .bf16)

theorem preB7 : ∀ h : Fin 8, p128 h (arg7.view.read (Elt F) (g0B c i arg3 harg3 arg4 harg4 arg7 arg9 x0 x1)) = car x0 x1 h (i 2).val 0 := by
  unfold car TD Sc
  refine all8 ?_ ?_ ?_ ?_ ?_ ?_ ?_ ?_
  · rw [preB7_0, qB_eq, kB_eq _ _ _ _ _ _ 0 (offD0 i)]
  · rw [preB7_1, qB_eq, kB_eq _ _ _ _ _ _ 1 (offD1 i)]
  · rw [preB7_2, qB_eq, kB_eq _ _ _ _ _ _ 2 (offD2 i)]
  · rw [preB7_3, qB_eq, kB_eq _ _ _ _ _ _ 3 (offD3 i)]
  · rw [preB7_4, qB_eq, kB_eq _ _ _ _ _ _ 4 (offD4 i)]
  · rw [preB7_5, qB_eq, kB_eq _ _ _ _ _ _ 5 (offD5 i)]
  · rw [preB7_6, qB_eq, kB_eq _ _ _ _ _ _ 6 (offD6 i)]
  · rw [preB7_7, qB_eq, kB_eq _ _ _ _ _ _ 7 (offD7 i)]

theorem preB8 : ∀ h : Fin 8, p128 h (arg8.view.read (Elt F) (g1B c i arg3 harg3 arg4 harg4 arg5 harg5 arg7 arg8 arg9 x0 x1 x2)) = acc x0 x1 x2 h (i 2).val 0 := by
  unfold acc TD Sc
  refine all8 ?_ ?_ ?_ ?_ ?_ ?_ ?_ ?_
  · rw [preB8_0, qB_eq, kB_eq _ _ _ _ _ _ 0 (offD0 i), kB_eq _ _ _ _ _ _ 0 (offD0 i)]
  · rw [preB8_1, qB_eq, kB_eq _ _ _ _ _ _ 1 (offD1 i), kB_eq _ _ _ _ _ _ 1 (offD1 i)]
  · rw [preB8_2, qB_eq, kB_eq _ _ _ _ _ _ 2 (offD2 i), kB_eq _ _ _ _ _ _ 2 (offD2 i)]
  · rw [preB8_3, qB_eq, kB_eq _ _ _ _ _ _ 3 (offD3 i), kB_eq _ _ _ _ _ _ 3 (offD3 i)]
  · rw [preB8_4, qB_eq, kB_eq _ _ _ _ _ _ 4 (offD4 i), kB_eq _ _ _ _ _ _ 4 (offD4 i)]
  · rw [preB8_5, qB_eq, kB_eq _ _ _ _ _ _ 5 (offD5 i), kB_eq _ _ _ _ _ _ 5 (offD5 i)]
  · rw [preB8_6, qB_eq, kB_eq _ _ _ _ _ _ 6 (offD6 i), kB_eq _ _ _ _ _ _ 6 (offD6 i)]
  · rw [preB8_7, qB_eq, kB_eq _ _ _ _ _ _ 7 (offD7 i), kB_eq _ _ _ _ _ _ 7 (offD7 i)]

theorem preB10 : ∀ h : Fin 8, p256 h (arg10.view.read (Elt F) (g3B c i arg3 harg3 arg4 harg4 arg10 x0 x1)) = Sc x0 x1 h ((i 2).val - 1) := by
  unfold Sc
  refine all8 ?_ ?_ ?_ ?_ ?_ ?_ ?_ ?_
  · rw [preB10_0, qB_eq, kB_eq _ _ _ _ _ _ 0 (offP0 i)]
  · rw [preB10_1, qB_eq, kB_eq _ _ _ _ _ _ 1 (offP1 i)]
  · rw [preB10_2, qB_eq, kB_eq _ _ _ _ _ _ 2 (offP2 i)]
  · rw [preB10_3, qB_eq, kB_eq _ _ _ _ _ _ 3 (offP3 i)]
  · rw [preB10_4, qB_eq, kB_eq _ _ _ _ _ _ 4 (offP4 i)]
  · rw [preB10_5, qB_eq, kB_eq _ _ _ _ _ _ 5 (offP5 i)]
  · rw [preB10_6, qB_eq, kB_eq _ _ _ _ _ _ 6 (offP6 i)]
  · rw [preB10_7, qB_eq, kB_eq _ _ _ _ _ _ 7 (offP7 i)]

theorem outB (hc0 : ¬cond0_0 i) (hc1 : cond0_1 i) : ∀ h : Fin 8, oP h (out0_B_3 c i arg3 harg3 arg4 harg4 arg5 harg5 arg6 harg6 arg7 harg7 arg8 harg8 arg9 harg9 arg10 harg10 hc0 hc1 x0 x1 x2) = truncf .bf16 (accN (att (p256 h (arg10.view.read (Elt F) (f3B c i arg3 harg3 arg4 harg4 arg5 harg5 arg6 harg6 arg7 harg7 arg8 harg8 arg9 harg9 arg10 harg10 x0 x1 x2))) (suf k0_pay567 (sp (p256 h (arg10.view.read (Elt F) (f3B c i arg3 harg3 arg4 harg4 arg5 harg5 arg6 harg6 arg7 harg7 arg8 harg8 arg9 harg9 arg10 harg10 x0 x1 x2))))) (p128 h (arg7.view.read (Elt F) (f0B c i arg3 harg3 arg4 harg4 arg5 harg5 arg6 harg6 arg7 harg7 arg8 harg8 arg9 harg9 arg10 harg10 x0 x1 x2)))) (kX x2 0 h) (p128 h (arg8.view.read (Elt F) (f1B c i arg3 harg3 arg4 harg4 arg5 harg5 arg6 harg6 arg7 harg7 arg8 harg8 arg9 harg9 arg10 harg10 x0 x1 x2)))) bitsLt_bf16_f32 := by
  refine all8 ?_ ?_ ?_ ?_ ?_ ?_ ?_ ?_
  · rw [outB_0, kB_eq _ _ _ _ _ 0 0 rfl]
  · rw [outB_1, kB_eq _ _ _ _ _ 0 1 rfl]
  · rw [outB_2, kB_eq _ _ _ _ _ 0 2 rfl]
  · rw [outB_3, kB_eq _ _ _ _ _ 0 3 rfl]
  · rw [outB_4, kB_eq _ _ _ _ _ 0 4 rfl]
  · rw [outB_5, kB_eq _ _ _ _ _ 0 5 rfl]
  · rw [outB_6, kB_eq _ _ _ _ _ 0 6 rfl]
  · rw [outB_7, kB_eq _ _ _ _ _ 0 7 rfl]

theorem finB : ∀ h : Fin 8,
    p128 h (arg7.view.read (Elt F) (f0B c i arg3 harg3 arg4 harg4 arg5 harg5 arg6 harg6 arg7 harg7 arg8 harg8 arg9 harg9 arg10 harg10 x0 x1 x2)) = car x0 x1 h (i 2).val (2 * (((i 2).val - 1) / 2)) ∧
    p128 h (arg8.view.read (Elt F) (f1B c i arg3 harg3 arg4 harg4 arg5 harg5 arg6 harg6 arg7 harg7 arg8 harg8 arg9 harg9 arg10 harg10 x0 x1 x2)) = acc x0 x1 x2 h (i 2).val (2 * (((i 2).val - 1) / 2)) ∧
    p256 h (arg10.view.read (Elt F) (f3B c i arg3 harg3 arg4 harg4 arg5 harg5 arg6 harg6 arg7 harg7 arg8 harg8 arg9 harg9 arg10 harg10 x0 x1 x2)) = Sc x0 x1 h ((i 2).val - 1 - 2 * (((i 2).val - 1) / 2)) := by
  intro h
  have hh := loop_inv (F := F) Variants.none c none i arg3 harg3 arg4 harg4 arg5 harg5 arg6 harg6 arg7 harg7 arg8 harg8 arg9 harg9 arg10 harg10 (BitVec.ofNat 32 (i 2).val) (kernelRun0_B.sl.r_66 (F := F) c i arg3 harg3 arg4 harg4 arg7 arg9 x0 x1) x0 x1 x2 (g0B c i arg3 harg3 arg4 harg4 arg7 arg9 x0 x1) (g1B c i arg3 harg3 arg4 harg4 arg5 harg5 arg7 arg8 arg9 x0 x1 x2) (g2B c i arg3 harg3 arg4 harg4 arg9 x0 x1) (g3B c i arg3 harg3 arg4 harg4 arg10 x0 x1)
    (fun h => by apply preB7) (fun h => by apply preB8) (fun h => by apply preB10) _ (le_refl _)
  rw [← trips_eq i]
  exact ⟨hh.1 h, hh.2.1 h, hh.2.2 h⟩

/-- An odd row block: a head's output is the weighted sum after all its blocks of keys. -/
theorem resB (hc0 : ¬cond0_0 i) (hc1 : cond0_1 i) (hq : (i 2).val % 2 = 1) (h : Fin 8) :
    oP h (out0_B_3 c i arg3 harg3 arg4 harg4 arg5 harg5 arg6 harg6 arg7 harg7 arg8 harg8 arg9 harg9 arg10 harg10 hc0 hc1 x0 x1 x2) = truncf .bf16 (acc x0 x1 x2 h (i 2).val (i 2).val) bitsLt_bf16_f32 := by
  rw [outB]
  obtain ⟨e7, e8, e10⟩ := finB c i arg3 harg3 arg4 harg4 arg5 harg5 arg6 harg6 arg7 harg7 arg8 harg8 arg9 harg9 arg10 harg10 x0 x1 x2 h
  rw [e7, e8, e10]
  generalize (i 2).val = q at hq ⊢
  obtain ⟨n, rfl⟩ : ∃ n, q = n + 1 := ⟨q - 1, by omega⟩
  have h1 : 2 * ((n + 1 - 1) / 2) = n := by omega
  have h2 : n + 1 - 1 - n = 0 := by omega
  rw [h1, acc, TT, h2]

end runB

section runC

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg9 : Memref sig .tc .vmem S8x256x256 .f32) (harg9 : arg9.IsWhole) (arg10 : Memref sig .tc .vmem S8x256x256 .f32) (harg10 : arg10.IsWhole) (x0 : Vec F S256x1024 .bf16) (x1 : Vec F S4096x1024 .bf16) (x2 : Vec F S4096x1024 .bf16)

theorem preC7 : ∀ h : Fin 8, p128 h (arg7.view.read (Elt F) (g0C c i arg3 harg3 arg4 harg4 arg7 arg9 x0 x1)) = car x0 x1 h (i 2).val 0 := by
  unfold car TD Sc
  refine all8 ?_ ?_ ?_ ?_ ?_ ?_ ?_ ?_
  · rw [preC7_0, qB_eq, kB_eq _ _ _ _ _ _ 0 (offD0 i)]
  · rw [preC7_1, qB_eq, kB_eq _ _ _ _ _ _ 1 (offD1 i)]
  · rw [preC7_2, qB_eq, kB_eq _ _ _ _ _ _ 2 (offD2 i)]
  · rw [preC7_3, qB_eq, kB_eq _ _ _ _ _ _ 3 (offD3 i)]
  · rw [preC7_4, qB_eq, kB_eq _ _ _ _ _ _ 4 (offD4 i)]
  · rw [preC7_5, qB_eq, kB_eq _ _ _ _ _ _ 5 (offD5 i)]
  · rw [preC7_6, qB_eq, kB_eq _ _ _ _ _ _ 6 (offD6 i)]
  · rw [preC7_7, qB_eq, kB_eq _ _ _ _ _ _ 7 (offD7 i)]

theorem preC8 : ∀ h : Fin 8, p128 h (arg8.view.read (Elt F) (g1C c i arg3 harg3 arg4 harg4 arg5 harg5 arg7 arg8 arg9 x0 x1 x2)) = acc x0 x1 x2 h (i 2).val 0 := by
  unfold acc TD Sc
  refine all8 ?_ ?_ ?_ ?_ ?_ ?_ ?_ ?_
  · rw [preC8_0, qB_eq, kB_eq _ _ _ _ _ _ 0 (offD0 i), kB_eq _ _ _ _ _ _ 0 (offD0 i)]
  · rw [preC8_1, qB_eq, kB_eq _ _ _ _ _ _ 1 (offD1 i), kB_eq _ _ _ _ _ _ 1 (offD1 i)]
  · rw [preC8_2, qB_eq, kB_eq _ _ _ _ _ _ 2 (offD2 i), kB_eq _ _ _ _ _ _ 2 (offD2 i)]
  · rw [preC8_3, qB_eq, kB_eq _ _ _ _ _ _ 3 (offD3 i), kB_eq _ _ _ _ _ _ 3 (offD3 i)]
  · rw [preC8_4, qB_eq, kB_eq _ _ _ _ _ _ 4 (offD4 i), kB_eq _ _ _ _ _ _ 4 (offD4 i)]
  · rw [preC8_5, qB_eq, kB_eq _ _ _ _ _ _ 5 (offD5 i), kB_eq _ _ _ _ _ _ 5 (offD5 i)]
  · rw [preC8_6, qB_eq, kB_eq _ _ _ _ _ _ 6 (offD6 i), kB_eq _ _ _ _ _ _ 6 (offD6 i)]
  · rw [preC8_7, qB_eq, kB_eq _ _ _ _ _ _ 7 (offD7 i), kB_eq _ _ _ _ _ _ 7 (offD7 i)]

theorem preC10 : ∀ h : Fin 8, p256 h (arg10.view.read (Elt F) (g3C c i arg3 harg3 arg4 harg4 arg10 x0 x1)) = Sc x0 x1 h ((i 2).val - 1) := by
  unfold Sc
  refine all8 ?_ ?_ ?_ ?_ ?_ ?_ ?_ ?_
  · rw [preC10_0, qB_eq, kB_eq _ _ _ _ _ _ 0 (offP0 i)]
  · rw [preC10_1, qB_eq, kB_eq _ _ _ _ _ _ 1 (offP1 i)]
  · rw [preC10_2, qB_eq, kB_eq _ _ _ _ _ _ 2 (offP2 i)]
  · rw [preC10_3, qB_eq, kB_eq _ _ _ _ _ _ 3 (offP3 i)]
  · rw [preC10_4, qB_eq, kB_eq _ _ _ _ _ _ 4 (offP4 i)]
  · rw [preC10_5, qB_eq, kB_eq _ _ _ _ _ _ 5 (offP5 i)]
  · rw [preC10_6, qB_eq, kB_eq _ _ _ _ _ _ 6 (offP6 i)]
  · rw [preC10_7, qB_eq, kB_eq _ _ _ _ _ _ 7 (offP7 i)]

theorem outC (hc0 : cond0_0 i) (hc1 : ¬cond0_1 i) : ∀ h : Fin 8, oP h (out0_C_3 c i arg3 harg3 arg4 harg4 arg5 harg5 arg6 harg6 arg7 harg7 arg8 harg8 arg9 harg9 arg10 harg10 hc0 hc1 x0 x1 x2) = truncf .bf16 (accN (att (Sc x0 x1 h 0) (TT x0 x1 h 0) (carN (suf k0_pay567 (sp (p256 h (arg10.view.read (Elt F) (f3C c i arg3 harg3 arg4 harg4 arg5 harg5 arg6 harg6 arg7 harg7 arg8 harg8 arg9 harg9 arg10 harg10 x0 x1 x2))))) (p128 h (arg7.view.read (Elt F) (f0C c i arg3 harg3 arg4 harg4 arg5 harg5 arg6 harg6 arg7 harg7 arg8 harg8 arg9 harg9 arg10 harg10 x0 x1 x2))))) (kX x2 0 h) (accN (att (p256 h (arg10.view.read (Elt F) (f3C c i arg3 harg3 arg4 harg4 arg5 harg5 arg6 harg6 arg7 harg7 arg8 harg8 arg9 harg9 arg10 harg10 x0 x1 x2))) (suf k0_pay567 (sp (p256 h (arg10.view.read (Elt F) (f3C c i arg3 harg3 arg4 harg4 arg5 harg5 arg6 harg6 arg7 harg7 arg8 harg8 arg9 harg9 arg10 harg10 x0 x1 x2))))) (p128 h (arg7.view.read (Elt F) (f0C c i arg3 harg3 arg4 harg4 arg5 harg5 arg6 harg6 arg7 harg7 arg8 harg8 arg9 harg9 arg10 harg10 x0 x1 x2)))) (kX x2 1 h) (p128 h (arg8.view.read (Elt F) (f1C c i arg3 harg3 arg4 harg4 arg5 harg5 arg6 harg6 arg7 harg7 arg8 harg8 arg9 harg9 arg10 harg10 x0 x1 x2))))) bitsLt_bf16_f32 := by
  unfold TT Sc
  refine all8 ?_ ?_ ?_ ?_ ?_ ?_ ?_ ?_
  · rw [outC_0, qB_eq, kB_eq _ _ _ _ _ 0 0 rfl, kB_eq _ _ x2 _ _ 0 0 rfl, kB_eq _ _ _ _ _ 1 0 rfl]
  · rw [outC_1, qB_eq, kB_eq _ _ _ _ _ 0 1 rfl, kB_eq _ _ x2 _ _ 0 1 rfl, kB_eq _ _ _ _ _ 1 1 rfl]
  · rw [outC_2, qB_eq, kB_eq _ _ _ _ _ 0 2 rfl, kB_eq _ _ x2 _ _ 0 2 rfl, kB_eq _ _ _ _ _ 1 2 rfl]
  · rw [outC_3, qB_eq, kB_eq _ _ _ _ _ 0 3 rfl, kB_eq _ _ x2 _ _ 0 3 rfl, kB_eq _ _ _ _ _ 1 3 rfl]
  · rw [outC_4, qB_eq, kB_eq _ _ _ _ _ 0 4 rfl, kB_eq _ _ x2 _ _ 0 4 rfl, kB_eq _ _ _ _ _ 1 4 rfl]
  · rw [outC_5, qB_eq, kB_eq _ _ _ _ _ 0 5 rfl, kB_eq _ _ x2 _ _ 0 5 rfl, kB_eq _ _ _ _ _ 1 5 rfl]
  · rw [outC_6, qB_eq, kB_eq _ _ _ _ _ 0 6 rfl, kB_eq _ _ x2 _ _ 0 6 rfl, kB_eq _ _ _ _ _ 1 6 rfl]
  · rw [outC_7, qB_eq, kB_eq _ _ _ _ _ 0 7 rfl, kB_eq _ _ x2 _ _ 0 7 rfl, kB_eq _ _ _ _ _ 1 7 rfl]

theorem finC : ∀ h : Fin 8,
    p128 h (arg7.view.read (Elt F) (f0C c i arg3 harg3 arg4 harg4 arg5 harg5 arg6 harg6 arg7 harg7 arg8 harg8 arg9 harg9 arg10 harg10 x0 x1 x2)) = car x0 x1 h (i 2).val (2 * (((i 2).val - 1) / 2)) ∧
    p128 h (arg8.view.read (Elt F) (f1C c i arg3 harg3 arg4 harg4 arg5 harg5 arg6 harg6 arg7 harg7 arg8 harg8 arg9 harg9 arg10 harg10 x0 x1 x2)) = acc x0 x1 x2 h (i 2).val (2 * (((i 2).val - 1) / 2)) ∧
    p256 h (arg10.view.read (Elt F) (f3C c i arg3 harg3 arg4 harg4 arg5 harg5 arg6 harg6 arg7 harg7 arg8 harg8 arg9 harg9 arg10 harg10 x0 x1 x2)) = Sc x0 x1 h ((i 2).val - 1 - 2 * (((i 2).val - 1) / 2)) := by
  intro h
  have hh := loop_inv (F := F) Variants.none c none i arg3 harg3 arg4 harg4 arg5 harg5 arg6 harg6 arg7 harg7 arg8 harg8 arg9 harg9 arg10 harg10 (BitVec.ofNat 32 (i 2).val) (kernelRun0_C.sl.r_66 (F := F) c i arg3 harg3 arg4 harg4 arg7 arg9 x0 x1) x0 x1 x2 (g0C c i arg3 harg3 arg4 harg4 arg7 arg9 x0 x1) (g1C c i arg3 harg3 arg4 harg4 arg5 harg5 arg7 arg8 arg9 x0 x1 x2) (g2C c i arg3 harg3 arg4 harg4 arg9 x0 x1) (g3C c i arg3 harg3 arg4 harg4 arg10 x0 x1)
    (fun h => by apply preC7) (fun h => by apply preC8) (fun h => by apply preC10) _ (le_refl _)
  rw [← trips_eq i]
  exact ⟨hh.1 h, hh.2.1 h, hh.2.2 h⟩

/-- A later even row block: a head's output is the weighted sum after all its blocks of keys. -/
theorem resC (hc0 : cond0_0 i) (hc1 : ¬cond0_1 i) (hq : (i 2).val % 2 = 0 ∧ 0 < (i 2).val) (h : Fin 8) :
    oP h (out0_C_3 c i arg3 harg3 arg4 harg4 arg5 harg5 arg6 harg6 arg7 harg7 arg8 harg8 arg9 harg9 arg10 harg10 hc0 hc1 x0 x1 x2) = truncf .bf16 (acc x0 x1 x2 h (i 2).val (i 2).val) bitsLt_bf16_f32 := by
  rw [outC]
  obtain ⟨e7, e8, e10⟩ := finC c i arg3 harg3 arg4 harg4 arg5 harg5 arg6 harg6 arg7 harg7 arg8 harg8 arg9 harg9 arg10 harg10 x0 x1 x2 h
  rw [e7, e8, e10]
  generalize (i 2).val = q at hq ⊢
  obtain ⟨n, rfl⟩ : ∃ n, q = n + 2 := ⟨q - 2, by omega⟩
  have h1 : 2 * ((n + 2 - 1) / 2) = n := by omega
  have h2 : n + 2 - 1 - n = 1 := by omega
  have h3 : n + 2 - 1 - (n + 1) = 0 := by omega
  rw [h1, acc, acc, car, h2, h3]
  rfl

end runC

end Cert.KernelIdeal.SB

end
-- ==== Proof.Reals.lean ====
/-
  Stick-breaking weights over the real numbers: the kernel's spelling, in base two with the weight of a key as one power
  of two, and the reference's, by softplus and log-sigmoid, are one function.
-/
module

public import Mathlib.Analysis.SpecialFunctions.Pow.Real
public import Mathlib.Data.EReal.Operations
public import Idealize.ShloMosaic.Lib.Pointwise

@[expose] public section

noncomputable section

namespace Stick

open Idealize.ShloMosaic

/-- The larger of two reals, as an extended real. -/
theorem coe_max (a b : ℝ) : ((max a b : ℝ) : EReal) = max (a : EReal) (b : EReal) :=
  EReal.coe_strictMono.monotone.map_max

/-- A finite sum of reals, as an extended real. -/
theorem coe_sum {ι : Type} (s : Finset ι) (f : ι → ℝ) : ((∑ i ∈ s, f i : ℝ) : EReal) = ∑ i ∈ s, (f i : EReal) := by
  classical
  induction s using Finset.induction with
  | empty => rfl
  | insert a s ha ih => rw [Finset.sum_insert ha, Finset.sum_insert ha, EReal.coe_add, ih]

/-- A choice by a comparison is an `if`. -/
theorem select_decide {α : Type} (p : Prop) [Decidable p] (a b : α) :
    Scalar.select (BitVec.ofBool (decide p)) a b = if p then a else b := by
  by_cases h : p
  · simp [h, Scalar.select]
  · simp [h, Scalar.select]

/-- Softplus in base two. -/
def spR (z : ℝ) : ℝ := max z 0 + Real.log (1 + (2 : ℝ) ^ (-|z|)) * (Real.log 2)⁻¹

/-- Softplus, spelt with the exponential of minus the absolute value. -/
def softplus (z : ℝ) : ℝ := max z 0 + Real.log (1 + Real.exp (-|z|))

/-- Softplus in base two of `z / log 2` is softplus of `z` over `log 2`. -/
theorem spR_div (z : ℝ) : spR (z * (Real.log 2)⁻¹) = softplus z * (Real.log 2)⁻¹ := by
  have hl : 0 < Real.log 2 := Real.log_pos (by norm_num)
  have hi : 0 < (Real.log 2)⁻¹ := inv_pos.mpr hl
  unfold spR softplus
  have e1 : max (z * (Real.log 2)⁻¹) 0 = max z 0 * (Real.log 2)⁻¹ := by
    rw [max_mul_of_nonneg _ _ hi.le, zero_mul]
  have e2 : (2 : ℝ) ^ (-|z * (Real.log 2)⁻¹|) = Real.exp (-|z|) := by
    rw [Real.rpow_def_of_pos (by norm_num), abs_mul, abs_of_pos hi]
    congr 1
    field_simp
  rw [e1, e2, add_mul]

/-- Minus softplus of `-z`, the logarithm of the sigmoid, is `z` less softplus. -/
theorem neg_softplus_neg (z : ℝ) : -softplus (-z) = z - softplus z := by
  unfold softplus
  rw [abs_neg]
  have : max (-z) 0 = max z 0 - z := by
    rcases le_total z 0 with h | h
    · rw [max_eq_left (by linarith), max_eq_right h]; ring
    · rw [max_eq_right (by linarith), max_eq_left h]; ring
  rw [this]
  ring

section row

variable (Z : ℕ → ℝ) (R : ℕ)

/-- The softplus, in base two, of the scores before the row. -/
def SM (t : ℕ) : ℝ := if t < R then spR (Z t) else 0

/-- The weight of key `t`, the keys `≥ D` being left out of the sum after it. -/
def wt (D t : ℕ) : EReal := if t < R then (((2 : ℝ) ^ (Z t - ∑ u ∈ Finset.Ico t D, SM Z R u) : ℝ) : EReal) else 0

/-- The softplus of the scores before the row. -/
def SN (t : ℕ) : ℝ := if t < R then softplus (Z t) else 0

/-- The kernel's weight of a key before the row is the reference's. -/
theorem weight_eq (D t : ℕ) (ht : t < R) :
    wt (fun u => Z u * (Real.log 2)⁻¹) R D t
      = ((Real.exp (-softplus (-Z t) - (∑ u ∈ Finset.Ico t D, SN Z R u - SN Z R t)) : ℝ) : EReal) := by
  have hl : 0 < Real.log 2 := Real.log_pos (by norm_num)
  unfold wt
  rw [if_pos ht]
  congr 1
  have e : ∀ u, SM (fun u => Z u * (Real.log 2)⁻¹) R u = SN Z R u * (Real.log 2)⁻¹ := by
    intro u
    unfold SM SN
    split
    · exact spR_div _
    · rw [zero_mul]
  rw [Real.rpow_def_of_pos (by norm_num), Finset.sum_congr rfl fun u _ => e u, ← Finset.sum_mul, neg_softplus_neg]
  have e2 : SN Z R t = softplus (Z t) := by unfold SN; rw [if_pos ht]
  rw [e2]
  congr 1
  field_simp
  ring

end row

end Stick

end
-- ==== Proof.Rows.lean ====
/-
  One row of one head over the extended reals: the operations of the kernel's body at an index, and what the blocks
  consumed one after the other leave in the two running sums.
-/
module

public import proofs.«01_k».proof.Proof.Blocks
public import proofs.«01_k».proof.Proof.Reals
public import Idealize.ShloMosaic.Lib.Pointwise
public import Idealize.ShloMosaic.Lib.WordCmp

@[expose] public section

set_option maxRecDepth 16384

noncomputable section

namespace Cert.KernelIdeal.SB

open Cert.KernelIdeal Cert.KernelIdeal.Gen Idealize.ShloMosaic Stick

/-! ## The body's operations at an index -/

theorem sc_at (q k : FVec Ideal S256x128 .bf16) (r c : Fin 256) : sc q k (ix2 r c) = ∑ d : Fin 128, q (ix2 r d) * k (ix2 c d) := by
  pointwise [sc]

theorem sp_at (z : FVec Ideal S256x256 .f32) (i : S256x256.Idx) (x : ℝ) (h : z i = (x : EReal)) : sp z i = (spR x : EReal) := by
  pointwise [sp]
  rw [IdealRules.named_const.ideal_named_scalar _ _ _ _ rfl, h]
  have e1 : FloatOps.absf (F := Ideal) (φ := .f32) (x : EReal) = ((|x| : ℝ) : EReal) := by
    show max (x : EReal) (-(x : EReal)) = _
    rw [abs_eq_max_neg, coe_max, EReal.coe_neg]
  rw [e1]
  have e2 : FloatOps.exp2 (F := Ideal) (φ := .f32) ((0 : EReal) - ((|x| : ℝ) : EReal)) = (((2 : ℝ) ^ (-|x|) : ℝ) : EReal) := by
    rw [zero_sub, ← EReal.coe_neg]
    rfl
  have e3 : (1 : EReal) + (((2 : ℝ) ^ (-|x|) : ℝ) : EReal) = ((1 + (2 : ℝ) ^ (-|x|) : ℝ) : EReal) := by
    rw [EReal.coe_add]; rfl
  have hp : 0 < 1 + (2 : ℝ) ^ (-|x|) := by positivity
  have e4 : Ideal.log ((1 + (2 : ℝ) ^ (-|x|) : ℝ) : EReal) = ((Real.log (1 + (2 : ℝ) ^ (-|x|)) : ℝ) : EReal) := by
    show (if _ then _ else _) = _
    rw [if_neg (by exact not_le.mpr hp)]
  have e5 : max (x : EReal) 0 = ((max x 0 : ℝ) : EReal) := by rw [coe_max]; rfl
  refine Eq.trans (b := max (x : EReal) 0 + Ideal.log (1 + FloatOps.exp2 (F := Ideal) (φ := .f32) ((0 : EReal) - ((|x| : ℝ) : EReal))) * (((Real.log 2)⁻¹ : ℝ) : EReal)) rfl ?_
  rw [e2, e3, e4, e5, ← EReal.coe_mul, ← EReal.coe_add]
  rfl

theorem masked_at (z : FVec Ideal S256x256 .f32) (r c : Fin 256) :
    masked z (ix2 r c) = if c.val < r.val then z (ix2 r c) else 0 := by
  pointwise [masked, causal]
  rw [WordCmp.cmpi_slt_ofNat (by have := c.isLt; omega) (by have := r.isLt; omega), select_decide]

theorem suf_at (z : FVec Ideal S256x256 .f32) (r c : Fin 256) (S : ℕ → ℝ) (h : ∀ x : Fin 256, z (ix2 r x) = (S x.val : EReal)) :
    suf k0_pay567 z (ix2 r c) = ((∑ x ∈ Finset.Ico c.val 256, S x : ℝ) : EReal) := by
  pointwise [suf, k0_pay567]
  have e1 : ∀ x : Fin 256, Scalar.select (IntOp.cmpi CmpIPredicate.sge (BitVec.ofNat 32 x.val) (BitVec.ofNat 32 c.val)) (z (ix2 r x)) (0 : EReal)
      = (((if c.val ≤ x.val then S x.val else 0 : ℝ)) : EReal) := by
    intro x
    rw [WordCmp.cmpi_sge_ofNat (by have := x.isLt; omega) (by have := c.isLt; omega), select_decide, h]
    split <;> rfl
  have e2 : ∀ x : Fin 256, Scalar.select (IntOp.cmpi CmpIPredicate.sge (BitVec.ofNat 32 x.val) (BitVec.ofNat 32 c.val)) (z (ix2 r x) - z (ix2 r x)) (0 : EReal) = 0 := by
    intro x
    rw [h, ← EReal.coe_sub, sub_self]
    unfold Scalar.select
    split <;> rfl
  refine Eq.trans (congrArg₂ (· + ·) (Finset.sum_congr rfl fun x _ => e1 x) (Finset.sum_congr rfl fun x _ => e2 x)) ?_
  show (∑ x : Fin 256, _ : EReal) + (∑ x : Fin 256, (0 : EReal)) = _
  rw [Finset.sum_const_zero, add_zero, ← coe_sum]
  congr 1
  rw [Fin.sum_univ_eq_sum_range (fun x => if c.val ≤ x then S x else 0) 256, ← Finset.sum_filter]
  refine Finset.sum_congr ?_ fun _ _ => rfl
  ext x
  simp only [Finset.mem_filter, Finset.mem_range, Finset.mem_Ico]
  omega

theorem att_at (z t : FVec Ideal S256x256 .f32) (x : FVec Ideal S256x128 .f32) (r c : Fin 256) (a b d : ℝ)
    (hz : z (ix2 r c) = (a : EReal)) (ht : t (ix2 r c) = (b : EReal)) (hx : ∀ l : Fin 128, x (ix2 r l) = (d : EReal)) :
    att z t x (ix2 r c) = (((2 : ℝ) ^ (a - b - d) : ℝ) : EReal) := by
  pointwise [att]
  have e : (if h : c.val < 128 then x (ix2 r ⟨c.val, h⟩) else x (ix2 r ⟨c.val - 128, by have := c.isLt; omega⟩)) = (d : EReal) := by
    split <;> exact hx _
  refine Eq.trans (congrArg (fun w : EReal => FloatOps.exp2 (F := Ideal) (φ := .f32) (z (ix2 r c) - t (ix2 r c) - w)) e) ?_
  rw [hz, ht]
  show FloatOps.exp2 (F := Ideal) (φ := .f32) ((a : EReal) - (b : EReal) - (d : EReal)) = _
  rw [← EReal.coe_sub, ← EReal.coe_sub]
  rfl

theorem carN_at (t : FVec Ideal S256x256 .f32) (x : FVec Ideal S256x128 .f32) (r : Fin 256) (c : Fin 128) :
    carN t x (ix2 r c) = (x (ix2 r c) + t (ix2 r 0) : EReal) := by
  pointwise [carN]

theorem accN_at (t : FVec Ideal S256x256 .f32) (v : FVec Ideal S256x128 .bf16) (x : FVec Ideal S256x128 .f32) (r : Fin 256) (c : Fin 128) :
    accN t v x (ix2 r c) = (x (ix2 r c) + ∑ y : Fin 256, t (ix2 r y) * v (ix2 y c) : EReal) := by
  pointwise [accN]

theorem z128_at (i : S256x128.Idx) : (z128 (F := Ideal)) i = (0 : EReal) := by
  pointwise [z128]

/-! ## Sums over a block of keys -/

theorem sum_block {M : Type} [AddCommMonoid M] (f : ℕ → M) (j : ℕ) :
    ∑ y : Fin 256, f (256 * j + y.val) = ∑ t ∈ Finset.Ico (256 * j) (256 * (j + 1)), f t := by
  rw [Fin.sum_univ_eq_sum_range (fun y => f (256 * j + y)) 256, Finset.sum_Ico_eq_sum_range]
  have e : 256 * (j + 1) - 256 * j = 256 := by omega
  rw [e]

theorem sum_tail {M : Type} [AddCommMonoid M] (f : ℕ → M) (j c : ℕ) :
    ∑ y ∈ Finset.Ico c 256, f (256 * j + y) = ∑ t ∈ Finset.Ico (256 * j + c) (256 * (j + 1)), f t := by
  rw [Finset.sum_Ico_add f c 256 (256 * j)]
  congr 1
  rw [Nat.add_comm c, Nat.add_comm 256, Nat.mul_add, Nat.mul_one]

/-! ## The running sums -/

section rows

variable (Z : ℕ → ℝ) (R : ℕ) (V : ℕ → EReal)

variable (x0 : Vec Ideal S256x1024 .bf16) (x1 x2 : Vec Ideal S4096x1024 .bf16) (h : Fin 8) (qi : ℕ) (r : Fin 256)

/-- The sums carried after the diagonal block and `n` more: the softplus over the keys of those blocks. -/
theorem car_at (hR : R = 256 * qi + r.val) (hZ : ∀ j ≤ qi, ∀ c : Fin 256, Sc x0 x1 h j (ix2 r c) = (Z (256 * j + c.val) : EReal)) :
    ∀ n ≤ qi, ∀ l : Fin 128, car x0 x1 h qi n (ix2 r l) = ((∑ u ∈ Finset.Ico (256 * (qi - n)) (256 * (qi + 1)), SM Z R u : ℝ) : EReal) := by
  intro n
  induction n with
  | zero =>
    intro _ l
    rw [car, carN_at, z128_at, TD, suf_at _ r 0 (fun x => SM Z R (256 * qi + x))]
    · show (0 : EReal) + ((∑ x ∈ Finset.Ico 0 256, SM Z R (256 * qi + x) : ℝ) : EReal) = _
      rw [zero_add, sum_tail (SM Z R) qi 0]; rfl
    · intro x
      rw [masked_at]
      unfold SM
      by_cases hx : x.val < r.val
      · rw [if_pos hx, if_pos (by omega), sp_at _ _ _ (hZ qi le_rfl x)]
      · rw [if_neg hx, if_neg (by omega)]; rfl
  | succ n ih =>
    intro hn l
    have e1 : qi - 1 - n = qi - (n + 1) := by omega
    have e2 : qi - (n + 1) + 1 = qi - n := by omega
    rw [car, carN_at, ih (by omega), TT, e1, suf_at _ r 0 (fun x => SM Z R (256 * (qi - (n + 1)) + x))]
    · show ((_ : ℝ) : EReal) + ((∑ x ∈ Finset.Ico 0 256, SM Z R (256 * (qi - (n + 1)) + x) : ℝ) : EReal) = _
      rw [sum_tail (SM Z R) (qi - (n + 1)) 0, e2, ← EReal.coe_add, add_comm]
      congr 1
      exact Finset.sum_Ico_consecutive _ (by omega) (by omega)
    · intro x
      have := x.isLt
      unfold SM
      rw [if_pos (by omega), sp_at _ _ _ (hZ _ (by omega) x)]

/-- The weighted sums after the diagonal block and `n` more. -/
theorem acc_at (d : Fin 128) (hR : R = 256 * qi + r.val) (hZ : ∀ j ≤ qi, ∀ c : Fin 256, Sc x0 x1 h j (ix2 r c) = (Z (256 * j + c.val) : EReal))
    (hV : ∀ j ≤ qi, ∀ c : Fin 256, kX x2 j h (ix2 c d) = V (256 * j + c.val)) :
    ∀ n ≤ qi, acc x0 x1 x2 h qi n (ix2 r d)
      = ∑ t ∈ Finset.Ico (256 * (qi - n)) (256 * (qi + 1)), wt Z R (256 * (qi + 1)) t * V t := by
  intro n
  induction n with
  | zero =>
    intro _
    rw [acc, accN_at, z128_at, zero_add]
    refine Eq.trans (Finset.sum_congr rfl fun c _ => ?_) (sum_block (fun t => wt Z R (256 * (qi + 1)) t * V t) qi)
    rw [hV qi le_rfl, masked_at]
    refine congrArg (· * V (256 * qi + c.val)) ?_
    unfold wt
    by_cases hc : c.val < r.val
    · rw [if_pos hc, if_pos (by omega)]
      refine (att_at _ _ _ r c (Z (256 * qi + c.val)) (∑ u ∈ Finset.Ico (256 * qi + c.val) (256 * (qi + 1)), SM Z R u) 0 (hZ qi le_rfl c) ?_ (fun l => z128_at _)).trans ?_
      · rw [TD, suf_at _ r c (fun x => SM Z R (256 * qi + x)), sum_tail (SM Z R) qi c.val]
        intro x
        rw [masked_at]
        unfold SM
        by_cases hx : x.val < r.val
        · rw [if_pos hx, if_pos (by omega), sp_at _ _ _ (hZ qi le_rfl x)]
        · rw [if_neg hx, if_neg (by omega)]; rfl
      · rw [sub_zero]
    · rw [if_neg hc, if_neg (by omega)]
  | succ n ih =>
    intro hn
    have e1 : qi - 1 - n = qi - (n + 1) := by omega
    have e2 : qi - (n + 1) + 1 = qi - n := by omega
    rw [acc, accN_at, ih (by omega), e1]
    have e3 : ∀ c : Fin 256, att (Sc x0 x1 h (qi - (n + 1))) (TT x0 x1 h (qi - (n + 1))) (car x0 x1 h qi n) (ix2 r c) * kX x2 (qi - (n + 1)) h (ix2 c d)
        = wt Z R (256 * (qi + 1)) (256 * (qi - (n + 1)) + c.val) * V (256 * (qi - (n + 1)) + c.val) := by
      intro c
      have := c.isLt
      rw [hV _ (by omega)]
      refine congrArg (· * V (256 * (qi - (n + 1)) + c.val)) ?_
      unfold wt
      rw [if_pos (by omega)]
      refine (att_at _ _ _ r c (Z (256 * (qi - (n + 1)) + c.val)) (∑ u ∈ Finset.Ico (256 * (qi - (n + 1)) + c.val) (256 * (qi - n)), SM Z R u) _ (hZ _ (by omega) c) ?_
        (fun l => car_at Z R x0 x1 h qi r hR hZ n (by omega) l)).trans ?_
      · rw [TT, suf_at _ r c (fun x => SM Z R (256 * (qi - (n + 1)) + x)), sum_tail (SM Z R) (qi - (n + 1)) c.val, e2]
        intro x
        have := x.isLt
        unfold SM
        rw [if_pos (by omega), sp_at _ _ _ (hZ _ (by omega) x)]
      · rw [sub_sub, Finset.sum_Ico_consecutive _ (by omega) (by omega)]
    have e4 := sum_block (fun t => wt Z R (256 * (qi + 1)) t * V t) (qi - (n + 1))
    rw [e2] at e4
    refine (congrArg (_ + ·) ((Finset.sum_congr rfl fun c _ => e3 c).trans e4)).trans ?_
    rw [add_comm]
    exact Finset.sum_Ico_consecutive _ (by omega) (by omega)

/-- All blocks consumed: the sum over all keys. -/
theorem acc_all (N : ℕ) (hN : 256 * (qi + 1) ≤ N) (d : Fin 128) (hR : R = 256 * qi + r.val) (hZ : ∀ j ≤ qi, ∀ c : Fin 256, Sc x0 x1 h j (ix2 r c) = (Z (256 * j + c.val) : EReal))
    (hV : ∀ j ≤ qi, ∀ c : Fin 256, kX x2 j h (ix2 c d) = V (256 * j + c.val)) :
    acc x0 x1 x2 h qi qi (ix2 r d) = ∑ t ∈ Finset.range N, wt Z R N t * V t := by
  have hr := r.isLt
  rw [acc_at Z R V x0 x1 x2 h qi r d hR hZ hV qi le_rfl, Nat.sub_self, Nat.mul_zero, Finset.range_eq_Ico,
    ← Finset.sum_Ico_consecutive _ (Nat.zero_le _) hN]
  have z : ∑ t ∈ Finset.Ico (256 * (qi + 1)) N, wt Z R N t * V t = 0 := by
    refine Finset.sum_eq_zero fun t ht => ?_
    have := (Finset.mem_Ico.mp ht).1
    unfold wt
    rw [if_neg (by omega), zero_mul]
  rw [z, add_zero]
  refine Finset.sum_congr rfl fun t ht => ?_
  have ht' := (Finset.mem_Ico.mp ht).2
  unfold wt
  rw [← Finset.sum_Ico_consecutive (SM Z R) ht'.le hN]
  have z' : ∑ u ∈ Finset.Ico (256 * (qi + 1)) N, SM Z R u = 0 := by
    refine Finset.sum_eq_zero fun u hu => ?_
    have := (Finset.mem_Ico.mp hu).1
    unfold SM
    rw [if_neg (by omega)]
  rw [z', add_zero]

end rows

end Cert.KernelIdeal.SB

end
-- ==== Proof.Spec.lean ====
/-
  What both programs compute, written as one sum: the stick-breaking attention of one head at one row.
-/
module

public import proofs.«01_k».proof.Proof.Gen.KernelIdeal.Skeleton
public import proofs.«01_k».proof.Proof.Reals
public import Idealize.ShloMosaic.Lib.Pointwise

@[expose] public section

noncomputable section

namespace Cert.KernelIdeal.SB

open Idealize.ShloMosaic Cert.KernelIdeal Stick

/-- Row `n` of a sequence. -/
def row (n : ℕ) : Fin 4096 := ⟨n % 4096, Nat.mod_lt _ (by decide)⟩

/-- The column of the queries holding coordinate `d` of head `h`. -/
def colQ (h : Fin 16) (d : Fin 128) : Fin 2048 := ⟨128 * h.val + d.val, by have := h.isLt; have := d.isLt; omega⟩

/-- The column of the keys and values holding coordinate `d` of head `h`'s key. -/
def colK (h : Fin 16) (d : Fin 128) : Fin 4096 := ⟨128 * h.val + d.val, by have := h.isLt; have := d.isLt; omega⟩

/-- The column of the keys and values holding coordinate `d` of head `h`'s value. -/
def colV (h : Fin 16) (d : Fin 128) : Fin 4096 := ⟨2048 + (128 * h.val + d.val), by have := h.isLt; have := d.isLt; omega⟩

variable (Q : FVec Ideal S4x4096x2048 .f32) (KV : FVec Ideal S4x4096x4096 .f32) (b : Fin 4) (h : Fin 16) (R : ℕ)

/-- The score of row `R`'s query against key `t`, a real number. -/
def zR (t : ℕ) : ℝ :=
  (∑ d : Fin 128, (Q (ix3 b (row R) (colQ h d))).toReal * (KV (ix3 b (row t) (colK h d))).toReal) / Real.sqrt 128

/-- Coordinate `d` of the attention's output at row `R`: the values of the keys before it, each times its weight. -/
def attn (d : Fin 128) : EReal :=
  ∑ t ∈ Finset.range 4096, wt (fun u => zR Q KV b h R u * (Real.log 2)⁻¹) R 4096 t * KV (ix3 b (row t) (colV h d))

/-- The whole output: row `i 0` of all the batches' rows, column `i 1` of all the heads' columns. -/
def out (i : S16384x2048.Idx) : EReal :=
  attn Q KV ⟨(i 0).val / 4096, by have h0 : (i 0).val < 16384 := (i 0).isLt; omega⟩
    ⟨(i 1).val / 128, by have h1 : (i 1).val < 2048 := (i 1).isLt; omega⟩ ((i 0).val % 4096)
    ⟨(i 1).val % 128, Nat.mod_lt _ (by decide)⟩

/-- The queries and the keys hold real numbers. -/
structure AreReal : Prop where
  q : ∀ i, Q i = ((Q i).toReal : EReal)
  k : ∀ b s h d, KV (ix3 b s (colK h d)) = ((KV (ix3 b s (colK h d))).toReal : EReal)

/-- The word of 128. -/
theorem bits_128 : Ideal.ofBits .f32 1124073472#32 = ((128 : ℝ) : EReal) := by
  simp [Ideal.ofBits, Ideal.ieee, -EReal.coe_mul]; norm_num

/-- The word of 2. -/
theorem bits_2 : Ideal.ofBits .f32 1073741824#32 = ((2 : ℝ) : EReal) := by
  simp [Ideal.ofBits, Ideal.ieee, -EReal.coe_mul]; norm_num

/-- The square root the scores are divided by. -/
theorem sqrt_128 : Ideal.sqrt (Ideal.ofBits .f32 1124073472#32) = ((Real.sqrt 128 : ℝ) : EReal) := by
  rw [bits_128, Ideal.sqrt_coe, if_neg (by norm_num)]

/-- It is not zero. -/
theorem sqrt_128_ne : Real.sqrt 128 ≠ 0 := (Real.sqrt_pos.mpr (by norm_num)).ne'

/-- Neither is the logarithm of 2. -/
theorem log_2_ne : Real.log 2 ≠ 0 := (Real.log_pos (by norm_num)).ne'

end Cert.KernelIdeal.SB
-- ==== Proof.Array.lean ====
/-
  The kernel's whole result: every block of the output array is written by the grid point it belongs to, with the
  attention of its rows and heads.
-/
module

public import proofs.«01_k».proof.Proof.Rows
public import proofs.«01_k».proof.Proof.Spec
public import proofs.«01_k».proof.Proof.Gen.KernelIdeal.Value
public import Idealize.ShloMosaic.Lib.Pipeline.ValueKit

@[expose] public section

set_option maxRecDepth 16384

noncomputable section

namespace Cert.KernelIdeal.SB

open Idealize.ShloMosaic Idealize.ShloMosaic.TcCoe Idealize.SL.Sem
open Cert.KernelIdeal Cert.KernelIdeal.Gen Stick
open Idealize.ShloMosaic.Pipeline (Dat)

variable (m : (ℓ : Loc nD τ sig) → Buf (Elt Ideal) ℓ)

/-- The queries as launched. -/
abbrev Qa (c : Dev nD) : FVec Ideal S4x4096x2048 .f32 := m ((c : Thread nD τ).loc main_arg0)

/-- The keys and values as launched. -/
abbrev KVa (c : Dev nD) : FVec Ideal S4x4096x4096 .f32 := m ((c : Thread nD τ).loc main_arg1)

/-- The block index of every window at every grid point, in closed form. -/
theorem idx : ∀ t : Fin cfg0.N,
    win0_0.index t = ![t.val / 32 * 16 + t.val % 16, t.val / 16 % 2]
    ∧ win0_1.index t = ![t.val / 32, t.val / 16 % 2]
    ∧ win0_2.index t = ![t.val / 32, 2 + t.val / 16 % 2]
    ∧ win0_3.index t = ![t.val / 32 * 16 + t.val % 16, t.val / 16 % 2]
    ∧ t.val < 128 ∧ (grid0.coords t 2).val = t.val % 16 :=
  (by decide +kernel : ∀ t : Fin grid0.N, _)

/-- The factor the queries are scaled by, as a real number. -/
theorem scale_eq : Ideal.div 1 (Ideal.sqrt (Ideal.ofBits .f32 1124073472#32) * Ideal.log (Ideal.ofBits .f32 1073741824#32))
    = (((Real.sqrt 128 * Real.log 2)⁻¹ : ℝ) : EReal) := by
  rw [sqrt_128, bits_2, Ideal.log_coe, if_neg (by norm_num), ← EReal.coe_mul,
    Ideal.div_coe (mul_ne_zero sqrt_128_ne log_2_ne), one_mul, one_div]

/-- The queries as the kernel finds them: scaled. -/
theorem V7_at (c : Dev nD) (i) (b : Fin 4) (s : Fin 4096) (j : Fin 2048) (h0 : (i 0).val = 4096 * b.val + s.val) (h1 : (i 1).val = j.val) :
    V m c main_v7 i = (Qa m c) (ix3 b s j)
      * (((Real.sqrt 128 * Real.log 2)⁻¹ : ℝ) : EReal) := by
  entry_read
  pointwise
  rw [scale_eq]
  congr 1
  have := s.isLt
  have e0 : (i 0).val / 4096 = b.val := by omega
  have e1 : (i 0).val % 4096 = s.val := by omega
  blk_ext [e0, e1]

/-- The keys and values as the kernel finds them. -/
theorem V9_at (c : Dev nD) (i) (b : Fin 4) (s : Fin 4096) (j : Fin 4096) (h0 : (i 0).val = 4096 * b.val + s.val) (h1 : (i 1).val = j.val) :
    V m c main_v9 i = (KVa m c) (ix3 b s j) := by
  entry_read
  pointwise
  have := s.isLt
  blk_ext

section point
variable (c : Dev nD) (t : Fin cfg0.N) (h : Fin 8)

/-- The batch a grid point works on. -/
def bOf : Fin 4 := ⟨t.val / 32, by have := (idx t).2.2.2.2.1; omega⟩

/-- The head a grid point's head `h` is among all. -/
def hOf : Fin 16 := ⟨8 * (t.val / 16 % 2) + h.val, by have := h.isLt; omega⟩

theorem q_at (r : Fin 256) (d : Fin 128) : qX (iblk m c 0 t) h (ix2 r d)
    = (Qa m c) (ix3 (bOf t) (row (256 * (t.val % 16) + r.val)) (colQ (hOf t h) d))
      * (((Real.sqrt 128 * Real.log 2)⁻¹ : ℝ) : EReal) := by
  have := (idx t).2.2.2.2.1
  have := r.isLt
  have := d.isLt
  have := h.isLt
  unfold qX
  blk_simp [iblk]
  refine V7_at m c _ _ _ _ ?_ ?_
  · blk_simp [idx t, bOf, row]
    dsimp only
    omega
  · blk_simp [idx t, hOf, colQ]
    dsimp only
    omega

theorem k_at (j : ℕ) (hj : j ≤ t.val % 16) (r : Fin 256) (d : Fin 128) : kX (iblk m c 1 t) j h (ix2 r d)
    = (KVa m c) (ix3 (bOf t) (row (256 * j + r.val)) (colK (hOf t h) d)) := by
  have := (idx t).2.2.2.2.1
  have := r.isLt
  have := d.isLt
  have := h.isLt
  unfold kX
  blk_simp [iblk]
  refine V9_at m c _ _ _ _ ?_ ?_
  · blk_simp [idx t, bOf, row]
    dsimp only
    omega
  · blk_simp [idx t, hOf, colK]
    dsimp only
    omega

theorem v_at (j : ℕ) (hj : j ≤ t.val % 16) (r : Fin 256) (d : Fin 128) : kX (iblk m c 2 t) j h (ix2 r d)
    = (KVa m c) (ix3 (bOf t) (row (256 * j + r.val)) (colV (hOf t h) d)) := by
  have := (idx t).2.2.2.2.1
  have := r.isLt
  have := d.isLt
  have := h.isLt
  unfold kX
  blk_simp [iblk]
  refine V9_at m c _ _ _ _ ?_ ?_
  · blk_simp [idx t, bOf, row]
    dsimp only
    omega
  · blk_simp [idx t, hOf, colV]
    dsimp only
    omega

theorem Sc_real (hf : AreReal (Qa m c) (KVa m c))
    (r : Fin 256) (j : ℕ) (hj : j ≤ t.val % 16) (k : Fin 256) :
    Sc (F := Ideal) (iblk m c 0 t) (iblk m c 1 t) h j (ix2 r k)
      = ((zR (Qa m c) (KVa m c)
        (bOf t) (hOf t h) (256 * (t.val % 16) + r.val) (256 * j + k.val) * (Real.log 2)⁻¹ : ℝ) : EReal) := by
  unfold Sc zR
  rw [sc_at]
  rw [show ∀ (X : ℝ), X / Real.sqrt 128 * (Real.log 2)⁻¹ = X * (Real.sqrt 128 * Real.log 2)⁻¹ from fun X => by
    rw [mul_inv, div_eq_mul_inv, mul_assoc], Finset.sum_mul, coe_sum]
  refine Finset.sum_congr rfl fun d _ => ?_
  rw [q_at, k_at m c t h j hj, hf.q, hf.k, EReal.toReal_coe, EReal.toReal_coe, ← EReal.coe_mul, ← EReal.coe_mul]
  congr 1
  ring

/-- What a grid point computes for one of its heads. -/
theorem acc_out (hf : AreReal (Qa m c) (KVa m c))
    (r : Fin 256) (d : Fin 128) :
    acc (F := Ideal) (iblk m c 0 t) (iblk m c 1 t) (iblk m c 2 t) h (t.val % 16) (t.val % 16) (ix2 r d)
      = attn (Qa m c) (KVa m c)
        (bOf t) (hOf t h) (256 * (t.val % 16) + r.val) d := by
  unfold attn
  exact acc_all _ _ (fun n => (KVa m c) (ix3 (bOf t) (row n) (colV (hOf t h) d)))
    _ _ _ h _ r 4096 (by omega) d rfl (fun j hj k => Sc_real m c t h hf r j hj k) (fun j hj k => v_at m c t h j hj k d)

end point

/-- Case by case, what a grid point leaves in the columns of one of its heads. -/
theorem after_at (c : Dev nD) (t : Fin cfg0.N) (h : Fin 8) :
    oP (F := Ideal) h ((dats m 0 c).after 3 t) = truncf .bf16 (acc (F := Ideal) (iblk m c 0 t) (iblk m c 1 t) (iblk m c 2 t) h (t.val % 16) (t.val % 16)) bitsLt_bf16_f32 := by
  have e := (idx t).2.2.2.2.2
  rw [after0_3]
  have cg : truncf .bf16 (acc (F := Ideal) (iblk m c 0 t) (iblk m c 1 t) (iblk m c 2 t) h (grid0.coords t 2).val (grid0.coords t 2).val) bitsLt_bf16_f32
      = truncf .bf16 (acc (F := Ideal) (iblk m c 0 t) (iblk m c 1 t) (iblk m c 2 t) h (t.val % 16) (t.val % 16)) bitsLt_bf16_f32 := by rw [e]
  by_cases h0 : (t.val % 16 = 2 ∨ t.val % 16 = 4 ∨ t.val % 16 = 6 ∨ t.val % 16 = 8 ∨ t.val % 16 = 10 ∨ t.val % 16 = 12 ∨ t.val % 16 = 14)
  · by_cases h1 : t.val % 2 = 1
    · omega
    · rw [outsAt0_C m c t h0 h1, ← cg]
      exact resC _ _ _ _ _ _ _ _ _ _ _ _ _ _ _ _ _ _ _ _ _ _ _ (by rw [e]; omega) h
  · by_cases h1 : t.val % 2 = 1
    · rw [outsAt0_B m c t h0 h1, ← cg]
      exact resB _ _ _ _ _ _ _ _ _ _ _ _ _ _ _ _ _ _ _ _ _ _ _ (by rw [e]; omega) h
    · rw [outsAt0_A m c t h0 h1, ← cg]
      exact resA _ _ _ _ _ _ _ _ _ _ _ _ _ _ _ _ _ _ _ _ _ _ _ (by rw [e]; omega) h

/-- The kernel's result is the attention, at every row and column. -/
theorem final (c : Dev nD) (hf : AreReal (Qa m c) (KVa m c)) :
    (dats m 0 c).arrAt 3 cfg0.N = out (Qa m c) (KVa m c) := by
  refine (dats m 0 c).arrAt_eq_of_covers 3 _ (by decide +kernel) fun t _ y => ?_
  blk_simp
  have ht := (idx t).2.2.2.2.1
  have y0 : (y 0).val < 256 := (y 0).isLt
  have y1 : (y 1).val < 1024 := (y 1).isLt
  have hd : (y 1).val % 128 < 128 := Nat.mod_lt _ (by decide)
  have key := congrFun (after_at m c t ⟨(y 1).val / 128, by omega⟩) (ix2 ⟨(y 0).val, y0⟩ ⟨(y 1).val % 128, hd⟩)
  rw [truncf_apply] at key
  refine Eq.trans ?_ (key.trans ?_)
  · unfold oP
    rw [View.ld_apply]
    blk_ext
    · show (y 0).val = 0 + 1 * (y 0).val
      omega
    · show (y 1).val = 128 * ((y 1).val / 128) + 1 * ((y 1).val % 128)
      omega
  · refine (acc_out m c t _ hf _ _).trans ?_
    have e0 : (((win0_3.blk t).view.emb y) 0 : ℕ) = 256 * (16 * (t.val / 32) + t.val % 16) + (y 0).val := by
      blk_simp [idx t]
      dsimp only
      omega
    have e1 : (((win0_3.blk t).view.emb y) 1 : ℕ) = 1024 * (t.val / 16 % 2) + (y 1).val := by
      blk_simp [idx t]
      dsimp only
      omega
    unfold out
    generalize (win0_3.blk t).view.emb y = i at e0 e1
    have a0 : (⟨(i 0).val / 4096, by have h0 : (i 0).val < 16384 := (i 0).isLt; omega⟩ : Fin 4) = bOf t := Fin.ext (by show (i 0).val / 4096 = t.val / 32; omega)
    have a1 : (⟨(i 1).val / 128, by have h1 : (i 1).val < 2048 := (i 1).isLt; omega⟩ : Fin 16) = hOf t ⟨(y 1).val / 128, by omega⟩ :=
      Fin.ext (by show (i 1).val / 128 = 8 * (t.val / 16 % 2) + (y 1).val / 128; omega)
    have a2 : (i 0).val % 4096 = 256 * (t.val % 16) + (y 0).val := by omega
    have a3 : (⟨(i 1).val % 128, Nat.mod_lt _ (by decide)⟩ : Fin 128) = ⟨(y 1).val % 128, hd⟩ := Fin.ext (by show (i 1).val % 128 = (y 1).val % 128; omega)
    rw [a0, a1, a2, a3]

end Cert.KernelIdeal.SB
-- ==== Proof.Cumsum.lean ====
/-
  The running sum of the last axis taken from its end, as the reference prints it: a window as long as the axis, padded
  with zeros past the end.
-/
module

public import Idealize.ShloMosaic.PureOps.Ideal
public import Idealize.ShloMosaic.Lib.Pointwise

@[expose] public section

noncomputable section

namespace Stick

open Idealize.ShloMosaic

/-- Adding up a list from the left is the sum of its entries. -/
theorem foldl_add {α : Type} (l : List α) (g : α → EReal) : ∀ v, l.foldl (fun r k => r + g k) v = v + (l.map g).sum := by
  induction l with
  | nil => intro v; simp
  | cons a l ih => intro v; rw [List.foldl_cons, ih, List.map_cons, List.sum_cons, add_assoc]

/-- The same over all positions. -/
theorem foldl_add_finRange (n : ℕ) (g : Fin n → EReal) (v : EReal) :
    (List.finRange n).foldl (fun r k => r + g k) v = v + ∑ k, g k := by
  rw [foldl_add, Fin.sum_univ_def]

/-- A window of one row of length `N`, by its position in the row. -/
def rowEquiv (N : ℕ) : (⟨4, ![1, 1, 1, N]⟩ : Shape).Idx ≃ Fin N where
  toFun w := w 3
  invFun k := ix4 (0 : Fin 1) (0 : Fin 1) (0 : Fin 1) k
  left_inv w := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv k := rfl

/-- Entry `t` of the running sum is the sum of the entries from `t` on. -/
theorem cumsum_at {A B C N Nm1 : ℕ} (x : (⟨4, ![A, B, C, N]⟩ : Shape).Idx → EReal)
    (h : (⟨4, ![A, B, C, N]⟩ : Shape).ReduceWindows (![1, 1, 1, N] : Fin 4 → ℕ) ![1, 1, 1, 1] ![0, 0, 0, 0] ![0, 0, 0, Nm1] ⟨4, ![A, B, C, N]⟩)
    (a : Fin A) (b : Fin B) (c : Fin C) (t : Fin N) (X : ℕ → EReal) (hX : ∀ u : Fin N, x (ix4 a b c u) = X u.val) :
    Ideal.hostReduceWindowAdd ![1, 1, 1, N] ![1, 1, 1, 1] ![0, 0, 0, 0] ![0, 0, 0, Nm1] h x 0 (ix4 a b c t)
      = ∑ u ∈ Finset.Ico t.val N, X u := by
  unfold Ideal.hostReduceWindowAdd Host.reduceWindow
  dsimp only
  rw [foldl_add_finRange, zero_add]
  rw [← Equiv.sum_comp (Shape.rowMajor ⟨4, ![1, 1, 1, N]⟩)]
  rw [← Equiv.sum_comp (rowEquiv N).symm]
  have ht := t.isLt
  have e : ∀ k : Fin N, (if t.val + k.val < N then X (t.val + k.val) else 0) = (fun n : ℕ => if t.val + n < N then X (t.val + n) else 0) k.val := fun _ => rfl
  refine (Finset.sum_congr (g := fun k : Fin N => if t.val + k.val < N then X (t.val + k.val) else 0) rfl fun k _ => ?_).trans ?_
  · simp only [Equiv.symm_apply_apply]
    split
    · next hin =>
      have h3 := hin 3
      change 0 ≤ t.val * 1 + k.val ∧ t.val * 1 + k.val - 0 < N at h3
      rw [if_pos (by omega)]
      refine (congrArg x (funext fun q => Fin.ext ?_)).trans (hX ⟨t.val + k.val, by omega⟩)
      match q with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show t.val * 1 + k.val - 0 = t.val + k.val; omega
    · next hin =>
      rw [if_neg fun hle => hin fun q => by
        have := a.isLt
        have := b.isLt
        have := c.isLt
        match q with
        | ⟨0, _⟩ => show 0 ≤ a.val * 1 + 0 ∧ a.val * 1 + 0 - 0 < A; omega
        | ⟨1, _⟩ => show 0 ≤ b.val * 1 + 0 ∧ b.val * 1 + 0 - 0 < B; omega
        | ⟨2, _⟩ => show 0 ≤ c.val * 1 + 0 ∧ c.val * 1 + 0 - 0 < C; omega
        | ⟨3, _⟩ => show 0 ≤ t.val * 1 + k.val ∧ t.val * 1 + k.val - 0 < N; omega]
  · rw [Finset.sum_congr rfl fun k _ => e k, Fin.sum_univ_eq_sum_range (fun n : ℕ => if t.val + n < N then X (t.val + n) else 0) N,
      Finset.sum_Ico_eq_sum_range, ← Finset.sum_filter]
    refine Finset.sum_congr (Finset.ext fun n => ?_) fun _ _ => rfl
    rw [Finset.mem_range, Finset.mem_filter, Finset.mem_range]
    omega

end Stick
-- ==== Proof.Ref.lean ====
/-
  The reference's result, read at an index: the same sum.
-/
module

public import proofs.«01_k».proof.Proof.Spec
public import proofs.«01_k».proof.Proof.Cumsum
public import proofs.«01_k».proof.Proof.Gen.ReferenceIdeal.Read
public import Idealize.ShloMosaic.Lib.WordCmp

@[expose] public section

set_option maxRecDepth 16384

noncomputable section

namespace Cert.ReferenceIdeal.SB

open Idealize.ShloMosaic Idealize.ShloMosaic.TcCoe Idealize.SL.Sem
open Cert.ReferenceIdeal Cert.ReferenceIdeal.Gen Cert.ReferenceIdeal.Read Stick
open Cert.KernelIdeal.SB (row colQ colK colV zR attn out AreReal)

variable (Q : FVec Ideal S4x4096x2048 .f32) (KV : FVec Ideal S4x4096x4096 .f32) (b : Fin 4) (h : Fin 16) (R t : Fin 4096)

/-- The scores. -/
theorem z_at (hf : AreReal Q KV) : val_main_v9 (F := Ideal) Q KV (ix4 b h R t) = (zR Q KV b h R.val t.val : EReal) := by
  pointwise [val_main_v9, val_main_v8, val_main_v7, val_main_v6, val_main_v0, val_main_v3, val_main_v1, val_main_cst]
  rw [Cert.KernelIdeal.SB.sqrt_128, Ideal.div_coe Cert.KernelIdeal.SB.sqrt_128_ne]
  unfold zR
  refine Eq.trans ?_ (congrArg (fun x : ℝ => (x : EReal)) (div_eq_mul_one_div _ (Real.sqrt 128)).symm)
  rw [EReal.coe_mul, coe_sum]
  refine congrArg (· * _) (Finset.sum_congr rfl fun d _ => ?_)
  rw [EReal.coe_mul, ← hf.q, ← hf.k]
  have := R.isLt
  have := t.isLt
  have e0 : row R.val = R := Fin.ext (Nat.mod_eq_of_lt R.isLt)
  have e1 : row t.val = t := Fin.ext (Nat.mod_eq_of_lt t.isLt)
  rw [e0, e1]
  congr 1
  · refine congrArg Q ?_
    congr 1
    exact Fin.ext (by show h.val * 128 + d.val = 128 * h.val + d.val; omega)
  · refine congrArg KV ?_
    congr 1
    exact Fin.ext (by show h.val * 128 + d.val = 128 * h.val + d.val; omega)

/-- The softplus of an extended real that is real, as the reference spells it out. -/
theorem softplus_coe (z : ℝ) : max (z : EReal) 0 + Ideal.log1p (Ideal.exp (-FloatOps.absf (F := Ideal) (φ := .f32) (z : EReal))) = (softplus z : EReal) := by
  have e1 : FloatOps.absf (F := Ideal) (φ := .f32) (z : EReal) = ((|z| : ℝ) : EReal) := by
    show max (z : EReal) (-(z : EReal)) = _
    rw [← EReal.coe_neg, ← coe_max]
    rfl
  rw [e1, ← EReal.coe_neg, Ideal.exp_coe]
  have e2 : Ideal.log1p ((Real.exp (-|z|) : ℝ) : EReal) = ((Real.log (1 + Real.exp (-|z|)) : ℝ) : EReal) := by
    show Ideal.log (1 + ((Real.exp (-|z|) : ℝ) : EReal)) = _
    rw [← EReal.coe_one, ← EReal.coe_add, Ideal.log_coe, if_neg (not_le.mpr (by positivity))]
  rw [e2, ← EReal.coe_zero, ← coe_max, ← EReal.coe_add]
  rfl

/-- The softplus of a score. -/
theorem sp_at (z : ℝ) (hz : val_main_v9 (F := Ideal) Q KV (ix4 b h R t) = (z : EReal)) : val_main_v15 (F := Ideal) Q KV (ix4 b h R t) = (softplus z : EReal) := by
  pointwise [val_main_v15, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  rw [if_neg (fun hne => hne rfl), hz]
  exact softplus_coe z

/-- The logarithm of a score's sigmoid. -/
theorem ls_at (z : ℝ) (hz : val_main_v9 (F := Ideal) Q KV (ix4 b h R t) = (z : EReal)) : val_main_v19 (F := Ideal) Q KV (ix4 b h R t) = ((-softplus (-z) : ℝ) : EReal) := by
  have hn : val_main_call3_v0 (F := Ideal) Q KV (ix4 b h R t) = ((-z : ℝ) : EReal) := by
    pointwise [val_main_call3_v0]
    rw [hz, EReal.coe_neg]
  pointwise [val_main_v19, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst]
  rw [if_neg (fun hne => hne rfl), hn, EReal.coe_neg]
  exact congrArg (- ·) (softplus_coe (-z))

/-- A key counts for a row when it comes before it. -/
theorem slt_eq : IntOp.cmpi CmpIPredicate.slt (BitVec.ofNat 32 t.val) (BitVec.ofNat 32 R.val) = BitVec.ofBool (decide (t.val < R.val)) :=
  WordCmp.cmpi_slt_ofNat (by have := t.isLt; omega) (by have := R.isLt; omega)

/-- The softplus of the scores before the row, zero elsewhere. -/
theorem m_at (Z : ℕ → ℝ) (hz : val_main_v9 (F := Ideal) Q KV (ix4 b h R t) = (Z t.val : EReal)) :
    val_main_v16 (F := Ideal) Q KV (ix4 b h R t) = (SN Z R.val t.val : EReal) := by
  pointwise [val_main_v16, val_main_call1_v0, val_main_call1_v1, val_main_call1_v2, val_main_cst_0, val_main_v14, val_main_v13, val_main_v12, val_main_v11, val_main_v10, val_main_v5]
  rw [slt_eq, select_decide, sp_at Q KV b h R t _ hz]
  unfold SN
  split
  · rfl
  · show Ideal.ofBits .f32 0#32 = _
    simp

/-- The running sums, from the end. -/
theorem s_at (Z : ℕ → ℝ) (hz : ∀ u : Fin 4096, val_main_v9 (F := Ideal) Q KV (ix4 b h R u) = (Z u.val : EReal)) :
    val_main_v17 (F := Ideal) Q KV (ix4 b h R t) = ((∑ u ∈ Finset.Ico t.val 4096, SN Z R.val u : ℝ) : EReal) := by
  rw [coe_sum]
  have e0 : ∀ i, val_main_call2_v0 (F := Ideal) i = 0 := fun i => by
    pointwise [val_main_call2_v0, val_main_call2_cst]
  unfold val_main_v17 Host.reduceWindowAdd
  rw [e0, Ideal.hostReduceWindowAdd_def]
  exact cumsum_at _ _ b h R t (fun u => (SN Z R.val u : EReal)) fun u => m_at Q KV b h R u Z (hz u)

/-- The weights. -/
theorem w_at (Z : ℕ → ℝ) (hz : ∀ u : Fin 4096, val_main_v9 (F := Ideal) Q KV (ix4 b h R u) = (Z u.val : EReal)) :
    val_main_v22 (F := Ideal) Q KV (ix4 b h R t) = wt (fun u => Z u * (Real.log 2)⁻¹) R.val 4096 t.val := by
  pointwise [val_main_v22, val_main_call4_v0, val_main_call4_v1, val_main_call4_v2, val_main_cst_1, val_main_v14, val_main_v13, val_main_v12, val_main_v11, val_main_v10, val_main_v5]
  rw [slt_eq, select_decide]
  split
  · next hlt =>
    rw [weight_eq Z R.val 4096 t.val hlt]
    pointwise [val_main_v21, val_main_v20, val_main_v18]
    rw [ls_at Q KV b h R t _ (hz t), s_at Q KV b h R t Z hz, m_at Q KV b h R t Z (hz t), ← EReal.coe_sub, ← EReal.coe_sub, Ideal.exp_coe]
  · next hlt =>
    unfold wt
    rw [if_neg hlt]
    show Ideal.ofBits .f32 0#32 = _
    simp

/-- The reference's result is the attention, at every row and column. -/
theorem final (hf : AreReal Q KV) : val_main_v26 (F := Ideal) Q KV = out Q KV := by
  funext i
  pointwise [val_main_v26, val_main_v25, val_main_v24, val_main_v23, val_main_v4, val_main_v2]
  have h0 : (i 0).val < 16384 := (i 0).isLt
  have h1 : (i 1).val < 2048 := (i 1).isLt
  unfold out attn
  rw [Finset.sum_range]
  refine Finset.sum_congr rfl fun t _ => ?_
  rw [mul_comm]
  have e1 : row t.val = t := Fin.ext (Nat.mod_eq_of_lt t.isLt)
  refine congrArg₂ (· * ·) ?_ (congrArg KV ?_)
  · exact w_at Q KV ⟨(i 0).val / 4096, by omega⟩ ⟨(i 1).val / 128, by omega⟩ ⟨(i 0).val % 4096, Nat.mod_lt _ (by decide)⟩ t _
      fun u => z_at Q KV _ _ _ u hf
  · rw [e1]
    congr 1
    exact Fin.ext (by show 2048 + (i 1).val = 2048 + (128 * ((i 1).val / 128) + (i 1).val % 128); omega)

end Cert.ReferenceIdeal.SB
-- ==== Proof.Finite.lean ====
/-
  What the precondition says: the queries and the keys are real numbers.
-/
module

public import proofs.«01_k».proof.Proof.Spec
public import proofs.«01_k».proof.Pre_finite_qk
public import Idealize.ShloMosaic.Lib.Pointwise

@[expose] public section

set_option maxRecDepth 16384

noncomputable section

namespace Cert.KernelIdeal.SB

open Idealize.ShloMosaic Cert.KernelIdeal Stick

/-- An extended real whose absolute value is below infinity is a real number. -/
theorem real_of_abs_lt (x : EReal) (h : BitVec.ofBool (decide (FloatOps.absf (F := Ideal) (φ := .f32) x < Ideal.ofBits .f32 2139095040#32)) = 1#1) :
    x = ((x.toReal : ℝ) : EReal) := by
  have ht : Ideal.ofBits .f32 2139095040#32 = ⊤ := by
    simp [Ideal.ofBits, Ideal.ieee]
  rw [ht] at h
  have hx : max x (-x) < ⊤ := by
    by_contra hn
    rw [decide_eq_false (show ¬ FloatOps.absf (F := Ideal) (φ := .f32) x < (⊤ : EReal) from hn)] at h
    exact absurd h (by decide)
  induction x with
  | bot => exact absurd hx (by simp)
  | top => exact absurd hx (by simp)
  | coe r => rfl

/-- The precondition gives that the queries and the keys are real numbers. -/
theorem areReal_of_pre [Cert.Pre_finite_qk.Facts] (Q : FVec Ideal S4x4096x2048 .f32) (KV : FVec Ideal S4x4096x4096 .f32)
    (h : Cert.Pre_finite_qk.fn (F := Ideal) Q KV = fun _ => 1#1) : AreReal Q KV := by
  have key : ∀ i : S4x4096x2048.Idx, Q i = ((Q i).toReal : EReal)
      ∧ ∀ j : S4x4096x4096.Idx, (∀ a, (j a).val = (i a).val) → KV j = ((KV j).toReal : EReal) := by
    intro i
    have hi := congrFun h i
    idx_vars i
    have e : ∀ x y : BitVec 1, x &&& y = 1#1 → x = 1#1 ∧ y = 1#1 := by decide
    pointwise [Cert.Pre_finite_qk.fn] at hi
    obtain ⟨e1, e2⟩ := e _ _ hi
    refine ⟨real_of_abs_lt _ e1, fun j hj => ?_⟩
    have ej : j = ix3 i0 i1 ⟨i2.val, by have := i2.isLt; omega⟩ := funext fun a => Fin.ext (by
      match a with
      | ⟨0, _⟩ => exact hj 0
      | ⟨1, _⟩ => exact hj 1
      | ⟨2, _⟩ => exact hj 2)
    rw [ej]
    exact real_of_abs_lt _ e2
  refine ⟨fun i => (key i).1, fun b s h d => (key (ix3 b s (colQ h d))).2 _ fun a => ?_⟩
  match a with
  | ⟨0, _⟩ => rfl
  | ⟨1, _⟩ => rfl
  | ⟨2, _⟩ => rfl

end Cert.KernelIdeal.SB
-- ==== Proof.FfnSpec.lean ====
/-
  What the feed-forward kernel and its reference both compute, row by row, over the extended reals.
-/
module

public import proofs.«01_k».proof.Proof.Gen.Reference2Ideal
public import Idealize.ShloMosaic.Lib.Pointwise

@[expose] public section

noncomputable section

namespace Ffn

open Idealize.ShloMosaic Idealize.ShloMosaic.TcCoe Cert.Reference2Ideal

/-- The root-mean-square norm of a row, before any gain: each entry times the reciprocal root of the row's mean square. -/
def nrm (x : Fin 2048 → EReal) (k : Fin 2048) : EReal :=
  x k * Ideal.rsqrt (Ideal.div (∑ j, x j * x j) (Ideal.ofBits .f32 0x45000000#32) + Ideal.ofBits .f32 0x358637BD#32)

/-- The row that enters the two projections: normed, with gain `g` and scale `1 + sc`, then shifted by `sh`. -/
def modRow (x g sc sh : Fin 2048 → EReal) (k : Fin 2048) : EReal := nrm x k * (g k * (1 + sc k)) + sh k

/-- One hidden unit: the gate's projection times its sigmoid, times the other projection. -/
def unit (h wg wu : Fin 2048 → EReal) : EReal :=
  (∑ k, h k * wg k) * Ideal.logistic (∑ k, h k * wg k) * ∑ k, h k * wu k

/-- The row that leaves: the residual plus the normed row `y` with gate `g2` and gain `go`. -/
def resRow (x y g2 go : Fin 2048 → EReal) (k : Fin 2048) : EReal := x k + nrm y k * (g2 k * go k)

variable (X : FVec Ideal S4x4096x2048 .f32) (NG : FVec Ideal S4x4x2048 .f32) (SH SC G2 : FVec Ideal S4x2048 .f32)
  (WI : FVec Ideal S4x2048x11264 .f32) (WO : FVec Ideal S4x5632x2048 .f32) (b : Fin 4) (s : Fin 4096)

/-- Token `s` of batch `b`, normed and modulated. -/
def hid (k : Fin 2048) : EReal :=
  modRow (fun k => X (ix3 b s k)) (fun k => NG (ix3 3 2 k)) (fun k => SC (ix2 b k)) (fun k => SH (ix2 b k)) k

/-- Its hidden unit `f`: the gate's columns are the first 5632 of the input weights, the other projection's the rest. -/
def act (f : Fin 5632) : EReal :=
  unit (hid X NG SH SC b s) (fun k => WI (ix3 3 k ⟨f.val, by have := f.isLt; omega⟩))
    (fun k => WI (ix3 3 k ⟨5632 + f.val, by have := f.isLt; omega⟩))

/-- The feed-forward's row. -/
def ffn (k : Fin 2048) : EReal := ∑ f : Fin 5632, act X NG SH SC WI b s f * WO (ix3 3 f k)

/-- The layer's row: the residual plus the gated norm of the feed-forward's row. -/
def rowOut (k : Fin 2048) : EReal :=
  resRow (fun k => X (ix3 b s k)) (ffn X NG SH SC WI WO b s) (fun k => G2 (ix2 b k)) (fun k => NG (ix3 3 3 k)) k

/-- The whole result: row `i 0` of all the batches' tokens, column `i 1`. -/
def out (i : S16384x2048.Idx) : EReal :=
  rowOut X NG SH SC G2 WI WO ⟨(i 0).val / 4096, by have h0 : (i 0).val < 16384 := (i 0).isLt; omega⟩
    ⟨(i 0).val % 4096, Nat.mod_lt _ (by decide)⟩ (i 1)

end Ffn
-- ==== Proof.RowPieces.lean ====
/-
  Blocks of whole rows stored one over another into a buffer of 2048 columns, and what the buffer then holds: the two
  patterns in which the kernels norm rows, eight or sixteen at a time.
-/
module

public import proofs.«01_k».proof.Proof.FfnSpec
public import Idealize.ShloMosaic.Lib.Pipeline.ValueKit
public import Idealize.ShloMosaic.Lib.Pointwise

@[expose] public section

set_option maxRecDepth 16384

noncomputable section

namespace RowPieces

open Idealize.ShloMosaic Idealize.ShloMosaic.TcCoe Idealize.SL.Sem

section One

variable {F : FTy → Type} [FloatOps F] {N : ℕ}

/-- A store of `n` whole rows at row `o`, read back at one of them. -/
theorem canon_rows_hit {e : EltTy} {n o : ℕ} {off : Fin 2 → ℕ} (ho : off = ![o, 0])
    (inb : ∀ a, off a + (![n, 2048] : Fin 2 → ℕ) a ≤ (⟨2, ![N, 2048]⟩ : Shape).size a)
    (w : (⟨2, ![n, 2048]⟩ : Shape).Idx → Elt F e) (L : List (View.Piece (Elt F) ⟨2, ![N, 2048]⟩ e)) (r : Fin N) (k : Fin 2048)
    (h0 : o ≤ r.val) (h1 : r.val - o < n) :
    View.canon (Val := Elt F) ((⟨Rect.unit (s := ⟨2, ![N, 2048]⟩) off ![n, 2048] inb, w⟩ : View.Piece (Elt F) ⟨2, ![N, 2048]⟩ e) :: L) (ix2 r k)
      = w (ix2 ⟨r.val - o, h1⟩ k) := by
  subst ho
  have e : (ix2 r k : (⟨2, ![N, 2048]⟩ : Shape).Idx) = (Rect.unit (s := ⟨2, ![N, 2048]⟩) ![o, 0] ![n, 2048] inb).emb (ix2 ⟨r.val - o, h1⟩ k) := by
    funext a
    apply Fin.ext
    refine Eq.trans ?_ (Rect.idx_unit_val _ _ _ _ a).symm
    fin_cases a
    · show r.val = o + (r.val - o)
      omega
    · show k.val = 0 + k.val
      omega
  refine (congrArg _ e).trans ?_
  exact View.canon_cons_emb (Val := Elt F) (Rect.unit (s := ⟨2, ![N, 2048]⟩) ![o, 0] ![n, 2048] inb) w L (ix2 ⟨r.val - o, h1⟩ k)

/-- A store of `n` whole rows at row `o`, read back at another row: what was there before. -/
theorem canon_rows_miss {e : EltTy} {n o : ℕ} {off : Fin 2 → ℕ} (ho : off = ![o, 0])
    (inb : ∀ a, off a + (![n, 2048] : Fin 2 → ℕ) a ≤ (⟨2, ![N, 2048]⟩ : Shape).size a)
    (w : (⟨2, ![n, 2048]⟩ : Shape).Idx → Elt F e) (L : List (View.Piece (Elt F) ⟨2, ![N, 2048]⟩ e)) (r : Fin N) (k : Fin 2048)
    (h : r.val < o ∨ o + n ≤ r.val) :
    View.canon (Val := Elt F) ((⟨Rect.unit (s := ⟨2, ![N, 2048]⟩) off ![n, 2048] inb, w⟩ : View.Piece (Elt F) ⟨2, ![N, 2048]⟩ e) :: L) (ix2 r k)
      = View.canon (Val := Elt F) L (ix2 r k) := by
  subst ho
  refine View.canon_cons_of_not_mem _ L fun hm => ?_
  have h' : o ≤ r.val ∧ r.val < o + n := (Rect.mem_set_unit (inb := inb)).mp hm 0
  omega

/-- `n` rows of an array, from row `o` on. -/
theorem rows_idx {n o : ℕ} (ho : o + n ≤ N) (inb : ∀ a, (![o, 0] : Fin 2 → ℕ) a + (![n, 2048] : Fin 2 → ℕ) a ≤ (⟨2, ![N, 2048]⟩ : Shape).size a)
    (r : Fin n) (j : Fin 2048) :
    (Rect.unit (s := ⟨2, ![N, 2048]⟩) ![o, 0] ![n, 2048] inb).toLoadRect.idx (ix2 r j) = ix2 ⟨o + r.val, by omega⟩ j := by
  funext a
  apply Fin.ext
  refine (Rect.idx_unit_val _ _ _ _ a).trans ?_
  fin_cases a
  · rfl
  · exact Nat.zero_add _

end One

section Pieces

variable {F : FTy → Type} [FloatOps F] {sig : RefSig} {N : ℕ}
variable (xr : Memref sig .tc .vmem ⟨2, ![N, 2048]⟩ .f32) (hxr : xr.IsWhole) (yr : Memref sig .tc .vmem ⟨2, ![N, 2048]⟩ .f32)
  (x0 big : Vec F ⟨2, ![N, 2048]⟩ .f32)

/-- The stores into an output after `n` blocks of eight rows: first all of it is stored as `big`, then block by block
    the eight rows are read back and stored again, changed by `pay`, which also sees the same rows of the residual. -/
inductive Norm (pay : Vec F ⟨2, ![8, 2048]⟩ .f32 → Vec F ⟨2, ![8, 2048]⟩ .f32 → FVec F ⟨2, ![8, 2048]⟩ .f32) :
    ℕ → List (View.Piece (Elt F) ⟨2, ![N, 2048]⟩ .f32) → Prop
  | zero (off : Fin 2 → ℕ) (ho : off = ![0, 0]) (inb : ∀ a, off a + (![N, 2048] : Fin 2 → ℕ) a ≤ (⟨2, ![N, 2048]⟩ : Shape).size a)
      (w : (⟨2, ![N, 2048]⟩ : Shape).Idx → Elt F .f32) (hw : w = big) :
      Norm pay 0 [⟨Rect.unit (s := ⟨2, ![N, 2048]⟩) off ![N, 2048] inb, w⟩]
  | succ (n : ℕ) (L : List (View.Piece (Elt F) ⟨2, ![N, 2048]⟩ .f32)) (h : Norm pay n L) (off : Fin 2 → ℕ) (ho : off = ![8 * n, 0])
      (inb : ∀ a, off a + (![8, 2048] : Fin 2 → ℕ) a ≤ (⟨2, ![N, 2048]⟩ : Shape).size a) (w : (⟨2, ![8, 2048]⟩ : Shape).Idx → Elt F .f32)
      (hw : w = pay (yr.view.readCov L (Rect.unit (s := ⟨2, ![N, 2048]⟩) off ![8, 2048] inb).toLoadRect)
        (View.readAt (Elt F) xr.view (Rect.unit (s := ⟨2, ![N, 2048]⟩) off ![8, 2048] inb).toLoadRect (hxr.unread x0))) :
      Norm pay (n + 1) (⟨Rect.unit (s := ⟨2, ![N, 2048]⟩) off ![8, 2048] inb, w⟩ :: L)

/-- The stores into a scratch after `n` blocks of sixteen rows, each made by `pay` from the same rows of the input. -/
inductive Mod (pay : Vec F ⟨2, ![16, 2048]⟩ .f32 → FVec F ⟨2, ![16, 2048]⟩ .bf16) :
    ℕ → List (View.Piece (Elt F) ⟨2, ![N, 2048]⟩ .bf16) → Prop
  | zero : Mod pay 0 []
  | succ (n : ℕ) (L : List (View.Piece (Elt F) ⟨2, ![N, 2048]⟩ .bf16)) (h : Mod pay n L) (off : Fin 2 → ℕ) (ho : off = ![16 * n, 0])
      (inb : ∀ a, off a + (![16, 2048] : Fin 2 → ℕ) a ≤ (⟨2, ![N, 2048]⟩ : Shape).size a) :
      Mod pay (n + 1) (⟨Rect.unit (s := ⟨2, ![N, 2048]⟩) off ![16, 2048] inb,
        pay (View.readAt (Elt F) xr.view (Rect.unit (s := ⟨2, ![N, 2048]⟩) off ![16, 2048] inb).toLoadRect (hxr.unread x0))⟩ :: L)

end Pieces

section At

variable {sig : RefSig} {N : ℕ}
variable (xr : Memref sig .tc .vmem ⟨2, ![N, 2048]⟩ .f32) (hxr : xr.IsWhole) (yr : Memref sig .tc .vmem ⟨2, ![N, 2048]⟩ .f32)
  (x0 big : Vec Ideal ⟨2, ![N, 2048]⟩ .f32)

/-- What the output holds after `n` blocks of eight rows, when `pay` norms a row and adds it to the residual with factors
    `v`: the rows stored so far are normed and added, the others are as first stored. -/
theorem norm_at (pay : Vec Ideal ⟨2, ![8, 2048]⟩ .f32 → Vec Ideal ⟨2, ![8, 2048]⟩ .f32 → FVec Ideal ⟨2, ![8, 2048]⟩ .f32) (v : Fin 2048 → EReal)
    (hpay : ∀ a x (r : Fin 8) (k : Fin 2048), pay a x (ix2 r k) = x (ix2 r k) + _root_.Ffn.nrm (fun j => a (ix2 r j)) k * v k)
    (n : ℕ) (L : List (View.Piece (Elt Ideal) ⟨2, ![N, 2048]⟩ .f32)) (hN : Norm xr hxr yr x0 big pay n L) :
    8 * n ≤ N → ∀ (r : Fin N) (k : Fin 2048), View.canon (Val := Elt Ideal) L (ix2 r k)
      = if r.val < 8 * n then x0 (ix2 r k) + _root_.Ffn.nrm (fun j => big (ix2 r j)) k * v k else big (ix2 r k) := by
  induction hN with
  | zero off ho inb w hw =>
    intro _ r k
    rw [canon_rows_hit ho inb w [] r k (Nat.zero_le _) (by have := r.isLt; omega), if_neg (by omega), hw]
    rfl
  | succ n L h off ho inb w hw ih =>
    intro hn r k
    subst ho
    have ih := ih (by omega)
    by_cases hr : 8 * n ≤ r.val ∧ r.val < 8 * n + 8
    · rw [canon_rows_hit rfl inb w L r k hr.1 (by omega), if_pos (by omega), hw]
      refine (hpay _ _ ⟨r.val - 8 * n, by omega⟩ k).trans ?_
      have er : ∀ j : Fin 2048, (Rect.unit (s := ⟨2, ![N, 2048]⟩) ![8 * n, 0] ![8, 2048] inb).toLoadRect.idx (ix2 ⟨r.val - 8 * n, by omega⟩ j) = ix2 r j := fun j =>
        (rows_idx (by omega) inb _ j).trans (congrArg (fun q => ix2 q j) (Fin.ext (by show 8 * n + (r.val - 8 * n) = r.val; omega)))
      refine congrArg₂ (· + ·) ?_ (congrArg (· * v k) (congrArg (fun f => _root_.Ffn.nrm f k) (funext fun j => ?_)))
      · refine (View.readAt_apply _ _ _).trans ?_
        rw [hxr.read_unread, er k]
      · rw [View.readCov_eq_canon']
        refine (congrArg (View.canon (Val := Elt Ideal) L) (er j)).trans ?_
        rw [ih r j, if_neg (by omega)]
    · rw [canon_rows_miss rfl inb w L r k (by omega), ih r k]
      by_cases h1 : r.val < 8 * n
      · rw [if_pos h1, if_pos (by omega)]
      · rw [if_neg h1, if_neg (by omega)]

/-- What the scratch holds in the rows of the first `n` blocks of sixteen, when `pay` norms and modulates a row. -/
theorem mod_at (pay : Vec Ideal ⟨2, ![16, 2048]⟩ .f32 → FVec Ideal ⟨2, ![16, 2048]⟩ .bf16) (g sc sh : Fin 2048 → EReal)
    (hpay : ∀ x (r : Fin 16) (k : Fin 2048), pay x (ix2 r k) = _root_.Ffn.modRow (fun j => x (ix2 r j)) g sc sh k)
    (n : ℕ) (L : List (View.Piece (Elt Ideal) ⟨2, ![N, 2048]⟩ .bf16)) (hM : Mod xr hxr x0 pay n L) :
    16 * n ≤ N → ∀ (r : Fin N) (k : Fin 2048), r.val < 16 * n → View.canon (Val := Elt Ideal) L (ix2 r k)
      = _root_.Ffn.modRow (fun j => x0 (ix2 r j)) g sc sh k := by
  induction hM with
  | zero =>
    intro _ r k hr
    omega
  | succ n L h off ho inb ih =>
    intro hn r k hr
    subst ho
    by_cases h0 : 16 * n ≤ r.val
    · refine (canon_rows_hit rfl inb _ L r k h0 (by omega)).trans ?_
      refine (hpay _ _ k).trans ?_
      refine congrArg (fun f => _root_.Ffn.modRow f _ _ _ k) (funext fun j => ?_)
      refine (View.readAt_apply _ _ _).trans ?_
      rw [hxr.read_unread]
      refine congrArg x0 ((rows_idx (by omega) inb _ j).trans (congrArg (fun q => ix2 q j) (Fin.ext ?_)))
      show 16 * n + (r.val - 16 * n) = r.val
      omega
    · exact (canon_rows_miss rfl inb _ L r k (by omega)).trans (ih (by omega) r k (by omega))

end At

end RowPieces
-- ==== Proof.FfnCell.lean ====
/-
  The feed-forward kernel's arithmetic at an index.
-/
module

public import proofs.«01_k».proof.Proof.RowPieces
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- Sixteen rows, normed and modulated: row by row the specification's. -/
theorem pay1_at (g : Vec Ideal S1x2048 .f32) (sc sh : Vec Ideal S1x1x2048 .f32) (x : Vec Ideal S16x2048 .f32) (r : Fin 16) (k : Fin 2048) :
    k0_pay1 g sc sh x (ix2 r k)
      = _root_.Ffn.modRow (fun j => x (ix2 r j)) (fun j => g (ix2 0 j)) (fun j => sc (ix3 0 0 j)) (fun j => sh (ix3 0 0 j)) k := by
  pointwise [k0_pay1]
  rfl

/-- The accumulator starts at zero. -/
theorem pay2_at (r : Fin 1024) (k : Fin 2048) : k0_pay2 (F := Ideal) (ix2 r k) = 0 := by
  pointwise [k0_pay2]

/-- One block of hidden units: the accumulator plus their contribution. -/
theorem pay3_at (h : Vec Ideal S1024x2048 .bf16) (wg wu : Vec Ideal S1x2048x512 .bf16) (acc : Vec Ideal S1024x2048 .f32)
    (wo : Vec Ideal S1x512x2048 .bf16) (r : Fin 1024) (k : Fin 2048) :
    k0_pay3 h wg wu acc wo (ix2 r k)
      = acc (ix2 r k) + ∑ f : Fin 512, _root_.Ffn.unit (fun j => h (ix2 r j)) (fun j => wg (ix3 0 j f)) (fun j => wu (ix3 0 j f)) * wo (ix3 0 f k) := by
  pointwise [k0_pay3]
  rfl

/-- The gate times the gain. -/
theorem pay6_at (g2 : Vec Ideal S1x1x2048 .f32) (go : Vec Ideal S1x2048 .f32) (k : Fin 2048) :
    k0_pay6 g2 go (ix2 0 k) = g2 (ix3 0 0 k) * go (ix2 0 k) := by
  pointwise [k0_pay6]

/-- Eight rows: the residual plus the gated norm. -/
theorem pay5_at (v : FVec Ideal S1x2048 .f32) (a x : Vec Ideal S8x2048 .f32) (r : Fin 8) (k : Fin 2048) :
    k0_pay5 v a x (ix2 r k) = x (ix2 r k) + _root_.Ffn.nrm (fun j => a (ix2 r j)) k * v (ix2 0 k) := by
  pointwise [k0_pay5]
  rfl

end Cert.Kernel2Ideal.Ffn
-- ==== Proof.FfnBlocks.lean ====
/-
  What the feed-forward kernel's grid points find in their input blocks, in terms of the arrays as launched.
-/
module

public import proofs.«01_k».proof.Proof.FfnCell

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The residual stream as launched. -/
abbrev Xa (c : Dev nD) : FVec Ideal S4x4096x2048 .f32 := m ((c : Thread nD τ).loc main_arg0)
/-- The norms' gains as launched. -/
abbrev NGa (c : Dev nD) : FVec Ideal S4x4x2048 .f32 := m ((c : Thread nD τ).loc main_arg1)
/-- The shifts as launched. -/
abbrev SHa (c : Dev nD) : FVec Ideal S4x2048 .f32 := m ((c : Thread nD τ).loc main_arg2)
/-- The scales as launched. -/
abbrev SCa (c : Dev nD) : FVec Ideal S4x2048 .f32 := m ((c : Thread nD τ).loc main_arg3)
/-- The gates as launched. -/
abbrev G2a (c : Dev nD) : FVec Ideal S4x2048 .f32 := m ((c : Thread nD τ).loc main_arg4)
/-- The input weights as launched. -/
abbrev WIa (c : Dev nD) : FVec Ideal S4x2048x11264 .f32 := m ((c : Thread nD τ).loc main_arg5)
/-- The output weights as launched. -/
abbrev WOa (c : Dev nD) : FVec Ideal S4x5632x2048 .f32 := m ((c : Thread nD τ).loc main_arg6)

/-- The block index of every window at every grid point, in closed form. -/
theorem idx : ∀ t : Fin cfg0.N,
    win0_0.index t = ![t.val / 11, 0]
    ∧ win0_2.index t = ![t.val / 44, 0, 0]
    ∧ win0_3.index t = ![t.val / 44, 0, 0]
    ∧ win0_4.index t = ![3, 0, t.val % 11]
    ∧ win0_5.index t = ![3, 0, 11 + t.val % 11]
    ∧ win0_6.index t = ![3, t.val % 11, 0]
    ∧ win0_7.index t = ![t.val / 44, 0, 0]
    ∧ win0_9.index t = ![t.val / 11, 0]
    ∧ t.val < 176 ∧ win0_1.index t = ![0, 0] ∧ win0_8.index t = ![0, 0] :=
  (by decide +kernel : ∀ t : Fin grid0.N, _)

/-- There are 176 grid points. -/
theorem t_lt (t : Fin cfg0.N) : t.val < 176 := (idx t).2.2.2.2.2.2.2.2.1

/-- The batch a grid point works on. -/
def bOf (t : Fin cfg0.N) : Fin 4 := ⟨t.val / 44, by have := t_lt t; omega⟩

/-- The token that row `r` of a grid point's block is. -/
def sOf (t : Fin cfg0.N) (r : Fin 1024) : Fin 4096 := ⟨1024 * (t.val / 11 % 4) + r.val, by have := r.isLt; omega⟩

/-- The hidden unit that column `f` of a grid point's block is. -/
def fOf (t : Fin cfg0.N) (f : Fin 512) : Fin 5632 := ⟨512 * (t.val % 11) + f.val, by have := f.isLt; omega⟩

section host
variable (c : Dev nD)

/-- The stream as the kernel finds it: the batches' tokens one after another. -/
theorem V3_at (i) (b : Fin 4) (s : Fin 4096) (k : Fin 2048) (h0 : (i 0).val = 4096 * b.val + s.val) (h1 : (i 1).val = k.val) :
    V m c main_v3 i = (Xa m c) (ix3 b s k) := by
  entry_read
  pointwise
  have := s.isLt
  have e0 : (i 0).val / 4096 = b.val := by omega
  have e1 : (i 0).val % 4096 = s.val := by omega
  blk_ext [e0, e1]

/-- The gain before the feed-forward. -/
theorem V5_at (i) (k : Fin 2048) (h0 : (i 0).val = 0) (h1 : (i 1).val = k.val) :
    V m c main_v5 i = (NGa m c) (ix3 3 2 k) := by
  entry_read
  pointwise
  blk_ext

/-- The shift. -/
theorem V6_at (i) (b : Fin 4) (k : Fin 2048) (h0 : (i 0).val = b.val) (h1 : (i 1).val = 0) (h2 : (i 2).val = k.val) :
    V m c main_v6 i = (SHa m c) (ix2 b k) := by
  entry_read
  pointwise
  blk_ext

/-- The scale. -/
theorem V7_at (i) (b : Fin 4) (k : Fin 2048) (h0 : (i 0).val = b.val) (h1 : (i 1).val = 0) (h2 : (i 2).val = k.val) :
    V m c main_v7 i = (SCa m c) (ix2 b k) := by
  entry_read
  pointwise
  blk_ext

/-- The input weights. -/
theorem V8_at (i) (l : Fin 4) (k : Fin 2048) (f : Fin 11264) (h0 : (i 0).val = l.val) (h1 : (i 1).val = k.val) (h2 : (i 2).val = f.val) :
    V m c main_v8 i = (WIa m c) (ix3 l k f) := by
  entry_read
  pointwise
  blk_ext

/-- The output weights. -/
theorem V9_at (i) (l : Fin 4) (f : Fin 5632) (k : Fin 2048) (h0 : (i 0).val = l.val) (h1 : (i 1).val = f.val) (h2 : (i 2).val = k.val) :
    V m c main_v9 i = (WOa m c) (ix3 l f k) := by
  entry_read
  pointwise
  blk_ext

/-- The gate. -/
theorem V10_at (i) (b : Fin 4) (k : Fin 2048) (h0 : (i 0).val = b.val) (h1 : (i 1).val = 0) (h2 : (i 2).val = k.val) :
    V m c main_v10 i = (G2a m c) (ix2 b k) := by
  entry_read
  pointwise
  blk_ext

/-- The gain after the feed-forward. -/
theorem V12_at (i) (k : Fin 2048) (h0 : (i 0).val = 0) (h1 : (i 1).val = k.val) :
    V m c main_v12 i = (NGa m c) (ix3 3 3 k) := by
  entry_read
  pointwise
  blk_ext

end host

section point
variable (c : Dev nD) (t : Fin cfg0.N)

/-- The point's rows of the stream. -/
theorem x_at (r : Fin 1024) (k : Fin 2048) : iblk m c 0 t (ix2 r k) = (Xa m c) (ix3 (bOf t) (sOf t r) k) := by
  have := t_lt t
  blk_simp [iblk]
  refine V3_at m c _ _ _ _ ?_ ?_
  · blk_simp [idx t, bOf, sOf]
    dsimp only
    omega
  · blk_simp [idx t]

/-- The point's gain before the feed-forward. -/
theorem g_at (k : Fin 2048) : iblk m c 1 t (ix2 0 k) = (NGa m c) (ix3 3 2 k) := by
  blk_simp [iblk]
  refine V5_at m c _ _ ?_ ?_ <;> blk_simp [idx t] <;> rfl

/-- The point's shift. -/
theorem sh_at (k : Fin 2048) : iblk m c 2 t (ix3 0 0 k) = (SHa m c) (ix2 (bOf t) k) := by
  blk_simp [iblk]
  refine V6_at m c _ _ _ ?_ ?_ ?_ <;> blk_simp [idx t, bOf] <;> rfl

/-- The point's scale. -/
theorem sc_at (k : Fin 2048) : iblk m c 3 t (ix3 0 0 k) = (SCa m c) (ix2 (bOf t) k) := by
  blk_simp [iblk]
  refine V7_at m c _ _ _ ?_ ?_ ?_ <;> blk_simp [idx t, bOf] <;> rfl

/-- The point's gate weights. -/
theorem wg_at (k : Fin 2048) (f : Fin 512) :
    iblk m c 4 t (ix3 0 k f) = (WIa m c) (ix3 3 k ⟨(fOf t f).val, by have := (fOf t f).isLt; omega⟩) := by
  blk_simp [iblk]
  refine V8_at m c _ _ _ _ ?_ ?_ ?_ <;> blk_simp [idx t, fOf] <;> first | rfl | omega | (dsimp only; omega)

/-- The point's other input weights. -/
theorem wu_at (k : Fin 2048) (f : Fin 512) :
    iblk m c 5 t (ix3 0 k f) = (WIa m c) (ix3 3 k ⟨5632 + (fOf t f).val, by have := (fOf t f).isLt; omega⟩) := by
  blk_simp [iblk]
  refine V8_at m c _ _ _ _ ?_ ?_ ?_ <;> blk_simp [idx t, fOf] <;> first | rfl | omega | (dsimp only; omega)

/-- The point's output weights. -/
theorem wo_at (f : Fin 512) (k : Fin 2048) : iblk m c 6 t (ix3 0 f k) = (WOa m c) (ix3 3 (fOf t f) k) := by
  blk_simp [iblk]
  refine V9_at m c _ _ _ _ ?_ ?_ ?_ <;> blk_simp [idx t, fOf] <;> first | rfl | omega | (dsimp only; omega)

/-- The point's gate. -/
theorem g2_at (k : Fin 2048) : iblk m c 7 t (ix3 0 0 k) = (G2a m c) (ix2 (bOf t) k) := by
  blk_simp [iblk]
  refine V10_at m c _ _ _ ?_ ?_ ?_ <;> blk_simp [idx t, bOf] <;> rfl

/-- The point's gain after the feed-forward. -/
theorem go_at (k : Fin 2048) : iblk m c 8 t (ix2 0 k) = (NGa m c) (ix3 3 3 k) := by
  blk_simp [iblk]
  refine V12_at m c _ _ ?_ ?_ <;> blk_simp [idx t] <;> rfl

end point

end Cert.Kernel2Ideal.Ffn
-- ==== Proof.FfnRunA.lean ====
/-
  One run of the feed-forward kernel's body at the first block of hidden units: the rows normed and modulated into the
  scratch, the accumulator started.
-/
module

public import proofs.«01_k».proof.Proof.FfnCell

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

section Run

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole)
    (x0 : Vec F S1024x2048 .f32) (x1 : Vec F S1x2048 .f32) (x2 x3 : Vec F S1x1x2048 .f32) (x4 x5 : Vec F S1x2048x512 .bf16) (x6 : Vec F S1x512x2048 .bf16) (x7 : Vec F S1x1x2048 .f32) (x8 : Vec F S1x2048 .f32) (xo9 : Vec F S1024x2048 .f32) (xs0 : Vec F S1024x2048 .bf16)

/-- One trip of the loop stores sixteen rows, normed and modulated. -/
theorem trip_eq (𝒱 : Variants) (bd : Option 𝒱.V) (h1 : k0_cond1 i = 1#1) (g : Vec F S1x2048 .f32) (sc sh : Vec F S1x1x2048 .f32)
    (X : BufTy.Contents (Elt F) arg2.view.ty) (t : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 h1 g sc sh X t
      = [⟨Rect.unit (s := S1024x2048) (k0_off1 t) ![16, 2048] (k0_off1_inb i t h1),
          k0_pay1 g sc sh (View.readAt (Elt F) arg2.view (Rect.unit (s := S1024x2048) (k0_off1 t) ![16, 2048] (k0_off1_inb i t h1)).toLoadRect X)⟩] := by
  unfold tripL_k0_t1 trip_k0_t1
  rfl

/-- The loop's stores before trip `n` are those of `RowPieces.Mod`. -/
theorem pb_mod (𝒱 : Variants) (bd : Option 𝒱.V) (h1 : k0_cond1 i = 1#1) (g : Vec F S1x2048 .f32) (sc sh : Vec F S1x1x2048 .f32) (n : ℕ) (hn : n ≤ 64) :
    RowPieces.Mod arg2 harg2 x0 (k0_pay1 g sc sh) n
      (pb_k0_t1 (F := F) 𝒱 c bd i arg2 harg2 arg3 harg3 arg4 harg4 arg5 harg5 arg6 harg6 arg7 harg7 arg8 harg8 arg9 harg9 arg10 harg10 arg11 harg11 arg12 harg12 h1 g sc sh (harg2.unread x0) n) := by
  induction n with
  | zero => exact RowPieces.Mod.zero
  | succ n ih =>
    have ht : n < k0_t1_loop.trips := lt_of_lt_of_eq (by omega) (by decide +kernel : 64 = k0_t1_loop.trips)
    have es := pb_k0_t1_succ (F := F) 𝒱 c bd i arg2 harg2 arg3 harg3 arg4 harg4 arg5 harg5 arg6 harg6 arg7 harg7 arg8 harg8 arg9 harg9 arg10 harg10 arg11 harg11 arg12 harg12 h1 g sc sh (harg2.unread x0) ⟨n, ht⟩
    rw [trip_eq, List.singleton_append] at es
    refine es ▸ ?_
    exact RowPieces.Mod.succ n _ (ih (by omega)) _ (k0_off1_eq ⟨n, ht⟩) _

/-- The output at the first block: the block's contribution, added to zeros. -/
theorem outA (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
      = k0_pay3 (sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) x4 x5 k0_pay2 x6 := by
  unfold out0_A_9 sout0_A_0
  unfold kernelRun0_A
  dsimp only
  unfold kernelRun0_A.sl.v14 kernelRun0_A.sl.H9_1
  frame_out
  rw [View.readCov_eq_canon']
  refine congrArg (fun h => k0_pay3 h x4 x5 k0_pay2 x6) (funext fun j => ?_)
  refine congrArg _ (funext fun a => Fin.ext ?_)
  refine (Rect.idx_unit_val _ _ _ _ a).trans ?_
  fin_cases a <;> exact Nat.zero_add _

end Run

section At

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole)
    (x0 : Vec Ideal S1024x2048 .f32) (x1 : Vec Ideal S1x2048 .f32) (x2 x3 : Vec Ideal S1x1x2048 .f32) (x4 x5 : Vec Ideal S1x2048x512 .bf16) (x6 : Vec Ideal S1x512x2048 .bf16) (x7 : Vec Ideal S1x1x2048 .f32) (x8 : Vec Ideal S1x2048 .f32) (xo9 : Vec Ideal S1024x2048 .f32) (xs0 : Vec Ideal S1024x2048 .bf16)

/-- After the first block the scratch holds the rows normed and modulated. -/
theorem soutA_at (hc0 : cond0_0 i) (hc1 : ¬cond0_1 i) (r : Fin 1024) (k : Fin 2048) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 (ix2 r k)
      = _root_.Ffn.modRow (fun j => x0 (ix2 r j)) (fun j => x1 (ix2 0 j)) (fun j => x3 (ix3 0 0 j)) (fun j => x2 (ix3 0 0 j)) k := by
  unfold sout0_A_0
  unfold kernelRun0_A
  dsimp only
  frame_out
  exact RowPieces.mod_at arg2 harg2 x0 (k0_pay1 x1 x3 x2) _ _ _ (fun x r k => pay1_at x1 x3 x2 x r k) 64 _
    (pb_mod c i arg2 harg2 arg3 harg3 arg4 harg4 arg5 harg5 arg6 harg6 arg7 harg7 arg8 harg8 arg9 harg9 arg10 harg10 arg11 harg11 arg12 harg12 x0 _ _ hc0 x1 x3 x2 64 le_rfl) le_rfl r k (by have := r.isLt; omega)

end At

end Cert.Kernel2Ideal.Ffn
-- ==== Proof.FfnRunC.lean ====
/-
  One run of the feed-forward kernel's body at the middle and the last block of hidden units.
-/
module

public import proofs.«01_k».proof.Proof.FfnCell

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

section Run

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole)
    (x0 : Vec F S1024x2048 .f32) (x1 : Vec F S1x2048 .f32) (x2 x3 : Vec F S1x1x2048 .f32) (x4 x5 : Vec F S1x2048x512 .bf16) (x6 : Vec F S1x512x2048 .bf16) (x7 : Vec F S1x1x2048 .f32) (x8 : Vec F S1x2048 .f32) (xo9 : Vec F S1024x2048 .f32) (xs0 : Vec F S1024x2048 .bf16)

/-- At a middle block, the output is the accumulator plus the block's contribution. -/
theorem outB (hc0 : ¬cond0_0 i) (hc1 : ¬cond0_1 i) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = k0_pay3 xs0 x4 x5 xo9 x6 := by
  unfold out0_B_9
  unfold kernelRun0_B
  dsimp only
  frame_out

/-- At the last block, the stores into the output are those of `RowPieces.Norm`, all 128 of them. -/
theorem normC (hc0 : ¬cond0_0 i) (hc1 : cond0_1 i) :
    RowPieces.Norm arg2 harg2 arg11 x0 (k0_pay3 xs0 x4 x5 xo9 x6) (k0_pay5 (k0_pay6 x7 x8)) 128
      (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0).1 := by
  have e : kernelRun0_C.sl.r c arg9 harg9 arg10 harg10 x7 x8 = k0_pay6 x7 x8 := by
    unfold kernelRun0_C.sl.r
    frame_out
  rw [← e]
  unfold kernelRun0_C
  dsimp only
  iterate 128 refine RowPieces.Norm.succ _ _ ?_ _ rfl _ _ rfl
  unfold kernelRun0_C.sl.H9_1
  refine RowPieces.Norm.zero _ rfl _ _ ?_
  frame_out

end Run

section Last

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole)
    (x0 : Vec Ideal S1024x2048 .f32) (x1 : Vec Ideal S1x2048 .f32) (x2 x3 : Vec Ideal S1x1x2048 .f32) (x4 x5 : Vec Ideal S1x2048x512 .bf16) (x6 : Vec Ideal S1x512x2048 .bf16) (x7 : Vec Ideal S1x1x2048 .f32) (x8 : Vec Ideal S1x2048 .f32) (xo9 : Vec Ideal S1024x2048 .f32) (xs0 : Vec Ideal S1024x2048 .bf16)

/-- At the last block, the output's row `r`: the residual plus the gated norm of the finished row. -/
theorem outC_at (hc0 : ¬cond0_0 i) (hc1 : cond0_1 i) (r : Fin 1024) (k : Fin 2048) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 (ix2 r k)
      = _root_.Ffn.resRow (fun j => x0 (ix2 r j)) (fun j => k0_pay3 xs0 x4 x5 xo9 x6 (ix2 r j)) (fun j => x7 (ix3 0 0 j)) (fun j => x8 (ix2 0 j)) k := by
  unfold out0_C_9
  rw [View.read_writes_junk_eq_canon]
  refine (RowPieces.norm_at arg2 harg2 arg11 _ _ _ (fun j => k0_pay6 x7 x8 (ix2 0 j)) (fun a x r k => pay5_at _ a x r k) 128 _
    (normC c i arg2 harg2 arg3 harg3 arg4 harg4 arg5 harg5 arg6 harg6 arg7 harg7 arg8 harg8 arg9 harg9 arg10 harg10 arg11 harg11 arg12 harg12 x0 x1 x2 x3 x4 x5 x6 x7 x8 xo9 xs0 hc0 hc1) le_rfl r k).trans ?_
  rw [if_pos (by have := r.isLt; omega), pay6_at]
  rfl

end Last

end Cert.Kernel2Ideal.Ffn
-- ==== Proof.FfnArray.lean ====
/-
  The feed-forward kernel's whole result: over the eleven grid points of a block of rows the hidden units are summed up,
  and the last of them writes the layer's rows.
-/
module

public import proofs.«01_k».proof.Proof.FfnBlocks
public import proofs.«01_k».proof.Proof.FfnRunA
public import proofs.«01_k».proof.Proof.FfnRunC

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
open Idealize.ShloMosaic.Pipeline (Dat)

attribute [local irreducible] out0_A_9 sout0_A_0 out0_B_9 out0_C_9

variable (m : (ℓ : Loc nD τ sig) → Buf (Elt Ideal) ℓ)

section terms
variable (c : Dev nD) (b : Fin 4) (s : Fin 4096)

/-- Hidden unit `n`'s part of the feed-forward's entry `k`; zero past the last unit. -/
def term (k : Fin 2048) (n : ℕ) : EReal :=
  if h : n < 5632 then _root_.Ffn.act (Xa m c) (NGa m c) (SHa m c) (SCa m c) (WIa m c) b s ⟨n, h⟩ * (WOa m c) (ix3 3 ⟨n, h⟩ k) else 0

/-- A hidden unit's part. -/
theorem term_eq (k : Fin 2048) (f : Fin 5632) : term m c b s k f.val
    = _root_.Ffn.act (Xa m c) (NGa m c) (SHa m c) (SCa m c) (WIa m c) b s f * (WOa m c) (ix3 3 f k) := by
  unfold term
  exact dif_pos f.isLt

/-- The feed-forward's entry is the sum of its hidden units' parts. -/
theorem ffn_eq (k : Fin 2048) :
    _root_.Ffn.ffn (Xa m c) (NGa m c) (SHa m c) (SCa m c) (WIa m c) (WOa m c) b s k = ∑ n ∈ Finset.range 5632, term m c b s k n := by
  rw [Finset.sum_range]
  exact Finset.sum_congr rfl fun f _ => (term_eq m c b s k f).symm

end terms

section point
variable (c : Dev nD) (t : Fin cfg0.N)

/-- Row `r` of the point's block, normed and modulated, and its feed-forward summed over the first `n` hidden units. -/
abbrev hidP (r : Fin 1024) (k : Fin 2048) : EReal := _root_.Ffn.hid (Xa m c) (NGa m c) (SHa m c) (SCa m c) (bOf t) (sOf t r) k
abbrev sumP (r : Fin 1024) (k : Fin 2048) (n : ℕ) : EReal := ∑ l ∈ Finset.range n, term m c (bOf t) (sOf t r) k l

/-- With the normed rows in the scratch, one point adds its 512 hidden units. -/
theorem step (h : Vec Ideal S1024x2048 .bf16) (acc : Vec Ideal S1024x2048 .f32) (r : Fin 1024) (k : Fin 2048)
    (hh : ∀ j, h (ix2 r j) = hidP m c t r j) (ha : acc (ix2 r k) = sumP m c t r k (512 * (t.val % 11))) :
    k0_pay3 h (iblk m c 4 t) (iblk m c 5 t) acc (iblk m c 6 t) (ix2 r k) = sumP m c t r k (512 * (t.val % 11 + 1)) := by
  refine (pay3_at h _ _ acc _ r k).trans ?_
  unfold sumP
  rw [ha, Nat.mul_succ, Finset.sum_range_add]
  refine congrArg (sumP m c t r k (512 * (t.val % 11)) + ·) ?_
  rw [Finset.sum_range]
  refine Finset.sum_congr rfl fun f _ => ?_
  refine Eq.trans ?_ (term_eq m c (bOf t) (sOf t r) k (fOf t f)).symm
  unfold _root_.Ffn.act
  refine congrArg₂ (· * ·) ?_ (wo_at m c t f k)
  rw [show (fun j => h (ix2 r j)) = hidP m c t r from funext hh, show (fun j => iblk m c 4 t (ix3 0 j f)) = _ from funext fun j => wg_at m c t j f,
    show (fun j => iblk m c 5 t (ix3 0 j f)) = _ from funext fun j => wu_at m c t j f]

/-- The rows as normed and modulated from the point's blocks. -/
theorem hid_pt (r : Fin 1024) (k : Fin 2048) :
    _root_.Ffn.modRow (fun j => iblk m c 0 t (ix2 r j)) (fun j => iblk m c 1 t (ix2 0 j)) (fun j => iblk m c 3 t (ix3 0 0 j))
      (fun j => iblk m c 2 t (ix3 0 0 j)) k = hidP m c t r k := by
  rw [show (fun j => iblk m c 0 t (ix2 r j)) = _ from funext fun j => x_at m c t r j,
    show (fun j => iblk m c 1 t (ix2 0 j)) = _ from funext fun j => g_at m c t j,
    show (fun j => iblk m c 3 t (ix3 0 0 j)) = _ from funext fun j => sc_at m c t j,
    show (fun j => iblk m c 2 t (ix3 0 0 j)) = _ from funext fun j => sh_at m c t j]
  rfl

/-- The layer's row, from the point's blocks and the feed-forward's finished row. -/
theorem res_pt (y : Fin 2048 → EReal) (r : Fin 1024) (k : Fin 2048)
    (hy : ∀ j, y j = sumP m c t r j 5632) :
    _root_.Ffn.resRow (fun j => iblk m c 0 t (ix2 r j)) y (fun j => iblk m c 7 t (ix3 0 0 j)) (fun j => iblk m c 8 t (ix2 0 j)) k
      = _root_.Ffn.rowOut (Xa m c) (NGa m c) (SHa m c) (SCa m c) (G2a m c) (WIa m c) (WOa m c) (bOf t) (sOf t r) k := by
  rw [show (fun j => iblk m c 0 t (ix2 r j)) = _ from funext fun j => x_at m c t r j,
    show (fun j => iblk m c 7 t (ix3 0 0 j)) = _ from funext fun j => g2_at m c t j,
    show (fun j => iblk m c 8 t (ix2 0 j)) = _ from funext fun j => go_at m c t j,
    show y = _ from funext fun j => (hy j).trans (ffn_eq m c (bOf t) (sOf t r) j).symm]
  rfl

end point

/-- What a grid point leaves: the normed rows in the scratch; in the output the hidden units summed so far, and at the
    last point of a block the layer's rows. -/
structure Good (c : Dev nD) (t : Fin cfg0.N) (a : Vec Ideal S1024x2048 .f32) (h : Vec Ideal S1024x2048 .bf16) : Prop where
  scratch : ∀ r k, h (ix2 r k) = hidP m c t r k
  sums : ¬t.val % 11 = 10 → ∀ r k, a (ix2 r k) = sumP m c t r k (512 * (t.val % 11 + 1))
  rows : t.val % 11 = 10 → ∀ r k, a (ix2 r k)
    = _root_.Ffn.rowOut (Xa m c) (NGa m c) (SHa m c) (SCa m c) (G2a m c) (WIa m c) (WOa m c) (bOf t) (sOf t r) k

/-- The first point of a block. -/
theorem good_A (c : Dev nD) (t : Fin cfg0.N) (h0 : t.val % 11 = 0) : Good m c t (outsAt0 m c t.val t.isLt).1 (outsAt0 m c t.val t.isLt).2 := by
  rw [outsAt0_A m c t h0 (by omega)]
  dsimp only
  have hs : ∀ r k, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => (by omega : ¬t.val % 11 = 10) ((hcond0_1 t).mp h)) (iblk m c 0 t) (iblk m c 1 t) (iblk m c 2 t) (iblk m c 3 t) (iblk m c 4 t) (iblk m c 5 t) (iblk m c 6 t) (iblk m c 7 t) (iblk m c 8 t) (ix2 r k) = hidP m c t r k := fun r k =>
    (soutA_at _ _ _ _ _ _ _ _ _ _ _ _ _ _ _ _ _ _ _ _ _ _ _ _ _ _ _ _ _ _ _ _ _ _ _ r k).trans (hid_pt m c t r k)
  refine ⟨hs, fun _ r k => ?_, fun h => by omega⟩
  refine (congrFun (outA _ _ _ _ _ _ _ _ _ _ _ _ _ _ _ _ _ _ _ _ _ _ _ _ _ _ _ _ _ _ _ _ _ _ _) (ix2 r k)).trans ?_
  refine step m c t _ _ r k (hs r) ?_
  rw [pay2_at, h0]
  rfl

/-- A point in the middle, after the point before. -/
theorem good_B (c : Dev nD) (t p : Fin cfg0.N) (hp : p.val = t.val - 1) (h0 : ¬t.val % 11 = 0) (h1 : ¬t.val % 11 = 10)
    (ih : Good m c p (outsAt0 m c (t.val - 1) (Nat.lt_of_le_of_lt (Nat.sub_le _ _) t.isLt)).1 (outsAt0 m c (t.val - 1) (Nat.lt_of_le_of_lt (Nat.sub_le _ _) t.isLt)).2) :
    Good m c t (outsAt0 m c t.val t.isLt).1 (outsAt0 m c t.val t.isLt).2 := by
  rw [outsAt0_B m c t h0 h1]
  dsimp only
  unfold sout0_B_0
  generalize (outsAt0 m c (t.val - 1) (Nat.lt_of_le_of_lt (Nat.sub_le _ _) t.isLt)) = o at ih ⊢
  obtain ⟨a, h⟩ := o
  dsimp only at ih ⊢
  have eb : bOf p = bOf t := Fin.ext (by show p.val / 44 = t.val / 44; omega)
  have es : ∀ r, sOf p r = sOf t r := fun r => Fin.ext (by show 1024 * (p.val / 11 % 4) + r.val = 1024 * (t.val / 11 % 4) + r.val; omega)
  have em : p.val % 11 + 1 = t.val % 11 := by omega
  have hs : ∀ r k, h (ix2 r k) = hidP m c t r k := fun r k => by
    rw [ih.scratch r k, hidP, eb, es]
  refine ⟨hs, fun _ r k => ?_, fun h => absurd h h1⟩
  refine (congrFun (outB _ _ _ _ _ _ _ _ _ _ _ _ _ _ _ _ _ _ _ _ _ _ _ _ _ _ _ _ _ _ _ _ _ _ _ _ _) (ix2 r k)).trans ?_
  refine step m c t _ _ r k (hs r) ?_
  rw [ih.sums (by omega) r k, sumP, eb, es, em]

/-- The last point of a block, after the point before. -/
theorem good_C (c : Dev nD) (t p : Fin cfg0.N) (hp : p.val = t.val - 1) (h0 : ¬t.val % 11 = 0) (h1 : t.val % 11 = 10)
    (ih : Good m c p (outsAt0 m c (t.val - 1) (Nat.lt_of_le_of_lt (Nat.sub_le _ _) t.isLt)).1 (outsAt0 m c (t.val - 1) (Nat.lt_of_le_of_lt (Nat.sub_le _ _) t.isLt)).2) :
    Good m c t (outsAt0 m c t.val t.isLt).1 (outsAt0 m c t.val t.isLt).2 := by
  rw [outsAt0_C m c t h0 h1]
  dsimp only
  unfold sout0_C_0
  generalize (outsAt0 m c (t.val - 1) (Nat.lt_of_le_of_lt (Nat.sub_le _ _) t.isLt)) = o at ih ⊢
  obtain ⟨a, h⟩ := o
  dsimp only at ih ⊢
  have eb : bOf p = bOf t := Fin.ext (by show p.val / 44 = t.val / 44; omega)
  have es : ∀ r, sOf p r = sOf t r := fun r => Fin.ext (by show 1024 * (p.val / 11 % 4) + r.val = 1024 * (t.val / 11 % 4) + r.val; omega)
  have em : p.val % 11 + 1 = t.val % 11 := by omega
  have hs : ∀ r k, h (ix2 r k) = hidP m c t r k := fun r k => by
    rw [ih.scratch r k, hidP, eb, es]
  refine ⟨hs, fun h => absurd h1 h, fun _ r k => ?_⟩
  refine (outC_at _ _ _ _ _ _ _ _ _ _ _ _ _ _ _ _ _ _ _ _ _ _ _ _ _ _ _ _ _ _ _ _ _ _ _ _ _ r k).trans ?_
  refine res_pt m c t _ r k fun j => ?_
  refine (step m c t _ _ r j (hs r) ?_).trans (by rw [h1])
  rw [ih.sums (by omega) r j, sumP, eb, es, em]

/-- Every grid point, by induction along the grid. -/
theorem good (c : Dev nD) : ∀ (n : ℕ) (hn : n < cfg0.N), Good m c ⟨n, hn⟩ (outsAt0 m c n hn).1 (outsAt0 m c n hn).2 := by
  intro n
  induction n with
  | zero => exact fun hn => good_A m c ⟨0, hn⟩ rfl
  | succ n ih =>
    intro hn
    by_cases h0 : (n + 1) % 11 = 0
    · exact good_A m c ⟨n + 1, hn⟩ h0
    · by_cases h1 : (n + 1) % 11 = 10
      · exact good_C m c ⟨n + 1, hn⟩ ⟨n, by omega⟩ rfl h0 h1 (ih _)
      · exact good_B m c ⟨n + 1, hn⟩ ⟨n, by omega⟩ rfl h0 h1 (ih _)

/-- The kernel's result is the specification's, at every row and column. -/
theorem final (c : Dev nD) :
    (dats m 0 c).arrAt 9 cfg0.N = _root_.Ffn.out (Xa m c) (NGa m c) (SHa m c) (SCa m c) (G2a m c) (WIa m c) (WOa m c) := by
  refine (dats m 0 c).arrAt_eq_of_covers 9 _ (by decide +kernel) fun t hf y => ?_
  have hm : t.val % 11 = 10 := (flush0_9 t).mp hf
  blk_simp
  have ht := t_lt t
  have y0 : (y 0).val < 1024 := (y 0).isLt
  have y1 : (y 1).val < 2048 := (y 1).isLt
  rw [after0_9]
  have key := (good m c t.val t.isLt).rows hm ⟨(y 0).val, y0⟩ ⟨(y 1).val, y1⟩
  refine Eq.trans ?_ (key.trans ?_)
  · blk_ext
  · have e0 : (((win0_9.blk t).view.emb y) 0 : ℕ) = 1024 * (t.val / 11) + (y 0).val := by
      blk_simp [idx t]
      dsimp only
      omega
    have e1 : (((win0_9.blk t).view.emb y) 1 : ℕ) = (y 1).val := by
      blk_simp [idx t]
    unfold _root_.Ffn.out
    generalize (win0_9.blk t).view.emb y = i at e0 e1
    refine congr (congr (congrArg _ (Fin.ext ?_)) (Fin.ext ?_)) (Fin.ext ?_)
    · show t.val / 44 = (i 0).val / 4096
      omega
    · show 1024 * (t.val / 11 % 4) + (y 0).val = (i 0).val % 4096
      omega
    · exact e1.symm

end Cert.Kernel2Ideal.Ffn
-- ==== Proof.FfnRef.lean ====
/-
  The feed-forward reference's result, read at an index.
-/
module

public import proofs.«01_k».proof.Proof.FfnSpec
public import proofs.«01_k».proof.Proof.Gen.Reference2Ideal.Read

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Read

variable (X : FVec Ideal S4x4096x2048 .f32) (NG : FVec Ideal S4x4x2048 .f32) (SH SC G2 : FVec Ideal S4x2048 .f32)
  (WI : FVec Ideal S4x2048x11264 .f32) (WO : FVec Ideal S4x5632x2048 .f32) (b : Fin 4) (s : Fin 4096)

/-- The normed and modulated row. -/
theorem hid_at (k : Fin 2048) : val_main_v22 (F := Ideal) X NG SH SC (ix3 b s k) = _root_.Ffn.hid X NG SH SC b s k := by
  pointwise [val_main_v22, val_main_v21, val_main_v20, val_main_v19, val_main_v18, val_main_v17, val_main_v16, val_main_cst_2, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  unfold _root_.Ffn.hid _root_.Ffn.modRow _root_.Ffn.nrm
  exact congrArg (· + _) (mul_assoc _ _ _)

/-- A hidden unit. -/
theorem act_at (f : Fin 5632) : val_main_v29 (F := Ideal) X NG SH SC WI (ix3 b s f) = _root_.Ffn.act X NG SH SC WI b s f := by
  pointwise [val_main_v29, val_main_v28, val_main_v27, val_main_v26, val_main_v25, val_main_v24, val_main_v23, val_main_call0_v5, val_main_call0_v4, val_main_call0_v3, val_main_call0_v2, val_main_call0_v1, val_main_call0_v0, val_main_call0_cst, val_main_call0_cst_0]
  simp only [hid_at X NG SH SC b s]
  rfl

/-- The feed-forward's row. -/
theorem ffn_at (k : Fin 2048) : val_main_v32 (F := Ideal) X NG SH SC WI WO (ix3 b s k) = _root_.Ffn.ffn X NG SH SC WI WO b s k := by
  pointwise [val_main_v32, val_main_v31, val_main_v30]
  simp only [act_at X NG SH SC WI b s]
  rfl

/-- The layer's row. -/
theorem row_at (k : Fin 2048) : val_main_v51 (F := Ideal) X NG SH SC G2 WI WO (ix3 b s k) = _root_.Ffn.rowOut X NG SH SC G2 WI WO b s k := by
  pointwise [val_main_v51, val_main_v50, val_main_v49, val_main_v48, val_main_v47, val_main_v46, val_main_v45, val_main_v44, val_main_v43, val_main_v42, val_main_v41, val_main_cst_5, val_main_v40, val_main_v39, val_main_cst_4, val_main_v38, val_main_v37, val_main_cst_3, val_main_v36, val_main_v35, val_main_v34, val_main_v33]
  simp only [ffn_at X NG SH SC WI WO b s]
  refine congrArg (X (ix3 b s k) + ·) ?_
  rw [mul_left_comm]
  rfl

/-- The reference's result, whole. -/
theorem final : val_main_v52 (F := Ideal) X NG SH SC G2 WI WO = _root_.Ffn.out X NG SH SC G2 WI WO := by
  funext i
  pointwise [val_main_v52]
  exact row_at X NG SH SC G2 WI WO _ _ (i 1)

end Cert.Reference2Ideal.Ffn
-- ==== Proof.OutRun.lean ====
/-
  The output projection's kernel: one run of its body.
-/
module

public import proofs.«01_k».proof.Proof.RowPieces
public import proofs.«01_k».proof.Proof.Gen.Kernel3Ideal.Value

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen

/-- The projection of a block of rows. -/
theorem pay2_at (o : Vec Ideal S512x2048 .bf16) (w : Vec Ideal S2048x2048 .bf16) (r : Fin 512) (k : Fin 2048) :
    k0_pay2 o w (ix2 r k) = ∑ l : Fin 2048, o (ix2 r l) * w (ix2 l k) := by
  pointwise [k0_pay2]

/-- The gate times the gain. -/
theorem pay3_at (g1 : Vec Ideal S1x1x2048 .f32) (go : Vec Ideal S1x2048 .f32) (k : Fin 2048) :
    k0_pay3 g1 go (ix2 0 k) = g1 (ix3 0 0 k) * go (ix2 0 k) := by
  pointwise [k0_pay3]

/-- Eight rows: the residual plus the gated norm. -/
theorem pay8_at (v : FVec Ideal S1x2048 .f32) (a x : Vec Ideal S8x2048 .f32) (r : Fin 8) (k : Fin 2048) :
    k0_pay8 v a x (ix2 r k) = x (ix2 r k) + _root_.Ffn.nrm (fun j => a (ix2 r j)) k * v (ix2 0 k) := by
  pointwise [k0_pay8]
  rfl

section Run

variable {F : FTy → Type} [FloatOps F]
variable (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S512x2048 .f32) (harg6 : arg6.IsWhole)
    (x0 : Vec F S512x2048 .bf16) (x1 : Vec F S2048x2048 .bf16) (x2 : Vec F S512x2048 .f32) (x3 : Vec F S1x1x2048 .f32) (x4 : Vec F S1x2048 .f32)

/-- The stores into the output are those of `RowPieces.Norm`, all 64 of them. -/
theorem norm :
    RowPieces.Norm arg3 harg3 arg6 x2 (k0_pay2 x0 x1) (k0_pay8 (k0_pay3 x3 x4)) 64
      (kernelRun0_A c i arg1 harg1 arg2 harg2 arg3 harg3 arg4 harg4 arg5 harg5 arg6 harg6 x0 x1 x2 x3 x4).1 := by
  have e : kernelRun0_A.sl.r c arg4 harg4 arg5 harg5 x3 x4 = k0_pay3 x3 x4 := by
    unfold kernelRun0_A.sl.r
    frame_out
  rw [← e]
  unfold kernelRun0_A
  dsimp only
  iterate 64 refine RowPieces.Norm.succ _ _ ?_ _ rfl _ _ rfl
  unfold kernelRun0_A.sl.H5_1
  refine RowPieces.Norm.zero _ rfl _ _ ?_
  frame_out

end Run

section Last

variable (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S512x2048 .f32) (harg6 : arg6.IsWhole)
    (x0 : Vec Ideal S512x2048 .bf16) (x1 : Vec Ideal S2048x2048 .bf16) (x2 : Vec Ideal S512x2048 .f32) (x3 : Vec Ideal S1x1x2048 .f32) (x4 : Vec Ideal S1x2048 .f32)

/-- The output's row `r`: the residual plus the gated norm of the projected row. -/
theorem out_at (r : Fin 512) (k : Fin 2048) :
    out0_A_5 c i arg1 harg1 arg2 harg2 arg3 harg3 arg4 harg4 arg5 harg5 arg6 harg6 x0 x1 x2 x3 x4 (ix2 r k)
      = _root_.Ffn.resRow (fun j => x2 (ix2 r j)) (fun j => ∑ l : Fin 2048, x0 (ix2 r l) * x1 (ix2 l j)) (fun j => x3 (ix3 0 0 j)) (fun j => x4 (ix2 0 j)) k := by
  unfold out0_A_5
  rw [View.read_writes_junk_eq_canon]
  refine (RowPieces.norm_at arg3 harg3 arg6 _ _ _ (fun j => k0_pay3 x3 x4 (ix2 0 j)) (fun a x r k => pay8_at _ a x r k) 64 _
    (norm c i arg1 harg1 arg2 harg2 arg3 harg3 arg4 harg4 arg5 harg5 arg6 harg6 x0 x1 x2 x3 x4) le_rfl r k).trans ?_
  rw [if_pos (by have := r.isLt; omega), pay3_at, show (fun j => k0_pay2 x0 x1 (ix2 r j)) = _ from funext fun j => pay2_at x0 x1 r j]
  rfl

end Last

end Cert.Kernel3Ideal.Proj
-- ==== Proof.ProjSpec.lean ====
/-
  What the projections around the attention compute, row by row, over the extended reals: the output projection with its
  gated norm, the shared keys and values, and the queries.
-/
module

public import proofs.«01_k».proof.Proof.FfnSpec
public import proofs.«01_k».proof.Proof.Gen.Reference3Ideal
public import proofs.«01_k».proof.Proof.Gen.Reference4Ideal
public import proofs.«01_k».proof.Proof.Gen.Reference5Ideal

@[expose] public section

noncomputable section

namespace Ffn

open Idealize.ShloMosaic Idealize.ShloMosaic.TcCoe

section Out

open Cert.Reference3Ideal

variable (O : FVec Ideal S4x4096x16x128 .f32) (W : FVec Ideal S2x2048x2048 .f32) (X : FVec Ideal S4x4096x2048 .f32)
  (G1 : FVec Ideal S4x2048 .f32) (NG : FVec Ideal S4x4x2048 .f32) (b : Fin 4) (s : Fin 4096)

/-- Token `s` of batch `b`: its heads one after another, projected. -/
def attn (k : Fin 2048) : EReal :=
  ∑ l : Fin 2048, O (ix4 b s ⟨l.val / 128, by have := l.isLt; omega⟩ ⟨l.val % 128, Nat.mod_lt _ (by decide)⟩) * W (ix3 1 l k)

/-- The stream's row after the attention: the residual plus the gated norm of the projected row. -/
def attnRow (k : Fin 2048) : EReal :=
  resRow (fun k => X (ix3 b s k)) (attn O W b s) (fun k => G1 (ix2 b k)) (fun k => NG (ix3 3 1 k)) k

/-- The whole result: row `i 0` of all the batches' tokens, column `i 1`. -/
def attnOut (i : S16384x2048.Idx) : EReal :=
  attnRow O W X G1 NG ⟨(i 0).val / 4096, by have h0 : (i 0).val < 16384 := (i 0).isLt; omega⟩
    ⟨(i 0).val % 4096, Nat.mod_lt _ (by decide)⟩ (i 1)

end Out

section Kv

open Cert.Reference4Ideal

variable (X : FVec Ideal S4x4096x2048 .f32) (KG : FVec Ideal S2048 .f32) (SH SC : FVec Ideal S4x2048 .f32)
  (W : FVec Ideal S2048x4096 .f32) (b : Fin 4) (s : Fin 4096)

/-- Token `s` of batch `b`, normed and modulated for the keys and values. -/
def kvHid (k : Fin 2048) : EReal :=
  modRow (fun k => X (ix3 b s k)) (fun k => KG (ix1 k)) (fun k => SC (ix2 b k)) (fun k => SH (ix2 b k)) k

/-- Its row of keys and values. -/
def kvRow (n : Fin 4096) : EReal := ∑ k : Fin 2048, kvHid X KG SH SC b s k * W (ix2 k n)

/-- The whole result. -/
def kvOut (i : S16384x4096.Idx) : EReal :=
  kvRow X KG SH SC W ⟨(i 0).val / 4096, by have h0 : (i 0).val < 16384 := (i 0).isLt; omega⟩
    ⟨(i 0).val % 4096, Nat.mod_lt _ (by decide)⟩ (i 1)

end Kv

section Q

open Cert.Reference5Ideal

variable (X : FVec Ideal S4x4096x2048 .f32) (NG : FVec Ideal S4x4x2048 .f32) (SH SC : FVec Ideal S4x2048 .f32)
  (W : FVec Ideal S2x2048x2048 .f32) (b : Fin 4) (s : Fin 4096)

/-- Token `s` of batch `b`, normed and modulated for the layer's attention. -/
def qHid (k : Fin 2048) : EReal :=
  modRow (fun k => X (ix3 b s k)) (fun k => NG (ix3 3 0 k)) (fun k => SC (ix2 b k)) (fun k => SH (ix2 b k)) k

/-- Its queries, with the scores' scale and the change to base two taken in. -/
def qRow (n : Fin 2048) : EReal :=
  (∑ k : Fin 2048, qHid X NG SH SC b s k * W (ix3 1 k n)) * (((Real.sqrt 128 * Real.log 2)⁻¹ : ℝ) : EReal)

/-- The whole result. -/
def qOut (i : S16384x2048.Idx) : EReal :=
  qRow X NG SH SC W ⟨(i 0).val / 4096, by have h0 : (i 0).val < 16384 := (i 0).isLt; omega⟩
    ⟨(i 0).val % 4096, Nat.mod_lt _ (by decide)⟩ (i 1)

end Q

end Ffn
-- ==== Proof.OutArray.lean ====
/-
  The output projection's kernel: what its grid points find in their input blocks, and its whole result.
-/
module

public import proofs.«01_k».proof.Proof.OutRun
public import proofs.«01_k».proof.Proof.ProjSpec

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Idealize.ShloMosaic.Pipeline (Dat)

attribute [local irreducible] out0_A_5

variable (m : (ℓ : Loc nD τ sig) → Buf (Elt Ideal) ℓ)

/-- The attention's output as launched. -/
abbrev Oa (c : Dev nD) : FVec Ideal S4x4096x16x128 .f32 := m ((c : Thread nD τ).loc main_arg0)
/-- The output weights as launched. -/
abbrev Wa (c : Dev nD) : FVec Ideal S2x2048x2048 .f32 := m ((c : Thread nD τ).loc main_arg1)
/-- The residual stream as launched. -/
abbrev Xa (c : Dev nD) : FVec Ideal S4x4096x2048 .f32 := m ((c : Thread nD τ).loc main_arg2)
/-- The gates as launched. -/
abbrev G1a (c : Dev nD) : FVec Ideal S4x2048 .f32 := m ((c : Thread nD τ).loc main_arg3)
/-- The norms' gains as launched. -/
abbrev NGa (c : Dev nD) : FVec Ideal S4x4x2048 .f32 := m ((c : Thread nD τ).loc main_arg4)

/-- The block index of every window at every grid point, in closed form. -/
theorem idx : ∀ t : Fin cfg0.N,
    win0_0.index t = ![t.val, 0]
    ∧ win0_1.index t = ![0, 0]
    ∧ win0_2.index t = ![t.val, 0]
    ∧ win0_3.index t = ![t.val / 8, 0, 0]
    ∧ win0_4.index t = ![0, 0]
    ∧ win0_5.index t = ![t.val, 0]
    ∧ t.val < 32 :=
  (by decide +kernel : ∀ t : Fin grid0.N, _)

/-- There are 32 grid points. -/
theorem t_lt (t : Fin cfg0.N) : t.val < 32 := (idx t).2.2.2.2.2.2

/-- The batch a grid point works on. -/
def bOf (t : Fin cfg0.N) : Fin 4 := ⟨t.val / 8, by have := t_lt t; omega⟩

/-- The token that row `r` of a grid point's block is. -/
def sOf (t : Fin cfg0.N) (r : Fin 512) : Fin 4096 := ⟨512 * (t.val % 8) + r.val, by have := r.isLt; omega⟩

section host
variable (c : Dev nD)

/-- The attention's output as the kernel finds it: each token's heads one after another. -/
theorem V4_at (i) (b : Fin 4) (s : Fin 4096) (l : Fin 2048) (h0 : (i 0).val = 4096 * b.val + s.val) (h1 : (i 1).val = l.val) :
    V m c main_v4 i = (Oa m c) (ix4 b s ⟨l.val / 128, by have := l.isLt; omega⟩ ⟨l.val % 128, Nat.mod_lt _ (by decide)⟩) := by
  entry_read
  pointwise
  have := s.isLt
  have := l.isLt
  have e0 : (i 0).val / 4096 = b.val := by omega
  have e1 : (i 0).val % 4096 = s.val := by omega
  blk_ext [e0, e1] <;> first | rfl | omega | (dsimp only; omega)

/-- The output weights. -/
theorem V7_at (i) (l k : Fin 2048) (h0 : (i 0).val = l.val) (h1 : (i 1).val = k.val) :
    V m c main_v7 i = (Wa m c) (ix3 1 l k) := by
  entry_read
  pointwise
  blk_ext

/-- The stream: the batches' tokens one after another. -/
theorem V8_at (i) (b : Fin 4) (s : Fin 4096) (k : Fin 2048) (h0 : (i 0).val = 4096 * b.val + s.val) (h1 : (i 1).val = k.val) :
    V m c main_v8 i = (Xa m c) (ix3 b s k) := by
  entry_read
  pointwise
  have := s.isLt
  have e0 : (i 0).val / 4096 = b.val := by omega
  have e1 : (i 0).val % 4096 = s.val := by omega
  blk_ext [e0, e1]

/-- The gate. -/
theorem V9_at (i) (b : Fin 4) (k : Fin 2048) (h0 : (i 0).val = b.val) (h1 : (i 1).val = 0) (h2 : (i 2).val = k.val) :
    V m c main_v9 i = (G1a m c) (ix2 b k) := by
  entry_read
  pointwise
  blk_ext

/-- The gain. -/
theorem V11_at (i) (k : Fin 2048) (h0 : (i 0).val = 0) (h1 : (i 1).val = k.val) :
    V m c main_v11 i = (NGa m c) (ix3 3 1 k) := by
  entry_read
  pointwise
  blk_ext

end host

section point
variable (c : Dev nD) (t : Fin cfg0.N)

/-- The point's rows of the attention's output. -/
theorem o_at (r : Fin 512) (l : Fin 2048) : iblk m c 0 t (ix2 r l)
    = (Oa m c) (ix4 (bOf t) (sOf t r) ⟨l.val / 128, by have := l.isLt; omega⟩ ⟨l.val % 128, Nat.mod_lt _ (by decide)⟩) := by
  have := t_lt t
  blk_simp [iblk]
  refine V4_at m c _ _ _ _ ?_ ?_
  · blk_simp [idx t, bOf, sOf]
    dsimp only
    omega
  · blk_simp [idx t]

/-- The point's weights. -/
theorem w_at (l k : Fin 2048) : iblk m c 1 t (ix2 l k) = (Wa m c) (ix3 1 l k) := by
  blk_simp [iblk]
  refine V7_at m c _ _ _ ?_ ?_ <;> blk_simp [idx t] <;> rfl

/-- The point's rows of the stream. -/
theorem x_at (r : Fin 512) (k : Fin 2048) : iblk m c 2 t (ix2 r k) = (Xa m c) (ix3 (bOf t) (sOf t r) k) := by
  have := t_lt t
  blk_simp [iblk]
  refine V8_at m c _ _ _ _ ?_ ?_
  · blk_simp [idx t, bOf, sOf]
    dsimp only
    omega
  · blk_simp [idx t]

/-- The point's gate. -/
theorem g1_at (k : Fin 2048) : iblk m c 3 t (ix3 0 0 k) = (G1a m c) (ix2 (bOf t) k) := by
  blk_simp [iblk]
  refine V9_at m c _ _ _ ?_ ?_ ?_ <;> blk_simp [idx t, bOf] <;> rfl

/-- The point's gain. -/
theorem go_at (k : Fin 2048) : iblk m c 4 t (ix2 0 k) = (NGa m c) (ix3 3 1 k) := by
  blk_simp [iblk]
  refine V11_at m c _ _ ?_ ?_ <;> blk_simp [idx t] <;> rfl

/-- The rows a point leaves. -/
theorem row_at (r : Fin 512) (k : Fin 2048) :
    outsAt0 m c t (ix2 r k) = _root_.Ffn.attnRow (Oa m c) (Wa m c) (Xa m c) (G1a m c) (NGa m c) (bOf t) (sOf t r) k := by
  unfold outsAt0
  refine (out_at _ _ _ _ _ _ _ _ _ _ _ _ _ _ _ _ _ _ _ r k).trans ?_
  rw [show (fun j => iblk m c 2 t (ix2 r j)) = _ from funext fun j => x_at m c t r j,
    show (fun j => iblk m c 3 t (ix3 0 0 j)) = _ from funext fun j => g1_at m c t j,
    show (fun j => iblk m c 4 t (ix2 0 j)) = _ from funext fun j => go_at m c t j]
  exact congrArg (fun y => _root_.Ffn.resRow _ y _ _ k) (funext fun j => Finset.sum_congr rfl fun l _ =>
    congrArg₂ (fun a b : EReal => a * b) (o_at m c t r l) (w_at m c t l j))

end point

/-- The kernel's result is the specification's, at every row and column. -/
theorem final (c : Dev nD) :
    (dats m 0 c).arrAt 5 cfg0.N = _root_.Ffn.attnOut (Oa m c) (Wa m c) (Xa m c) (G1a m c) (NGa m c) := by
  refine (dats m 0 c).arrAt_eq_of_covers 5 _ (by decide +kernel) fun t hf y => ?_
  blk_simp
  have ht := t_lt t
  have y0 : (y 0).val < 512 := (y 0).isLt
  have y1 : (y 1).val < 2048 := (y 1).isLt
  rw [after0_5]
  have key := row_at m c t ⟨(y 0).val, y0⟩ ⟨(y 1).val, y1⟩
  refine Eq.trans ?_ (key.trans ?_)
  · blk_ext
  · have e0 : (((win0_5.blk t).view.emb y) 0 : ℕ) = 512 * t.val + (y 0).val := by
      blk_simp [idx t]
      dsimp only
      omega
    have e1 : (((win0_5.blk t).view.emb y) 1 : ℕ) = (y 1).val := by
      blk_simp [idx t]
    unfold _root_.Ffn.attnOut
    generalize (win0_5.blk t).view.emb y = i at e0 e1
    refine congr (congr (congrArg _ (Fin.ext ?_)) (Fin.ext ?_)) (Fin.ext ?_)
    · show t.val / 8 = (i 0).val / 4096
      omega
    · show 512 * (t.val % 8) + (y 0).val = (i 0).val % 4096
      omega
    · exact e1.symm

end Cert.Kernel3Ideal.Proj
-- ==== Proof.OutRef.lean ====
/-
  The output projection's reference, read at an index.
-/
module

public import proofs.«01_k».proof.Proof.ProjSpec
public import proofs.«01_k».proof.Proof.Gen.Reference3Ideal.Read

@[expose] public section

set_option maxRecDepth 16384

noncomputable section

namespace Cert.Reference3Ideal.Proj

open Idealize.ShloMosaic Idealize.ShloMosaic.TcCoe Idealize.SL.Sem
open Cert.Reference3Ideal Cert.Reference3Ideal.Gen Cert.Reference3Ideal.Read

variable (O : FVec Ideal S4x4096x16x128 .f32) (W : FVec Ideal S2x2048x2048 .f32) (X : FVec Ideal S4x4096x2048 .f32)
  (G1 : FVec Ideal S4x2048 .f32) (NG : FVec Ideal S4x4x2048 .f32) (b : Fin 4) (s : Fin 4096)

/-- The projected row. -/
theorem attn_at (k : Fin 2048) : val_main_v3 (F := Ideal) O W (ix3 b s k) = _root_.Ffn.attn O W b s k := by
  pointwise [val_main_v3, val_main_v2, val_main_v1, val_main_v0]
  rfl

/-- The stream's row. -/
theorem row_at (k : Fin 2048) : val_main_v22 (F := Ideal) O W X G1 NG (ix3 b s k) = _root_.Ffn.attnRow O W X G1 NG b s k := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [attn_at O W b s]
  refine congrArg (X (ix3 b s k) + ·) ?_
  rw [mul_left_comm]
  rfl

/-- The reference's result, whole. -/
theorem final : val_main_v23 (F := Ideal) O W X G1 NG = _root_.Ffn.attnOut O W X G1 NG := by
  funext i
  pointwise [val_main_v23]
  exact row_at O W X G1 NG _ _ (i 1)

end Cert.Reference3Ideal.Proj
-- ==== Proof.KvRun.lean ====
/-
  The kernel of the shared keys and values: one run of its body.
-/
module

public import proofs.«01_k».proof.Proof.RowPieces
public import proofs.«01_k».proof.Proof.Gen.Kernel4Ideal.Value

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen

/-- Sixteen rows, normed and modulated: row by row the specification's. -/
theorem pay1_at (g : Vec Ideal S1x2048 .f32) (sc sh : Vec Ideal S1x1x2048 .f32) (x : Vec Ideal S16x2048 .f32) (r : Fin 16) (k : Fin 2048) :
    k0_pay1 g sc sh x (ix2 r k)
      = _root_.Ffn.modRow (fun j => x (ix2 r j)) (fun j => g (ix2 0 j)) (fun j => sc (ix3 0 0 j)) (fun j => sh (ix3 0 0 j)) k := by
  pointwise [k0_pay1]
  rfl

/-- The projection of a block of rows. -/
theorem pay2_at (h : Vec Ideal S1024x2048 .bf16) (w : Vec Ideal S2048x2048 .bf16) (r : Fin 1024) (n : Fin 2048) :
    k0_pay2 h w (ix2 r n) = ∑ k : Fin 2048, h (ix2 r k) * w (ix2 k n) := by
  pointwise [k0_pay2]

section Run

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x2048 .bf16) (harg6 : arg6.IsWhole) (arg7 : Memref sig .tc .vmem S1024x2048 .bf16) (harg7 : arg7.IsWhole) (arg8 : Memref sig .tc .vmem S1024x2048 .bf16) (harg8 : arg8.IsWhole)
    (x0 : Vec F S1024x2048 .f32) (x1 : Vec F S1x2048 .f32) (x2 x3 : Vec F S1x1x2048 .f32) (x4 : Vec F S2048x2048 .bf16)

/-- One trip of the loop stores sixteen rows, normed and modulated. -/
theorem trip_eq (𝒱 : Variants) (bd : Option 𝒱.V) (h1 : k0_cond1 i = 1#1) (g : Vec F S1x2048 .f32) (sc sh : Vec F S1x1x2048 .f32)
    (X : BufTy.Contents (Elt F) arg2.view.ty) (t : Fin k0_t1_loop.trips) :
    tripL_k0_t1 (F := F) 𝒱 c bd i arg2 harg2 arg3 harg3 arg4 harg4 arg5 harg5 arg6 harg6 arg7 harg7 arg8 harg8 h1 g sc sh X t
      = [⟨Rect.unit (s := S1024x2048) (k0_off1 t) ![16, 2048] (k0_off1_inb i t h1),
          k0_pay1 g sc sh (View.readAt (Elt F) arg2.view (Rect.unit (s := S1024x2048) (k0_off1 t) ![16, 2048] (k0_off1_inb i t h1)).toLoadRect X)⟩] := by
  unfold tripL_k0_t1 trip_k0_t1
  rfl

/-- The loop's stores before trip `n` are those of `RowPieces.Mod`. -/
theorem pb_mod (𝒱 : Variants) (bd : Option 𝒱.V) (h1 : k0_cond1 i = 1#1) (g : Vec F S1x2048 .f32) (sc sh : Vec F S1x1x2048 .f32) (n : ℕ) (hn : n ≤ 64) :
    RowPieces.Mod arg2 harg2 x0 (k0_pay1 g sc sh) n
      (pb_k0_t1 (F := F) 𝒱 c bd i arg2 harg2 arg3 harg3 arg4 harg4 arg5 harg5 arg6 harg6 arg7 harg7 arg8 harg8 h1 g sc sh (harg2.unread x0) n) := by
  induction n with
  | zero => exact RowPieces.Mod.zero
  | succ n ih =>
    have ht : n < k0_t1_loop.trips := lt_of_lt_of_eq (by omega) (by decide +kernel : 64 = k0_t1_loop.trips)
    have es := pb_k0_t1_succ (F := F) 𝒱 c bd i arg2 harg2 arg3 harg3 arg4 harg4 arg5 harg5 arg6 harg6 arg7 harg7 arg8 harg8 h1 g sc sh (harg2.unread x0) ⟨n, ht⟩
    rw [trip_eq, List.singleton_append] at es
    refine es ▸ ?_
    exact RowPieces.Mod.succ n _ (ih (by omega)) _ (k0_off1_eq ⟨n, ht⟩) _

/-- At the first block of columns, the output is the normed rows' projection. -/
theorem outA (hc0 : cond0_0 i) :
    out0_A_5 c i arg2 harg2 arg3 harg3 arg4 harg4 arg5 harg5 arg6 harg6 arg7 harg7 arg8 harg8 hc0 x0 x1 x2 x3 x4 = k0_pay2 (sout0_A_0 c i arg2 harg2 arg3 harg3 arg4 harg4 arg5 harg5 arg6 harg6 arg7 harg7 arg8 harg8 hc0 x0 x1 x2 x3 x4) x4 := by
  unfold out0_A_5 sout0_A_0
  unfold kernelRun0_A
  dsimp only
  frame_out
  rw [View.readCov_eq_canon']
  refine congrArg (fun h => k0_pay2 h x4) (funext fun j => ?_)
  refine congrArg _ (funext fun a => Fin.ext ?_)
  refine (Rect.idx_unit_val _ _ _ _ a).trans ?_
  fin_cases a <;> exact Nat.zero_add _

/-- At the second block of columns too. -/
theorem outB (xs0 : Vec F S1024x2048 .bf16) (hc0 : ¬cond0_0 i) :
    out0_B_5 c i arg2 harg2 arg3 harg3 arg4 harg4 arg5 harg5 arg6 harg6 arg7 harg7 arg8 harg8 hc0 x0 x1 x2 x3 x4 xs0 = k0_pay2 xs0 x4 := by
  unfold out0_B_5
  unfold kernelRun0_B
  dsimp only
  frame_out

end Run

section At

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x2048 .bf16) (harg6 : arg6.IsWhole) (arg7 : Memref sig .tc .vmem S1024x2048 .bf16) (harg7 : arg7.IsWhole) (arg8 : Memref sig .tc .vmem S1024x2048 .bf16) (harg8 : arg8.IsWhole)
    (x0 : Vec Ideal S1024x2048 .f32) (x1 : Vec Ideal S1x2048 .f32) (x2 x3 : Vec Ideal S1x1x2048 .f32) (x4 : Vec Ideal S2048x2048 .bf16)

/-- What the loop leaves in the scratch: the rows normed and modulated. -/
theorem pb_at (𝒱 : Variants) (bd : Option 𝒱.V) (h1 : k0_cond1 i = 1#1) (r : Fin 1024) (k : Fin 2048) :
    View.canon (Val := Elt Ideal) (pb_k0_t1 (F := Ideal) 𝒱 c bd i arg2 harg2 arg3 harg3 arg4 harg4 arg5 harg5 arg6 harg6 arg7 harg7 arg8 harg8 h1 x1 x3 x2 (harg2.unread x0) 64) (ix2 r k)
      = _root_.Ffn.modRow (fun j => x0 (ix2 r j)) (fun j => x1 (ix2 0 j)) (fun j => x3 (ix3 0 0 j)) (fun j => x2 (ix3 0 0 j)) k :=
  RowPieces.mod_at arg2 harg2 x0 (k0_pay1 x1 x3 x2) _ _ _ (fun x r k => pay1_at x1 x3 x2 x r k) 64 _
    (pb_mod c i arg2 harg2 arg3 harg3 arg4 harg4 arg5 harg5 arg6 harg6 arg7 harg7 arg8 harg8 x0 𝒱 bd h1 x1 x3 x2 64 le_rfl) le_rfl r k (by have := r.isLt; omega)

/-- After the first block of columns the scratch holds the rows normed and modulated. -/
theorem soutA_at (hc0 : cond0_0 i) (r : Fin 1024) (k : Fin 2048) :
    sout0_A_0 c i arg2 harg2 arg3 harg3 arg4 harg4 arg5 harg5 arg6 harg6 arg7 harg7 arg8 harg8 hc0 x0 x1 x2 x3 x4 (ix2 r k)
      = _root_.Ffn.modRow (fun j => x0 (ix2 r j)) (fun j => x1 (ix2 0 j)) (fun j => x3 (ix3 0 0 j)) (fun j => x2 (ix3 0 0 j)) k := by
  unfold sout0_A_0
  unfold kernelRun0_A
  dsimp only
  frame_out
  exact pb_at c i arg2 harg2 arg3 harg3 arg4 harg4 arg5 harg5 arg6 harg6 arg7 harg7 arg8 harg8 x0 x1 x2 x3 _ _ hc0 r k

end At

end Cert.Kernel4Ideal.Proj
-- ==== Proof.KvArray.lean ====
/-
  The kernel of the shared keys and values: what its grid points find in their input blocks, and its whole result.
-/
module

public import proofs.«01_k».proof.Proof.KvRun
public import proofs.«01_k».proof.Proof.ProjSpec

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen
open Idealize.ShloMosaic.Pipeline (Dat)

attribute [local irreducible] out0_A_5 sout0_A_0 out0_B_5

variable (m : (ℓ : Loc nD τ sig) → Buf (Elt Ideal) ℓ)

/-- The residual stream as launched. -/
abbrev Xa (c : Dev nD) : FVec Ideal S4x4096x2048 .f32 := m ((c : Thread nD τ).loc main_arg0)
/-- The norm's gain as launched. -/
abbrev Ga (c : Dev nD) : FVec Ideal S2048 .f32 := m ((c : Thread nD τ).loc main_arg1)
/-- The shifts as launched. -/
abbrev SHa (c : Dev nD) : FVec Ideal S4x2048 .f32 := m ((c : Thread nD τ).loc main_arg2)
/-- The scales as launched. -/
abbrev SCa (c : Dev nD) : FVec Ideal S4x2048 .f32 := m ((c : Thread nD τ).loc main_arg3)
/-- The weights as launched. -/
abbrev Wa (c : Dev nD) : FVec Ideal S2048x4096 .f32 := m ((c : Thread nD τ).loc main_arg4)

/-- The block index of every window at every grid point, in closed form. -/
theorem idx : ∀ t : Fin cfg0.N,
    win0_0.index t = ![t.val / 2, 0]
    ∧ win0_1.index t = ![0, 0]
    ∧ win0_2.index t = ![t.val / 8, 0, 0]
    ∧ win0_3.index t = ![t.val / 8, 0, 0]
    ∧ win0_4.index t = ![0, t.val % 2]
    ∧ win0_5.index t = ![t.val / 2, t.val % 2]
    ∧ t.val < 32 :=
  (by decide +kernel : ∀ t : Fin grid0.N, _)

/-- There are 32 grid points. -/
theorem t_lt (t : Fin cfg0.N) : t.val < 32 := (idx t).2.2.2.2.2.2

/-- The batch a grid point works on. -/
def bOf (t : Fin cfg0.N) : Fin 4 := ⟨t.val / 8, by have := t_lt t; omega⟩

/-- The token that row `r` of a grid point's block is. -/
def sOf (t : Fin cfg0.N) (r : Fin 1024) : Fin 4096 := ⟨1024 * (t.val / 2 % 4) + r.val, by have := r.isLt; omega⟩

/-- The column of the keys and values that column `n` of a grid point's block is. -/
def nOf (t : Fin cfg0.N) (n : Fin 2048) : Fin 4096 := ⟨2048 * (t.val % 2) + n.val, by have := n.isLt; omega⟩

section host
variable (c : Dev nD)

/-- The stream as the kernel finds it: the batches' tokens one after another. -/
theorem VX_at (i) (b : Fin 4) (s : Fin 4096) (k : Fin 2048) (h0 : (i 0).val = 4096 * b.val + s.val) (h1 : (i 1).val = k.val) :
    V m c main_v0 i = (Xa m c) (ix3 b s k) := by
  entry_read
  pointwise
  have := s.isLt
  have e0 : (i 0).val / 4096 = b.val := by omega
  have e1 : (i 0).val % 4096 = s.val := by omega
  blk_ext [e0, e1]

/-- The gain. -/
theorem VG_at (i) (k : Fin 2048) (h0 : (i 0).val = 0) (h1 : (i 1).val = k.val) :
    V m c main_v1 i = (Ga m c) (ix1 k) := by
  entry_read
  pointwise
  blk_ext

/-- The shift. -/
theorem VSh_at (i) (b : Fin 4) (k : Fin 2048) (h0 : (i 0).val = b.val) (h1 : (i 1).val = 0) (h2 : (i 2).val = k.val) :
    V m c main_v2 i = (SHa m c) (ix2 b k) := by
  entry_read
  pointwise
  blk_ext

/-- The scale. -/
theorem VSc_at (i) (b : Fin 4) (k : Fin 2048) (h0 : (i 0).val = b.val) (h1 : (i 1).val = 0) (h2 : (i 2).val = k.val) :
    V m c main_v3 i = (SCa m c) (ix2 b k) := by
  entry_read
  pointwise
  blk_ext

/-- The weights. -/
theorem VW_at (i) (k : Fin 2048) (n : Fin 4096) (h0 : (i 0).val = k.val) (h1 : (i 1).val = n.val) :
    V m c main_v4 i = (Wa m c) (ix2 k n) := by
  entry_read
  pointwise
  blk_ext

end host

section point
variable (c : Dev nD) (t : Fin cfg0.N)

/-- The point's rows of the stream. -/
theorem x_at (r : Fin 1024) (k : Fin 2048) : iblk m c 0 t (ix2 r k) = (Xa m c) (ix3 (bOf t) (sOf t r) k) := by
  have := t_lt t
  blk_simp [iblk]
  refine VX_at m c _ _ _ _ ?_ ?_
  · blk_simp [idx t, bOf, sOf]
    dsimp only
    omega
  · blk_simp [idx t]

/-- The point's gain. -/
theorem g_at (k : Fin 2048) : iblk m c 1 t (ix2 0 k) = (Ga m c) (ix1 k) := by
  blk_simp [iblk]
  refine VG_at m c _ _ ?_ ?_ <;> blk_simp [idx t] <;> rfl

/-- The point's shift. -/
theorem sh_at (k : Fin 2048) : iblk m c 2 t (ix3 0 0 k) = (SHa m c) (ix2 (bOf t) k) := by
  blk_simp [iblk]
  refine VSh_at m c _ _ _ ?_ ?_ ?_ <;> blk_simp [idx t, bOf] <;> rfl

/-- The point's scale. -/
theorem sc_at (k : Fin 2048) : iblk m c 3 t (ix3 0 0 k) = (SCa m c) (ix2 (bOf t) k) := by
  blk_simp [iblk]
  refine VSc_at m c _ _ _ ?_ ?_ ?_ <;> blk_simp [idx t, bOf] <;> rfl

/-- The point's weights. -/
theorem w_at (k n : Fin 2048) : iblk m c 4 t (ix2 k n) = (Wa m c) (ix2 k (nOf t n)) := by
  blk_simp [iblk]
  refine VW_at m c _ _ _ ?_ ?_ <;> blk_simp [idx t, nOf] <;> first | rfl | omega | (dsimp only; omega)

/-- The rows as normed and modulated from the point's blocks. -/
theorem hid_pt (r : Fin 1024) (k : Fin 2048) :
    _root_.Ffn.modRow (fun j => iblk m c 0 t (ix2 r j)) (fun j => iblk m c 1 t (ix2 0 j)) (fun j => iblk m c 3 t (ix3 0 0 j))
      (fun j => iblk m c 2 t (ix3 0 0 j)) k = _root_.Ffn.kvHid (Xa m c) (Ga m c) (SHa m c) (SCa m c) (bOf t) (sOf t r) k := by
  rw [show (fun j => iblk m c 0 t (ix2 r j)) = _ from funext fun j => x_at m c t r j,
    show (fun j => iblk m c 1 t (ix2 0 j)) = _ from funext fun j => g_at m c t j,
    show (fun j => iblk m c 3 t (ix3 0 0 j)) = _ from funext fun j => sc_at m c t j,
    show (fun j => iblk m c 2 t (ix3 0 0 j)) = _ from funext fun j => sh_at m c t j]
  rfl

/-- With the normed rows in the scratch, a point leaves its columns of their keys and values. -/
theorem step (h : Vec Ideal S1024x2048 .bf16) (r : Fin 1024) (n : Fin 2048)
    (hh : ∀ k, h (ix2 r k) = _root_.Ffn.kvHid (Xa m c) (Ga m c) (SHa m c) (SCa m c) (bOf t) (sOf t r) k) :
    k0_pay2 h (iblk m c 4 t) (ix2 r n) = _root_.Ffn.kvRow (Xa m c) (Ga m c) (SHa m c) (SCa m c) (Wa m c) (bOf t) (sOf t r) (nOf t n) :=
  (pay2_at h _ r n).trans (Finset.sum_congr rfl fun k _ => congrArg₂ (fun a b : EReal => a * b) (hh k) (w_at m c t k n))

end point

/-- What a grid point leaves: the normed rows in the scratch, and its columns of the keys and values. -/
structure Good (c : Dev nD) (t : Fin cfg0.N) (a h : Vec Ideal S1024x2048 .bf16) : Prop where
  scratch : ∀ r k, h (ix2 r k) = _root_.Ffn.kvHid (Xa m c) (Ga m c) (SHa m c) (SCa m c) (bOf t) (sOf t r) k
  rows : ∀ r n, a (ix2 r n) = _root_.Ffn.kvRow (Xa m c) (Ga m c) (SHa m c) (SCa m c) (Wa m c) (bOf t) (sOf t r) (nOf t n)

/-- The first point of a block of rows. -/
theorem good_A (c : Dev nD) (t : Fin cfg0.N) (h0 : t.val % 2 = 0) : Good m c t (outsAt0 m c t.val t.isLt).1 (outsAt0 m c t.val t.isLt).2 := by
  rw [outsAt0_A m c t h0]
  dsimp only
  have hs : ∀ r k, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) (ix2 r k) = _root_.Ffn.kvHid (Xa m c) (Ga m c) (SHa m c) (SCa m c) (bOf t) (sOf t r) k := fun r k =>
    (soutA_at _ _ _ _ _ _ _ _ _ _ _ _ _ _ _ _ _ _ _ _ _ _ r k).trans (hid_pt m c t r k)
  refine ⟨hs, fun r n => ?_⟩
  refine (congrFun (outA _ _ _ _ _ _ _ _ _ _ _ _ _ _ _ _ _ _ _ _ _ _) (ix2 r n)).trans ?_
  exact step m c t _ r n (hs r)

/-- The second point, after the first. -/
theorem good_B (c : Dev nD) (t p : Fin cfg0.N) (hp : p.val = t.val - 1) (h0 : ¬t.val % 2 = 0)
    (ih : Good m c p (outsAt0 m c (t.val - 1) (Nat.lt_of_le_of_lt (Nat.sub_le _ _) t.isLt)).1 (outsAt0 m c (t.val - 1) (Nat.lt_of_le_of_lt (Nat.sub_le _ _) t.isLt)).2) :
    Good m c t (outsAt0 m c t.val t.isLt).1 (outsAt0 m c t.val t.isLt).2 := by
  rw [outsAt0_B m c t h0]
  dsimp only
  unfold sout0_B_0
  generalize (outsAt0 m c (t.val - 1) (Nat.lt_of_le_of_lt (Nat.sub_le _ _) t.isLt)) = o at ih ⊢
  obtain ⟨a, h⟩ := o
  dsimp only at ih ⊢
  have eb : bOf p = bOf t := Fin.ext (by show p.val / 8 = t.val / 8; omega)
  have es : ∀ r, sOf p r = sOf t r := fun r => Fin.ext (by show 1024 * (p.val / 2 % 4) + r.val = 1024 * (t.val / 2 % 4) + r.val; omega)
  have hs : ∀ r k, h (ix2 r k) = _root_.Ffn.kvHid (Xa m c) (Ga m c) (SHa m c) (SCa m c) (bOf t) (sOf t r) k := fun r k => by
    rw [ih.scratch r k, eb, es]
  refine ⟨hs, fun r n => ?_⟩
  refine (congrFun (outB _ _ _ _ _ _ _ _ _ _ _ _ _ _ _ _ _ _ _ _ _ _ _) (ix2 r n)).trans ?_
  exact step m c t _ r n (hs r)

/-- Every grid point, by induction along the grid. -/
theorem good (c : Dev nD) : ∀ (n : ℕ) (hn : n < cfg0.N), Good m c ⟨n, hn⟩ (outsAt0 m c n hn).1 (outsAt0 m c n hn).2 := by
  intro n
  induction n with
  | zero => exact fun hn => good_A m c ⟨0, hn⟩ rfl
  | succ n ih =>
    intro hn
    by_cases h0 : (n + 1) % 2 = 0
    · exact good_A m c ⟨n + 1, hn⟩ h0
    · exact good_B m c ⟨n + 1, hn⟩ ⟨n, by omega⟩ rfl h0 (ih _)

/-- The kernel's result is the specification's, at every row and column. -/
theorem final (c : Dev nD) :
    (dats m 0 c).arrAt 5 cfg0.N = _root_.Ffn.kvOut (Xa m c) (Ga m c) (SHa m c) (SCa m c) (Wa m c) := by
  refine (dats m 0 c).arrAt_eq_of_covers 5 _ (by decide +kernel) fun t hf y => ?_
  blk_simp
  have ht := t_lt t
  have y0 : (y 0).val < 1024 := (y 0).isLt
  have y1 : (y 1).val < 2048 := (y 1).isLt
  rw [after0_5]
  have key := (good m c t.val t.isLt).rows ⟨(y 0).val, y0⟩ ⟨(y 1).val, y1⟩
  refine Eq.trans ?_ (key.trans ?_)
  · blk_ext
  · have e0 : (((win0_5.blk t).view.emb y) 0 : ℕ) = 1024 * (t.val / 2) + (y 0).val := by
      blk_simp [idx t]
      dsimp only
      omega
    have e1 : (((win0_5.blk t).view.emb y) 1 : ℕ) = 2048 * (t.val % 2) + (y 1).val := by
      blk_simp [idx t]
      dsimp only
      omega
    unfold _root_.Ffn.kvOut
    generalize (win0_5.blk t).view.emb y = i at e0 e1
    refine congr (congr (congrArg _ (Fin.ext ?_)) (Fin.ext ?_)) (Fin.ext ?_)
    · show t.val / 8 = (i 0).val / 4096
      omega
    · show 1024 * (t.val / 2 % 4) + (y 0).val = (i 0).val % 4096
      omega
    · exact e1.symm

end Cert.Kernel4Ideal.Proj
-- ==== Proof.KvRef.lean ====
/-
  The reference of the shared keys and values, read at an index.
-/
module

public import proofs.«01_k».proof.Proof.ProjSpec
public import proofs.«01_k».proof.Proof.Gen.Reference4Ideal.Read

@[expose] public section

set_option maxRecDepth 16384

noncomputable section

namespace Cert.Reference4Ideal.Proj

open Idealize.ShloMosaic Idealize.ShloMosaic.TcCoe Idealize.SL.Sem
open Cert.Reference4Ideal Cert.Reference4Ideal.Gen Cert.Reference4Ideal.Read

variable (X : FVec Ideal S4x4096x2048 .f32) (KG : FVec Ideal S2048 .f32) (SH SC : FVec Ideal S4x2048 .f32)
  (W : FVec Ideal S2048x4096 .f32) (b : Fin 4) (s : Fin 4096)

/-- The normed and modulated row. -/
theorem hid_at (k : Fin 2048) : val_main_v20 (F := Ideal) X KG SH SC (ix3 b s k) = _root_.Ffn.kvHid X KG SH SC b s k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold _root_.Ffn.kvHid _root_.Ffn.modRow _root_.Ffn.nrm
  exact congrArg (· + _) (mul_assoc _ _ _)

/-- A row of keys and values. -/
theorem row_at (n : Fin 4096) : val_main_v21 (F := Ideal) X KG SH SC W (ix3 b s n) = _root_.Ffn.kvRow X KG SH SC W b s n := by
  pointwise [val_main_v21]
  simp only [hid_at X KG SH SC b s]
  rfl

/-- The reference's result, whole. -/
theorem final : val_main_v23 (F := Ideal) X KG SH SC W = _root_.Ffn.kvOut X KG SH SC W := by
  funext i
  pointwise [val_main_v23, val_main_v22]
  exact row_at X KG SH SC W _ _ (i 1)

end Cert.Reference4Ideal.Proj
-- ==== Proof.QRun.lean ====
/-
  The queries' kernel: one run of its body.
-/
module

public import proofs.«01_k».proof.Proof.RowPieces
public import proofs.«01_k».proof.Proof.Gen.Kernel5Ideal.Value

@[expose] public section

set_option maxRecDepth 16384

noncomputable section

namespace Cert.Kernel5Ideal.Proj

open Idealize.ShloMosaic Idealize.ShloMosaic.TcCoe Idealize.SL.Sem
open Cert.Kernel5Ideal Cert.Kernel5Ideal.Gen

/-- Sixteen rows, normed and modulated: row by row the specification's. -/
theorem pay1_at (g : Vec Ideal S1x2048 .f32) (sc sh : Vec Ideal S1x1x2048 .f32) (x : Vec Ideal S16x2048 .f32) (r : Fin 16) (k : Fin 2048) :
    k0_pay1 g sc sh x (ix2 r k)
      = _root_.Ffn.modRow (fun j => x (ix2 r j)) (fun j => g (ix2 0 j)) (fun j => sc (ix3 0 0 j)) (fun j => sh (ix3 0 0 j)) k := by
  pointwise [k0_pay1]
  rfl

/-- The projection of a block of rows, scaled by the folded constant, which stands for its exact value. -/
theorem pay2_at (h : Vec Ideal S1024x2048 .bf16) (w : Vec Ideal S2048x2048 .bf16) (r : Fin 1024) (n : Fin 2048) :
    k0_pay2 h w (ix2 r n) = (∑ k : Fin 2048, h (ix2 r k) * w (ix2 k n)) * (((Real.sqrt 128 * Real.log 2)⁻¹ : ℝ) : EReal) := by
  pointwise [k0_pay2]
  rw [IdealRules.named_const.ideal_named_scalar _ _ _ _ rfl]

section Run

variable {F : FTy → Type} [FloatOps F] [Named F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x2048 .bf16) (harg6 : arg6.IsWhole) (arg7 : Memref sig .tc .vmem S1024x2048 .bf16) (harg7 : arg7.IsWhole) (arg8 : Memref sig .tc .vmem S1024x2048 .bf16) (harg8 : arg8.IsWhole)
    (x0 : Vec F S1024x2048 .f32) (x1 : Vec F S1x2048 .f32) (x2 x3 : Vec F S1x1x2048 .f32) (x4 : Vec F S2048x2048 .bf16)

/-- One trip of the loop stores sixteen rows, normed and modulated. -/
theorem trip_eq (𝒱 : Variants) (bd : Option 𝒱.V) (h1 : k0_cond1 i = 1#1) (g : Vec F S1x2048 .f32) (sc sh : Vec F S1x1x2048 .f32)
    (X : BufTy.Contents (Elt F) arg2.view.ty) (t : Fin k0_t1_loop.trips) :
    tripL_k0_t1 (F := F) 𝒱 c bd i arg2 harg2 arg3 harg3 arg4 harg4 arg5 harg5 arg6 harg6 arg7 harg7 arg8 harg8 h1 g sc sh X t
      = [⟨Rect.unit (s := S1024x2048) (k0_off1 t) ![16, 2048] (k0_off1_inb i t h1),
          k0_pay1 g sc sh (View.readAt (Elt F) arg2.view (Rect.unit (s := S1024x2048) (k0_off1 t) ![16, 2048] (k0_off1_inb i t h1)).toLoadRect X)⟩] := by
  unfold tripL_k0_t1 trip_k0_t1
  rfl

/-- The loop's stores before trip `n` are those of `RowPieces.Mod`. -/
theorem pb_mod (𝒱 : Variants) (bd : Option 𝒱.V) (h1 : k0_cond1 i = 1#1) (g : Vec F S1x2048 .f32) (sc sh : Vec F S1x1x2048 .f32) (n : ℕ) (hn : n ≤ 64) :
    RowPieces.Mod arg2 harg2 x0 (k0_pay1 g sc sh) n
      (pb_k0_t1 (F := F) 𝒱 c bd i arg2 harg2 arg3 harg3 arg4 harg4 arg5 harg5 arg6 harg6 arg7 harg7 arg8 harg8 h1 g sc sh (harg2.unread x0) n) := by
  induction n with
  | zero => exact RowPieces.Mod.zero
  | succ n ih =>
    have ht : n < k0_t1_loop.trips := lt_of_lt_of_eq (by omega) (by decide +kernel : 64 = k0_t1_loop.trips)
    have es := pb_k0_t1_succ (F := F) 𝒱 c bd i arg2 harg2 arg3 harg3 arg4 harg4 arg5 harg5 arg6 harg6 arg7 harg7 arg8 harg8 h1 g sc sh (harg2.unread x0) ⟨n, ht⟩
    rw [trip_eq, List.singleton_append] at es
    refine es ▸ ?_
    exact RowPieces.Mod.succ n _ (ih (by omega)) _ (k0_off1_eq ⟨n, ht⟩) _

end Run

section At

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x2048 .bf16) (harg6 : arg6.IsWhole) (arg7 : Memref sig .tc .vmem S1024x2048 .bf16) (harg7 : arg7.IsWhole) (arg8 : Memref sig .tc .vmem S1024x2048 .bf16) (harg8 : arg8.IsWhole)
    (x0 : Vec Ideal S1024x2048 .f32) (x1 : Vec Ideal S1x2048 .f32) (x2 x3 : Vec Ideal S1x1x2048 .f32) (x4 : Vec Ideal S2048x2048 .bf16)

/-- What the loop leaves in the scratch: the rows normed and modulated. -/
theorem pb_at (𝒱 : Variants) (bd : Option 𝒱.V) (h1 : k0_cond1 i = 1#1) (r : Fin 1024) (k : Fin 2048) :
    View.canon (Val := Elt Ideal) (pb_k0_t1 (F := Ideal) 𝒱 c bd i arg2 harg2 arg3 harg3 arg4 harg4 arg5 harg5 arg6 harg6 arg7 harg7 arg8 harg8 h1 x1 x3 x2 (harg2.unread x0) 64) (ix2 r k)
      = _root_.Ffn.modRow (fun j => x0 (ix2 r j)) (fun j => x1 (ix2 0 j)) (fun j => x3 (ix3 0 0 j)) (fun j => x2 (ix3 0 0 j)) k :=
  RowPieces.mod_at arg2 harg2 x0 (k0_pay1 x1 x3 x2) _ _ _ (fun x r k => pay1_at x1 x3 x2 x r k) 64 _
    (pb_mod c i arg2 harg2 arg3 harg3 arg4 harg4 arg5 harg5 arg6 harg6 arg7 harg7 arg8 harg8 x0 𝒱 bd h1 x1 x3 x2 64 le_rfl) le_rfl r k (by have := r.isLt; omega)

/-- The output's row `r`: the normed row's projection, scaled. -/
theorem out_at (hc0 : cond0_0 i) (r : Fin 1024) (n : Fin 2048) :
    out0_A_5 c i arg2 harg2 arg3 harg3 arg4 harg4 arg5 harg5 arg6 harg6 arg7 harg7 arg8 harg8 hc0 x0 x1 x2 x3 x4 (ix2 r n)
      = (∑ k : Fin 2048, _root_.Ffn.modRow (fun j => x0 (ix2 r j)) (fun j => x1 (ix2 0 j)) (fun j => x3 (ix3 0 0 j)) (fun j => x2 (ix3 0 0 j)) k
          * x4 (ix2 k n)) * (((Real.sqrt 128 * Real.log 2)⁻¹ : ℝ) : EReal) := by
  unfold out0_A_5
  unfold kernelRun0_A
  dsimp only
  frame_out
  refine (pay2_at _ x4 r n).trans ?_
  refine congrArg (fun y : EReal => y * _) (Finset.sum_congr rfl fun k _ => congrArg (fun y : EReal => y * x4 (ix2 k n)) ?_)
  rw [View.readCov_eq_canon']
  refine Eq.trans (congrArg _ (funext fun a => Fin.ext ?_)) (pb_at c i arg2 harg2 arg3 harg3 arg4 harg4 arg5 harg5 arg6 harg6 arg7 harg7 arg8 harg8 x0 x1 x2 x3 _ _ hc0 r k)
  refine (Rect.idx_unit_val _ _ _ _ a).trans ?_
  fin_cases a <;> exact Nat.zero_add _

end At

end Cert.Kernel5Ideal.Proj
-- ==== Proof.QArray.lean ====
/-
  The queries' kernel: what its grid points find in their input blocks, and its whole result.
-/
module

public import proofs.«01_k».proof.Proof.QRun
public import proofs.«01_k».proof.Proof.ProjSpec

@[expose] public section

set_option maxRecDepth 16384

noncomputable section

namespace Cert.Kernel5Ideal.Proj

open Idealize.ShloMosaic Idealize.ShloMosaic.TcCoe Idealize.SL.Sem
open Cert.Kernel5Ideal Cert.Kernel5Ideal.Gen
open Idealize.ShloMosaic.Pipeline (Dat)

attribute [local irreducible] out0_A_5

variable (m : (ℓ : Loc nD τ sig) → Buf (Elt Ideal) ℓ)

/-- The residual stream as launched. -/
abbrev Xa (c : Dev nD) : FVec Ideal S4x4096x2048 .f32 := m ((c : Thread nD τ).loc main_arg0)
/-- The norms' gains as launched. -/
abbrev Ga (c : Dev nD) : FVec Ideal S4x4x2048 .f32 := m ((c : Thread nD τ).loc main_arg1)
/-- The shifts as launched. -/
abbrev SHa (c : Dev nD) : FVec Ideal S4x2048 .f32 := m ((c : Thread nD τ).loc main_arg2)
/-- The scales as launched. -/
abbrev SCa (c : Dev nD) : FVec Ideal S4x2048 .f32 := m ((c : Thread nD τ).loc main_arg3)
/-- The weights as launched. -/
abbrev Wa (c : Dev nD) : FVec Ideal S2x2048x2048 .f32 := m ((c : Thread nD τ).loc main_arg4)

/-- The block index of every window at every grid point, in closed form. -/
theorem idx : ∀ t : Fin cfg0.N,
    win0_0.index t = ![t.val, 0]
    ∧ win0_1.index t = ![0, 0]
    ∧ win0_2.index t = ![t.val / 4, 0, 0]
    ∧ win0_3.index t = ![t.val / 4, 0, 0]
    ∧ win0_4.index t = ![0, 0]
    ∧ win0_5.index t = ![t.val, 0]
    ∧ t.val < 16 :=
  (by decide +kernel : ∀ t : Fin grid0.N, _)

/-- There are 16 grid points. -/
theorem t_lt (t : Fin cfg0.N) : t.val < 16 := (idx t).2.2.2.2.2.2

/-- The batch a grid point works on. -/
def bOf (t : Fin cfg0.N) : Fin 4 := ⟨t.val / 4, by have := t_lt t; omega⟩

/-- The token that row `r` of a grid point's block is. -/
def sOf (t : Fin cfg0.N) (r : Fin 1024) : Fin 4096 := ⟨1024 * (t.val % 4) + r.val, by have := r.isLt; omega⟩

section host
variable (c : Dev nD)

/-- The stream as the kernel finds it: the batches' tokens one after another. -/
theorem VX_at (i) (b : Fin 4) (s : Fin 4096) (k : Fin 2048) (h0 : (i 0).val = 4096 * b.val + s.val) (h1 : (i 1).val = k.val) :
    V m c main_v3 i = (Xa m c) (ix3 b s k) := by
  entry_read
  pointwise
  have := s.isLt
  have e0 : (i 0).val / 4096 = b.val := by omega
  have e1 : (i 0).val % 4096 = s.val := by omega
  blk_ext [e0, e1]

/-- The gain. -/
theorem VG_at (i) (k : Fin 2048) (h0 : (i 0).val = 0) (h1 : (i 1).val = k.val) :
    V m c main_v5 i = (Ga m c) (ix3 3 0 k) := by
  entry_read
  pointwise
  blk_ext

/-- The shift. -/
theorem VSh_at (i) (b : Fin 4) (k : Fin 2048) (h0 : (i 0).val = b.val) (h1 : (i 1).val = 0) (h2 : (i 2).val = k.val) :
    V m c main_v6 i = (SHa m c) (ix2 b k) := by
  entry_read
  pointwise
  blk_ext

/-- The scale. -/
theorem VSc_at (i) (b : Fin 4) (k : Fin 2048) (h0 : (i 0).val = b.val) (h1 : (i 1).val = 0) (h2 : (i 2).val = k.val) :
    V m c main_v7 i = (SCa m c) (ix2 b k) := by
  entry_read
  pointwise
  blk_ext

/-- The weights. -/
theorem VW_at (i) (k : Fin 2048) (n : Fin 2048) (h0 : (i 0).val = k.val) (h1 : (i 1).val = n.val) :
    V m c main_v10 i = (Wa m c) (ix3 1 k n) := by
  entry_read
  pointwise
  blk_ext

end host

section point
variable (c : Dev nD) (t : Fin cfg0.N)

/-- The point's rows of the stream. -/
theorem x_at (r : Fin 1024) (k : Fin 2048) : iblk m c 0 t (ix2 r k) = (Xa m c) (ix3 (bOf t) (sOf t r) k) := by
  have := t_lt t
  blk_simp [iblk]
  refine VX_at m c _ _ _ _ ?_ ?_
  · blk_simp [idx t, bOf, sOf]
    dsimp only
    omega
  · blk_simp [idx t]

/-- The point's gain. -/
theorem g_at (k : Fin 2048) : iblk m c 1 t (ix2 0 k) = (Ga m c) (ix3 3 0 k) := by
  blk_simp [iblk]
  refine VG_at m c _ _ ?_ ?_ <;> blk_simp [idx t] <;> rfl

/-- The point's shift. -/
theorem sh_at (k : Fin 2048) : iblk m c 2 t (ix3 0 0 k) = (SHa m c) (ix2 (bOf t) k) := by
  blk_simp [iblk]
  refine VSh_at m c _ _ _ ?_ ?_ ?_ <;> blk_simp [idx t, bOf] <;> rfl

/-- The point's scale. -/
theorem sc_at (k : Fin 2048) : iblk m c 3 t (ix3 0 0 k) = (SCa m c) (ix2 (bOf t) k) := by
  blk_simp [iblk]
  refine VSc_at m c _ _ _ ?_ ?_ ?_ <;> blk_simp [idx t, bOf] <;> rfl

/-- The point's weights. -/
theorem w_at (k n : Fin 2048) : iblk m c 4 t (ix2 k n) = (Wa m c) (ix3 1 k n) := by
  blk_simp [iblk]
  refine VW_at m c _ _ _ ?_ ?_ <;> blk_simp [idx t] <;> first | rfl | omega | (dsimp only; omega)

/-- The rows as normed and modulated from the point's blocks. -/
theorem hid_pt (r : Fin 1024) (k : Fin 2048) :
    _root_.Ffn.modRow (fun j => iblk m c 0 t (ix2 r j)) (fun j => iblk m c 1 t (ix2 0 j)) (fun j => iblk m c 3 t (ix3 0 0 j))
      (fun j => iblk m c 2 t (ix3 0 0 j)) k = _root_.Ffn.qHid (Xa m c) (Ga m c) (SHa m c) (SCa m c) (bOf t) (sOf t r) k := by
  rw [show (fun j => iblk m c 0 t (ix2 r j)) = _ from funext fun j => x_at m c t r j,
    show (fun j => iblk m c 1 t (ix2 0 j)) = _ from funext fun j => g_at m c t j,
    show (fun j => iblk m c 3 t (ix3 0 0 j)) = _ from funext fun j => sc_at m c t j,
    show (fun j => iblk m c 2 t (ix3 0 0 j)) = _ from funext fun j => sh_at m c t j]
  rfl

/-- The rows a point leaves. -/
theorem row_at (r : Fin 1024) (n : Fin 2048) :
    outsAt0 m c t (ix2 r n) = _root_.Ffn.qRow (Xa m c) (Ga m c) (SHa m c) (SCa m c) (Wa m c) (bOf t) (sOf t r) n := by
  unfold outsAt0
  refine (out_at _ _ _ _ _ _ _ _ _ _ _ _ _ _ _ _ _ _ _ _ _ _ r n).trans ?_
  exact congrArg (fun y : EReal => y * _) (Finset.sum_congr rfl fun k _ => congrArg₂ (fun a b : EReal => a * b) (hid_pt m c t r k) (w_at m c t k n))

end point

/-- The kernel's result is the specification's, at every row and column. -/
theorem final (c : Dev nD) :
    (dats m 0 c).arrAt 5 cfg0.N = _root_.Ffn.qOut (Xa m c) (Ga m c) (SHa m c) (SCa m c) (Wa m c) := by
  refine (dats m 0 c).arrAt_eq_of_covers 5 _ (by decide +kernel) fun t hf y => ?_
  blk_simp
  have ht := t_lt t
  have y0 : (y 0).val < 1024 := (y 0).isLt
  have y1 : (y 1).val < 2048 := (y 1).isLt
  rw [after0_5]
  have key := row_at m c t ⟨(y 0).val, y0⟩ ⟨(y 1).val, y1⟩
  refine Eq.trans ?_ (key.trans ?_)
  · blk_ext
  · have e0 : (((win0_5.blk t).view.emb y) 0 : ℕ) = 1024 * (t.val) + (y 0).val := by
      blk_simp [idx t]
      dsimp only
      omega
    have e1 : (((win0_5.blk t).view.emb y) 1 : ℕ) = (y 1).val := by
      blk_simp [idx t]
    unfold _root_.Ffn.qOut
    generalize (win0_5.blk t).view.emb y = i at e0 e1
    refine congr (congr (congrArg _ (Fin.ext ?_)) (Fin.ext ?_)) (Fin.ext ?_)
    · show t.val / 4 = (i 0).val / 4096
      omega
    · show 1024 * (t.val % 4) + (y 0).val = (i 0).val % 4096
      omega
    · exact e1.symm

end Cert.Kernel5Ideal.Proj
-- ==== Proof.QRef.lean ====
/-
  The queries' reference, read at an index.
-/
module

public import proofs.«01_k».proof.Proof.ProjSpec
public import proofs.«01_k».proof.Proof.Gen.Reference5Ideal.Read
public import proofs.«01_k».proof.Proof.Spec

@[expose] public section

set_option maxRecDepth 16384

noncomputable section

namespace Cert.Reference5Ideal.Proj

open Idealize.ShloMosaic Idealize.ShloMosaic.TcCoe Idealize.SL.Sem
open Cert.Reference5Ideal Cert.Reference5Ideal.Gen Cert.Reference5Ideal.Read

variable (X : FVec Ideal S4x4096x2048 .f32) (NG : FVec Ideal S4x4x2048 .f32) (SH SC : FVec Ideal S4x2048 .f32)
  (W : FVec Ideal S2x2048x2048 .f32) (b : Fin 4) (s : Fin 4096)

/-- The normed and modulated row. -/
theorem hid_at (k : Fin 2048) : val_main_v22 (F := Ideal) X NG SH SC (ix3 b s k) = _root_.Ffn.qHid X NG SH SC b s k := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold _root_.Ffn.qHid _root_.Ffn.modRow _root_.Ffn.nrm
  exact congrArg (· + _) (mul_assoc _ _ _)

/-- Dividing by the root of 128 and the logarithm of 2 is multiplying by the reciprocal of their product. -/
theorem scale_eq (y : EReal) : Ideal.div y (Ideal.sqrt (Ideal.ofBits .f32 1124073472#32) * Ideal.log (Ideal.ofBits .f32 1073741824#32))
    = y * (((Real.sqrt 128 * Real.log 2)⁻¹ : ℝ) : EReal) := by
  rw [Cert.KernelIdeal.SB.sqrt_128, Cert.KernelIdeal.SB.bits_2, Ideal.log_coe, if_neg (by norm_num), ← EReal.coe_mul,
    Ideal.div_coe (mul_ne_zero Cert.KernelIdeal.SB.sqrt_128_ne Cert.KernelIdeal.SB.log_2_ne), one_div]

/-- A row of queries. -/
theorem row_at (n : Fin 2048) : val_main_v30 (F := Ideal) X NG SH SC W (ix3 b s n) = _root_.Ffn.qRow X NG SH SC W b s n := by
  pointwise [val_main_v30, val_main_v29, val_main_v28, val_main_v27, val_main_v26, val_main_v25, val_main_v24, val_main_v23, val_main_cst_3, val_main_cst_4]
  simp only [hid_at X NG SH SC b s]
  exact scale_eq _

/-- The reference's result, whole. -/
theorem final : val_main_v32 (F := Ideal) X NG SH SC W = _root_.Ffn.qOut X NG SH SC W := by
  funext i
  pointwise [val_main_v32, val_main_v31]
  exact row_at X NG SH SC W _ _ (i 1)

end Cert.Reference5Ideal.Proj
-- ==== Proof.CmpSpec.lean ====
/-
  What the compression of the keys and values computes, over the extended reals: a two-layer perceptron of each window of
  thirty-two tokens, a window beginning at every sixteenth.
-/
module

public import proofs.«01_k».proof.Proof.Gen.Reference6Ideal
public import Idealize.ShloMosaic.Lib.Pointwise

@[expose] public section

noncomputable section

namespace Cmp

open Idealize.ShloMosaic Idealize.ShloMosaic.TcCoe Cert.Reference6Ideal

/-- The tanh form of the Gaussian error linear unit. -/
def gelu (x : EReal) : EReal :=
  x * (Ideal.ofBits .f32 0x3F000000#32 * (1
    + Ideal.tanh (Ideal.ofBits .f32 0x3F4C422A#32 * (x + Ideal.ofBits .f32 0x3D372713#32 * (x * x * x)))))

section One

variable (KV : FVec Ideal S4x4096x4x128 .f32) (PE : FVec Ideal S2x2x32x128 .f32) (W1 : FVec Ideal S2x2x4096x256 .f32)
  (W2 : FVec Ideal S2x2x256x128 .f32) (w : Fin 2) (b g : Fin 4) (n : Fin 255)

/-- Entry `j` of window `n`, its tokens one after another: the keys or values themselves. -/
def win (j : Fin 4096) : EReal :=
  KV (ix4 b ⟨16 * n.val + j.val / 128, by have := n.isLt; have := j.isLt; omega⟩ g ⟨j.val % 128, Nat.mod_lt _ (by decide)⟩)

/-- The position's embedding at entry `j` of a window. -/
def pos (j : Fin 4096) : EReal :=
  PE (ix4 1 w ⟨j.val / 128, by have := j.isLt; omega⟩ ⟨j.val % 128, Nat.mod_lt _ (by decide)⟩)

/-- Hidden unit `h` of window `n`, before its nonlinearity. -/
def hid (h : Fin 256) : EReal := ∑ j : Fin 4096, (win KV b g n j + pos PE w j) * W1 (ix4 1 w j h)

/-- The compressed key or value of window `n`. -/
def cmp (e : Fin 128) : EReal := ∑ h : Fin 256, gelu (hid KV PE W1 w b g n h) * W2 (ix4 1 w h e)

end One

variable (KC VC : FVec Ideal S4x4096x4x128 .f32) (PE : FVec Ideal S2x2x32x128 .f32) (W1 : FVec Ideal S2x2x4096x256 .f32)
  (W2 : FVec Ideal S2x2x256x128 .f32)

/-- The keys, then the values. -/
def both (w : Fin 2) : FVec Ideal S4x4096x4x128 .f32 := if w.val = 0 then KC else VC

/-- The first of the two is the keys. -/
theorem both_keys (w : Fin 2) (h : w.val = 0) : both KC VC w = KC := if_pos h

/-- The second is the values. -/
theorem both_values (w : Fin 2) (h : ¬w.val = 0) : both KC VC w = VC := if_neg h

/-- The compressed keys (`w = 0`) and values (`w = 1`) of every batch and group, with a row of zeros after the 255 windows. -/
def rowOut (w : Fin 2) (b g : Fin 4) (n : Fin 256) (e : Fin 128) : EReal :=
  if h : n.val < 255 then cmp (both KC VC w) PE W1 W2 w b g ⟨n.val, h⟩ e else 0

/-- The whole result. -/
def out (i : S2x4x4x256x128.Idx) : EReal := rowOut KC VC PE W1 W2 (i 0) (i 1) (i 2) (i 3) (i 4)

/-- A real factor distributes over the sum with a real, whatever the other summand. -/
theorem add_mul_real (a : EReal) (p w : ℝ) : (a + p) * w = a * w + p * w := by
  rcases lt_trichotomy w 0 with h | h | h
  · induction a with
    | bot => rw [EReal.bot_add, EReal.bot_mul_coe_of_neg h, ← EReal.coe_mul, EReal.top_add_coe]
    | top => rw [EReal.top_add_coe, EReal.top_mul_coe_of_neg h, EReal.bot_add]
    | coe r => rw [← EReal.coe_add, ← EReal.coe_mul, ← EReal.coe_mul, ← EReal.coe_mul, ← EReal.coe_add, add_mul]
  · subst h
    simp
  · induction a with
    | bot => rw [EReal.bot_add, EReal.bot_mul_coe_of_pos h, EReal.bot_add]
    | top => rw [EReal.top_add_coe, EReal.top_mul_coe_of_pos h, ← EReal.coe_mul, EReal.top_add_coe]
    | coe r => rw [← EReal.coe_add, ← EReal.coe_mul, ← EReal.coe_mul, ← EReal.coe_mul, ← EReal.coe_add, add_mul]

/-- The first product, split as the kernel splits it: the two halves of a window apart, and the position's part by itself. -/
theorem split (a p w : Fin 4096 → EReal) (hp : ∀ j, ∃ r : ℝ, p j = r) (hw : ∀ j, ∃ r : ℝ, w j = r) :
    ∑ j, (a j + p j) * w j
      = (∑ j : Fin 2048, a ⟨j.val, by have := j.isLt; omega⟩ * w ⟨j.val, by have := j.isLt; omega⟩)
        + (∑ j : Fin 2048, a ⟨2048 + j.val, by have := j.isLt; omega⟩ * w ⟨2048 + j.val, by have := j.isLt; omega⟩)
        + ∑ j, p j * w j := by
  have e : ∀ j, (a j + p j) * w j = a j * w j + p j * w j := fun j => by
    obtain ⟨r, hr⟩ := hp j
    obtain ⟨s, hs⟩ := hw j
    rw [hr, hs, add_mul_real]
  rw [Finset.sum_congr rfl fun j _ => e j, Finset.sum_add_distrib]
  refine congrArg (· + _) ?_
  exact Fin.sum_univ_add (a := 2048) (b := 2048) fun j => a j * w j

end Cmp
-- ==== Proof.CmpRef.lean ====
/-
  The compression's reference, read at an index.
-/
module

public import proofs.«01_k».proof.Proof.CmpSpec
public import proofs.«01_k».proof.Proof.Gen.Reference6Ideal.Read
public import Idealize.ShloMosaic.Lib.KernelVsHost

@[expose] public section

set_option maxRecDepth 16384

noncomputable section

namespace Cert.Reference6Ideal.Cmp

open Idealize.ShloMosaic Idealize.ShloMosaic.TcCoe Idealize.SL.Sem
open Cert.Reference6Ideal Cert.Reference6Ideal.Gen Cert.Reference6Ideal.Read

/-- The shape of the gather: along the tokens. -/
abbrev G : GatherDims S4x4096x4x128 S255x32x1 S4x255x32x4x128 := gather_S4x4096x4x128_S255x32x1_S4x255x32x4x128_034_1_n_n_1_2_414128

/-- The gather of the windows: along the tokens it follows the table of indices, on the other axes it is the identity. -/
theorem gather_at (x : FVec Ideal S4x4096x4x128 .f32) (ind : IVec S255x32x1 32) (b : Fin 4) (n : Fin 255) (o : Fin 32) (g : Fin 4) (d : Fin 128) :
    Host.gather G x ind (ix5 b n o g d)
      = x (ix4 b ⟨min (ind (ix3 n o 0)).toInt.toNat 4095, by omega⟩ g d) := by
  unfold Host.gather
  congr 1
  funext a
  refine Fin.ext ?_
  show G.start (ix5 b n o g d) ind a + G.batchCoord (ix5 b n o g d) a + G.offCoord (ix5 b n o g d) a = _
  rw [GatherDims.batchCoord_eq_zero _ _ _ List.not_mem_nil]
  have h0 : ∀ a : Fin 4, a ≠ 1 → G.start (ix5 b n o g d) ind a = 0 := fun a ha => by
    unfold GatherDims.start
    rw [dif_neg (show ¬a ∈ G.startIndexMap from fun h => ha (List.mem_singleton.mp h))]
  have h1 : G.start (ix5 b n o g d) ind (1 : Fin 4) = min (ind (ix3 n o 0)).toInt.toNat 4095 := by
    unfold GatherDims.start
    rw [dif_pos (show (1 : Fin 4) ∈ G.startIndexMap from List.mem_singleton.mpr rfl)]
    have hsi : G.siIdx (ix5 b n o g d) ⟨List.idxOf (1 : Fin 4) G.startIndexMap, List.idxOf_lt_length_iff.2 (List.mem_singleton.mpr rfl)⟩ = ix3 n o 0 := by
      funext c
      refine Fin.ext ?_
      match c with
      | ⟨0, _⟩ => rfl
      | ⟨1, _⟩ => rfl
      | ⟨2, _⟩ => rfl
    rw [hsi]
    rfl
  have k : ∀ a : Fin 4, a ≠ 1 → a ∈ G.sKept := fun a ha => (GatherDims.mem_sKept _ _).mpr ⟨fun h => ha (List.mem_singleton.mp h), List.not_mem_nil⟩
  have e0 : G.start (ix5 b n o g d) ind (0 : Fin 4) + 0 + G.offCoord (ix5 b n o g d) (0 : Fin 4) = b.val := by
    rw [h0 _ (by decide), Nat.zero_add]
    unfold GatherDims.offCoord
    rw [dif_pos (k _ (by decide))]
    rfl
  have e1 : G.start (ix5 b n o g d) ind (1 : Fin 4) + 0 + G.offCoord (ix5 b n o g d) (1 : Fin 4) = min (ind (ix3 n o 0)).toInt.toNat 4095 := by
    rw [h1, GatherDims.offCoord_eq_zero _ _ _ (fun h => ((GatherDims.mem_sKept _ _).mp h).1 (List.mem_singleton.mpr rfl))]
    rfl
  have e2 : G.start (ix5 b n o g d) ind (2 : Fin 4) + 0 + G.offCoord (ix5 b n o g d) (2 : Fin 4) = g.val := by
    rw [h0 _ (by decide), Nat.zero_add]
    unfold GatherDims.offCoord
    rw [dif_pos (k _ (by decide))]
    rfl
  have e3 : G.start (ix5 b n o g d) ind (3 : Fin 4) + 0 + G.offCoord (ix5 b n o g d) (3 : Fin 4) = d.val := by
    rw [h0 _ (by decide), Nat.zero_add]
    unfold GatherDims.offCoord
    rw [dif_pos (k _ (by decide))]
    rfl
  match a with
  | ⟨0, _⟩ => exact e0
  | ⟨1, _⟩ => exact e1
  | ⟨2, _⟩ => exact e2
  | ⟨3, _⟩ => exact e3

/-- The keys' table of indices: token `o` of window `n` is token `16 n + o`. -/
theorem ind_at (n : Fin 255) (o : Fin 32) : (val_main_v20 (F := Ideal) (ix3 n o 0)).toInt.toNat = 16 * n.val + o.val := by
  pointwise [val_main_v20, val_main_v19, val_main_v18, val_main_v17, val_main_c_1, val_main_v16, val_main_v15, val_main_c_0, val_main_v14, val_main_v13, val_main_v12, val_main_v11, val_main_v10, val_main_v9, val_main_v8, val_main_c, val_main_v7, val_main_v6]
  revert n o
  decide +kernel

/-- The values' table of indices is the keys'. -/
theorem ind_eq : val_main_v62 (F := Ideal) = val_main_v20 (F := Ideal) := rfl

variable (KV : FVec Ideal S4x4096x4x128 .f32) (PE : FVec Ideal S2x2x32x128 .f32) (W1 : FVec Ideal S2x2x4096x256 .f32)
  (W2 : FVec Ideal S2x2x256x128 .f32) (b g : Fin 4) (n : Fin 255)

/-- The keys' gathered windows. -/
theorem win_at (o : Fin 32) (d : Fin 128) : val_main_v21 (F := Ideal) KV (ix5 b n o g d)
    = KV (ix4 b ⟨16 * n.val + o.val, by have := n.isLt; have := o.isLt; omega⟩ g d) := by
  unfold val_main_v21
  refine (gather_at KV _ b n o g d).trans ?_
  refine congrArg KV (congrArg (fun s => ix4 b s g d) (Fin.ext ?_))
  show min (val_main_v20 (F := Ideal) (ix3 n o 0)).toInt.toNat 4095 = _
  rw [ind_at]
  have := n.isLt
  have := o.isLt
  dsimp only
  omega

/-- The values' gathered windows. -/
theorem win_at' (o : Fin 32) (d : Fin 128) : val_main_v63 (F := Ideal) KV (ix5 b n o g d)
    = KV (ix4 b ⟨16 * n.val + o.val, by have := n.isLt; have := o.isLt; omega⟩ g d) :=
  win_at KV b g n o d

/-- The keys' hidden units before their nonlinearity. -/
theorem hid_at (h : Fin 256) : val_main_v27 (F := Ideal) KV PE W1 (ix4 b n g h) = _root_.Cmp.hid KV PE W1 0 b g n h := by
  pointwise [val_main_v27, val_main_v26, val_main_v25, val_main_v24, val_main_v23, val_main_v22, val_main_v3, val_main_v2, val_main_v1, val_main_v0]
  simp only [win_at KV b g n]
  rfl

/-- The compressed keys. -/
theorem cmp_at (e : Fin 128) : val_main_v41 (F := Ideal) KV PE W1 W2 (ix4 b n g e) = _root_.Cmp.cmp KV PE W1 W2 0 b g n e := by
  pointwise [val_main_v41, val_main_v40, val_main_v39, val_main_v38, val_main_cst_4, val_main_v37, val_main_v36, val_main_cst_3, val_main_v35, val_main_v34, val_main_v33, val_main_cst_2, val_main_v32, val_main_v31, val_main_v30, val_main_cst, val_main_v29, val_main_v28, val_main_v5, val_main_v4]
  simp only [hid_at KV PE W1 b g n]
  rfl

/-- The values' hidden units before their nonlinearity. -/
theorem hid_at' (h : Fin 256) : val_main_v69 (F := Ideal) KV PE W1 (ix4 b n g h) = _root_.Cmp.hid KV PE W1 1 b g n h := by
  pointwise [val_main_v69, val_main_v68, val_main_v67, val_main_v66, val_main_v65, val_main_v64, val_main_v45, val_main_v44, val_main_v43, val_main_v42]
  simp only [win_at' KV b g n]
  rfl

/-- The compressed values. -/
theorem cmp_at' (e : Fin 128) : val_main_v83 (F := Ideal) KV PE W1 W2 (ix4 b n g e) = _root_.Cmp.cmp KV PE W1 W2 1 b g n e := by
  pointwise [val_main_v83, val_main_v82, val_main_v81, val_main_v80, val_main_cst_11, val_main_v79, val_main_v78, val_main_cst_10, val_main_v77, val_main_v76, val_main_v75, val_main_cst_9, val_main_v74, val_main_v73, val_main_v72, val_main_cst_8, val_main_v71, val_main_v70, val_main_v47, val_main_v46]
  simp only [hid_at' KV PE W1 b g n]
  rfl

/-- The keys, then the values, before the row of zeros. -/
theorem both_at (KC VC : FVec Ideal S4x4096x4x128 .f32) (w : Fin 2) (e : Fin 128) :
    val_main_v87 (F := Ideal) KC VC PE W1 W2 (ix5 w b g n e) = _root_.Cmp.cmp (_root_.Cmp.both KC VC w) PE W1 W2 w b g n e := by
  pointwise [val_main_v87, val_main_v86, val_main_v85, val_main_v84]
  by_cases h : w.val < 1
  · rw [dif_pos h]
    obtain rfl : w = 0 := Fin.ext (by show w.val = 0; omega)
    exact cmp_at KC PE W1 W2 b g n e
  · rw [dif_neg h]
    obtain rfl : w = 1 := Fin.ext (by show w.val = 1; omega)
    exact cmp_at' VC PE W1 W2 b g n e

/-- The reference's result, whole. -/
theorem final (KC VC : FVec Ideal S4x4096x4x128 .f32) : val_main_v89 (F := Ideal) KC VC PE W1 W2 = _root_.Cmp.out KC VC PE W1 W2 := by
  funext i
  idx_vars i
  pointwise [val_main_v89]
  show val_main_v88 (F := Ideal) KC VC PE W1 W2 (ix5 i0 i1 i2 i3 i4) = _root_.Cmp.rowOut KC VC PE W1 W2 i0 i1 i2 i3 i4
  unfold val_main_v88 _root_.Cmp.rowOut
  by_cases h : i3.val < 255
  · rw [dif_pos h]
    refine (pad_apply_of_inside _ _ _ (val_main_v87 (F := Ideal) KC VC PE W1 W2) _ _ _ (ix5 i0 i1 i2 i3 i4) (ix5 i0 i1 i2 ⟨i3.val, h⟩ i4) fun a => ?_).trans (both_at PE W1 W2 _ _ _ KC VC _ _)
    match a with
    | ⟨0, _⟩ => show i0.val = 0 + i0.val * (0 + 1); omega
    | ⟨1, _⟩ => show i1.val = 0 + i1.val * (0 + 1); omega
    | ⟨2, _⟩ => show i2.val = 0 + i2.val * (0 + 1); omega
    | ⟨3, _⟩ => show i3.val = 0 + i3.val * (0 + 1); omega
    | ⟨4, _⟩ => show i4.val = 0 + i4.val * (0 + 1); omega
  · rw [dif_neg h]
    refine (pad_apply_of_not_inside _ _ _ (val_main_v87 (F := Ideal) KC VC PE W1 W2) _ _ _ (ix5 i0 i1 i2 i3 i4) (3 : Fin 5) fun hh => h ?_).trans ?_
    · have e : (i3.val - 0) / (0 + 1) < 255 := hh.2.2
      omega
    · pointwise [val_main_call0_v0, val_main_c_12]
      show (((0#32 : BitVec 32).toInt : ℝ) : EReal) = 0
      norm_num

end Cert.Reference6Ideal.Cmp
-- ==== Proof.CmpRun.lean ====
/-
  The compression's kernel: one run of its body.
-/
module

public import proofs.«01_k».proof.Proof.CmpSpec
public import proofs.«01_k».proof.Proof.Gen.Kernel6Ideal.Value
public import Idealize.ShloMosaic.Lib.KernelVsHost
public import Idealize.ShloMosaic.Lib.Pipeline.ValueKit

@[expose] public section

set_option maxRecDepth 16384

noncomputable section

namespace Cert.Kernel6Ideal.Cmp

open Idealize.ShloMosaic Idealize.ShloMosaic.TcCoe Idealize.SL.Sem
open Cert.Kernel6Ideal Cert.Kernel6Ideal.Gen

/-- The hidden units of a block of rows before their nonlinearity: the product of a row with the first half of the weights, that
of the next row (the first after the last) with the second half, and that of the position's embedding with all of them. -/
theorem hid_at (c : Vec Ideal S1x1x1x256x2048 .bf16) (w w' : Vec Ideal S1x2048x256 .bf16) (pe : Vec Ideal S1x1x4096 .f32) (wf : Vec Ideal S1x4096x256 .bf16)
    (r : Fin 256) (h : Fin 256) :
    k0_pay2 c w w' pe wf (ix2 r h)
      = (∑ j : Fin 2048, c (ix5 0 0 0 r j) * w (ix3 0 j h))
        + (∑ j : Fin 2048, c (ix5 0 0 0 ⟨(r.val + 1) % 256, Nat.mod_lt _ (by decide)⟩ j) * w' (ix3 0 j h))
        + ∑ j : Fin 4096, pe (ix3 0 0 j) * wf (ix3 0 j h) := by
  pointwise [k0_pay2]
  refine congrArg (fun x : Fin 256 => _ + (∑ j : Fin 2048, c (ix5 0 0 0 x j) * w' (ix3 0 j h)) + _) (Fin.ext ?_)
  show (r.val + 256 - 255) % 256 = (r.val + 1) % 256
  omega

/-- The block a run leaves: every row's perceptron, and zero in the last row. -/
theorem pay_at (c : Vec Ideal S1x1x1x256x2048 .bf16) (w w' : Vec Ideal S1x2048x256 .bf16) (pe : Vec Ideal S1x1x4096 .f32) (wf : Vec Ideal S1x4096x256 .bf16)
    (w2 : Vec Ideal S1x256x128 .bf16) (r : Fin 256) (e : Fin 128) :
    k0_pay1 (k0_pay3 c w w' pe wf) (k0_pay4 c w w' pe wf) (k0_pay5 (F := Ideal)) w2 (ix5 0 0 0 r e)
      = if r.val < 255 then ∑ h : Fin 256, _root_.Cmp.gelu (k0_pay2 c w w' pe wf (ix2 r h)) * w2 (ix3 0 h e) else 0 := by
  pointwise [k0_pay1, k0_pay3, k0_pay4, k0_pay5]
  have hs : IntOp.cmpi CmpIPredicate.slt (BitVec.ofNat 32 r.val) 255#32 = BitVec.ofBool (decide (r.val < 255)) := by
    revert r
    decide +kernel
  rw [hs]
  have hg : ∀ x : EReal, Ideal.ofBits .f32 0x3F000000#32 * x
      * (1 + Ideal.tanh (Ideal.ofBits .f32 0x3F4C422A#32 * (x + Ideal.ofBits .f32 0x3D372713#32 * (x * x * x)))) = _root_.Cmp.gelu x := fun x => by
    unfold _root_.Cmp.gelu
    rw [mul_comm (Ideal.ofBits .f32 0x3F000000#32) x, mul_assoc]
  simp only [hg]
  by_cases hr : r.val < 255
  · rw [if_pos hr, decide_eq_true hr]
    rfl
  · rw [if_neg hr, decide_eq_false hr]
    rfl

/-- The first half of the first weights. -/
theorem lo_at (x : Vec Ideal S1x4096x256 .bf16) (j : Fin 2048) (h : Fin 256) :
    View.ld x r0_1 (ix3 0 j h) = x (ix3 0 ⟨j.val, by have := j.isLt; omega⟩ h) := by
  refine congrArg x (funext fun a => Fin.ext ?_)
  refine (Rect.idx_unit_val _ _ _ _ a).trans ?_
  fin_cases a <;> exact Nat.zero_add _

/-- The second half. -/
theorem hi_at (x : Vec Ideal S1x4096x256 .bf16) (j : Fin 2048) (h : Fin 256) :
    View.ld x r0_2 (ix3 0 j h) = x (ix3 0 ⟨2048 + j.val, by have := j.isLt; omega⟩ h) := by
  refine congrArg x (funext fun a => Fin.ext ?_)
  refine (Rect.idx_unit_val _ _ _ _ a).trans ?_
  fin_cases a
  · rfl
  · rfl
  · exact Nat.zero_add _

/-- The block a point leaves, of its input blocks. -/
theorem out_eq (x0 : Vec Ideal S1x1x1x256x2048 .bf16) (x1 : Vec Ideal S1x4096x256 .bf16) (x2 : Vec Ideal S1x256x128 .bf16) (x3 : Vec Ideal S1x1x4096 .f32) :
    out0_4 x0 x1 x2 x3 = k0_pay1 (k0_pay3 x0 (View.ld x1 r0_1) (View.ld x1 r0_2) x3 x1) (k0_pay4 x0 (View.ld x1 r0_1) (View.ld x1 r0_2) x3 x1)
      (k0_pay5 (F := Ideal)) x2 := by
  unfold out0_4
  frame_out

end Cert.Kernel6Ideal.Cmp
-- ==== Proof.CmpArray.lean ====
/-
  The compression's kernel: what its grid points find in their input blocks, and its whole result.
-/
module

public import proofs.«01_k».proof.Proof.CmpRun

@[expose] public section

set_option maxRecDepth 16384

noncomputable section

namespace Cert.Kernel6Ideal.Cmp

open Idealize.ShloMosaic Idealize.ShloMosaic.TcCoe Idealize.SL.Sem
open Cert.Kernel6Ideal Cert.Kernel6Ideal.Gen
open Idealize.ShloMosaic.Pipeline (Dat)

attribute [local irreducible] out0_4

variable (m : (ℓ : Loc nD τ sig) → Buf (Elt Ideal) ℓ)

/-- The keys as launched. -/
abbrev KCa (c : Dev nD) : FVec Ideal S4x4096x4x128 .f32 := m ((c : Thread nD τ).loc main_arg0)
/-- The values as launched. -/
abbrev VCa (c : Dev nD) : FVec Ideal S4x4096x4x128 .f32 := m ((c : Thread nD τ).loc main_arg1)
/-- The positions' embeddings as launched. -/
abbrev PEa (c : Dev nD) : FVec Ideal S2x2x32x128 .f32 := m ((c : Thread nD τ).loc main_arg2)
/-- The first weights as launched. -/
abbrev W1a (c : Dev nD) : FVec Ideal S2x2x4096x256 .f32 := m ((c : Thread nD τ).loc main_arg3)
/-- The second weights as launched. -/
abbrev W2a (c : Dev nD) : FVec Ideal S2x2x256x128 .f32 := m ((c : Thread nD τ).loc main_arg4)

/-- The block index of every window at every grid point, in closed form. -/
theorem idx : ∀ t : Fin cfg0.N,
    win0_0.index t = ![t.val / 16, t.val / 4 % 4, t.val % 4, 0, 0]
    ∧ win0_1.index t = ![t.val / 16, 0, 0]
    ∧ win0_2.index t = ![t.val / 16, 0, 0]
    ∧ win0_3.index t = ![t.val / 16, 0, 0]
    ∧ win0_4.index t = ![t.val / 16, t.val / 4 % 4, t.val % 4, 0, 0]
    ∧ t.val < 32 :=
  (by decide +kernel : ∀ t : Fin grid0.N, _)

/-- There are 32 grid points. -/
theorem t_lt (t : Fin cfg0.N) : t.val < 32 := (idx t).2.2.2.2.2

/-- Whether a grid point works on the keys or on the values. -/
def wOf (t : Fin cfg0.N) : Fin 2 := ⟨t.val / 16, by have := t_lt t; omega⟩

/-- The batch a grid point works on. -/
def bOf (t : Fin cfg0.N) : Fin 4 := ⟨t.val / 4 % 4, by omega⟩

/-- The group of heads a grid point works on. -/
def gOf (t : Fin cfg0.N) : Fin 4 := ⟨t.val % 4, by omega⟩

section host
variable (c : Dev nD)

/-- The keys and values as the kernel finds them: group by group, in chunks of sixteen tokens. -/
theorem VX_at (i) (w : Fin 2) (b g : Fin 4) (n : Fin 256) (l : Fin 2048) (h0 : (i 0).val = w.val) (h1 : (i 1).val = b.val)
    (h2 : (i 2).val = g.val) (h3 : (i 3).val = n.val) (h4 : (i 4).val = l.val) :
    V m c main_v5 i = _root_.Cmp.both (KCa m c) (VCa m c) w
      (ix4 b ⟨16 * n.val + l.val / 128, by have := n.isLt; have := l.isLt; omega⟩ g ⟨l.val % 128, Nat.mod_lt _ (by decide)⟩) := by
  entry_read
  pointwise
  have hw := w.isLt
  have en : (i 3).val * 16 + (i 4).val / 128 = 16 * n.val + l.val / 128 := by omega
  by_cases h : w.val = 0
  · refine (dif_pos (by omega)).trans (Eq.trans ?_ (congrFun (_root_.Cmp.both_keys (KCa m c) (VCa m c) w h) _).symm)
    blk_ext [en]
  · refine (dif_neg (by omega)).trans (Eq.trans ?_ (congrFun (_root_.Cmp.both_values (KCa m c) (VCa m c) w h) _).symm)
    blk_ext [en]

/-- The first weights. -/
theorem VW1_at (i) (w : Fin 2) (j : Fin 4096) (h : Fin 256) (h0 : (i 0).val = w.val) (h1 : (i 1).val = j.val) (h2 : (i 2).val = h.val) :
    V m c main_v8 i = (W1a m c) (ix4 1 w j h) := by
  entry_read
  pointwise
  blk_ext

/-- The second weights. -/
theorem VW2_at (i) (w : Fin 2) (h : Fin 256) (e : Fin 128) (h0 : (i 0).val = w.val) (h1 : (i 1).val = h.val) (h2 : (i 2).val = e.val) :
    V m c main_v11 i = (W2a m c) (ix4 1 w h e) := by
  entry_read
  pointwise
  blk_ext

/-- The positions' embeddings, one after another. -/
theorem VP_at (i) (w : Fin 2) (j : Fin 4096) (h0 : (i 0).val = w.val) (h1 : (i 1).val = 0) (h2 : (i 2).val = j.val) :
    V m c main_v14 i = _root_.Cmp.pos (PEa m c) w j := by
  entry_read
  pointwise
  unfold _root_.Cmp.pos
  have := j.isLt
  blk_ext <;> first | rfl | omega | (dsimp only; omega)

end host

section point
variable (c : Dev nD) (t : Fin cfg0.N)

/-- A block of the chunks, at an index, is the whole array at the block's place. -/
theorem read_at (f : Buf (Elt Ideal) ((c.tc : Thread nD τ).loc main_v5)) (y : S1x1x1x256x2048.Idx) :
    ((cfg0.win 0).blk t).view.read (Elt Ideal) f y = f ((win0_0.blk t).view.emb y) := rfl

/-- The point's chunks. -/
theorem x_at (n : Fin 256) (l : Fin 2048) : iblk m c 0 t (ix5 0 0 0 n l) = _root_.Cmp.both (KCa m c) (VCa m c) (wOf t)
      (ix4 (bOf t) ⟨16 * n.val + l.val / 128, by have := n.isLt; have := l.isLt; omega⟩ (gOf t) ⟨l.val % 128, Nat.mod_lt _ (by decide)⟩) := by
  unfold iblk
  refine (read_at c t (V m c main_v5) (ix5 0 0 0 n l)).trans (VX_at m c _ (wOf t) (bOf t) (gOf t) n l ?_ ?_ ?_ ?_ ?_)
  all_goals first | (blk_simp [idx t, wOf, bOf, gOf]; done) | (blk_simp [idx t, wOf, bOf, gOf]; exact Nat.add_zero _)

/-- The point's first weights. -/
theorem w1_at (j : Fin 4096) (h : Fin 256) : iblk m c 1 t (ix3 0 j h) = (W1a m c) (ix4 1 (wOf t) j h) := by
  blk_simp [iblk]
  refine VW1_at m c _ _ _ _ ?_ ?_ ?_ <;> blk_simp [idx t, wOf] <;> rfl

/-- The point's second weights. -/
theorem w2_at (h : Fin 256) (e : Fin 128) : iblk m c 2 t (ix3 0 h e) = (W2a m c) (ix4 1 (wOf t) h e) := by
  blk_simp [iblk]
  refine VW2_at m c _ _ _ _ ?_ ?_ ?_ <;> blk_simp [idx t, wOf] <;> rfl

/-- The point's embeddings. -/
theorem p_at (j : Fin 4096) : iblk m c 3 t (ix3 0 0 j) = _root_.Cmp.pos (PEa m c) (wOf t) j := by
  blk_simp [iblk]
  refine VP_at m c _ _ _ ?_ ?_ ?_ <;> blk_simp [idx t, wOf] <;> rfl

/-- The hidden units a point computes for a window. -/
theorem unit_at (hP : ∀ w j, ∃ x : ℝ, _root_.Cmp.pos (PEa m c) w j = x) (hW : ∀ w j h, ∃ x : ℝ, (W1a m c) (ix4 1 w j h) = x)
    (n : Fin 255) (h : Fin 256) :
    k0_pay2 (iblk m c 0 t) (View.ld (iblk m c 1 t) r0_1) (View.ld (iblk m c 1 t) r0_2) (iblk m c 3 t) (iblk m c 1 t)
        (ix2 ⟨n.val, by have := n.isLt; omega⟩ h)
      = _root_.Cmp.hid (_root_.Cmp.both (KCa m c) (VCa m c) (wOf t)) (PEa m c) (W1a m c) (wOf t) (bOf t) (gOf t) n h := by
  refine (hid_at _ _ _ _ _ _ h).trans ?_
  unfold _root_.Cmp.hid
  rw [_root_.Cmp.split _ _ (fun j => (W1a m c) (ix4 1 (wOf t) j h)) (hP (wOf t)) fun j => hW _ j h]
  have hn := n.isLt
  refine congrArg₂ (· + ·) (congrArg₂ (· + ·) ?_ ?_) ?_
  · refine Finset.sum_congr rfl fun j _ => congrArg₂ (fun a b : EReal => a * b) ((x_at m c t _ j).trans rfl) ?_
    exact (lo_at _ j h).trans (w1_at m c t _ h)
  · refine Finset.sum_congr rfl fun j _ => congrArg₂ (fun a b : EReal => a * b) ((x_at m c t _ j).trans ?_) ?_
    · unfold _root_.Cmp.win
      have hj := j.isLt
      refine congrArg _ (congrArg₂ (fun s d => ix4 (bOf t) s (gOf t) d) (Fin.ext ?_) (Fin.ext ?_))
      · show 16 * ((n.val + 1) % 256) + j.val / 128 = 16 * n.val + (2048 + j.val) / 128
        omega
      · show j.val % 128 = (2048 + j.val) % 128
        omega
    · exact (hi_at _ j h).trans (w1_at m c t _ h)
  · exact Finset.sum_congr rfl fun j _ => congrArg₂ (fun a b : EReal => a * b) (p_at m c t j) (w1_at m c t j h)

/-- The rows a point leaves. -/
theorem row_at (hP : ∀ w j, ∃ x : ℝ, _root_.Cmp.pos (PEa m c) w j = x) (hW : ∀ w j h, ∃ x : ℝ, (W1a m c) (ix4 1 w j h) = x)
    (n : Fin 256) (e : Fin 128) :
    out0_4 (iblk m c 0 t) (iblk m c 1 t) (iblk m c 2 t) (iblk m c 3 t) (ix5 0 0 0 n e)
      = _root_.Cmp.rowOut (KCa m c) (VCa m c) (PEa m c) (W1a m c) (W2a m c) (wOf t) (bOf t) (gOf t) n e := by
  rw [out_eq]
  refine (pay_at _ _ _ _ _ _ n e).trans ?_
  unfold _root_.Cmp.rowOut
  by_cases hn : n.val < 255
  · rw [if_pos hn, dif_pos hn]
    refine Finset.sum_congr rfl fun h _ => congrArg₂ (fun a b : EReal => a * b) (congrArg _root_.Cmp.gelu ?_) (w2_at m c t h e)
    exact unit_at m c t hP hW ⟨n.val, hn⟩ h
  · rw [if_neg hn, dif_neg hn]

end point

/-- The kernel's result is the specification's, everywhere. -/
theorem final (c : Dev nD) (hP : ∀ w j, ∃ x : ℝ, _root_.Cmp.pos (PEa m c) w j = x) (hW : ∀ w j h, ∃ x : ℝ, (W1a m c) (ix4 1 w j h) = x) :
    (dats m 0 c).arrAt 4 cfg0.N = _root_.Cmp.out (KCa m c) (VCa m c) (PEa m c) (W1a m c) (W2a m c) := by
  refine (dats m 0 c).arrAt_eq_of_covers 4 _ (by decide +kernel) fun t hf y => ?_
  blk_simp
  have ht := t_lt t
  have y0 : (y 0).val < 1 := (y 0).isLt
  have y1 : (y 1).val < 1 := (y 1).isLt
  have y2 : (y 2).val < 1 := (y 2).isLt
  have y3 : (y 3).val < 256 := (y 3).isLt
  have y4 : (y 4).val < 128 := (y 4).isLt
  rw [after0_4]
  have key := row_at m c t hP hW ⟨(y 3).val, y3⟩ ⟨(y 4).val, y4⟩
  refine Eq.trans ?_ (key.trans ?_)
  · blk_ext
  · have e0 : (((win0_4.blk t).view.emb y) 0 : ℕ) = t.val / 16 := by
      blk_simp [idx t]
    have e1 : (((win0_4.blk t).view.emb y) 1 : ℕ) = t.val / 4 % 4 := by
      blk_simp [idx t]
    have e2 : (((win0_4.blk t).view.emb y) 2 : ℕ) = t.val % 4 := by
      blk_simp [idx t]
    have e3 : (((win0_4.blk t).view.emb y) 3 : ℕ) = (y 3).val := by
      blk_simp [idx t]
    have e4 : (((win0_4.blk t).view.emb y) 4 : ℕ) = (y 4).val := by
      blk_simp [idx t]
    unfold _root_.Cmp.out
    generalize (win0_4.blk t).view.emb y = i at e0 e1 e2 e3 e4
    refine congr (congr (congr (congr (congrArg _ (Fin.ext ?_)) (Fin.ext ?_)) (Fin.ext ?_)) (Fin.ext ?_)) (Fin.ext ?_)
    · exact e0.symm
    · exact e1.symm
    · exact e2.symm
    · exact e3.symm
    · exact e4.symm

end Cert.Kernel6Ideal.Cmp
-- ==== Proof.FiniteCmp.lean ====
/-
  What the compression's precondition says: the positions' embeddings and the first weights are real numbers.
-/
module

public import proofs.«01_k».proof.Proof.Finite
public import proofs.«01_k».proof.Proof.CmpSpec
public import proofs.«01_k».proof.Pre_finite_cmp
public import Idealize.ShloMosaic.Lib.Pointwise

@[expose] public section

set_option maxRecDepth 16384

noncomputable section

namespace Cmp

open Idealize.ShloMosaic Cert.Pre_finite_cmp Cert.KernelIdeal.SB

/-- The precondition at one place of the weights. -/
theorem real_at [Cert.Pre_finite_cmp.Facts] (KC VC : FVec Ideal S4x4096x4x128 .f32) (PE : FVec Ideal S2x2x32x128 .f32)
    (W1 : FVec Ideal S2x2x4096x256 .f32) (W2 : FVec Ideal S2x2x256x128 .f32)
    (hp : Cert.Pre_finite_cmp.fn (F := Ideal) KC VC PE W1 W2 = fun _ => 1#1) (w : Fin 2) (j : Fin 4096) (h : Fin 256) :
    pos PE w j = ((pos PE w j).toReal : EReal) ∧ W1 (ix4 1 w j h) = ((W1 (ix4 1 w j h)).toReal : EReal) := by
  have hi := congrFun hp (ix3 w j h)
  have e : ∀ x y : BitVec 1, x &&& y = 1#1 → x = 1#1 ∧ y = 1#1 := by decide
  pointwise [Cert.Pre_finite_cmp.fn] at hi
  obtain ⟨e1, e2⟩ := e _ _ hi
  exact ⟨real_of_abs_lt _ e1, real_of_abs_lt _ e2⟩

end Cmp
-- ==== Proof.ModSpec.lean ====
/-
  What the modulation computes, over the extended reals: the conditioning padded to eight rows, through `x · sigmoid x`, and
  then each layer's linear map.
-/
module

public import proofs.«01_k».proof.Proof.Gen.Reference7Ideal
public import Idealize.ShloMosaic.Lib.Pointwise

@[expose] public section

noncomputable section

namespace Cond

open Idealize.ShloMosaic Idealize.ShloMosaic.TcCoe Cert.Reference7Ideal

variable (C : FVec Ideal S4x2048 .f32) (W : FVec Ideal S4x2048x12288 .f32) (B : FVec Ideal S4x12288 .f32)

/-- Row `r` of the conditioning: the four rows given, then rows of zeros. -/
def row (r : Fin 8) (k : Fin 2048) : EReal := if h : r.val < 4 then C (ix2 ⟨r.val, h⟩ k) else 0

/-- An entry times its sigmoid. -/
def act (x : EReal) : EReal := x * Ideal.logistic x

/-- Layer `l`'s modulation of row `r`, at column `n`. -/
def modRow (l : Fin 4) (r : Fin 8) (n : Fin 12288) : EReal :=
  (∑ k : Fin 2048, act (row C r k) * W (ix3 l k n)) + B (ix2 l n)

/-- The modulation of every layer, row and column. -/
def modOut (i : S4x8x12288.Idx) : EReal := modRow C W B (i 0) (i 1) (i 2)

/-- The integer zero as a number. -/
theorem sitofp_zero : FloatOps.sitofp (F := Ideal) FTy.f32 (0#32) = 0 := by
  show (((0#32 : BitVec 32).toInt : ℝ) : EReal) = 0
  norm_num

/-- The sigmoid of a real is a real. -/
theorem logistic_coe (x : ℝ) : ∃ r : ℝ, Ideal.logistic (x : EReal) = (r : EReal) := by
  have h : (1 : EReal) + Ideal.exp (-(x : EReal)) = ((1 + Real.exp (-x) : ℝ) : EReal) := by
    rw [← EReal.coe_neg, EReal.coe_add]
    rfl
  have hp : (0 : ℝ) < 1 + Real.exp (-x) := by positivity
  refine ⟨(1 + Real.exp (-x))⁻¹, ?_⟩
  unfold Ideal.logistic
  rw [h]
  unfold Ideal.div
  rw [if_neg (by exact_mod_cast hp.ne'), one_mul, ← EReal.coe_inv]

/-- A real times its sigmoid is a real. -/
theorem act_coe (x : ℝ) : ∃ r : ℝ, act (x : EReal) = (r : EReal) := by
  obtain ⟨r, h⟩ := logistic_coe x
  exact ⟨x * r, by rw [act, h, EReal.coe_mul]⟩

/-- A product of two-part numbers whose second parts are differences of equal reals is the plain product. -/
theorem two_part {n : ℕ} (a w : Fin n → EReal) (ha : ∀ k, ∃ r : ℝ, a k = r) (hw : ∀ k, ∃ r : ℝ, w k = r) :
    (∑ k, a k * w k) + (∑ k, (a k - a k) * w k) + (∑ k, a k * (w k - w k)) = ∑ k, a k * w k := by
  have z : ∀ x : EReal, (∃ r : ℝ, x = r) → x - x = 0 := by
    rintro _ ⟨r, rfl⟩
    rw [← EReal.coe_sub, sub_self]
    rfl
  have e1 : (∑ k, (a k - a k) * w k) = 0 := Finset.sum_eq_zero fun k _ => by rw [z _ (ha k), zero_mul]
  have e2 : (∑ k, a k * (w k - w k)) = 0 := Finset.sum_eq_zero fun k _ => by rw [z _ (hw k), mul_zero]
  rw [e1, e2, add_zero, add_zero]

end Cond
-- ==== Proof.ModRef.lean ====
/-
  The modulation's reference, read at an index.
-/
module

public import proofs.«01_k».proof.Proof.ModSpec
public import proofs.«01_k».proof.Proof.Gen.Reference7Ideal.Read
public import Idealize.ShloMosaic.Lib.KernelVsHost

@[expose] public section

set_option maxRecDepth 16384

noncomputable section

namespace Cert.Reference7Ideal.Mod

open Idealize.ShloMosaic Idealize.ShloMosaic.TcCoe Idealize.SL.Sem
open Cert.Reference7Ideal Cert.Reference7Ideal.Gen Cert.Reference7Ideal.Read

variable (C : FVec Ideal S4x2048 .f32) (W : FVec Ideal S4x2048x12288 .f32) (B : FVec Ideal S4x12288 .f32)

/-- The padded conditioning. -/
theorem row_at (r : Fin 8) (k : Fin 2048) : val_main_v0 (F := Ideal) C (ix2 r k) = Cond.row C r k := by
  unfold val_main_v0 Cond.row
  by_cases h : r.val < 4
  · rw [dif_pos h]
    refine pad_apply_of_inside _ _ _ C _ _ _ (ix2 r k) (ix2 ⟨r.val, h⟩ k) fun a => ?_
    match a with
    | ⟨0, _⟩ => show r.val = 0 + r.val * (0 + 1); omega
    | ⟨1, _⟩ => show k.val = 0 + k.val * (0 + 1); omega
  · rw [dif_neg h]
    refine (pad_apply_of_not_inside _ _ _ C _ _ _ (ix2 r k) (0 : Fin 2) fun hh => h ?_).trans ?_
    · have := hh.2.2
      have e : (r.val - 0) / (0 + 1) < 4 := this
      omega
    · pointwise [val_main_call0_v0, val_main_c]
      exact Cond.sitofp_zero

/-- An entry of it times its sigmoid. -/
theorem act_at (r : Fin 8) (k : Fin 2048) : val_main_v1 (F := Ideal) C (ix2 r k) = Cond.act (Cond.row C r k) := by
  pointwise [val_main_v1, val_main_call1_v5, val_main_call1_v4, val_main_call1_v3, val_main_call1_v2, val_main_call1_v1, val_main_call1_v0, val_main_call1_cst, val_main_call1_cst_0]
  simp only [row_at C]
  rfl

/-- The reference's result, whole. -/
theorem final : val_main_v6 (F := Ideal) C W B = Cond.modOut C W B := by
  funext i
  idx_vars i
  pointwise [val_main_v6, val_main_v5, val_main_v4, val_main_v3, val_main_v2]
  simp only [act_at C]
  unfold Cond.modOut Cond.modRow
  exact congrArg (· + _) (Finset.sum_congr rfl fun k _ => mul_comm _ _)

end Cert.Reference7Ideal.Mod
-- ==== Proof.ModArray.lean ====
/-
  The modulation's kernel: what one run of its body computes, what its grid points find in their input blocks, and its whole
  result.
-/
module

public import proofs.«01_k».proof.Proof.ModSpec
public import proofs.«01_k».proof.Proof.Gen.Kernel7Ideal.Value
public import Idealize.ShloMosaic.Lib.KernelVsHost
public import Idealize.ShloMosaic.Lib.Pipeline.ValueKit

@[expose] public section

set_option maxRecDepth 16384

noncomputable section

namespace Cert.Kernel7Ideal.Mod

open Idealize.ShloMosaic Idealize.ShloMosaic.TcCoe Idealize.SL.Sem
open Cert.Kernel7Ideal Cert.Kernel7Ideal.Gen
open Idealize.ShloMosaic.Pipeline (Dat)

/-- The body on a block of columns, as it is written: three products of the parts, then the bias. -/
theorem pay_at (x : Vec Ideal S8x2048 .f32) (w : Vec Ideal S1x2048x1024 .f32) (b : Vec Ideal S1x1x1024 .f32) (r : Fin 8) (n : Fin 1024) :
    k0_pay1 x w b (ix3 0 r n)
      = (∑ k : Fin 2048, Cond.act (x (ix2 r k)) * w (ix3 0 k n))
        + (∑ k : Fin 2048, (Cond.act (x (ix2 r k)) - Cond.act (x (ix2 r k))) * w (ix3 0 k n))
        + (∑ k : Fin 2048, Cond.act (x (ix2 r k)) * (w (ix3 0 k n) - w (ix3 0 k n)))
        + b (ix3 0 0 n) := by
  pointwise [k0_pay1]
  rfl

/-- The block a point leaves is the body's, of the whole input blocks. -/
theorem out_eq (x0 : Vec Ideal S8x2048 .f32) (x1 : Vec Ideal S1x2048x1024 .f32) (x2 : Vec Ideal S1x1x1024 .f32) :
    out0_3 x0 x1 x2 = k0_pay1 x0 x1 x2 := by
  unfold out0_3
  frame_out

attribute [local irreducible] out0_3

variable (m : (ℓ : Loc nD τ sig) → Buf (Elt Ideal) ℓ)

/-- The conditioning as launched. -/
abbrev Ca (c : Dev nD) : FVec Ideal S4x2048 .f32 := m ((c : Thread nD τ).loc main_arg0)
/-- The weights as launched. -/
abbrev Wa (c : Dev nD) : FVec Ideal S4x2048x12288 .f32 := m ((c : Thread nD τ).loc main_arg1)
/-- The biases as launched. -/
abbrev Ba (c : Dev nD) : FVec Ideal S4x12288 .f32 := m ((c : Thread nD τ).loc main_arg2)

/-- The block index of every window at every grid point, in closed form. -/
theorem idx : ∀ t : Fin cfg0.N,
    win0_0.index t = ![0, 0]
    ∧ win0_1.index t = ![t.val / 12, 0, t.val % 12]
    ∧ win0_2.index t = ![t.val / 12, 0, t.val % 12]
    ∧ win0_3.index t = ![t.val / 12, 0, t.val % 12]
    ∧ t.val < 48 :=
  (by decide +kernel : ∀ t : Fin grid0.N, _)

/-- There are 48 grid points. -/
theorem t_lt (t : Fin cfg0.N) : t.val < 48 := (idx t).2.2.2.2

/-- The layer a grid point works on. -/
def lOf (t : Fin cfg0.N) : Fin 4 := ⟨t.val / 12, by have := t_lt t; omega⟩

/-- The column of the modulation that column `n` of a grid point's block is. -/
def nOf (t : Fin cfg0.N) (n : Fin 1024) : Fin 12288 := ⟨1024 * (t.val % 12) + n.val, by have := n.isLt; omega⟩

section host
variable (c : Dev nD)

/-- The conditioning as the kernel finds it: padded to eight rows. -/
theorem VC_at (i) (r : Fin 8) (k : Fin 2048) (h0 : (i 0).val = r.val) (h1 : (i 1).val = k.val) :
    V m c main_v0 i = Cond.row (Ca m c) r k := by
  simp only [V, hostOps0, hostOps0_1, hostOps0_2, List.flatten_cons, List.flatten_nil, List.append_nil, List.cons_append, List.nil_append]
  entry_read
  unfold Cond.row
  by_cases h : r.val < 4
  · rw [dif_pos h]
    refine pad_apply_of_inside ![0, 0] ![4, 0] ![0, 0] (Ca m c) _ pads_S4x2048_S8x2048_040_000 h_S_ i (ix2 ⟨r.val, h⟩ k) fun a => ?_
    match a with
    | ⟨0, _⟩ => show (i 0).val = 0 + r.val * (0 + 1); omega
    | ⟨1, _⟩ => show (i 1).val = 0 + k.val * (0 + 1); omega
  · rw [dif_neg h]
    refine (pad_apply_of_not_inside ![0, 0] ![4, 0] ![0, 0] (Ca m c) _ pads_S4x2048_S8x2048_040_000 h_S_ i (0 : Fin 2) fun hh => h ?_).trans ?_
    · have e : ((i 0).val - 0) / (0 + 1) < 4 := hh.2.2
      omega
    · pointwise
      exact Cond.sitofp_zero

/-- The weights. -/
theorem VW_at (i) (l : Fin 4) (k : Fin 2048) (n : Fin 12288) (h0 : (i 0).val = l.val) (h1 : (i 1).val = k.val) (h2 : (i 2).val = n.val) :
    V m c main_arg1 i = (Wa m c) (ix3 l k n) := by
  entry_read
  blk_ext

/-- The bias. -/
theorem VB_at (i) (l : Fin 4) (n : Fin 12288) (h0 : (i 0).val = l.val) (h1 : (i 1).val = 0) (h2 : (i 2).val = n.val) :
    V m c main_v1 i = (Ba m c) (ix2 l n) := by
  simp only [V, hostOps0, hostOps0_1, hostOps0_2, List.flatten_cons, List.flatten_nil, List.append_nil, List.cons_append, List.nil_append]
  entry_read
  pointwise
  blk_ext

end host

section point
variable (c : Dev nD) (t : Fin cfg0.N)

/-- The point's conditioning. -/
theorem x_at (r : Fin 8) (k : Fin 2048) : iblk m c 0 t (ix2 r k) = Cond.row (Ca m c) r k := by
  blk_simp [iblk]
  refine VC_at m c _ _ _ ?_ ?_ <;> blk_simp [idx t] <;> rfl

/-- The point's weights. -/
theorem w_at (k : Fin 2048) (n : Fin 1024) : iblk m c 1 t (ix3 0 k n) = (Wa m c) (ix3 (lOf t) k (nOf t n)) := by
  blk_simp [iblk]
  refine VW_at m c _ _ _ _ ?_ ?_ ?_ <;> blk_simp [idx t, lOf, nOf] <;> first | rfl | omega | (dsimp only; omega)

/-- The point's bias. -/
theorem b_at (n : Fin 1024) : iblk m c 2 t (ix3 0 0 n) = (Ba m c) (ix2 (lOf t) (nOf t n)) := by
  blk_simp [iblk]
  refine VB_at m c _ _ _ ?_ ?_ ?_ <;> blk_simp [idx t, lOf, nOf] <;> first | rfl | omega | (dsimp only; omega)

/-- The columns a point leaves. -/
theorem col_at (hC : ∀ i, ∃ x : ℝ, Ca m c i = x) (hW : ∀ i, ∃ x : ℝ, Wa m c i = x) (r : Fin 8) (n : Fin 1024) :
    k0_pay1 (iblk m c 0 t) (iblk m c 1 t) (iblk m c 2 t) (ix3 0 r n) = Cond.modRow (Ca m c) (Wa m c) (Ba m c) (lOf t) r (nOf t n) := by
  refine (pay_at _ _ _ r n).trans ?_
  simp only [x_at m c t, w_at m c t, b_at m c t]
  refine congrArg (· + _) (Cond.two_part (fun k => Cond.act (Cond.row (Ca m c) r k)) (fun k => (Wa m c) (ix3 (lOf t) k (nOf t n))) (fun k => ?_) fun k => hW _)
  have hr : ∃ x : ℝ, Cond.row (Ca m c) r k = x := by
    unfold Cond.row
    split
    · exact hC _
    · exact ⟨0, rfl⟩
  obtain ⟨x, hx⟩ := hr
  rw [hx]
  exact Cond.act_coe x

end point

/-- The kernel's result is the specification's, at every layer, row and column. -/
theorem final (c : Dev nD) (hC : ∀ i, ∃ x : ℝ, Ca m c i = x) (hW : ∀ i, ∃ x : ℝ, Wa m c i = x) :
    (dats m 0 c).arrAt 3 cfg0.N = Cond.modOut (Ca m c) (Wa m c) (Ba m c) := by
  refine (dats m 0 c).arrAt_eq_of_covers 3 _ (by decide +kernel) fun t hf y => ?_
  blk_simp
  have ht := t_lt t
  have y0 : (y 0).val < 1 := (y 0).isLt
  have y1 : (y 1).val < 8 := (y 1).isLt
  have y2 : (y 2).val < 1024 := (y 2).isLt
  rw [after0_3, out_eq]
  have key := col_at m c t hC hW ⟨(y 1).val, y1⟩ ⟨(y 2).val, y2⟩
  refine Eq.trans ?_ (key.trans ?_)
  · blk_ext
  · have e0 : (((win0_3.blk t).view.emb y) 0 : ℕ) = t.val / 12 := by
      blk_simp [idx t]
    have e1 : (((win0_3.blk t).view.emb y) 1 : ℕ) = (y 1).val := by
      blk_simp [idx t]
    have e2 : (((win0_3.blk t).view.emb y) 2 : ℕ) = 1024 * (t.val % 12) + (y 2).val := by
      blk_simp [idx t]
      dsimp only
      omega
    unfold Cond.modOut
    generalize (win0_3.blk t).view.emb y = i at e0 e1 e2
    refine congr (congr (congrArg _ (Fin.ext ?_)) (Fin.ext ?_)) (Fin.ext ?_)
    · exact e0.symm
    · exact e1.symm
    · exact e2.symm

end Cert.Kernel7Ideal.Mod
-- ==== Proof.FiniteMod.lean ====
/-
  What the modulation's precondition says: the conditioning rows and the weights are real numbers.
-/
module

public import proofs.«01_k».proof.Proof.Finite
public import proofs.«01_k».proof.Pre_finite_mod
public import Idealize.ShloMosaic.Lib.Pointwise

@[expose] public section

set_option maxRecDepth 16384

noncomputable section

namespace Cond

open Idealize.ShloMosaic Cert.Pre_finite_mod Cert.KernelIdeal.SB

/-- The precondition at one place of the weights. -/
theorem real_at [Cert.Pre_finite_mod.Facts] (C : FVec Ideal S4x2048 .f32) (W : FVec Ideal S4x2048x12288 .f32) (B : FVec Ideal S4x12288 .f32)
    (h : Cert.Pre_finite_mod.fn (F := Ideal) C W B = fun _ => 1#1) (l : Fin 4) (k : Fin 2048) (n : Fin 12288) :
    C (ix2 l k) = ((C (ix2 l k)).toReal : EReal) ∧ W (ix3 l k n) = ((W (ix3 l k n)).toReal : EReal) := by
  have hi := congrFun h (ix3 l k n)
  have e : ∀ x y : BitVec 1, x &&& y = 1#1 → x = 1#1 ∧ y = 1#1 := by decide
  pointwise [Cert.Pre_finite_mod.fn] at hi
  obtain ⟨e1, e2⟩ := e _ _ hi
  exact ⟨real_of_abs_lt _ e1, real_of_abs_lt _ e2⟩

/-- The conditioning rows are real. -/
theorem real_rows [Cert.Pre_finite_mod.Facts] (C : FVec Ideal S4x2048 .f32) (W : FVec Ideal S4x2048x12288 .f32) (B : FVec Ideal S4x12288 .f32)
    (h : Cert.Pre_finite_mod.fn (F := Ideal) C W B = fun _ => 1#1) (i : S4x2048.Idx) : ∃ x : ℝ, C i = x := by
  idx_vars i
  exact ⟨_, (real_at C W B h i0 i1 0).1⟩

/-- The weights are real. -/
theorem real_weights [Cert.Pre_finite_mod.Facts] (C : FVec Ideal S4x2048 .f32) (W : FVec Ideal S4x2048x12288 .f32) (B : FVec Ideal S4x12288 .f32)
    (h : Cert.Pre_finite_mod.fn (F := Ideal) C W B = fun _ => 1#1) (i : S4x2048x12288.Idx) : ∃ x : ℝ, W i = x := by
  idx_vars i
  exact ⟨_, (real_at C W B h i0 i1 i2).2⟩

end Cond
-- ==== Proof.lean ====
/-
  The proof of `Cert.Claim`: the frames, the named constants, and the equality of the kernel's result with the reference's.
  Both results are `Cert.KernelIdeal.SB.out` of the arguments (Proof/Spec.lean): the kernel's by `Cert.KernelIdeal.SB.final`
  (Proof/Array.lean), the reference's by `Cert.ReferenceIdeal.SB.final` (Proof/Ref.lean). The feed-forward's two results
  are `Ffn.out` of the arguments (Proof/FfnSpec.lean): the kernel's by `Cert.Kernel2Ideal.Ffn.final` (Proof/FfnArray.lean),
  the reference's by `Cert.Reference2Ideal.Ffn.final` (Proof/FfnRef.lean).
  The results of the output projection, of the keys and values and of the queries are `Ffn.attnOut`, `Ffn.kvOut` and
  `Ffn.qOut` (Proof/ProjSpec.lean), those of the compression and of the modulation `Cmp.out` (Proof/CmpSpec.lean) and
  `Cond.modOut` (Proof/ModSpec.lean), again by `final` of both sides.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_cmp
public import proofs.«01_k».proof.Proof.Gen.Pre_finite_mod
public import proofs.«01_k».proof.Proof.Array
public import proofs.«01_k».proof.Proof.Ref
public import proofs.«01_k».proof.Proof.Finite
public import proofs.«01_k».proof.Proof.FfnArray
public import proofs.«01_k».proof.Proof.FfnRef
public import proofs.«01_k».proof.Proof.OutArray
public import proofs.«01_k».proof.Proof.OutRef
public import proofs.«01_k».proof.Proof.KvArray
public import proofs.«01_k».proof.Proof.KvRef
public import proofs.«01_k».proof.Proof.QArray
public import proofs.«01_k».proof.Proof.QRef
public import proofs.«01_k».proof.Proof.CmpRef
public import proofs.«01_k».proof.Proof.CmpArray
public import proofs.«01_k».proof.Proof.FiniteCmp
public import proofs.«01_k».proof.Proof.ModRef
public import proofs.«01_k».proof.Proof.ModArray
public import proofs.«01_k».proof.Proof.FiniteMod
public import Idealize.ShloMosaic.Adequacy
public import Idealize.ShloMosaic.Init

@[expose] public section

noncomputable section

namespace Cert.Proof

open Idealize.ShloMosaic Idealize.SL.Sem Idealize.ShloMosaic.TcCoe

/-- The reference runs, leaves its arguments, and no counter is touched. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Kernel and reference, run on the same arguments, end with the same result. -/
theorem value : Cert.algebraic_KernelIdeal_ReferenceIdeal_pre_finite_qk := by
  intro m g m' g' hpre harg
  refine ⟨fun c => (Cert.KernelIdeal.Gen.dats m 0 c).arrAt 3 Cert.KernelIdeal.cfg0.N, Cert.KernelIdeal.Value.run_blocks (F := Ideal) m g, ?_⟩
  refine (θ_run Cert.ReferenceIdeal.defs _ _).mono (fun r h c => ⟨(h c).1.trans ?_, (h c).2.1, (h c).2.2⟩) (Cert.ReferenceIdeal.Value.run (F := Ideal) m' g')
  have hf := Cert.KernelIdeal.SB.areReal_of_pre _ _ (hpre c)
  refine Eq.trans ?_ (Cert.KernelIdeal.SB.final m c hf).symm
  rw [Cert.ReferenceIdeal.Read.val_main_v26_eq, (harg c).1, (harg c).2]
  exact Cert.ReferenceIdeal.SB.final _ _ hf

/-- The feed-forward's reference runs, leaves its arguments, and no counter is touched. -/
theorem frame_ref2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- The feed-forward kernel and its reference, run on the same arguments, end with the same result. -/
theorem value2 : Cert.algebraic_Kernel2Ideal_Reference2Ideal := by
  intro m g m' g' hpre harg
  refine ⟨fun c => (Cert.Kernel2Ideal.Gen.dats m 0 c).arrAt 9 Cert.Kernel2Ideal.cfg0.N, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  refine Eq.trans ?_ (Cert.Kernel2Ideal.Ffn.final m c).symm
  obtain ⟨a0, a1, a2, a3, a4, a5, a6⟩ := harg c
  rw [Cert.Reference2Ideal.Read.val_main_v52_eq, a0, a1, a2, a3, a4, a5, a6]
  exact Cert.Reference2Ideal.Ffn.final _ _ _ _ _ _ _

/-- The output projection's reference runs, leaves its arguments, and no counter is touched. -/
theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- The output projection's kernel and its reference, run on the same arguments, end with the same result. -/
theorem value3 : Cert.algebraic_Kernel3Ideal_Reference3Ideal := by
  intro m g m' g' hpre harg
  refine ⟨fun c => (Cert.Kernel3Ideal.Gen.dats m 0 c).arrAt 5 Cert.Kernel3Ideal.cfg0.N, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  refine Eq.trans ?_ (Cert.Kernel3Ideal.Proj.final m c).symm
  obtain ⟨a0, a1, a2, a3, a4⟩ := harg c
  rw [Cert.Reference3Ideal.Read.val_main_v23_eq, a0, a1, a2, a3, a4]
  exact Cert.Reference3Ideal.Proj.final _ _ _ _ _

/-- The keys' and values' reference runs, leaves its arguments, and no counter is touched. -/
theorem frame_ref4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

/-- The keys' and values' kernel and its reference, run on the same arguments, end with the same result. -/
theorem value4 : Cert.algebraic_Kernel4Ideal_Reference4Ideal := by
  intro m g m' g' hpre harg
  refine ⟨fun c => (Cert.Kernel4Ideal.Gen.dats m 0 c).arrAt 5 Cert.Kernel4Ideal.cfg0.N, Cert.Kernel4Ideal.Value.run_blocks (F := Ideal) m g, ?_⟩
  refine (θ_run Cert.Reference4Ideal.defs _ _).mono (fun r h c => ⟨(h c).1.trans ?_, (h c).2⟩) (Cert.Reference4Ideal.Value.run (F := Ideal) m' g')
  refine Eq.trans ?_ (Cert.Kernel4Ideal.Proj.final m c).symm
  obtain ⟨a0, a1, a2, a3, a4⟩ := harg c
  rw [Cert.Reference4Ideal.Read.val_main_v23_eq, a0, a1, a2, a3, a4]
  exact Cert.Reference4Ideal.Proj.final _ _ _ _ _

/-- The queries' reference runs, leaves its arguments, and no counter is touched. -/
theorem frame_ref5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

/-- The queries' kernel and its reference, run on the same arguments, end with the same result. -/
theorem value5 : Cert.algebraic_Kernel5Ideal_Reference5Ideal := by
  intro m g m' g' hpre harg
  refine ⟨fun c => (Cert.Kernel5Ideal.Gen.dats m 0 c).arrAt 5 Cert.Kernel5Ideal.cfg0.N, Cert.Kernel5Ideal.Value.run_blocks (F := Ideal) m g, ?_⟩
  refine (θ_run Cert.Reference5Ideal.defs _ _).mono (fun r h c => ⟨(h c).1.trans ?_, (h c).2⟩) (Cert.Reference5Ideal.Value.run (F := Ideal) m' g')
  refine Eq.trans ?_ (Cert.Kernel5Ideal.Proj.final m c).symm
  obtain ⟨a0, a1, a2, a3, a4⟩ := harg c
  rw [Cert.Reference5Ideal.Read.val_main_v32_eq, a0, a1, a2, a3, a4]
  exact Cert.Reference5Ideal.Proj.final _ _ _ _ _

/-- The compression's reference leaves its arguments as they were. -/
theorem frame_ref6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m g)

/-- The compression's kernel and its reference, run on the same arguments, end with the same result. -/
theorem value6 : Cert.algebraic_Kernel6Ideal_Reference6Ideal_pre_finite_cmp := by
  intro m g m' g' hpre harg
  refine ⟨fun c => (Cert.Kernel6Ideal.Gen.dats m 0 c).arrAt 4 Cert.Kernel6Ideal.cfg0.N, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  refine Eq.trans ?_ (Cert.Kernel6Ideal.Cmp.final m c (fun w j => ⟨_, (Cmp.real_at _ _ _ _ _ (hpre c) w j 0).1⟩)
    (fun w j h => ⟨_, (Cmp.real_at _ _ _ _ _ (hpre c) w j h).2⟩)).symm
  obtain ⟨a0, a1, a2, a3, a4⟩ := harg c
  rw [Cert.Reference6Ideal.Read.val_main_v89_eq, a0, a1, a2, a3, a4]
  exact Cert.Reference6Ideal.Cmp.final _ _ _ _ _

/-- The modulation's reference leaves its arguments as they were. -/
theorem frame_ref7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, sem_eq_zero_of_no_sems (by decide) r.2⟩)
    (Cert.Reference7Ideal.Value.run (F := Ideal) m g)

/-- The modulation's kernel and its reference, run on the same arguments, end with the same result. -/
theorem value7 : Cert.algebraic_Kernel7Ideal_Reference7Ideal_pre_finite_mod := by
  intro m g m' g' hpre harg
  refine ⟨fun c => (Cert.Kernel7Ideal.Gen.dats m 0 c).arrAt 3 Cert.Kernel7Ideal.cfg0.N, Cert.Kernel7Ideal.Value.run_blocks (F := Ideal) m g, ?_⟩
  refine (θ_run Cert.Reference7Ideal.defs _ _).mono (fun r h c => ⟨(h c).1.trans ?_, (h c).2⟩) (Cert.Reference7Ideal.Value.run (F := Ideal) m' g')
  refine Eq.trans ?_ (Cert.Kernel7Ideal.Mod.final m c (Cond.real_rows _ _ _ (hpre c)) (Cond.real_weights _ _ _ (hpre c))).symm
  obtain ⟨a0, a1, a2⟩ := harg c
  rw [Cert.Reference7Ideal.Read.val_main_v6_eq, a0, a1, a2]
  exact Cert.Reference7Ideal.Mod.final _ _ _

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_qk.Gen.facts, Cert.Pre_finite_cmp.Gen.facts, Cert.Pre_finite_mod.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.Kernel2.Gen.frame m ρ, fun m ρ _ => Cert.Kernel2Ideal.Gen.frame m ρ, fun m ρ _ => frame_ref2 m ρ,
  fun m ρ _ => Cert.Kernel3.Gen.frame m ρ, fun m ρ _ => Cert.Kernel3Ideal.Gen.frame m ρ, fun m ρ _ => frame_ref3 m ρ,
  fun m ρ _ => Cert.Kernel4.Gen.frame m ρ, fun m ρ _ => Cert.Kernel4Ideal.Gen.frame m ρ, fun m ρ _ => frame_ref4 m ρ,
  fun m ρ _ => Cert.Kernel5.Gen.frame m ρ, fun m ρ _ => Cert.Kernel5Ideal.Gen.frame m ρ, fun m ρ _ => frame_ref5 m ρ,
  fun m ρ _ => Cert.Kernel6.Gen.frame m ρ, fun m ρ _ => Cert.Kernel6Ideal.Gen.frame m ρ, fun m ρ _ => Cert.Kernel6Ideal.Gen.frame m ρ,
  fun m ρ _ => frame_ref6 m ρ, fun m ρ _ => frame_ref6 m ρ,
  fun m ρ _ => Cert.Kernel7.Gen.frame m ρ, fun m ρ _ => Cert.Kernel7Ideal.Gen.frame m ρ, fun m ρ _ => Cert.Kernel7Ideal.Gen.frame m ρ,
  fun m ρ _ => frame_ref7 m ρ, fun m ρ _ => frame_ref7 m ρ,
  IdealRules.named_const.statement _ "log2_e" .f32 _ _ rfl, value, trivial, value2, trivial, value3, trivial, value4,
  IdealRules.named_const.statement _ "q_scale" .f32 _ _ rfl, value5, trivial, value6, trivial, value7⟩

end Cert.Proof

end
